-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_conv [hPre_finite_conv : Cert.Pre_finite_conv.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_conv.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_conv [hPre_finite_conv : Cert.Pre_finite_conv.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_conv.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_dconv [hPre_finite_dconv : Cert.Pre_finite_dconv.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_dconv.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_dconv [hPre_finite_dconv : Cert.Pre_finite_dconv.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_dconv.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Kernel21Ideal_pre_finite_conv [hKernel21Ideal : Cert.Kernel21Ideal.Facts] [hPre_finite_conv : Cert.Pre_finite_conv.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_conv m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Reference21Ideal_pre_finite_conv [hReference21Ideal : Cert.Reference21Ideal.Facts] [hPre_finite_conv : Cert.Pre_finite_conv.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_conv m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Kernel22Ideal_pre_finite_dconv [hKernel22Ideal : Cert.Kernel22Ideal.Facts] [hPre_finite_dconv : Cert.Pre_finite_dconv.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_dconv m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Reference22Ideal_pre_finite_dconv [hReference22Ideal : Cert.Reference22Ideal.Facts] [hPre_finite_dconv : Cert.Pre_finite_dconv.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_dconv m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v2_0)) (v4 : (c : Dev Cert.KernelIdeal.nD) → Buf (Elt Ideal) ((c.tc : Thread Cert.KernelIdeal.nD Cert.KernelIdeal.τ).loc Cert.KernelIdeal.main_v2_1)) (v5 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_v2_1) = v4 c
          ∧ r.2.mem ((c.tc : Thread Cert.KernelIdeal.nD Cert.KernelIdeal.τ).loc Cert.KernelIdeal.main_v2_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v90) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v9) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_v5) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v29) = v0 c
          ∧ r.2.mem ((c.tc : Thread Cert.Reference19Ideal.nD Cert.Reference19Ideal.τ).loc Cert.Reference19Ideal.main_v48) = v1 c
          ∧ r.2.mem ((c.tc : Thread Cert.Reference19Ideal.nD Cert.Reference19Ideal.τ).loc Cert.Reference19Ideal.main_v49) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v28) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v52) = v2 c
          ∧ r.2.mem ((c.tc : Thread Cert.Reference20Ideal.nD Cert.Reference20Ideal.τ).loc Cert.Reference20Ideal.main_v53) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal_pre_finite_conv [hKernel21Ideal : Cert.Kernel21Ideal.Facts] [hReference21Ideal : Cert.Reference21Ideal.Facts] [hPre_finite_conv : Cert.Pre_finite_conv.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_conv m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v103) = v0 c
          ∧ r.2.mem ((c.tc : Thread Cert.Reference21Ideal.nD Cert.Reference21Ideal.τ).loc Cert.Reference21Ideal.main_v98) = v1 c
          ∧ r.2.mem ((c.tc : Thread Cert.Reference21Ideal.nD Cert.Reference21Ideal.τ).loc Cert.Reference21Ideal.main_v53) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal_pre_finite_dconv [hKernel22Ideal : Cert.Kernel22Ideal.Facts] [hReference22Ideal : Cert.Reference22Ideal.Facts] [hPre_finite_dconv : Cert.Pre_finite_dconv.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_dconv m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v96) = v0 c
          ∧ r.2.mem ((c.tc : Thread Cert.Reference22Ideal.nD Cert.Reference22Ideal.τ).loc Cert.Reference22Ideal.main_v91) = v1 c
          ∧ r.2.mem ((c.tc : Thread Cert.Reference22Ideal.nD Cert.Reference22Ideal.τ).loc Cert.Reference22Ideal.main_v46) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite : Cert.Pre_finite.Facts) (hPre_finite_conv : Cert.Pre_finite_conv.Facts) (hPre_finite_dconv : Cert.Pre_finite_dconv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite_conv (hKernel21Ideal := hKernel21Ideal) (hPre_finite_conv := hPre_finite_conv)
    ∧ quiescent_Reference21Ideal (hReference21Ideal := hReference21Ideal)
    ∧ quiescent_Reference21Ideal_pre_finite_conv (hReference21Ideal := hReference21Ideal) (hPre_finite_conv := hPre_finite_conv)
    ∧ quiescent_Kernel22 (hKernel22 := hKernel22)
    ∧ quiescent_Kernel22Ideal (hKernel22Ideal := hKernel22Ideal)
    ∧ quiescent_Kernel22Ideal_pre_finite_dconv (hKernel22Ideal := hKernel22Ideal) (hPre_finite_dconv := hPre_finite_dconv)
    ∧ quiescent_Reference22Ideal (hReference22Ideal := hReference22Ideal)
    ∧ quiescent_Reference22Ideal_pre_finite_dconv (hReference22Ideal := hReference22Ideal) (hPre_finite_dconv := hPre_finite_dconv)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite_conv (hKernel21Ideal := hKernel21Ideal) (hReference21Ideal := hReference21Ideal) (hPre_finite_conv := hPre_finite_conv)
    ∧ preserves_Kernel22_Kernel22Ideal
    ∧ algebraic_Kernel22Ideal_Reference22Ideal_pre_finite_dconv (hKernel22Ideal := hKernel22Ideal) (hReference22Ideal := hReference22Ideal) (hPre_finite_dconv := hPre_finite_dconv)
-- ==== Pre_finite.lean ====
abbrev S4096x2048 : Shape := ⟨2, ![4096, 2048]⟩
abbrev S4096x128 : Shape := ⟨2, ![4096, 128]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_

variable [Facts]

def fn_part1 {F : FTy → Type} [FloatOps F] (main_arg4 : FVec F S4096x2048 .bf16) (main_arg5 : FVec F S4096x2048 .f32) (main_v4 : IVec S_ 1) (main_v9 : IVec S_ 1) (main_v14 : IVec S_ 1) (main_v16 : FVec F S4096x128 .f32) (main_cst_4 : FVec F S_ .f32) : IVec S_ 1 :=
  let main_v17 : FVec F S4096x128 .f32 := broadcastInDim S4096x128 ![] bcast_S_S4096x128 main_cst_4
  let main_v18 : IVec S4096x128 1 := cmpf .olt main_v16 main_v17
  let main_c_5 : IVec S_ 1 := constantI S_ 1 1#1
  let main_v19 : IVec S_ 1 := (fun x v => Host.reduce IntOp.andi x v reducesTo_S4096x128_S_d0_1 h_S_) main_v18 main_c_5
  let main_v20 : FVec F S4096x2048 .f32 := (extf .f32 · bitsLt_bf16_f32) main_arg4
  let main_v21 : FVec F S4096x2048 .f32 := Host.absf main_v20
  let main_cst_6 : FVec F S_ .f32 := constant S_ .f32 0x7F800000#32
  let main_v22 : FVec F S4096x2048 .f32 := broadcastInDim S4096x2048 ![] bcast_S_S4096x2048 main_cst_6
  let main_v23 : IVec S4096x2048 1 := cmpf .olt main_v21 main_v22
  let main_c_7 : IVec S_ 1 := constantI S_ 1 1#1
  let main_v24 : IVec S_ 1 := (fun x v => Host.reduce IntOp.andi x v reducesTo_S4096x2048_S_d0_1 h_S_) main_v23 main_c_7
  let main_v25 : FVec F S4096x2048 .f32 := Host.absf main_arg5
  let main_cst_8 : FVec F S_ .f32 := constant S_ .f32 0x7F800000#32
  let main_v26 : FVec F S4096x2048 .f32 := broadcastInDim S4096x2048 ![] bcast_S_S4096x2048 main_cst_8
  let main_v27 : IVec S4096x2048 1 := cmpf .olt main_v25 main_v26
  let main_c_9 : IVec S_ 1 := constantI S_ 1 1#1
  let main_v28 : IVec S_ 1 := (fun x v => Host.reduce IntOp.andi x v reducesTo_S4096x2048_S_d0_1 h_S_) main_v27 main_c_9
  let main_v29 : IVec S_ 1 := andi main_v4 main_v9
  let main_v30 : IVec S_ 1 := andi main_v29 main_v14
  let main_v31 : IVec S_ 1 := andi main_v30 main_v19
  let main_v32 : IVec S_ 1 := andi main_v31 main_v24
  let main_v33 : IVec S_ 1 := andi main_v32 main_v28
  main_v33

def fn {F : FTy → Type} [FloatOps F] (main_arg0 : FVec F S4096x2048 .bf16) (main_arg1 : FVec F S4096x2048 .bf16) (main_arg2 : FVec F S4096x2048 .bf16) (main_arg3 : FVec F S4096x128 .bf16) (main_arg4 : FVec F S4096x2048 .bf16) (main_arg5 : FVec F S4096x2048 .f32) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S4096x2048 .f32 := (extf .f32 · bitsLt_bf16_f32) main_arg1
  let main_v6 : FVec F S4096x2048 .f32 := Host.absf main_v5
  let main_cst_0 : FVec F S_ .f32 := constant S_ .f32 0x7F800000#32
  let main_v7 : FVec F S4096x2048 .f32 := broadcastInDim S4096x2048 ![] bcast_S_S4096x2048 main_cst_0
  let main_v8 : IVec S4096x2048 1 := cmpf .olt main_v6 main_v7
  let main_c_1 : IVec S_ 1 := constantI S_ 1 1#1
  let main_v9 : IVec S_ 1 := (fun x v => Host.reduce IntOp.andi x v reducesTo_S4096x2048_S_d0_1 h_S_) main_v8 main_c_1
  let main_v10 : FVec F S4096x2048 .f32 := (extf .f32 · bitsLt_bf16_f32) main_arg2
  let main_v11 : FVec F S4096x2048 .f32 := Host.absf main_v10
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  let main_c_3 : IVec S_ 1 := constantI S_ 1 1#1
  let main_v14 : IVec S_ 1 := (fun x v => Host.reduce IntOp.andi x v reducesTo_S4096x2048_S_d0_1 h_S_) main_v13 main_c_3
  let main_v15 : FVec F S4096x128 .f32 := (extf .f32 · bitsLt_bf16_f32) main_arg3
  let main_v16 : FVec F S4096x128 .f32 := Host.absf main_v15
  let main_cst_4 : FVec F S_ .f32 := constant S_ .f32 0x7F800000#32
  fn_part1 (F := F) main_arg4 main_arg5 main_v4 main_v9 main_v14 main_v16 main_cst_4
-- ==== Pre_finite_conv.lean ====
abbrev S4096x6144 : Shape := ⟨2, ![4096, 6144]⟩
abbrev S4x6144 : Shape := ⟨2, ![4, 6144]⟩
abbrev S1x6144 : Shape := ⟨2, ![1, 6144]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel

variable [Facts]

def fn {F : FTy → Type} [FloatOps F] (main_arg0 : FVec F S4096x6144 .f32) (main_arg1 : FVec F S4x6144 .f32) (main_arg2 : FVec F S1x6144 .f32) (main_arg3 : FVec F S4096x6144 .f32) : IVec S_ 1 :=
  let main_v0 : FVec F S4096x6144 .f32 := Host.absf main_arg3
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  main_v3
-- ==== Pre_finite_dconv.lean ====
abbrev S4096x8192 : Shape := ⟨2, ![4096, 8192]⟩
abbrev S4x8192 : Shape := ⟨2, ![4, 8192]⟩
abbrev S1x8192 : Shape := ⟨2, ![1, 8192]⟩
abbrev S4096x2048 : Shape := ⟨2, ![4096, 2048]⟩
abbrev S4096x4096 : Shape := ⟨2, ![4096, 4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x8192 .f32) (main_arg1 : FVec F S4x8192 .f32) (main_arg2 : FVec F S1x8192 .f32) (main_arg3 : FVec F S4096x2048 .f32) (main_arg4 : FVec F S4096x2048 .f32) (main_arg5 : FVec F S4096x4096 .f32) : IVec S_ 1 :=
  let main_v0 : FVec F S4096x2048 .f32 := Host.absf main_arg3
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg4
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : FVec F S4096x4096 .f32 := Host.absf main_arg5
  let main_cst_2 : FVec F S_ .f32 := constant S_ .f32 0x7F800000#32
  let main_v9 : FVec F S4096x4096 .f32 := broadcastInDim S4096x4096 ![] bcast_S_S4096x4096 main_cst_2
  let main_v10 : IVec S4096x4096 1 := cmpf .olt main_v8 main_v9
  let main_c_3 : IVec S_ 1 := constantI S_ 1 1#1
  let main_v11 : IVec S_ 1 := (fun x v => Host.reduce IntOp.andi x v reducesTo_S4096x4096_S_d0_1 h_S_) main_v10 main_c_3
  let main_v12 : IVec S_ 1 := andi main_v3 main_v7
  let main_v13 : IVec S_ 1 := andi main_v12 main_v11
  main_v13
-- ==== Kernel.lean ====
abbrev S4096x2048 : Shape := ⟨2, ![4096, 2048]⟩
abbrev S4096x128 : Shape := ⟨2, ![4096, 128]⟩
abbrev S512x128 : Shape := ⟨2, ![512, 128]⟩
abbrev S512x256 : Shape := ⟨2, ![512, 256]⟩
abbrev S512x1 : Shape := ⟨2, ![512, 1]⟩
abbrev S512x512 : Shape := ⟨2, ![512, 512]⟩
abbrev S512 : Shape := ⟨1, ![512]⟩

abbrev nBuf : Space → Nat
  | .hbm => 13
  | .vmem => 54
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x128, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .hbm, ⟨9, _⟩ => ⟨S4096x2048, .f32⟩
  | .hbm, ⟨10, _⟩ => ⟨S4096x2048, .bf16⟩
  | .hbm, ⟨11, _⟩ => ⟨S4096x2048, .f32⟩
  | .hbm, ⟨12, _⟩ => ⟨S4096x2048, .bf16⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S4096x128, .bf16⟩
  | .local _ .vmem, ⟨18, _⟩ => ⟨S4096x128, .bf16⟩
  | .local _ .vmem, ⟨19, _⟩ => ⟨S4096x128, .bf16⟩
  | .local _ .vmem, ⟨20, _⟩ => ⟨S4096x128, .bf16⟩
  | .local _ .vmem, ⟨21, _⟩ => ⟨S4096x128, .bf16⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S512x128, .bf16⟩
  | .local _ .vmem, ⟨29, _⟩ => ⟨S512x128, .bf16⟩
  | .local _ .vmem, ⟨30, _⟩ => ⟨S512x128, .f32⟩
  | .local _ .vmem, ⟨31, _⟩ => ⟨S512x128, .f32⟩
  | .local _ .vmem, ⟨32, _⟩ => ⟨S4096x128, .bf16⟩
  | .local _ .vmem, ⟨33, _⟩ => ⟨S4096x128, .bf16⟩
  | .local _ .vmem, ⟨34, _⟩ => ⟨S4096x128, .bf16⟩
  | .local _ .vmem, ⟨35, _⟩ => ⟨S4096x128, .bf16⟩
  | .local _ .vmem, ⟨36, _⟩ => ⟨S512x128, .bf16⟩
  | .local _ .vmem, ⟨37, _⟩ => ⟨S512x128, .bf16⟩
  | .local _ .vmem, ⟨38, _⟩ => ⟨S512x128, .bf16⟩
  | .local _ .vmem, ⟨39, _⟩ => ⟨S512x128, .bf16⟩
  | .local _ .vmem, ⟨40, _⟩ => ⟨S512x128, .bf16⟩
  | .local _ .vmem, ⟨41, _⟩ => ⟨S512x128, .bf16⟩
  | .local _ .vmem, ⟨42, _⟩ => ⟨S4096x128, .f32⟩
  | .local _ .vmem, ⟨43, _⟩ => ⟨S4096x128, .f32⟩
  | .local _ .vmem, ⟨44, _⟩ => ⟨S4096x128, .f32⟩
  | .local _ .vmem, ⟨45, _⟩ => ⟨S4096x128, .f32⟩
  | .local _ .vmem, ⟨46, _⟩ => ⟨S4096x128, .f32⟩
  | .local _ .vmem, ⟨47, _⟩ => ⟨S4096x128, .f32⟩
  | .local _ .vmem, ⟨48, _⟩ => ⟨S512x128, .bf16⟩
  | .local _ .vmem, ⟨49, _⟩ => ⟨S512x128, .bf16⟩
  | .local _ .vmem, ⟨50, _⟩ => ⟨S512x128, .f32⟩
  | .local _ .vmem, ⟨51, _⟩ => ⟨S512x128, .f32⟩
  | .local _ .vmem, ⟨52, _⟩ => ⟨S512x128, .bf16⟩
  | .local _ .vmem, ⟨53, _⟩ => ⟨S512x128, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc2_stg8_0 : Ref sig .tc := ⟨.vmem, 48, rfl⟩
abbrev cc2_stg8_1 : Ref sig .tc := ⟨.vmem, 49, rfl⟩
abbrev cc2_stg9_0 : Ref sig .tc := ⟨.vmem, 50, rfl⟩
abbrev cc2_stg9_1 : Ref sig .tc := ⟨.vmem, 51, rfl⟩
abbrev cc2_stg10_0 : Ref sig .tc := ⟨.vmem, 52, rfl⟩
abbrev cc2_stg10_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc2_sem8_0 : DmaSem sig := 48
abbrev cc2_sem8_1 : DmaSem sig := 49
abbrev cc2_sem9_0 : DmaSem sig := 50
abbrev cc2_sem9_1 : DmaSem sig := 51
abbrev cc2_sem10_0 : DmaSem sig := 52
abbrev cc2_sem10_1 : DmaSem sig := 53

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32 : BitVec 32 := 0#32
  let arg1 : BitVec 32 := BitVec.ofNat 32 (i 1).val
  let c512_i32 : BitVec 32 := 512#32
  let v3 : BitVec 32 := Scalar.muli arg1 c512_i32
  let c512_i32_3 : BitVec 32 := 512#32
  let v4 : BitVec 32 := Scalar.divsi v3 c512_i32_3
  let v8 : BitVec 32 := Scalar.subi v4 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_6 : BitVec 32 := 1#32
  ⟨c0_i32, v12, c1_i32_6⟩
def k0_mult1 (i : grid0.Coords) (k0_t1 : Fin (k0_t1_loop i).trips) : BitVec 32 :=
  let c0_i32 : BitVec 32 := 0#32
  let c1_i32_6 : BitVec 32 := 1#32
  let arg9 : BitVec 32 := Scf.iv c0_i32 c1_i32_6 k0_t1
  let c512_i32_24 : BitVec 32 := 512#32
  let v63 : BitVec 32 := Scalar.muli arg9 c512_i32_24
  v63
def k0_off1 (i : grid0.Coords) (k0_t1 : Fin (k0_t1_loop i).trips) : Fin 2 → Nat :=
  let c0_i32 : BitVec 32 := 0#32
  let c1_i32_6 : BitVec 32 := 1#32
  let arg9 : BitVec 32 := Scf.iv c0_i32 c1_i32_6 k0_t1
  let c512_i32_24 : BitVec 32 := 512#32
  let v63 : BitVec 32 := Scalar.muli arg9 c512_i32_24
  let v64 : BitVec 32 := v63
  let v65 : Index := Scalar.indexCast v64
  let c0_25 : Index := 0#32
  ![v65.toNat, 0]
@[reducible] def k0_t2_loop (i : grid0.Coords) : Scf.Loop 32 :=
  let c0_i32 : BitVec 32 := 0#32
  let arg1 : BitVec 32 := BitVec.ofNat 32 (i 1).val
  let c512_i32 : BitVec 32 := 512#32
  let v3 : BitVec 32 := Scalar.muli arg1 c512_i32
  let c512_i32_3 : BitVec 32 := 512#32
  let v4 : BitVec 32 := Scalar.divsi v3 c512_i32_3
  let v8 : BitVec 32 := Scalar.subi v4 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_7 : BitVec 32 := 1#32
  ⟨v12, v9, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let c512_i32 : BitVec 32 := 512#32
  let v3 : BitVec 32 := Scalar.muli arg1 c512_i32
  let c512_i32_3 : BitVec 32 := 512#32
  let v4 : BitVec 32 := Scalar.divsi v3 c512_i32_3
  let v8 : BitVec 32 := Scalar.subi v4 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg9 : BitVec 32 := Scf.iv v12 c1_i32_7 k0_t2
  let c512_i32_24 : BitVec 32 := 512#32
  let v63 : BitVec 32 := Scalar.muli arg9 c512_i32_24
  v63
def k0_off2 (i : grid0.Coords) (k0_t2 : Fin (k0_t2_loop i).trips) : Fin 2 → Nat :=
  let c0_i32 : BitVec 32 := 0#32
  let arg1 : BitVec 32 := BitVec.ofNat 32 (i 1).val
  let c512_i32 : BitVec 32 := 512#32
  let v3 : BitVec 32 := Scalar.muli arg1 c512_i32
  let c512_i32_3 : BitVec 32 := 512#32
  let v4 : BitVec 32 := Scalar.divsi v3 c512_i32_3
  let v8 : BitVec 32 := Scalar.subi v4 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_7 : BitVec 32 := 1#32
  let arg9 : BitVec 32 := Scf.iv v12 c1_i32_7 k0_t2
  let c512_i32_24 : BitVec 32 := 512#32
  let v63 : BitVec 32 := Scalar.muli arg9 c512_i32_24
  let v64 : BitVec 32 := v63
  let v65 : Index := Scalar.indexCast v64
  let c0_25 : Index := 0#32
  ![v65.toNat, 0]
def k0_mult3 (i : grid0.Coords) : BitVec 32 :=
  let arg1 : BitVec 32 := BitVec.ofNat 32 (i 1).val
  let c512_i32 : BitVec 32 := 512#32
  let v3 : BitVec 32 := Scalar.muli arg1 c512_i32
  let c512_i32_3 : BitVec 32 := 512#32
  let v4 : BitVec 32 := Scalar.divsi v3 c512_i32_3
  let c512_i32_8 : BitVec 32 := 512#32
  let v15 : BitVec 32 := Scalar.muli v4 c512_i32_8
  v15
def k0_off3 (i : grid0.Coords) : Fin 2 → Nat :=
  let arg1 : BitVec 32 := BitVec.ofNat 32 (i 1).val
  let c512_i32 : BitVec 32 := 512#32
  let v3 : BitVec 32 := Scalar.muli arg1 c512_i32
  let c512_i32_3 : BitVec 32 := 512#32
  let v4 : BitVec 32 := Scalar.divsi v3 c512_i32_3
  let c512_i32_8 : BitVec 32 := 512#32
  let v15 : BitVec 32 := Scalar.muli v4 c512_i32_8
  let v16 : BitVec 32 := v15
  let v17 : Index := Scalar.indexCast v16
  let c0_9 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 8], ![false, false]⟩

@[reducible] def k1_t1_loop (i : grid1.Coords) : Scf.Loop 32 :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_10 : BitVec 32 := 1#32
  ⟨c0_i32, v17, c1_i32_10⟩
def k1_mult1 (i : grid1.Coords) (k1_t1 : Fin (k1_t1_loop i).trips) : BitVec 32 :=
  let c0_i32 : BitVec 32 := 0#32
  let c1_i32_10 : BitVec 32 := 1#32
  let arg12 : BitVec 32 := Scf.iv c0_i32 c1_i32_10 k1_t1
  let c512_i32_27 : BitVec 32 := 512#32
  let v61 : BitVec 32 := Scalar.muli arg12 c512_i32_27
  v61
def k1_off1 (i : grid1.Coords) (k1_t1 : Fin (k1_t1_loop i).trips) : Fin 2 → Nat :=
  let c0_i32 : BitVec 32 := 0#32
  let c1_i32_10 : BitVec 32 := 1#32
  let arg12 : BitVec 32 := Scf.iv c0_i32 c1_i32_10 k1_t1
  let c512_i32_27 : BitVec 32 := 512#32
  let v61 : BitVec 32 := Scalar.muli arg12 c512_i32_27
  let v62 : BitVec 32 := v61
  let v63 : Index := Scalar.indexCast v62
  let c0_28 : Index := 0#32
  ![v63.toNat, 0]
@[reducible] def k1_t2_loop (i : grid1.Coords) : Scf.Loop 32 :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let v14 : BitVec 32 := Scalar.addi c0_i32 v13
  let c1_i32_11 : BitVec 32 := 1#32
  ⟨v17, v14, c1_i32_11⟩
def k1_mult2 (i : grid1.Coords) (k1_t2 : Fin (k1_t2_loop i).trips) : BitVec 32 :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_11 : BitVec 32 := 1#32
  let arg12 : BitVec 32 := Scf.iv v17 c1_i32_11 k1_t2
  let c512_i32_27 : BitVec 32 := 512#32
  let v61 : BitVec 32 := Scalar.muli arg12 c512_i32_27
  v61
def k1_off2 (i : grid1.Coords) (k1_t2 : Fin (k1_t2_loop i).trips) : Fin 2 → Nat :=
  let c0_i32 : BitVec 32 := 0#32
  let arg1 : BitVec 32 := BitVec.ofNat 32 (i 1).val
  let v13 : BitVec 32 := Scalar.subi arg1 c0_i32
  let c1_i32 : BitVec 32 := 1#32
  let v15 : BitVec 32 := Scalar.divsi v13 c1_i32
  let v16 : BitVec 32 := Scalar.muli v15 c1_i32
  let v17 : BitVec 32 := Scalar.addi c0_i32 v16
  let c1_i32_11 : BitVec 32 := 1#32
  let arg12 : BitVec 32 := Scf.iv v17 c1_i32_11 k1_t2
  let c512_i32_27 : BitVec 32 := 512#32
  let v61 : BitVec 32 := Scalar.muli arg12 c512_i32_27
  let v62 : BitVec 32 := v61
  let v63 : Index := Scalar.indexCast v62
  let c0_28 : Index := 0#32
  ![v63.toNat, 0]
def k1_mult3 (i : grid1.Coords) : BitVec 32 :=
  let arg1 : BitVec 32 := BitVec.ofNat 32 (i 1).val
  let c512_i32 : BitVec 32 := 512#32
  let v20 : BitVec 32 := Scalar.muli arg1 c512_i32
  v20
def k1_off3 (i : grid1.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v22 : Index := Scalar.indexCast v21
  let c0_12 : Index := 0#32
  ![v22.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S4096x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S4096x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S512x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![16, 8], ![false, false]⟩

def k2_mult1 (i : grid2.Coords) : BitVec 32 :=
  let arg1 : BitVec 32 := BitVec.ofNat 32 (i 1).val
  let c512_i32 : BitVec 32 := 512#32
  let v6 : BitVec 32 := Scalar.muli arg1 c512_i32
  v6
def k2_off1 (i : grid2.Coords) : Fin 2 → Nat :=
  let arg1 : BitVec 32 := BitVec.ofNat 32 (i 1).val
  let c512_i32 : BitVec 32 := 512#32
  let v6 : BitVec 32 := Scalar.muli arg1 c512_i32
  let v7 : BitVec 32 := v6
  let v8 : Index := Scalar.indexCast v7
  let c0_6 : Index := 0#32
  ![v8.toNat, 0]
@[reducible] def k2_t1_loop (i : grid2.Coords) : Scf.Loop 32 :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_20 : BitVec 32 := 1#32
  let v57 : BitVec 32 := Scalar.divsi v55 c1_i32_20
  let v58 : BitVec 32 := Scalar.muli v57 c1_i32_20
  let v59 : BitVec 32 := Scalar.addi v54 v58
  let c1_i32_21 : BitVec 32 := 1#32
  ⟨v54, v59, c1_i32_21⟩
def k2_mult2 (i : grid2.Coords) (k2_t1 : Fin (k2_t1_loop i).trips) : BitVec 32 :=
  let arg1 : BitVec 32 := BitVec.ofNat 32 (i 1).val
  let c1_i32 : BitVec 32 := 1#32
  let v54 : BitVec 32 := Scalar.addi arg1 c1_i32
  let c1_i32_21 : BitVec 32 := 1#32
  let arg13 : BitVec 32 := Scf.iv v54 c1_i32_21 k2_t1
  let c512_i32_30 : BitVec 32 := 512#32
  let v71 : BitVec 32 := Scalar.muli arg13 c512_i32_30
  v71
def k2_off2 (i : grid2.Coords) (k2_t1 : Fin (k2_t1_loop i).trips) : Fin 2 → Nat :=
  let arg1 : BitVec 32 := BitVec.ofNat 32 (i 1).val
  let c1_i32 : BitVec 32 := 1#32
  let v54 : BitVec 32 := Scalar.addi arg1 c1_i32
  let c1_i32_21 : BitVec 32 := 1#32
  let arg13 : BitVec 32 := Scf.iv v54 c1_i32_21 k2_t1
  let c512_i32_30 : BitVec 32 := 512#32
  let v71 : BitVec 32 := Scalar.muli arg13 c512_i32_30
  let v72 : BitVec 32 := v71
  let v73 : Index := Scalar.indexCast v72
  let c0_31 : Index := 0#32
  ![v73.toNat, 0]
@[reducible] def k2_t2_loop (i : grid2.Coords) : Scf.Loop 32 :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_20 : BitVec 32 := 1#32
  let v57 : BitVec 32 := Scalar.divsi v55 c1_i32_20
  let v58 : BitVec 32 := Scalar.muli v57 c1_i32_20
  let v59 : BitVec 32 := Scalar.addi v54 v58
  let v56 : BitVec 32 := Scalar.addi v54 v55
  let c1_i32_22 : BitVec 32 := 1#32
  ⟨v59, v56, c1_i32_22⟩
def k2_mult3 (i : grid2.Coords) (k2_t2 : Fin (k2_t2_loop i).trips) : BitVec 32 :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_20 : BitVec 32 := 1#32
  let v57 : BitVec 32 := Scalar.divsi v55 c1_i32_20
  let v58 : BitVec 32 := Scalar.muli v57 c1_i32_20
  let v59 : BitVec 32 := Scalar.addi v54 v58
  let c1_i32_22 : BitVec 32 := 1#32
  let arg13 : BitVec 32 := Scf.iv v59 c1_i32_22 k2_t2
  let c512_i32_30 : BitVec 32 := 512#32
  let v71 : BitVec 32 := Scalar.muli arg13 c512_i32_30
  v71
def k2_off3 (i : grid2.Coords) (k2_t2 : Fin (k2_t2_loop i).trips) : Fin 2 → Nat :=
  let arg1 : BitVec 32 := BitVec.ofNat 32 (i 1).val
  let c1_i32 : BitVec 32 := 1#32
  let v54 : BitVec 32 := Scalar.addi arg1 c1_i32
  let c8_i32 : BitVec 32 := 8#32
  let v55 : BitVec 32 := Scalar.subi c8_i32 v54
  let c1_i32_20 : BitVec 32 := 1#32
  let v57 : BitVec 32 := Scalar.divsi v55 c1_i32_20
  let v58 : BitVec 32 := Scalar.muli v57 c1_i32_20
  let v59 : BitVec 32 := Scalar.addi v54 v58
  let c1_i32_22 : BitVec 32 := 1#32
  let arg13 : BitVec 32 := Scf.iv v59 c1_i32_22 k2_t2
  let c512_i32_30 : BitVec 32 := 512#32
  let v71 : BitVec 32 := Scalar.muli arg13 c512_i32_30
  let v72 : BitVec 32 := v71
  let v73 : Index := Scalar.indexCast v72
  let c0_31 : Index := 0#32
  ![v73.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S4096x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S4096x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S4096x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev stage2_7 : Fin 2 → Memref sig .tc .vmem S4096x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S512x128 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S512x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S512x128 .bf16 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]
-- ==== KernelIdeal.lean ====
variable {F : FTy → Type} [FloatOps F] [Named F]
def κ : String → Option EReal := fun
  | "mask" => some ⊥
  | _ => none
-- ==== ReferenceIdeal.lean ====
abbrev S4096x2048 : Shape := ⟨2, ![4096, 2048]⟩
abbrev S4096x128 : Shape := ⟨2, ![4096, 128]⟩
abbrev S1x4096x1x128 : Shape := ⟨4, ![1, 4096, 1, 128]⟩
abbrev S1x4096x16x128 : Shape := ⟨4, ![1, 4096, 16, 128]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S16x4096x1 : Shape := ⟨3, ![16, 4096, 1]⟩
abbrev S16x128x4096 : Shape := ⟨3, ![16, 128, 4096]⟩
abbrev S16x4096x128 : Shape := ⟨3, ![16, 4096, 128]⟩

abbrev nBuf : Space → Nat
  | .hbm => 120
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x128, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x128, .f32⟩
  | .hbm, ⟨10, _⟩ => ⟨S4096x2048, .f32⟩
  | .hbm, ⟨11, _⟩ => ⟨S1x4096x1x128, .f32⟩
  | .hbm, ⟨12, _⟩ => ⟨S1x4096x16x128, .f32⟩
  | .hbm, ⟨13, _⟩ => ⟨S4096x2048, .f32⟩
  | .hbm, ⟨14, _⟩ => ⟨S4096x16x128, .f32⟩
  | .hbm, ⟨15, _⟩ => ⟨S4096x16x128, .f32⟩
  | .hbm, ⟨16, _⟩ => ⟨S4096x16x128, .f32⟩
  | .hbm, ⟨17, _⟩ => ⟨S4096x16x128, .f32⟩
  | .hbm, ⟨18, _⟩ => ⟨S4096x16x128, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096x4096, .f32⟩
  | .hbm, ⟨24, _⟩ => ⟨S16x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .i1⟩
  | .hbm, ⟨43, _⟩ => ⟨S16x4096x4096, .f32⟩
  | .hbm, ⟨44, _⟩ => ⟨S_, .f32⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .i1⟩
  | .hbm, ⟨52, _⟩ => ⟨S_, .f32⟩
  | .hbm, ⟨53, _⟩ => ⟨S16x4096, .f32⟩
  | .hbm, ⟨54, _⟩ => ⟨S16x4096, .i1⟩
  | .hbm, ⟨55, _⟩ => ⟨S_, .f32⟩
  | .hbm, ⟨56, _⟩ => ⟨S16x4096, .f32⟩
  | .hbm, ⟨57, _⟩ => ⟨S_, .f32⟩
  | .hbm, ⟨58, _⟩ => ⟨S16x4096, .f32⟩
  | .hbm, ⟨59, _⟩ => ⟨S_, .f32⟩
  | .hbm, ⟨60, _⟩ => ⟨S16x4096, .f32⟩
  | .hbm, ⟨61, _⟩ => ⟨S16x4096, .f32⟩
  | .hbm, ⟨62, _⟩ => ⟨S16x4096, .f32⟩
  | .hbm, ⟨63, _⟩ => ⟨S16x4096x1, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S16x4096x4096, .f32⟩
  | .hbm, ⟨71, _⟩ => ⟨S16x4096x4096, .f32⟩
  | .hbm, ⟨72, _⟩ => ⟨S16x4096x1, .f32⟩
  | .hbm, ⟨73, _⟩ => ⟨S_, .f32⟩
  | .hbm, ⟨74, _⟩ => ⟨S16x4096x1, .f32⟩
  | .hbm, ⟨75, _⟩ => ⟨S16x4096x1, .f32⟩
  | .hbm, ⟨76, _⟩ => ⟨S16x128x4096, .f32⟩
  | .hbm, ⟨77, _⟩ => ⟨S4096x16x128, .f32⟩
  | .hbm, ⟨78, _⟩ => ⟨S4096x2048, .f32⟩
  | .hbm, ⟨79, _⟩ => ⟨S4096x16x128, .f32⟩
  | .hbm, ⟨80, _⟩ => ⟨S16x128x4096, .f32⟩
  | .hbm, ⟨81, _⟩ => ⟨S16x4096x4096, .f32⟩
  | .hbm, ⟨82, _⟩ => ⟨S16x128x4096, .f32⟩
  | .hbm, ⟨83, _⟩ => ⟨S4096x16x128, .f32⟩
  | .hbm, ⟨84, _⟩ => ⟨S16x4096x4096, .f32⟩
  | .hbm, ⟨85, _⟩ => ⟨S16x4096x4096, .f32⟩
  | .hbm, ⟨86, _⟩ => ⟨S16x4096x4096, .f32⟩
  | .hbm, ⟨87, _⟩ => ⟨S_, .f32⟩
  | .hbm, ⟨88, _⟩ => ⟨S16x4096, .f32⟩
  | .hbm, ⟨89, _⟩ => ⟨S16x4096x1, .f32⟩
  | .hbm, ⟨90, _⟩ => ⟨S16x4096x1, .f32⟩
  | .hbm, ⟨91, _⟩ => ⟨S16x4096x4096, .f32⟩
  | .hbm, ⟨92, _⟩ => ⟨S16x4096x4096, .f32⟩
  | .hbm, ⟨93, _⟩ => ⟨S_, .f32⟩
  | .hbm, ⟨94, _⟩ => ⟨S16x4096, .f32⟩
  | .hbm, ⟨95, _⟩ => ⟨S16x4096x4096, .f32⟩
  | .hbm, ⟨96, _⟩ => ⟨S16x4096x4096, .f32⟩
  | .hbm, ⟨97, _⟩ => ⟨S16x4096x4096, .f32⟩
  | .hbm, ⟨98, _⟩ => ⟨S_, .f32⟩
  | .hbm, ⟨99, _⟩ => ⟨S16x4096x4096, .f32⟩
  | .hbm, ⟨100, _⟩ => ⟨S16x4096x4096, .f32⟩
  | .hbm, ⟨101, _⟩ => ⟨S_, .f32⟩
  | .hbm, ⟨102, _⟩ => ⟨S16x4096x4096, .f32⟩
  | .hbm, ⟨103, _⟩ => ⟨S16x4096x4096, .f32⟩
  | .hbm, ⟨104, _⟩ => ⟨S16x4096x128, .f32⟩
  | .hbm, ⟨105, _⟩ => ⟨S4096x16x128, .f32⟩
  | .hbm, ⟨106, _⟩ => ⟨S16x4096x128, .f32⟩
  | .hbm, ⟨107, _⟩ => ⟨S4096x16x128, .f32⟩
  | .hbm, ⟨108, _⟩ => ⟨S16x4096x128, .f32⟩
  | .hbm, ⟨109, _⟩ => ⟨S4096x16x128, .f32⟩
  | .hbm, ⟨110, _⟩ => ⟨S16x4096x128, .f32⟩
  | .hbm, ⟨111, _⟩ => ⟨S4096x16x128, .f32⟩
  | .hbm, ⟨112, _⟩ => ⟨S4096x2048, .f32⟩
  | .hbm, ⟨113, _⟩ => ⟨S4096x2048, .f32⟩
  | .hbm, ⟨114, _⟩ => ⟨S4096x2048, .f32⟩
  | .hbm, ⟨115, _⟩ => ⟨S4096x2048, .f32⟩
  | .hbm, ⟨116, _⟩ => ⟨S4096x2048, .f32⟩
  | .hbm, ⟨117, _⟩ => ⟨S4096x2048, .bf16⟩
  | .hbm, ⟨118, _⟩ => ⟨S4096x2048, .bf16⟩
  | .hbm, ⟨119, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_call0_v0 : Ref sig .tc := ⟨.hbm, 32, rfl⟩
abbrev main_v24_1 : Ref sig .tc := ⟨.hbm, 33, rfl⟩
abbrev main_call0_v2 : Ref sig .tc := ⟨.hbm, 34, rfl⟩
abbrev main_v24_0 : Ref sig .tc := ⟨.hbm, 35, rfl⟩
abbrev main_call0_cst : Ref sig .tc := ⟨.hbm, 36, rfl⟩
abbrev main_v24_2 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_11 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_12 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_call1_cst : Ref sig .tc := ⟨.hbm, 98, rfl⟩
abbrev main_call1_v0 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩

abbrev nD : Nat := 1
abbrev τ : Topo := Topo.v7x

variable {F : FTy → Type} [FloatOps F]
-- ==== Kernel2.lean ====
abbrev S4096x2048 : Shape := ⟨2, ![4096, 2048]⟩
abbrev S4096x4096 : Shape := ⟨2, ![4096, 4096]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S4096x2048 : Shape := ⟨2, ![4096, 2048]⟩
abbrev S4096x4096 : Shape := ⟨2, ![4096, 4096]⟩
abbrev S2048x4096 : Shape := ⟨2, ![2048, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x4096 : Shape := ⟨2, ![4096, 4096]⟩
abbrev S2048x4096 : Shape := ⟨2, ![2048, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x4096 : Shape := ⟨2, ![4096, 4096]⟩
abbrev S2048x4096 : Shape := ⟨2, ![2048, 4096]⟩
abbrev S4096x2048 : Shape := ⟨2, ![4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x4096, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x4096, .f32⟩
  | .hbm, ⟨9, _⟩ => ⟨S4096x4096, .f32⟩
  | .hbm, ⟨10, _⟩ => ⟨S4096x4096, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel5.lean ====
abbrev S4096x4096 : Shape := ⟨2, ![4096, 4096]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x2048 : Shape := ⟨2, ![4096, 2048]⟩
abbrev S4096x6144 : Shape := ⟨2, ![4096, 6144]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x2048 : Shape := ⟨2, ![4096, 2048]⟩
abbrev S4096x8192 : Shape := ⟨2, ![4096, 8192]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x6144 : Shape := ⟨2, ![4096, 6144]⟩
abbrev S2048x6144 : Shape := ⟨2, ![2048, 6144]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x6144 : Shape := ⟨2, ![4096, 6144]⟩
abbrev S2048x6144 : Shape := ⟨2, ![2048, 6144]⟩
abbrev S4096x2048 : Shape := ⟨2, ![4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x6144, .f32⟩
  | .hbm, ⟨9, _⟩ => ⟨S4096x6144, .f32⟩
  | .hbm, ⟨10, _⟩ => ⟨S4096x6144, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel9.lean ====
abbrev S4096x8192 : Shape := ⟨2, ![4096, 8192]⟩
abbrev S2048x8192 : Shape := ⟨2, ![2048, 8192]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x8192 : Shape := ⟨2, ![4096, 8192]⟩
abbrev S2048x8192 : Shape := ⟨2, ![2048, 8192]⟩
abbrev S4096x2048 : Shape := ⟨2, ![4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S4096x8192, .f32⟩
  | .hbm, ⟨10, _⟩ => ⟨S4096x8192, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel10.lean ====
abbrev S4096x2048 : Shape := ⟨2, ![4096, 2048]⟩
abbrev S2048x4096 : Shape := ⟨2, ![2048, 4096]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x4096, .bf16⟩
  | .hbm, ⟨2, _⟩ => ⟨S4096x2048, .f32⟩
  | .hbm, ⟨3, _⟩ => ⟨S2048x4096, .f32⟩
  | .hbm, ⟨4, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x2048 : Shape := ⟨2, ![4096, 2048]⟩
abbrev S2048x6144 : Shape := ⟨2, ![2048, 6144]⟩
abbrev S4096x6144 : Shape := ⟨2, ![4096, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .bf16⟩
  | .hbm, ⟨2, _⟩ => ⟨S4096x2048, .f32⟩
  | .hbm, ⟨3, _⟩ => ⟨S2048x6144, .f32⟩
  | .hbm, ⟨4, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4096x4096 : Shape := ⟨2, ![4096, 4096]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4096x2048 : Shape := ⟨2, ![4096, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== Reference18Ideal.lean ====
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_v0_2 : Ref sig .tc := ⟨.hbm, 10, rfl⟩
abbrev main_call0_cst_1 : Ref sig .tc := ⟨.hbm, 11, rfl⟩
abbrev main_call0_v6 : Ref sig .tc := ⟨.hbm, 12, rfl⟩
abbrev main_call0_v7 : Ref sig .tc := ⟨.hbm, 13, rfl⟩
abbrev main_v0_1 : Ref sig .tc := ⟨.hbm, 14, rfl⟩
abbrev main_v0_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩

abbrev nD : Nat := 1
abbrev τ : Topo := Topo.v7x

variable {F : FTy → Type} [FloatOps F]
-- ==== Kernel19.lean ====
abbrev S1x4096 : Shape := ⟨2, ![1, 4096]⟩
abbrev S4096x4096 : Shape := ⟨2, ![4096, 4096]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S1x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .local _ .vmem, ⟨0, _⟩ => ⟨S1x512, .f32⟩
  | .local _ .vmem, ⟨1, _⟩ => ⟨S1x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S1x4096 : Shape := ⟨2, ![1, 4096]⟩
abbrev S4096x4096 : Shape := ⟨2, ![4096, 4096]⟩
abbrev S4096x8x512 : Shape := ⟨3, ![4096, 8, 512]⟩
abbrev S_ : Shape := ⟨0, ![]⟩
abbrev S4096x8 : Shape := ⟨2, ![4096, 8]⟩
abbrev S4096x8x1 : Shape := ⟨3, ![4096, 8, 1]⟩
abbrev S8x512 : Shape := ⟨2, ![8, 512]⟩
abbrev S1x8x512 : Shape := ⟨3, ![1, 8, 512]⟩

abbrev nBuf : Space → Nat
  | .hbm => 78
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x8x512, .f32⟩
  | .hbm, ⟨5, _⟩ => ⟨S4096x8x512, .f32⟩
  | .hbm, ⟨6, _⟩ => ⟨S4096x8x512, .f32⟩
  | .hbm, ⟨7, _⟩ => ⟨S4096x8x512, .f32⟩
  | .hbm, ⟨8, _⟩ => ⟨S_, .f32⟩
  | .hbm, ⟨9, _⟩ => ⟨S4096x8x512, .f32⟩
  | .hbm, ⟨10, _⟩ => ⟨S4096x8x512, .f32⟩
  | .hbm, ⟨11, _⟩ => ⟨S_, .f32⟩
  | .hbm, ⟨12, _⟩ => ⟨S4096x8x512, .f32⟩
  | .hbm, ⟨13, _⟩ => ⟨S4096x8x512, .f32⟩
  | .hbm, ⟨14, _⟩ => ⟨S_, .f32⟩
  | .hbm, ⟨15, _⟩ => ⟨S4096x8x512, .f32⟩
  | .hbm, ⟨16, _⟩ => ⟨S4096x8x512, .f32⟩
  | .hbm, ⟨17, _⟩ => ⟨S4096x8x512, .f32⟩
  | .hbm, ⟨18, _⟩ => ⟨S4096x8x512, .f32⟩
  | .hbm, ⟨19, _⟩ => ⟨S4096x8x512, .f32⟩
  | .hbm, ⟨20, _⟩ => ⟨S4096x8x512, .f32⟩
  | .hbm, ⟨21, _⟩ => ⟨S_, .f32⟩
  | .hbm, ⟨22, _⟩ => ⟨S4096x8, .f32⟩
  | .hbm, ⟨23, _⟩ => ⟨S4096x8x1, .f32⟩
  | .hbm, ⟨24, _⟩ => ⟨S_, .f32⟩
  | .hbm, ⟨25, _⟩ => ⟨S4096x8x1, .f32⟩
  | .hbm, ⟨26, _⟩ => ⟨S4096x8x1, .f32⟩
  | .hbm, ⟨27, _⟩ => ⟨S_, .f32⟩
  | .hbm, ⟨28, _⟩ => ⟨S4096x8x1, .f32⟩
  | .hbm, ⟨29, _⟩ => ⟨S4096x8x1, .f32⟩
  | .hbm, ⟨30, _⟩ => ⟨S4096x8x1, .f32⟩
  | .hbm, ⟨31, _⟩ => ⟨S4096x8x1, .f32⟩
  | .hbm, ⟨32, _⟩ => ⟨S_, .f32⟩
  | .hbm, ⟨33, _⟩ => ⟨S4096x8x1, .f32⟩
  | .hbm, ⟨34, _⟩ => ⟨S4096x8x1, .f32⟩
  | .hbm, ⟨35, _⟩ => ⟨S4096x8x512, .f32⟩
  | .hbm, ⟨36, _⟩ => ⟨S4096x8x512, .f32⟩
  | .hbm, ⟨37, _⟩ => ⟨S8x512, .f32⟩
  | .hbm, ⟨38, _⟩ => ⟨S1x8x512, .f32⟩
  | .hbm, ⟨39, _⟩ => ⟨S4096x8x512, .f32⟩
  | .hbm, ⟨40, _⟩ => ⟨S4096x8x512, .f32⟩
  | .hbm, ⟨41, _⟩ => ⟨S4096x4096, .f32⟩
  | .hbm, ⟨42, _⟩ => ⟨S4096x8x512, .f32⟩
  | .hbm, ⟨43, _⟩ => ⟨S4096x8x512, .f32⟩
  | .hbm, ⟨44, _⟩ => ⟨S_, .f32⟩
  | .hbm, ⟨45, _⟩ => ⟨S8x512, .f32⟩
  | .hbm, ⟨46, _⟩ => ⟨S1x8x512, .f32⟩
  | .hbm, ⟨47, _⟩ => ⟨S4096x8x512, .f32⟩
  | .hbm, ⟨48, _⟩ => ⟨S4096x8x512, .f32⟩
  | .hbm, ⟨49, _⟩ => ⟨S_, .f32⟩
  | .hbm, ⟨50, _⟩ => ⟨S8x512, .f32⟩
  | .hbm, ⟨51, _⟩ => ⟨S1x4096, .f32⟩
  | .hbm, ⟨52, _⟩ => ⟨S4096x8x512, .f32⟩
  | .hbm, ⟨53, _⟩ => ⟨S_, .f32⟩
  | .hbm, ⟨54, _⟩ => ⟨S4096x8, .f32⟩
  | .hbm, ⟨55, _⟩ => ⟨S4096x8x1, .f32⟩
  | .hbm, ⟨56, _⟩ => ⟨S4096x8x512, .f32⟩
  | .hbm, ⟨57, _⟩ => ⟨S4096x8x512, .f32⟩
  | .hbm, ⟨58, _⟩ => ⟨S4096x8x1, .f32⟩
  | .hbm, ⟨59, _⟩ => ⟨S_, .f32⟩
  | .hbm, ⟨60, _⟩ => ⟨S4096x8x1, .f32⟩
  | .hbm, ⟨61, _⟩ => ⟨S4096x8x1, .f32⟩
  | .hbm, ⟨62, _⟩ => ⟨S_, .f32⟩
  | .hbm, ⟨63, _⟩ => ⟨S4096x8, .f32⟩
  | .hbm, ⟨64, _⟩ => ⟨S4096x8x512, .f32⟩
  | .hbm, ⟨65, _⟩ => ⟨S4096x8x512, .f32⟩
  | .hbm, ⟨66, _⟩ => ⟨S4096x8x512, .f32⟩
  | .hbm, ⟨67, _⟩ => ⟨S4096x8x512, .f32⟩
  | .hbm, ⟨68, _⟩ => ⟨S4096x8x512, .f32⟩
  | .hbm, ⟨69, _⟩ => ⟨S4096x8x512, .f32⟩
  | .hbm, ⟨70, _⟩ => ⟨S4096x8x512, .f32⟩
  | .hbm, ⟨71, _⟩ => ⟨S4096x8x512, .f32⟩
  | .hbm, ⟨72, _⟩ => ⟨S4096x8x512, .f32⟩
  | .hbm, ⟨73, _⟩ => ⟨S4096x8x512, .f32⟩
  | .hbm, ⟨74, _⟩ => ⟨S4096x8x512, .f32⟩
  | .hbm, ⟨75, _⟩ => ⟨S4096x4096, .f32⟩
  | .hbm, ⟨76, _⟩ => ⟨S4096x4096, .f32⟩
  | .hbm, ⟨77, _⟩ => ⟨S4096x4096, .bf16⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_cst_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel20.lean ====
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 12
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .bf16⟩
  | .local _ .vmem, ⟨0, _⟩ => ⟨S1x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]
-- ==== Reference20Ideal.lean ====
abbrev S1x2048 : Shape := ⟨2, ![1, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 72
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x2048, .f32⟩
  | .hbm, ⟨48, _⟩ => ⟨S4096x2048, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .bf16⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Kernel21.lean ====
abbrev S4096x6144 : Shape := ⟨2, ![4096, 6144]⟩
abbrev S4x6144 : Shape := ⟨2, ![4, 6144]⟩
abbrev S1x6144 : Shape := ⟨2, ![1, 6144]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S4096x6144, .f32⟩
  | .hbm, ⟨1, _⟩ => ⟨S4x6144, .f32⟩
  | .hbm, ⟨2, _⟩ => ⟨S1x6144, .f32⟩
  | .hbm, ⟨3, _⟩ => ⟨S4096x6144, .f32⟩
  | .hbm, ⟨4, _⟩ => ⟨S4096x6144, .bf16⟩
  | .hbm, ⟨5, _⟩ => ⟨S4x6144, .f32⟩
  | .hbm, ⟨6, _⟩ => ⟨S1x6144, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .bf16⟩
  | .local _ .vmem, ⟨9, _⟩ => ⟨S4096x128, .bf16⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c4_i32 : BitVec 32 := 4#32
  let v0 : BitVec 32 := Scalar.divsi arg0 c4_i32
  let c6_i32 : BitVec 32 := 6#32
  let v1 : BitVec 32 := Scalar.muli v0 c6_i32
  let c4_i32_0 : BitVec 32 := 4#32
  let v2 : BitVec 32 := Scalar.remsi arg0 c4_i32_0
  let v3 : BitVec 32 := Scalar.addi v1 v2
  let c32_i32 : BitVec 32 := 32#32
  let v4 : BitVec 1 := Scalar.cmpi .slt arg0 c32_i32
  let c40_i32 : BitVec 32 := 40#32
  let v5 : BitVec 1 := Scalar.cmpi .slt arg0 c40_i32
  let c32_i32_1 : BitVec 32 := 32#32
  let v6 : BitVec 32 := Scalar.subi arg0 c32_i32_1
  let c6_i32_2 : BitVec 32 := 6#32
  let v7 : BitVec 32 := Scalar.muli v6 c6_i32_2
  let c4_i32_3 : BitVec 32 := 4#32
  let v8 : BitVec 32 := Scalar.addi v7 c4_i32_3
  let c32_i32_4 : BitVec 32 := 32#32
  let v9 : BitVec 32 := Scalar.subi arg0 c32_i32_4
  let c8_i32 : BitVec 32 := 8#32
  let v10 : BitVec 32 := Scalar.subi v9 c8_i32
  let c6_i32_5 : BitVec 32 := 6#32
  let v11 : BitVec 32 := Scalar.muli v10 c6_i32_5
  let c4_i32_6 : BitVec 32 := 4#32
  let v12 : BitVec 32 := Scalar.addi v11 c4_i32_6
  let c1_i32 : BitVec 32 := 1#32
  let v13 : BitVec 32 := Scalar.addi v12 c1_i32
  let v14 : BitVec 32 := Scalar.select v5 v8 v13
  let v15 : BitVec 32 := Scalar.select v4 v3 v14
  let c0_i32 : BitVec 32 := 0#32
  let c0_i32_7 : BitVec 32 := 0#32
  ![c0_i32.toNat, v15.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4096x6144 : Shape := ⟨2, ![4096, 6144]⟩
abbrev S4x6144 : Shape := ⟨2, ![4, 6144]⟩
abbrev S1x6144 : Shape := ⟨2, ![1, 6144]⟩
abbrev S4096x8x768 : Shape := ⟨3, ![4096, 8, 768]⟩
abbrev S4096x8x512 : Shape := ⟨3, ![4096, 8, 512]⟩
abbrev S4096x8x128 : Shape := ⟨3, ![4096, 8, 128]⟩
abbrev S4096x4096 : Shape := ⟨2, ![4096, 4096]⟩
abbrev S4096x1024 : Shape := ⟨2, ![4096, 1024]⟩
abbrev S_ : Shape := ⟨0, ![]⟩
abbrev S3x6144 : Shape := ⟨2, ![3, 6144]⟩
abbrev S4093x6144 : Shape := ⟨2, ![4093, 6144]⟩
abbrev S6144 : Shape := ⟨1, ![6144]⟩
abbrev S2x6144 : Shape := ⟨2, ![2, 6144]⟩
abbrev S4094x6144 : Shape := ⟨2, ![4094, 6144]⟩
abbrev S4095x6144 : Shape := ⟨2, ![4095, 6144]⟩
abbrev S0x6144 : Shape := ⟨2, ![0, 6144]⟩

abbrev nBuf : Space → Nat
  | .hbm => 148
  | .vmem => 0
  | .smem => 0
  | _ => 0

abbrev hbmTy0_0 (i : Nat) : BufTy := match i % 128 with
  | 0 => ⟨S4096x6144, .f32⟩
  | 1 => ⟨S4x6144, .f32⟩
  | 2 => ⟨S1x6144, .f32⟩
  | 3 => ⟨S4096x6144, .f32⟩
  | 4 => ⟨S4096x8x768, .f32⟩
  | 5 => ⟨S4096x8x512, .f32⟩
  | 6 => ⟨S4096x8x128, .f32⟩
  | 7 => ⟨S4096x8x128, .f32⟩
  | 8 => ⟨S4096x4096, .f32⟩
  | 9 => ⟨S4096x1024, .f32⟩
  | 10 => ⟨S4096x1024, .f32⟩
  | 11 => ⟨S4096x6144, .f32⟩
  | 12 => ⟨S_, .f32⟩
  | 13 => ⟨S3x6144, .f32⟩
  | 14 => ⟨S4093x6144, .f32⟩
  | 15 => ⟨S4096x6144, .f32⟩
  | 16 => ⟨S_, .f32⟩
  | 17 => ⟨S3x6144, .f32⟩
  | 18 => ⟨S1x6144, .f32⟩
  | 19 => ⟨S6144, .f32⟩
  | 20 => ⟨S1x6144, .f32⟩
  | 21 => ⟨S4096x6144, .f32⟩
  | 22 => ⟨S4096x6144, .f32⟩
  | 23 => ⟨S_, .f32⟩
  | 24 => ⟨S4096x6144, .f32⟩
  | 25 => ⟨S4096x6144, .f32⟩
  | 26 => ⟨S_, .f32⟩
  | 27 => ⟨S2x6144, .f32⟩
  | 28 => ⟨S4094x6144, .f32⟩
  | 29 => ⟨S4096x6144, .f32⟩
  | 30 => ⟨S_, .f32⟩
  | 31 => ⟨S2x6144, .f32⟩
  | 32 => ⟨S1x6144, .f32⟩
  | 33 => ⟨S6144, .f32⟩
  | 34 => ⟨S1x6144, .f32⟩
  | 35 => ⟨S4096x6144, .f32⟩
  | 36 => ⟨S4096x6144, .f32⟩
  | 37 => ⟨S4096x6144, .f32⟩
  | 38 => ⟨S_, .f32⟩
  | 39 => ⟨S1x6144, .f32⟩
  | 40 => ⟨S4095x6144, .f32⟩
  | 41 => ⟨S4096x6144, .f32⟩
  | 42 => ⟨S_, .f32⟩
  | 43 => ⟨S1x6144, .f32⟩
  | 44 => ⟨S1x6144, .f32⟩
  | 45 => ⟨S6144, .f32⟩
  | 46 => ⟨S1x6144, .f32⟩
  | 47 => ⟨S4096x6144, .f32⟩
  | 48 => ⟨S4096x6144, .f32⟩
  | 49 => ⟨S4096x6144, .f32⟩
  | 50 => ⟨S_, .f32⟩
  | 51 => ⟨S0x6144, .f32⟩
  | 52 => ⟨S4096x6144, .f32⟩
  | 53 => ⟨S_, .f32⟩
  | 54 => ⟨S0x6144, .f32⟩
  | 55 => ⟨S1x6144, .f32⟩
  | 56 => ⟨S6144, .f32⟩
  | 57 => ⟨S1x6144, .f32⟩
  | 58 => ⟨S4096x6144, .f32⟩
  | 59 => ⟨S4096x6144, .f32⟩
  | 60 => ⟨S4096x6144, .f32⟩
  | 61 => ⟨S4096x6144, .f32⟩
  | 62 => ⟨S4096x6144, .f32⟩
  | 63 => ⟨S4096x6144, .f32⟩
  | 64 => ⟨S4096x6144, .f32⟩
  | 65 => ⟨S_, .f32⟩
  | 66 => ⟨S4096x6144, .f32⟩
  | 67 => ⟨S4096x6144, .f32⟩
  | 68 => ⟨S_, .f32⟩
  | 69 => ⟨S4096x6144, .f32⟩
  | 70 => ⟨S4096x6144, .f32⟩
  | 71 => ⟨S_, .f32⟩
  | 72 => ⟨S4096x6144, .f32⟩
  | 73 => ⟨S4096x6144, .f32⟩
  | 74 => ⟨S4096x6144, .f32⟩
  | 75 => ⟨S4096x6144, .f32⟩
  | 76 => ⟨S4096x6144, .f32⟩
  | 77 => ⟨S4096x6144, .f32⟩
  | 78 => ⟨S4096x6144, .f32⟩
  | 79 => ⟨S4096x6144, .f32⟩
  | 80 => ⟨S_, .f32⟩
  | 81 => ⟨S6144, .f32⟩
  | 82 => ⟨S1x6144, .f32⟩
  | 83 => ⟨S4096x6144, .f32⟩
  | 84 => ⟨S_, .f32⟩
  | 85 => ⟨S6144, .f32⟩
  | 86 => ⟨S1x6144, .f32⟩
  | 87 => ⟨S4096x6144, .f32⟩
  | 88 => ⟨S4096x6144, .f32⟩
  | 89 => ⟨S_, .f32⟩
  | 90 => ⟨S6144, .f32⟩
  | 91 => ⟨S1x6144, .f32⟩
  | 92 => ⟨S_, .f32⟩
  | 93 => ⟨S4x6144, .f32⟩
  | 94 => ⟨S0x6144, .f32⟩
  | 95 => ⟨S4096x6144, .f32⟩
  | 96 => ⟨S4096x6144, .f32⟩
  | 97 => ⟨S_, .f32⟩
  | 98 => ⟨S6144, .f32⟩
  | 99 => ⟨S1x6144, .f32⟩
  | 100 => ⟨S4096x6144, .f32⟩
  | 101 => ⟨S4096x6144, .f32⟩
  | 102 => ⟨S_, .f32⟩
  | 103 => ⟨S6144, .f32⟩
  | 104 => ⟨S1x6144, .f32⟩
  | 105 => ⟨S_, .f32⟩
  | 106 => ⟨S4x6144, .f32⟩
  | 107 => ⟨S4x6144, .f32⟩
  | 108 => ⟨S1x6144, .f32⟩
  | 109 => ⟨S4095x6144, .f32⟩
  | 110 => ⟨S_, .f32⟩
  | 111 => ⟨S4096x6144, .f32⟩
  | 112 => ⟨S4096x6144, .f32⟩
  | 113 => ⟨S4096x6144, .f32⟩
  | 114 => ⟨S_, .f32⟩
  | 115 => ⟨S6144, .f32⟩
  | 116 => ⟨S1x6144, .f32⟩
  | 117 => ⟨S4096x6144, .f32⟩
  | 118 => ⟨S4096x6144, .f32⟩
  | 119 => ⟨S_, .f32⟩
  | 120 => ⟨S6144, .f32⟩
  | 121 => ⟨S1x6144, .f32⟩
  | 122 => ⟨S_, .f32⟩
  | 123 => ⟨S4x6144, .f32⟩
  | 124 => ⟨S4x6144, .f32⟩
  | 125 => ⟨S2x6144, .f32⟩
  | 126 => ⟨S4094x6144, .f32⟩
  | 127 => ⟨S_, .f32⟩
  | _ => ⟨S4096x6144, .f32⟩

abbrev hbmTy0_1 (i : Nat) : BufTy := match i % 128 with
  | 0 => ⟨S4096x6144, .f32⟩
  | 1 => ⟨S4096x6144, .f32⟩
  | 2 => ⟨S4096x6144, .f32⟩
  | 3 => ⟨S_, .f32⟩
  | 4 => ⟨S6144, .f32⟩
  | 5 => ⟨S1x6144, .f32⟩
  | 6 => ⟨S4096x6144, .f32⟩
  | 7 => ⟨S4096x6144, .f32⟩
  | 8 => ⟨S_, .f32⟩
  | 9 => ⟨S6144, .f32⟩
  | 10 => ⟨S1x6144, .f32⟩
  | 11 => ⟨S_, .f32⟩
  | 12 => ⟨S4x6144, .f32⟩
  | 13 => ⟨S4x6144, .f32⟩
  | 14 => ⟨S3x6144, .f32⟩
  | 15 => ⟨S4093x6144, .f32⟩
  | 16 => ⟨S_, .f32⟩
  | 17 => ⟨S4096x6144, .f32⟩
  | 18 => ⟨S4096x6144, .f32⟩
  | 19 => ⟨S4096x6144, .bf16⟩
  | _ => ⟨S4096x6144, .f32⟩

abbrev hbmTy (i : Nat) : BufTy := match i / 128 with
  | 0 => hbmTy0_0 i
  | 1 => hbmTy0_1 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_v50_2 : Ref sig .tc := ⟨.hbm, 70, rfl⟩
abbrev main_call0_cst_1 : Ref sig .tc := ⟨.hbm, 71, rfl⟩
abbrev main_call0_v6 : Ref sig .tc := ⟨.hbm, 72, rfl⟩
abbrev main_call0_v7 : Ref sig .tc := ⟨.hbm, 73, rfl⟩
abbrev main_v50_1 : Ref sig .tc := ⟨.hbm, 74, rfl⟩
abbrev main_v50_0 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v51 : Ref sig .tc := ⟨.hbm, 79, rfl⟩
abbrev main_cst_8 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_10 : Ref sig .tc := ⟨.hbm, 89, rfl⟩
abbrev main_v59 : Ref sig .tc := ⟨.hbm, 90, rfl⟩
abbrev main_v60 : Ref sig .tc := ⟨.hbm, 91, rfl⟩
abbrev main_cst_11 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_13 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_cst_18 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_20 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_21 : Ref sig .tc := ⟨.hbm, 136, rfl⟩
abbrev main_v95 : Ref sig .tc := ⟨.hbm, 137, rfl⟩
abbrev main_v96 : Ref sig .tc := ⟨.hbm, 138, rfl⟩
abbrev main_cst_22 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_23 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩

abbrev nD : Nat := 1
abbrev τ : Topo := Topo.v7x

variable {F : FTy → Type} [FloatOps F]
-- ==== Kernel22.lean ====
abbrev S4096x8192 : Shape := ⟨2, ![4096, 8192]⟩
abbrev S4x8192 : Shape := ⟨2, ![4, 8192]⟩
abbrev S1x8192 : Shape := ⟨2, ![1, 8192]⟩
abbrev S4096x2048 : Shape := ⟨2, ![4096, 2048]⟩
abbrev S4096x4096 : Shape := ⟨2, ![4096, 4096]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 9
  | .vmem => 18
  | .smem => 0
  | _ => 0

abbrev bufTy : (tb : Table) → Fin (tcTables nBuf tb) → BufTy
  | .hbm, ⟨0, _⟩ => ⟨S4096x8192, .f32⟩
  | .hbm, ⟨1, _⟩ => ⟨S4x8192, .f32⟩
  | .hbm, ⟨2, _⟩ => ⟨S1x8192, .f32⟩
  | .hbm, ⟨3, _⟩ => ⟨S4096x2048, .f32⟩
  | .hbm, ⟨4, _⟩ => ⟨S4096x2048, .f32⟩
  | .hbm, ⟨5, _⟩ => ⟨S4096x4096, .f32⟩
  | .hbm, ⟨6, _⟩ => ⟨S4096x8192, .bf16⟩
  | .hbm, ⟨7, _⟩ => ⟨S4x8192, .f32⟩
  | .hbm, ⟨8, _⟩ => ⟨S1x8192, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .bf16⟩
  | .local _ .vmem, ⟨13, _⟩ => ⟨S4096x128, .bf16⟩
  | .local _ .vmem, ⟨14, _⟩ => ⟨S4x128, .f32⟩
  | .local _ .vmem, ⟨15, _⟩ => ⟨S4x128, .f32⟩
  | .local _ .vmem, ⟨16, _⟩ => ⟨S1x128, .f32⟩
  | .local _ .vmem, ⟨17, _⟩ => ⟨S1x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c16_i32 : BitVec 32 := 16#32
  let v1 : BitVec 1 := Scalar.cmpi .slt arg0 c16_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c16_i32_1 : BitVec 32 := 16#32
  let v5 : BitVec 1 := Scalar.cmpi .sge arg0 c16_i32_1
  let c32_i32 : BitVec 32 := 32#32
  let v6 : BitVec 1 := Scalar.cmpi .slt arg0 c32_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg0 : BitVec 32 := BitVec.ofNat 32 (i 0).val
  let c32_i32_3 : BitVec 32 := 32#32
  let v10 : BitVec 1 := Scalar.cmpi .sge arg0 c32_i32_3
  let c64_i32 : BitVec 32 := 64#32
  let v11 : BitVec 1 := Scalar.cmpi .slt arg0 c64_i32
  let v12 : BitVec 1 := Scalar.andi v10 v11
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  ![c0_i32_1.toNat, v2.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S4096x8192 : Shape := ⟨2, ![4096, 8192]⟩
abbrev S4x8192 : Shape := ⟨2, ![4, 8192]⟩
abbrev S1x8192 : Shape := ⟨2, ![1, 8192]⟩
abbrev S4096x2048 : Shape := ⟨2, ![4096, 2048]⟩
abbrev S4096x4096 : Shape := ⟨2, ![4096, 4096]⟩
abbrev S_ : Shape := ⟨0, ![]⟩
abbrev S3x8192 : Shape := ⟨2, ![3, 8192]⟩
abbrev S4093x8192 : Shape := ⟨2, ![4093, 8192]⟩
abbrev S8192 : Shape := ⟨1, ![8192]⟩
abbrev S2x8192 : Shape := ⟨2, ![2, 8192]⟩
abbrev S4094x8192 : Shape := ⟨2, ![4094, 8192]⟩
abbrev S4095x8192 : Shape := ⟨2, ![4095, 8192]⟩
abbrev S0x8192 : Shape := ⟨2, ![0, 8192]⟩

abbrev nBuf : Space → Nat
  | .hbm => 143
  | .vmem => 0
  | .smem => 0
  | _ => 0

abbrev hbmTy0_0 (i : Nat) : BufTy := match i % 128 with
  | 0 => ⟨S4096x8192, .f32⟩
  | 1 => ⟨S4x8192, .f32⟩
  | 2 => ⟨S1x8192, .f32⟩
  | 3 => ⟨S4096x2048, .f32⟩
  | 4 => ⟨S4096x2048, .f32⟩
  | 5 => ⟨S4096x4096, .f32⟩
  | 6 => ⟨S_, .f32⟩
  | 7 => ⟨S3x8192, .f32⟩
  | 8 => ⟨S4093x8192, .f32⟩
  | 9 => ⟨S4096x8192, .f32⟩
  | 10 => ⟨S_, .f32⟩
  | 11 => ⟨S3x8192, .f32⟩
  | 12 => ⟨S1x8192, .f32⟩
  | 13 => ⟨S8192, .f32⟩
  | 14 => ⟨S1x8192, .f32⟩
  | 15 => ⟨S4096x8192, .f32⟩
  | 16 => ⟨S4096x8192, .f32⟩
  | 17 => ⟨S_, .f32⟩
  | 18 => ⟨S4096x8192, .f32⟩
  | 19 => ⟨S4096x8192, .f32⟩
  | 20 => ⟨S_, .f32⟩
  | 21 => ⟨S2x8192, .f32⟩
  | 22 => ⟨S4094x8192, .f32⟩
  | 23 => ⟨S4096x8192, .f32⟩
  | 24 => ⟨S_, .f32⟩
  | 25 => ⟨S2x8192, .f32⟩
  | 26 => ⟨S1x8192, .f32⟩
  | 27 => ⟨S8192, .f32⟩
  | 28 => ⟨S1x8192, .f32⟩
  | 29 => ⟨S4096x8192, .f32⟩
  | 30 => ⟨S4096x8192, .f32⟩
  | 31 => ⟨S4096x8192, .f32⟩
  | 32 => ⟨S_, .f32⟩
  | 33 => ⟨S1x8192, .f32⟩
  | 34 => ⟨S4095x8192, .f32⟩
  | 35 => ⟨S4096x8192, .f32⟩
  | 36 => ⟨S_, .f32⟩
  | 37 => ⟨S1x8192, .f32⟩
  | 38 => ⟨S1x8192, .f32⟩
  | 39 => ⟨S8192, .f32⟩
  | 40 => ⟨S1x8192, .f32⟩
  | 41 => ⟨S4096x8192, .f32⟩
  | 42 => ⟨S4096x8192, .f32⟩
  | 43 => ⟨S4096x8192, .f32⟩
  | 44 => ⟨S_, .f32⟩
  | 45 => ⟨S0x8192, .f32⟩
  | 46 => ⟨S4096x8192, .f32⟩
  | 47 => ⟨S_, .f32⟩
  | 48 => ⟨S0x8192, .f32⟩
  | 49 => ⟨S1x8192, .f32⟩
  | 50 => ⟨S8192, .f32⟩
  | 51 => ⟨S1x8192, .f32⟩
  | 52 => ⟨S4096x8192, .f32⟩
  | 53 => ⟨S4096x8192, .f32⟩
  | 54 => ⟨S4096x8192, .f32⟩
  | 55 => ⟨S4096x8192, .f32⟩
  | 56 => ⟨S4096x8192, .f32⟩
  | 57 => ⟨S4096x8192, .f32⟩
  | 58 => ⟨S4096x8192, .f32⟩
  | 59 => ⟨S_, .f32⟩
  | 60 => ⟨S4096x8192, .f32⟩
  | 61 => ⟨S4096x8192, .f32⟩
  | 62 => ⟨S_, .f32⟩
  | 63 => ⟨S4096x8192, .f32⟩
  | 64 => ⟨S4096x8192, .f32⟩
  | 65 => ⟨S_, .f32⟩
  | 66 => ⟨S4096x8192, .f32⟩
  | 67 => ⟨S4096x8192, .f32⟩
  | 68 => ⟨S4096x8192, .f32⟩
  | 69 => ⟨S4096x8192, .f32⟩
  | 70 => ⟨S4096x8192, .f32⟩
  | 71 => ⟨S4096x8192, .f32⟩
  | 72 => ⟨S4096x8192, .f32⟩
  | 73 => ⟨S4096x8192, .f32⟩
  | 74 => ⟨S4096x8192, .f32⟩
  | 75 => ⟨S_, .f32⟩
  | 76 => ⟨S8192, .f32⟩
  | 77 => ⟨S1x8192, .f32⟩
  | 78 => ⟨S4096x8192, .f32⟩
  | 79 => ⟨S_, .f32⟩
  | 80 => ⟨S8192, .f32⟩
  | 81 => ⟨S1x8192, .f32⟩
  | 82 => ⟨S4096x8192, .f32⟩
  | 83 => ⟨S4096x8192, .f32⟩
  | 84 => ⟨S_, .f32⟩
  | 85 => ⟨S8192, .f32⟩
  | 86 => ⟨S1x8192, .f32⟩
  | 87 => ⟨S_, .f32⟩
  | 88 => ⟨S4x8192, .f32⟩
  | 89 => ⟨S0x8192, .f32⟩
  | 90 => ⟨S4096x8192, .f32⟩
  | 91 => ⟨S4096x8192, .f32⟩
  | 92 => ⟨S_, .f32⟩
  | 93 => ⟨S8192, .f32⟩
  | 94 => ⟨S1x8192, .f32⟩
  | 95 => ⟨S4096x8192, .f32⟩
  | 96 => ⟨S4096x8192, .f32⟩
  | 97 => ⟨S_, .f32⟩
  | 98 => ⟨S8192, .f32⟩
  | 99 => ⟨S1x8192, .f32⟩
  | 100 => ⟨S_, .f32⟩
  | 101 => ⟨S4x8192, .f32⟩
  | 102 => ⟨S4x8192, .f32⟩
  | 103 => ⟨S1x8192, .f32⟩
  | 104 => ⟨S4095x8192, .f32⟩
  | 105 => ⟨S_, .f32⟩
  | 106 => ⟨S4096x8192, .f32⟩
  | 107 => ⟨S4096x8192, .f32⟩
  | 108 => ⟨S4096x8192, .f32⟩
  | 109 => ⟨S_, .f32⟩
  | 110 => ⟨S8192, .f32⟩
  | 111 => ⟨S1x8192, .f32⟩
  | 112 => ⟨S4096x8192, .f32⟩
  | 113 => ⟨S4096x8192, .f32⟩
  | 114 => ⟨S_, .f32⟩
  | 115 => ⟨S8192, .f32⟩
  | 116 => ⟨S1x8192, .f32⟩
  | 117 => ⟨S_, .f32⟩
  | 118 => ⟨S4x8192, .f32⟩
  | 119 => ⟨S4x8192, .f32⟩
  | 120 => ⟨S2x8192, .f32⟩
  | 121 => ⟨S4094x8192, .f32⟩
  | 122 => ⟨S_, .f32⟩
  | 123 => ⟨S4096x8192, .f32⟩
  | 124 => ⟨S4096x8192, .f32⟩
  | 125 => ⟨S4096x8192, .f32⟩
  | 126 => ⟨S_, .f32⟩
  | 127 => ⟨S8192, .f32⟩
  | _ => ⟨S4096x8192, .f32⟩

abbrev hbmTy0_1 (i : Nat) : BufTy := match i % 128 with
  | 0 => ⟨S1x8192, .f32⟩
  | 1 => ⟨S4096x8192, .f32⟩
  | 2 => ⟨S4096x8192, .f32⟩
  | 3 => ⟨S_, .f32⟩
  | 4 => ⟨S8192, .f32⟩
  | 5 => ⟨S1x8192, .f32⟩
  | 6 => ⟨S_, .f32⟩
  | 7 => ⟨S4x8192, .f32⟩
  | 8 => ⟨S4x8192, .f32⟩
  | 9 => ⟨S3x8192, .f32⟩
  | 10 => ⟨S4093x8192, .f32⟩
  | 11 => ⟨S_, .f32⟩
  | 12 => ⟨S4096x8192, .f32⟩
  | 13 => ⟨S4096x8192, .f32⟩
  | 14 => ⟨S4096x8192, .bf16⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v42_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v42_1 : Ref sig .tc := ⟨.hbm, 68, rfl⟩
abbrev main_v42_0 : Ref sig .tc := ⟨.hbm, 69, rfl⟩
abbrev main_v43 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v44 : Ref sig .tc := ⟨.hbm, 74, rfl⟩
abbrev main_cst_8 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_10 : Ref sig .tc := ⟨.hbm, 84, rfl⟩
abbrev main_v52 : Ref sig .tc := ⟨.hbm, 85, rfl⟩
abbrev main_v53 : Ref sig .tc := ⟨.hbm, 86, rfl⟩
abbrev main_cst_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_12 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_v63 : Ref sig .tc := ⟨.hbm, 99, rfl⟩
abbrev main_cst_14 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_16 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_17 : Ref sig .tc := ⟨.hbm, 114, rfl⟩
abbrev main_v75 : Ref sig .tc := ⟨.hbm, 115, rfl⟩
abbrev main_v76 : Ref sig .tc := ⟨.hbm, 116, rfl⟩
abbrev main_cst_18 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_19 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_20 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_cst_21 : Ref sig .tc := ⟨.hbm, 131, rfl⟩
abbrev main_v88 : Ref sig .tc := ⟨.hbm, 132, rfl⟩
abbrev main_v89 : Ref sig .tc := ⟨.hbm, 133, rfl⟩
abbrev main_cst_22 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_23 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩

abbrev nD : Nat := 1
abbrev τ : Topo := Topo.v7x

variable {F : FTy → Type} [FloatOps F]
-- ==== Proof.Run.lean ====
/-
  What the attention's three calls leave in memory: every buffer of a core holds what the fold of the three
  calls' write-backs gives it.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The launch hands the regions their tokens and nothing else. -/
theorem launch_tokens :
    (ownU (initOf (Pipeline.cells cfgs cellOf_inj) (Pipeline.launchToks cfgs cellOf_inj)) : sProp 𝕄)
      ⊢ iprop(|={Set.univ}=> (BI.own (emb₁ (initOf (Pipeline.cells cfgs cellOf_inj) (Pipeline.launchToks cfgs cellOf_inj)))
          ∗ bigSep Finset.univ (fun _ : Dev nD => (BI.emp : sProp 𝕄)))) := by
  rw [BI.bigSep_emp_const]
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iempintro

-- the launch theorem's implicit arguments unify with this statement only when plain definitions unfold
set_option backward.isDefEq.respectTransparency.types false in
/-- Every final state of the three calls holds, at every unscoped buffer of every core, the contents of the last boundary. -/
theorem final_memory : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]; · iexact Hheld
      isplitl [Hreg]; · iexists _; iexact Hreg
      iexists ∅; iexact Howes)
    (QY := fun c s => ∀ b ∈ Pipeline.ucRefs τ sig, s.mem (((c : Thread nD τ)).1, b) = W3 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W3 m ρ c) s')
      isplitl [Hheld] <;> iassumption)
    (hQ := fun _ h _ => h)

end Cert.KernelIdeal.Gen

end
-- ==== Proof.Math.lean ====
/-
  The real mathematics of the causal attention and its gradient: the textbook functions over plain
  natural indices, the sums of extended reals that are sums of reals, and the running softmax, whose
  state after any number of blocks is the plain sums up to the factor its current maximum stands for.
-/
module

public import Idealize.ShloMosaic.PureOps.Ideal.Laws

@[expose] public section

noncomputable section

namespace Attn

open Idealize.ShloMosaic
open Finset (range)
open scoped BigOperators

/-! ## Extended reals that are reals -/

/-- A sum of extended reals that are reals is the real sum. -/
theorem sum_coe {ι : Type*} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A sum over `Fin n` of reals given at the positions is the real sum over `range n`. -/
theorem sum_fin_coe (n : ℕ) (f : ℕ → ℝ) : ∑ i : Fin n, ((f i.val : ℝ) : EReal) = ((∑ i ∈ range n, f i : ℝ) : EReal) := by
  rw [sum_coe, Finset.sum_range]

theorem exp_coe (x : ℝ) : Ideal.exp (x : EReal) = ((Real.exp x : ℝ) : EReal) := rfl
theorem exp_bot : Ideal.exp ⊥ = 0 := rfl
theorem log_coe {x : ℝ} (h : 0 < x) : Ideal.log (x : EReal) = ((Real.log x : ℝ) : EReal) := if_neg (not_le.2 h)
theorem div_coe (x : ℝ) {y : ℝ} (h : y ≠ 0) : Ideal.div (x : EReal) (y : EReal) = ((x / y : ℝ) : EReal) := by
  rw [Ideal.div, if_neg (by exact_mod_cast h), ← EReal.coe_inv, ← EReal.coe_mul, div_eq_mul_inv]

/-- The greatest of finitely many scores, none `+∞` and one a real, is a real. -/
theorem max_real {n : ℕ} (S : Fin n → EReal) (k : Fin n) (hk : S k ≠ ⊥) (ht : ∀ j, S j ≠ ⊤) :
    ∃ μ : ℝ, (Finset.univ : Finset (Fin n)).fold max ⊥ S = (μ : EReal) := by
  have hlt : (Finset.univ : Finset (Fin n)).fold max ⊥ S < ⊤ :=
    (Finset.fold_max_lt _).2 ⟨bot_lt_top, fun j _ => lt_top_iff_ne_top.2 (ht j)⟩
  have hle : S k ≤ (Finset.univ : Finset (Fin n)).fold max ⊥ S :=
    (Finset.le_fold_max _).2 (Or.inr ⟨k, Finset.mem_univ _, le_rfl⟩)
  refine ⟨_, (EReal.coe_toReal (ne_of_lt hlt) ?_).symm⟩
  intro h
  rw [h] at hle
  exact hk (le_bot_iff.1 hle)

/-- The larger of `-∞` or a real, and a real, is a real. -/
theorem max_bot_or_real {m : EReal} (hm : m = ⊥ ∨ ∃ x : ℝ, m = (x : EReal)) (y : ℝ) : ∃ z : ℝ, max m (y : EReal) = (z : EReal) := by
  rcases hm with h | ⟨x, h⟩
  · exact ⟨y, by rw [h, max_eq_right bot_le]⟩
  · exact ⟨max x y, by rw [h]; exact (EReal.coe_strictMono.monotone.map_max).symm⟩

/-! ## The running softmax of one row -/

/-- The weight of position `j` of row `q` relative to the level `μ`: masked off above the diagonal. -/
def wt (s : ℕ → ℝ) (q : ℕ) (μ : ℝ) (j : ℕ) : ℝ := if j ≤ q then Real.exp (s j - μ) else 0

/-- A masked score: the score on or below the diagonal, `-∞` above it. -/
def sc (s : ℕ → ℝ) (q j : ℕ) : EReal := if j ≤ q then ((s j : ℝ) : EReal) else ⊥

theorem exp_sc (s : ℕ → ℝ) (q j : ℕ) (μ : ℝ) : Ideal.exp (sc s q j - (μ : EReal)) = ((wt s q μ j : ℝ) : EReal) := by
  unfold sc wt
  split
  · rw [← EReal.coe_sub, exp_coe]
  · rw [EReal.bot_sub, exp_bot, EReal.coe_zero]

theorem sc_ne_top (s : ℕ → ℝ) (q j : ℕ) : sc s q j ≠ ⊤ := by
  unfold sc; split
  · exact EReal.coe_ne_top _
  · exact bot_ne_top

/-- The running state of one row after its first `n` positions: nothing yet, or a level `μ` with the sums of
    the weights relative to it. -/
def Running (s : ℕ → ℝ) (q : ℕ) (v : ℕ → ℕ → ℝ) (n : ℕ) (m l : EReal) {D : ℕ} (acc : Fin D → EReal) : Prop :=
  (n = 0 ∧ m = ⊥ ∧ l = 0 ∧ ∀ d, acc d = 0) ∨
    ∃ μ : ℝ, m = (μ : EReal) ∧ l = ((∑ j ∈ range n, wt s q μ j : ℝ) : EReal) ∧
      ∀ d, acc d = ((∑ j ∈ range n, wt s q μ j * v j d.val : ℝ) : EReal)

/-- Before any position. -/
theorem Running.init (s : ℕ → ℝ) (q : ℕ) (v : ℕ → ℕ → ℝ) (D : ℕ) : Running s q v 0 ⊥ 0 (fun _ : Fin D => 0) :=
  Or.inl ⟨rfl, rfl, rfl, fun _ => rfl⟩

/-- Raising the level multiplies every weight by one factor. -/
theorem wt_shift (s : ℕ → ℝ) (q : ℕ) (μ μ' : ℝ) (j : ℕ) : Real.exp (μ - μ') * wt s q μ j = wt s q μ' j := by
  unfold wt
  split
  · rw [← Real.exp_add]; congr 1; ring
  · exact mul_zero _

/-- One block of `b` positions, the first of them on or below the diagonal, taken into the running state. -/
theorem Running.step {s : ℕ → ℝ} {q : ℕ} {v : ℕ → ℕ → ℝ} {n b : ℕ} {m l : EReal} {D : ℕ} {acc : Fin D → EReal}
    (h : Running s q v n m l acc) (hb : 0 < b) (hn : n ≤ q) {m' l' : EReal} {acc' : Fin D → EReal}
    (hm' : m' = max m ((Finset.univ : Finset (Fin b)).fold max ⊥ fun k => sc s q (n + k.val)))
    (hl' : l' = Ideal.exp (m - m') * l + ∑ k : Fin b, Ideal.exp (sc s q (n + k.val) - m'))
    (ha' : ∀ d, acc' d = Ideal.exp (m - m') * acc d + ∑ k : Fin b, Ideal.exp (sc s q (n + k.val) - m') * ((v (n + k.val) d.val : ℝ) : EReal)) :
    Running s q v (n + b) m' l' acc' := by
  obtain ⟨y, hy⟩ := max_real (fun k : Fin b => sc s q (n + k.val)) ⟨0, hb⟩
    (by show sc s q (n + 0) ≠ ⊥
        unfold sc; rw [if_pos (by omega)]; exact EReal.coe_ne_bot _) (fun j => sc_ne_top s q _)
  have hbr : m = ⊥ ∨ ∃ x : ℝ, m = (x : EReal) := by
    rcases h with ⟨_, h, _⟩ | ⟨μ, h, _⟩
    · exact Or.inl h
    · exact Or.inr ⟨μ, h⟩
  obtain ⟨μ', hμ'⟩ := max_bot_or_real hbr y
  rw [hy, hμ'] at hm'
  subst hm'
  refine Or.inr ⟨μ', rfl, ?_, ?_⟩
  · rw [hl']
    simp only [exp_sc]
    rw [sum_fin_coe b fun k => wt s q μ' (n + k), Finset.sum_range_add]
    rcases h with ⟨hn0, h1, h2, _⟩ | ⟨μ, h1, h2, _⟩
    · subst hn0
      rw [h2, mul_zero, zero_add]; simp
    · rw [h1, h2, ← EReal.coe_sub, exp_coe, ← EReal.coe_mul, ← EReal.coe_add, Finset.mul_sum]
      simp only [wt_shift]
  · intro d
    rw [ha' d]
    simp only [exp_sc, ← EReal.coe_mul]
    rw [sum_fin_coe b fun k => wt s q μ' (n + k) * v (n + k) d.val, Finset.sum_range_add]
    rcases h with ⟨hn0, h1, _, h3⟩ | ⟨μ, h1, _, h3⟩
    · subst hn0
      rw [h3 d, mul_zero, zero_add]; simp
    · rw [h1, h3 d, ← EReal.coe_sub, exp_coe, ← EReal.coe_mul, ← EReal.coe_add, Finset.mul_sum]
      simp only [← mul_assoc, wt_shift]

/-- The sum of the masked terms of a range that reaches past the diagonal stops at the diagonal. -/
theorem sum_masked (f : ℕ → ℝ) {q N : ℕ} (h : q < N) : ∑ j ∈ range N, (if j ≤ q then f j else 0) = ∑ j ∈ range (q + 1), f j := by
  rw [← Finset.sum_filter]
  refine Finset.sum_congr ?_ fun _ _ => rfl
  ext j
  simp only [Finset.mem_filter, Finset.mem_range]
  omega

/-- The row's sum of weights, no level subtracted. -/
def mass (s : ℕ → ℝ) (q : ℕ) : ℝ := ∑ j ∈ range (q + 1), Real.exp (s j)

theorem mass_pos (s : ℕ → ℝ) (q : ℕ) : 0 < mass s q :=
  Finset.sum_pos (fun _ _ => Real.exp_pos _) ⟨0, by simp⟩

/-- The row's probability at a position: masked off above the diagonal. -/
def prob (s : ℕ → ℝ) (q j : ℕ) : ℝ := if j ≤ q then Real.exp (s j - Real.log (mass s q)) else 0

theorem wt_eq_prob (s : ℕ → ℝ) (q : ℕ) (μ : ℝ) (j : ℕ) : wt s q μ j = (Real.exp (-μ) * mass s q) * prob s q j := by
  unfold wt prob
  split
  · rw [Real.exp_sub, Real.exp_sub, Real.exp_log (mass_pos s q), Real.exp_neg]
    have := (mass_pos s q).ne'
    field_simp
  · exact (mul_zero _).symm

theorem sum_wt (s : ℕ → ℝ) (q : ℕ) (μ : ℝ) {N : ℕ} (h : q < N) : ∑ j ∈ range N, wt s q μ j = Real.exp (-μ) * mass s q := by
  unfold wt
  rw [sum_masked _ h, mass, Finset.mul_sum]
  refine Finset.sum_congr rfl fun j _ => ?_
  rw [← Real.exp_add]; congr 1; ring

/-- What a row holds after its last block: the normaliser's logarithm and the attention. -/
theorem Running.finish {s : ℕ → ℝ} {q : ℕ} {v : ℕ → ℕ → ℝ} {n : ℕ} {m l : EReal} {D : ℕ} {acc : Fin D → EReal}
    (h : Running s q v n m l acc) (hq : q < n) :
    m + Ideal.log l = ((Real.log (mass s q) : ℝ) : EReal) ∧
      ∀ d, Ideal.div (acc d) l = ((∑ j ∈ range n, prob s q j * v j d.val : ℝ) : EReal) := by
  rcases h with ⟨hn, _⟩ | ⟨μ, h1, h2, h3⟩
  · omega
  have hp : 0 < Real.exp (-μ) * mass s q := mul_pos (Real.exp_pos _) (mass_pos s q)
  rw [sum_wt s q μ hq] at h2
  refine ⟨?_, fun d => ?_⟩
  · rw [h1, h2, log_coe hp, ← EReal.coe_add, Real.log_mul (Real.exp_pos _).ne' (mass_pos s q).ne', Real.log_exp]
    congr 1; ring
  · rw [h3 d, h2, div_coe _ hp.ne']
    congr 1
    rw [div_eq_iff hp.ne', Finset.sum_mul]
    refine Finset.sum_congr rfl fun j _ => ?_
    rw [wt_eq_prob]; ring

/-- A range of positions past the diagonal adds no probability. -/
theorem sum_prob_of_le (s : ℕ → ℝ) (q : ℕ) (f : ℕ → ℝ) {N M : ℕ} (hN : q < N) (hM : N ≤ M) :
    ∑ j ∈ range N, prob s q j * f j = ∑ j ∈ range M, prob s q j * f j :=
  Finset.sum_subset (by intro j; simp only [Finset.mem_range]; omega) fun j _ hj => by
    have : ¬ j ≤ q := by simp only [Finset.mem_range] at hj; omega
    rw [prob, if_neg this, zero_mul]

/-- The textbook softmax of a row at any real level is the probability. -/
theorem wt_div_sum (s : ℕ → ℝ) (q : ℕ) (μ : ℝ) (j : ℕ) {N : ℕ} (h : q < N) :
    wt s q μ j / (∑ i ∈ range N, wt s q μ i) = prob s q j := by
  have hp : 0 < Real.exp (-μ) * mass s q := mul_pos (Real.exp_pos _) (mass_pos s q)
  rw [sum_wt s q μ h, wt_eq_prob, mul_div_cancel_left₀ _ hp.ne']

/-! ## The attention and its gradient -/

/-- The arguments as real matrices: the queries and keys in their two parts, the values and the output's
    gradient, sixteen heads of 128 lanes side by side (the second part of the keys shared by the heads). -/
structure Args where
  qn : ℕ → ℕ → ℝ
  qr : ℕ → ℕ → ℝ
  kn : ℕ → ℕ → ℝ
  kr : ℕ → ℕ → ℝ
  v : ℕ → ℕ → ℝ
  g : ℕ → ℕ → ℝ

/-- Two blocks of 128 lanes side by side. -/
def cat (x y : ℕ → ℕ → ℝ) (r c : ℕ) : ℝ := if c < 128 then x r c else y r (c - 128)

namespace Args
variable (A : Args) (σ : ℝ) (h : ℕ)

/-- Head `h`'s queries, keys, values and output gradient. -/
def Q : ℕ → ℕ → ℝ := cat (fun r c => A.qn r (128 * h + c)) (fun r c => A.qr r (128 * h + c))
def K : ℕ → ℕ → ℝ := cat (fun r c => A.kn r (128 * h + c)) (fun r c => A.kr r c)
def V (r c : ℕ) : ℝ := A.v r (128 * h + c)
def G (r c : ℕ) : ℝ := A.g r (128 * h + c)

/-- The scaled score of query `q` and key `k`. -/
def S (q k : ℕ) : ℝ := (∑ e ∈ range 256, A.Q h q e * A.K h k e) * σ
/-- The logarithm of the row's normaliser. -/
def lse (q : ℕ) : ℝ := Real.log (mass (A.S σ h q) q)
/-- The probability. -/
def P (q k : ℕ) : ℝ := prob (A.S σ h q) q k
/-- The attention's output. -/
def O (q d : ℕ) : ℝ := ∑ k ∈ range 4096, A.P σ h q k * A.V h k d
/-- The gradient of the probability. -/
def dP (q k : ℕ) : ℝ := ∑ d ∈ range 128, A.G h q d * A.V h k d
/-- The row's inner product of the output and its gradient. -/
def delta (q : ℕ) : ℝ := ∑ d ∈ range 128, A.G h q d * A.O σ h q d
/-- The gradient of the score, the scale not yet applied. -/
def dS (q k : ℕ) : ℝ := A.P σ h q k * (A.dP h q k - A.delta σ h q)
/-- The gradients of head `h`'s queries, keys and values. -/
def dQ (q e : ℕ) : ℝ := (∑ k ∈ range 4096, A.dS σ h q k * A.K h k e) * σ
def dK (k e : ℕ) : ℝ := (∑ q ∈ range 4096, A.dS σ h q k * A.Q h q e) * σ
def dV (k d : ℕ) : ℝ := ∑ q ∈ range 4096, A.P σ h q k * A.G h q d

/-- The inner product of the output and its gradient is the probabilities' mean of their gradients. -/
theorem delta_eq (q : ℕ) : A.delta σ h q = ∑ k ∈ range 4096, A.P σ h q k * A.dP h q k := by
  unfold delta O dP
  simp only [Finset.mul_sum]
  rw [Finset.sum_comm]
  refine Finset.sum_congr rfl fun k _ => Finset.sum_congr rfl fun d _ => ?_
  ring

theorem P_of_gt {q k : ℕ} (hk : q < k) : A.P σ h q k = 0 := if_neg (by omega)
theorem dS_of_gt {q k : ℕ} (hk : q < k) : A.dS σ h q k = 0 := by rw [dS, P_of_gt A σ h hk, zero_mul]

end Args

end Attn
-- ==== Proof.Ops.lean ====
/-
  The vector operations of the attention's kernels at the ideal values, on matrices whose every element is a
  real: `IsR X x` says the matrix `X` holds the real `x r c` at row `r`, lane `c`, and each operation carries it.
-/
module

public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import proofs.«01_k».proof.Proof.Math

@[expose] public section

noncomputable section

namespace Attn

open Idealize.ShloMosaic Idealize.ShloMosaic.ValueIdx
open Finset (range)
open scoped BigOperators

/-- The matrix holds the reals `x`. -/
def IsR {n0 n1 : ℕ} (X : (⟨2, ![n0, n1]⟩ : Shape).Idx → EReal) (x : ℕ → ℕ → ℝ) : Prop :=
  ∀ (r : Fin n0) (c : Fin n1), X (ix2 r c) = ((x r.val c.val : ℝ) : EReal)

namespace IsR

variable {n0 n1 n2 : ℕ} {φ ψ : FTy}

theorem congr {X : (⟨2, ![n0, n1]⟩ : Shape).Idx → EReal} {x x' : ℕ → ℕ → ℝ} (h : IsR X x)
    (e : ∀ r < n0, ∀ c < n1, x r c = x' r c) : IsR X x' := fun r c => by
  rw [h r c, e _ r.isLt _ c.isLt]

theorem add {X Y : FVec Ideal ⟨2, ![n0, n1]⟩ φ} {x y : ℕ → ℕ → ℝ} (hx : IsR X x) (hy : IsR Y y) :
    IsR (addf X Y) fun r c => x r c + y r c := fun r c => by
  rw [addf_apply, hx r c, hy r c, EReal.coe_add]

theorem sub {X Y : FVec Ideal ⟨2, ![n0, n1]⟩ φ} {x y : ℕ → ℕ → ℝ} (hx : IsR X x) (hy : IsR Y y) :
    IsR (subf X Y) fun r c => x r c - y r c := fun r c => by
  rw [subf_apply, hx r c, hy r c, EReal.coe_sub]

theorem mul {X Y : FVec Ideal ⟨2, ![n0, n1]⟩ φ} {x y : ℕ → ℕ → ℝ} (hx : IsR X x) (hy : IsR Y y) :
    IsR (mulf X Y) fun r c => x r c * y r c := fun r c => by
  rw [mulf_apply, hx r c, hy r c, EReal.coe_mul]

theorem expf {X : FVec Ideal ⟨2, ![n0, n1]⟩ φ} {x : ℕ → ℕ → ℝ} (hx : IsR X x) :
    IsR (exp X) fun r c => Real.exp (x r c) := fun r c => by
  show Ideal.exp (X (ix2 r c)) = _
  rw [hx r c, exp_coe]

/-- A rounding is the value itself. -/
theorem trunc {X : FVec Ideal ⟨2, ![n0, n1]⟩ φ} {x : ℕ → ℕ → ℝ} (hx : IsR X x) (h : ψ.bits < φ.bits) :
    IsR (truncf ψ X h : FVec Ideal ⟨2, ![n0, n1]⟩ ψ) x := fun r c => hx r c

/-- A scalar that is a real, everywhere. -/
theorem splat {x : EReal} {y : ℝ} (hx : x = (y : EReal)) : IsR (broadcast ⟨2, ![n0, n1]⟩ x) fun _ _ => y := fun _ _ => hx

/-- The zeros. -/
theorem zeros : IsR (broadcast ⟨2, ![n0, n1]⟩ (Scalar.ofBits (F := Ideal) .f32 0x00000000#32)) fun _ _ => 0 :=
  splat (y := 0) Ideal.ofBits_zero_f32

/-- A matrix cast to its own shape. -/
theorem castSelf {X : (⟨2, ![n0, n1]⟩ : Shape).Idx → EReal} {x : ℕ → ℕ → ℝ} (hx : IsR X x)
    (h : (⟨2, ![n0, n1]⟩ : Shape).ShapeCasts ⟨2, ![n0, n1]⟩) : IsR (shapeCast ⟨2, ![n0, n1]⟩ X h) x := by
  rw [shapeCast_self]; exact hx

/-- A column broadcast along the lanes. -/
theorem col {X : (⟨2, ![n0, 1]⟩ : Shape).Idx → EReal} {x : ℕ → ℕ → ℝ} (hx : IsR X x)
    (h : (⟨2, ![n0, 1]⟩ : Shape).Broadcasts ⟨2, ![n0, n1]⟩) : IsR (broadcastTo ⟨2, ![n0, n1]⟩ X h) fun r _ => x r 0 := fun r c => by
  rw [broadcastTo_apply X h (ix2 r c) (ix2 r (0 : Fin 1)) fun ax => ?_]
  · exact hx r 0
  · match ax with
    | ⟨0, _⟩ =>
      show r.val = if n0 = 1 then 0 else r.val
      split
      · have := r.isLt; omega
      · rfl
    | ⟨1, _⟩ => rfl

/-- A row of lanes cut out. -/
theorem slice {X : (⟨2, ![n0, n1]⟩ : Shape).Idx → EReal} {x : ℕ → ℕ → ℝ} (hx : IsR X x) (o : ℕ) (ho : o + n2 ≤ n1)
    (h : (⟨2, ![n0, n1]⟩ : Shape).Slices ![0, o] ⟨2, ![n0, n2]⟩) :
    IsR (extractStridedSlice ⟨2, ![n0, n2]⟩ ![0, o] X h) fun r c => x r (o + c) := fun r c => by
  rw [slice2_axis1_apply o X h r c ⟨o + c.val, by have := c.isLt; omega⟩ rfl]
  exact hx r _

/-- Two blocks of 128 lanes side by side. -/
theorem concat {X Y : (⟨2, ![n0, 128]⟩ : Shape).Idx → EReal} {x y : ℕ → ℕ → ℝ} (hx : IsR X x) (hy : IsR Y y)
    (h : Shape.Concatenates [(⟨2, ![n0, 128]⟩ : Shape), ⟨2, ![n0, 128]⟩] ⟨2, ![n0, 256]⟩ 1) :
    IsR (concatenate (⟨2, ![n0, 256]⟩ : Shape) 1 [⟨⟨2, ![n0, 128]⟩, X⟩, ⟨⟨2, ![n0, 128]⟩, Y⟩] h) (cat x y) := fun r c => by
  unfold cat
  by_cases hc : c.val < 128
  · rw [if_pos hc, concatenate_pair_apply_left 1 X Y h (ix2 r c) rfl (ix2 r (⟨c.val, hc⟩ : Fin 128))]
    · exact hx r _
    · intro b; match b with
      | ⟨0, _⟩ => rfl
      | ⟨1, _⟩ => rfl
  · rw [if_neg hc, concatenate_pair_apply_right 1 X Y h (ix2 r c) rfl rfl (ix2 r (⟨c.val - 128, by have := c.isLt; omega⟩ : Fin 128))]
    · exact hy r _
    · intro b hb; match b with
      | ⟨0, _⟩ => rfl
      | ⟨1, _⟩ => exact absurd rfl hb
    · show c.val - 128 + 128 = c.val
      omega

/-- A row's sum, as a column. -/
theorem rowSum {X : FVec Ideal ⟨2, ![n0, n1]⟩ .f32} {x : ℕ → ℕ → ℝ} (hx : IsR X x)
    (h : Shape.Reduces ⟨2, ![n0, n1]⟩ [1] ⟨1, ![n0]⟩) (hφ : FKind.Formats .f32)
    (hacc : (0x00000000#32 : BitVec 32) = FKind.add.neutral .f32 hφ) (hc : (⟨1, ![n0]⟩ : Shape).ShapeCasts ⟨2, ![n0, 1]⟩) :
    IsR (shapeCast ⟨2, ![n0, 1]⟩ (multiReduction .add [1] ⟨1, ![n0]⟩ X 0x00000000#32 h hφ hacc) hc)
      fun r _ => ∑ k ∈ range n1, x r k := fun r c => by
  rw [shapeCast_a_a1_apply, Ideal.multiReduction_add_single]
  rw [← sum_fin_coe n1 fun k => x r.val k]
  refine Finset.sum_congr rfl fun k _ => ?_
  rw [show h.lift (ix1 r) k = ix2 r k from by
    funext b; apply Fin.ext
    match b with
    | ⟨0, _⟩ => rfl
    | ⟨1, _⟩ => rfl]
  exact hx r k

/-- The product of two matrices that share their first operand's lanes and second operand's rows. -/
theorem nn {M K N : ℕ} {L : FVec Ideal ⟨2, ![M, K]⟩ φ} {R : FVec Ideal ⟨2, ![K, N]⟩ ψ} {l r : ℕ → ℕ → ℝ} (hl : IsR L l) (hr : IsR R r)
    (D : DotDims ⟨2, ![M, K]⟩ ⟨2, ![K, N]⟩ ⟨2, ![M, N]⟩) (hD : D = DotDims.plain M K N) :
    IsR (matmul D none L R (constant ⟨2, ![M, N]⟩ .f32 0x00000000#32)) fun i j => ∑ k ∈ range K, l i k * r k j := fun i j => by
  subst hD
  show FloatOps.matmul (DotDims.plain M K N) none L R _ (ix2 i j) = _
  rw [Ideal.matmul_plain_apply, constant_apply, Ideal.ofBits_zero_f32, zero_add]
  rw [← sum_fin_coe K fun k => l i.val k * r k j.val]
  refine Finset.sum_congr rfl fun k _ => ?_
  rw [hl i k, hr k j, EReal.coe_mul]

/-- The product of two matrices that share their lanes. -/
theorem nt {M K N : ℕ} {L : FVec Ideal ⟨2, ![M, K]⟩ φ} {R : FVec Ideal ⟨2, ![N, K]⟩ ψ} {l r : ℕ → ℕ → ℝ} (hl : IsR L l) (hr : IsR R r)
    (D : DotDims ⟨2, ![M, K]⟩ ⟨2, ![N, K]⟩ ⟨2, ![M, N]⟩) (hD : D = DotDims.transposedRhs M K N) :
    IsR (matmul D none L R (constant ⟨2, ![M, N]⟩ .f32 0x00000000#32)) fun i j => ∑ k ∈ range K, l i k * r j k := fun i j => by
  subst hD
  show FloatOps.matmul (DotDims.transposedRhs M K N) none L R _ (ix2 i j) = _
  rw [Ideal.matmul_transposedRhs_apply, constant_apply, Ideal.ofBits_zero_f32, zero_add]
  rw [← sum_fin_coe K fun k => l i.val k * r j.val k]
  refine Finset.sum_congr rfl fun k _ => ?_
  rw [hl i k, hr j k, EReal.coe_mul]

/-- The product of two matrices that share their rows: the contraction has one axis of `K` positions (`hR`, `hS`), and
    the operands' indices are the shared row with the output's coordinate. -/
theorem tn {M K N : ℕ} {L : FVec Ideal ⟨2, ![K, M]⟩ φ} {R : FVec Ideal ⟨2, ![K, N]⟩ ψ} {l r : ℕ → ℕ → ℝ} (hl : IsR L l) (hr : IsR R r)
    (D : DotDims ⟨2, ![K, M]⟩ ⟨2, ![K, N]⟩ ⟨2, ![M, N]⟩) (hR : D.contr.rank = 1) (hS : D.contr.size ⟨0, by omega⟩ = K)
    (h0 : ∀ (i : Fin M) (j : Fin N) (k : D.contr.Idx), (D.lhsIdx (ix2 i j) k 0).val = (k ⟨0, by omega⟩).val)
    (h1 : ∀ (i : Fin M) (j : Fin N) (k : D.contr.Idx), (D.lhsIdx (ix2 i j) k 1).val = i.val)
    (h2 : ∀ (i : Fin M) (j : Fin N) (k : D.contr.Idx), (D.rhsIdx (ix2 i j) k 0).val = (k ⟨0, by omega⟩).val)
    (h3 : ∀ (i : Fin M) (j : Fin N) (k : D.contr.Idx), (D.rhsIdx (ix2 i j) k 1).val = j.val) :
    IsR (matmul D none L R (constant ⟨2, ![M, N]⟩ .f32 0x00000000#32)) fun i j => ∑ k ∈ range K, l k i * r k j := fun i j => by
  show FloatOps.matmul D none L R _ (ix2 i j) = _
  rw [Ideal.matmul_constant_zero_apply, ← Equiv.sum_comp (contrEquiv1 D K hR hS).symm]
  rw [← sum_fin_coe K fun k => l k i.val * r k j.val]
  refine Finset.sum_congr rfl fun k _ => ?_
  have hk := contrEquiv1_symm_val D K hR hS k
  have el : D.lhsIdx (ix2 i j) ((contrEquiv1 D K hR hS).symm k) = ix2 k i := by
    funext a; apply Fin.ext
    match a with
    | ⟨0, _⟩ => exact (h0 i j _).trans hk
    | ⟨1, _⟩ => exact h1 i j _
  have er : D.rhsIdx (ix2 i j) ((contrEquiv1 D K hR hS).symm k) = ix2 k j := by
    funext a; apply Fin.ext
    match a with
    | ⟨0, _⟩ => exact (h2 i j _).trans hk
    | ⟨1, _⟩ => exact h3 i j _
  rw [el, er, hl k i, hr k j, EReal.coe_mul]

end IsR

/-- The attention's scale as the programs write it, a real. -/
def scale : ℝ := (Ideal.ofBits .f32 0x3D93CD3A#32).toReal

theorem scale_eq : Ideal.ofBits .f32 0x3D93CD3A#32 = (scale : EReal) := by
  have h : Ideal.ofBits .f32 0x3D93CD3A#32 = ((9686330 * (2 ^ 27)⁻¹ : ℝ) : EReal) := by simp [Ideal.ofBits, Ideal.ieee]
  rw [scale, h, EReal.toReal_coe]

/-- The sum of a row, as a column. -/
theorem rowSum_apply {n0 n1 : ℕ} (X : FVec Ideal ⟨2, ![n0, n1]⟩ .f32)
    (h : Shape.Reduces ⟨2, ![n0, n1]⟩ [1] ⟨1, ![n0]⟩) (hφ : FKind.Formats .f32)
    (hacc : (0x00000000#32 : BitVec 32) = FKind.add.neutral .f32 hφ) (hc : (⟨1, ![n0]⟩ : Shape).ShapeCasts ⟨2, ![n0, 1]⟩)
    (r : Fin n0) (c : Fin 1) :
    shapeCast ⟨2, ![n0, 1]⟩ (multiReduction .add [1] ⟨1, ![n0]⟩ X 0x00000000#32 h hφ hacc) hc (ix2 r c)
      = ∑ k : Fin n1, X (ix2 r k) := by
  rw [shapeCast_a_a1_apply, Ideal.multiReduction_add_single]
  refine Finset.sum_congr rfl fun k _ => ?_
  exact congrArg X (funext fun b => Fin.ext (match b with
    | ⟨0, _⟩ => rfl
    | ⟨1, _⟩ => rfl))

/-- The greatest of a row, as a column. -/
theorem rowMax_apply {n0 n1 : ℕ} (X : FVec Ideal ⟨2, ![n0, n1]⟩ .f32)
    (h : Shape.Reduces ⟨2, ![n0, n1]⟩ [1] ⟨1, ![n0]⟩) (hφ : FKind.Formats .f32)
    (hacc : (0xFF800000#32 : BitVec 32) = FKind.maximumf.neutral .f32 hφ) (hc : (⟨1, ![n0]⟩ : Shape).ShapeCasts ⟨2, ![n0, 1]⟩)
    (r : Fin n0) (c : Fin 1) :
    shapeCast ⟨2, ![n0, 1]⟩ (multiReduction .maximumf [1] ⟨1, ![n0]⟩ X 0xFF800000#32 h hφ hacc) hc (ix2 r c)
      = (Finset.univ : Finset (Fin n1)).fold max ⊥ fun k => X (ix2 r k) := by
  rw [shapeCast_a_a1_apply, Ideal.multiReduction_maximumf_single]
  rw [show FloatOps.ofBits (F := Ideal) .f32 0xFF800000#32 = (⊥ : EReal) from by
    show Ideal.ofBits .f32 0xFF800000#32 = ⊥
    simp [Ideal.ofBits, Ideal.ieee]]
  congr 1
  funext k
  show X _ = X _
  congr 1
  funext b; apply Fin.ext
  match b with
  | ⟨0, _⟩ => rfl
  | ⟨1, _⟩ => rfl

/-- Two words below half the range compare as their numbers do. -/
theorem sle_ofNat (a b : ℕ) (ha : a < 2 ^ 31) (hb : b < 2 ^ 31) :
    (BitVec.ofNat 32 a).sle (BitVec.ofNat 32 b) = decide (a ≤ b) := by
  rw [BitVec.sle_eq_decide, BitVec.toInt_eq_toNat_of_lt, BitVec.toInt_eq_toNat_of_lt, BitVec.toNat_ofNat, BitVec.toNat_ofNat,
    Nat.mod_eq_of_lt (by omega), Nat.mod_eq_of_lt (by omega)]
  · simp
  · rw [BitVec.toNat_ofNat]; omega
  · rw [BitVec.toNat_ofNat]; omega

/-- The causal comparison of a block on the diagonal: the block's lane is compared with its row. -/
theorem causal_bit (b : ℕ) (hb : b < 4096) (r c : ℕ) (hr : r < 512) (hc : c < 512) :
    IntOp.cmpi .sle (BitVec.ofNat 32 b + BitVec.ofNat 32 c) (BitVec.ofNat 32 b + BitVec.ofNat 32 r)
      = if b + c ≤ b + r then 1#1 else 0#1 := by
  rw [← BitVec.ofNat_add, ← BitVec.ofNat_add]
  show BitVec.ofBool ((BitVec.ofNat 32 (b + c)).sle (BitVec.ofNat 32 (b + r))) = _
  rw [sle_ofNat _ _ (by omega) (by omega)]
  by_cases h : b + c ≤ b + r
  · rw [if_pos h, decide_eq_true h]; rfl
  · rw [if_neg h, decide_eq_false h]; rfl

/-- A square block kept on and below the diagonal, zero above it: the words of the positions start at the same `b`. -/
theorem IsR.masked {X : FVec Ideal ⟨2, ![512, 512]⟩ .f32} {x : ℕ → ℕ → ℝ} (hx : IsR X x) {C R : IVec ⟨2, ![512, 512]⟩ 32} (b : ℕ) (hb : b < 4096)
    (hC : ∀ r c : Fin 512, C (ix2 r c) = BitVec.ofNat 32 b + BitVec.ofNat 32 c.val)
    (hR : ∀ r c : Fin 512, R (ix2 r c) = BitVec.ofNat 32 b + BitVec.ofNat 32 r.val) :
    IsR (select (cmpi .sle C R) X (broadcast ⟨2, ![512, 512]⟩ (Scalar.ofBits (F := Ideal) .f32 0x00000000#32)))
      fun r c => if b + c ≤ b + r then x r c else 0 := fun r c => by
  show Scalar.select (IntOp.cmpi .sle (C (ix2 r c)) (R (ix2 r c))) (X (ix2 r c)) (Scalar.ofBits (F := Ideal) .f32 0x00000000#32) = _
  rw [hC, hR, causal_bit b hb _ _ r.isLt c.isLt, hx r c,
    show Scalar.ofBits (F := Ideal) .f32 0x00000000#32 = ((0 : ℝ) : EReal) from Ideal.ofBits_zero_f32]
  by_cases hc : b + c.val ≤ b + r.val
  · simp only [if_pos hc]; rfl
  · simp only [if_neg hc]; rfl

end Attn
-- ==== Proof.Pay0.lean ====
/-
  The forward call's arithmetic, read at a row: the scores of a block, and how one block updates the row's running
  maximum, sum and weighted values.
-/
module

public import proofs.«01_k».proof.Proof.Gen.KernelIdeal.Skeleton
public import proofs.«01_k».proof.Proof.Ops

@[expose] public section

noncomputable section

namespace Cert.KernelIdeal.Gen

open Idealize.ShloMosaic Idealize.ShloMosaic.ValueIdx Attn
open Finset (range)
open scoped BigOperators

/-- The named mask constant is `-∞`. -/
theorem mask_bot : (Named.named (F := Ideal) (φ := .f32) κ "mask" 0xF149F2CA#32) = ⊥ := rfl

/-! ## Scores -/

/-- The scaled scores of a block of rows against a block of keys. -/
def sR (a b k e : ℕ → ℕ → ℝ) (r c : ℕ) : ℝ := (∑ x ∈ range 256, cat a b r x * cat k e c x) * scale

theorem k0_pay11_isR {v0 v1 v66 v68 : FVec Ideal S512x128 .bf16} {a b k e : ℕ → ℕ → ℝ} (h0 : IsR v0 a) (h1 : IsR v1 b)
    (h2 : IsR v66 k) (h3 : IsR v68 e) : IsR (k0_pay11 (F := Ideal) v0 v1 v66 v68) (sR a b k e) :=
  IsR.mul (IsR.nt (IsR.concat h0 h1 concatenates_S512x128_S512x128_S512x256_d1) (IsR.concat h2 h3 concatenates_S512x128_S512x128_S512x256_d1)
    dot_S512x256_S512x256_S512x512_1_1_0_0_n_n rfl) (IsR.splat scale_eq)

/-- The block's first row as the program computes it. -/
theorem row_word (i : grid0.Coords) : Scalar.muli (BitVec.ofNat 32 (i 1).val) 512#32 = BitVec.ofNat 32 (512 * (i 1).val) := by
  have h : ∀ n < 8, Scalar.muli (BitVec.ofNat 32 n) 512#32 = BitVec.ofNat 32 (512 * n) := by decide
  exact h _ (i 1).isLt

theorem block_word (i : grid0.Coords) :
    Scalar.muli (Scalar.divsi (Scalar.muli (BitVec.ofNat 32 (i 1).val) 512#32) 512#32) 512#32 = BitVec.ofNat 32 (512 * (i 1).val) := by
  have h : ∀ n < 8, Scalar.muli (Scalar.divsi (Scalar.muli (BitVec.ofNat 32 n) 512#32) 512#32) 512#32 = BitVec.ofNat 32 (512 * n) := by decide
  exact h _ (i 1).isLt

/-- The scores of the block on the diagonal, masked above it. -/
theorem k0_pay23_apply (i : grid0.Coords) {v0 v1 v18 v20 : FVec Ideal S512x128 .bf16} {a b k e : ℕ → ℕ → ℝ} (h0 : IsR v0 a) (h1 : IsR v1 b)
    (h2 : IsR v18 k) (h3 : IsR v20 e) (r c : Fin 512) :
    k0_pay23 (F := Ideal) i v0 v1 v18 v20 (ix2 r c)
      = if 512 * (i 1).val + c.val ≤ 512 * (i 1).val + r.val then ((sR a b k e r.val c.val : ℝ) : EReal) else ⊥ := by
  have hi : (i 1).val < 8 := (i 1).isLt
  have hs : IsR (k0_pay11 (F := Ideal) v0 v1 v18 v20) (sR a b k e) := k0_pay11_isR h0 h1 h2 h3
  have hbit : k0_pay23 (F := Ideal) i v0 v1 v18 v20 (ix2 r c)
      = Scalar.select (IntOp.cmpi .sle
          (Scalar.muli (Scalar.divsi (Scalar.muli (BitVec.ofNat 32 (i 1).val) 512#32) 512#32) 512#32 + BitVec.ofNat 32 (0 * 512 + c.val))
          (Scalar.muli (BitVec.ofNat 32 (i 1).val) 512#32 + BitVec.ofNat 32 (0 * 512 + r.val)))
        (k0_pay11 (F := Ideal) v0 v1 v18 v20 (ix2 r c)) (Named.named (F := Ideal) (φ := .f32) κ "mask" 0xF149F2CA#32) := rfl
  rw [hbit, block_word, row_word, Nat.zero_mul, Nat.zero_add, Nat.zero_add,
    causal_bit _ (by omega) _ _ r.isLt c.isLt, hs r c, mask_bot]
  split <;> rfl

/-! ## One block into the running state -/

/-- The weighted values after a block, before any division. -/
def k0_num (m : FVec Ideal S512x1 .f32) (X : FVec Ideal S512x512 .f32) (acc : FVec Ideal S512x128 .f32) (v : FVec Ideal S512x128 .bf16) :
    FVec Ideal S512x128 .f32 :=
  addf (mulf (broadcastTo S512x128 (k0_pay3 (F := Ideal) m X) broadcasts_S512x1_S512x128) acc)
    (matmul dot_S512x512_S512x128_S512x128_1_0_0_1_n_n none (truncf .bf16 (k0_pay2 (F := Ideal) m X) bitsLt_bf16_f32) v
      (constant S512x128 .f32 0x00000000#32))

variable (m l : FVec Ideal S512x1 .f32) (X : FVec Ideal S512x512 .f32) (acc : FVec Ideal S512x128 .f32) (v : FVec Ideal S512x128 .bf16)

theorem colBcast_apply {n : ℕ} (Y : FVec Ideal S512x1 .f32) (h : S512x1.Broadcasts ⟨2, ![512, n]⟩) (r : Fin 512) (c : Fin n) :
    broadcastTo ⟨2, ![512, n]⟩ Y h (ix2 r c) = Y (ix2 r (0 : Fin 1)) :=
  broadcastTo_apply Y h (ix2 r c) (ix2 r (0 : Fin 1)) fun ax => match ax with
    | ⟨0, _⟩ => rfl
    | ⟨1, _⟩ => rfl

theorem k0_pay1_apply (r : Fin 512) :
    k0_pay1 (F := Ideal) m X (ix2 r (0 : Fin 1)) = max (m (ix2 r (0 : Fin 1))) ((Finset.univ : Finset (Fin 512)).fold max ⊥ fun k => X (ix2 r k)) := by
  exact congrArg (max (m (ix2 r (0 : Fin 1)))) (rowMax_apply X _ _ _ _ r 0)

theorem k0_pay2_apply (r : Fin 512) (k : Fin 512) :
    k0_pay2 (F := Ideal) m X (ix2 r k) = Ideal.exp (X (ix2 r k) - k0_pay1 (F := Ideal) m X (ix2 r (0 : Fin 1))) := by
  unfold k0_pay2
  show Ideal.exp (X (ix2 r k) - broadcastTo S512x512 (k0_pay1 (F := Ideal) m X) _ (ix2 r k)) = _
  rw [colBcast_apply]

theorem k0_pay3_apply (r : Fin 512) :
    k0_pay3 (F := Ideal) m X (ix2 r (0 : Fin 1)) = Ideal.exp (m (ix2 r (0 : Fin 1)) - k0_pay1 (F := Ideal) m X (ix2 r (0 : Fin 1))) := rfl

theorem k0_pay4_apply (r : Fin 512) :
    k0_pay4 (F := Ideal) m l X (ix2 r (0 : Fin 1))
      = Ideal.exp (m (ix2 r (0 : Fin 1)) - k0_pay1 (F := Ideal) m X (ix2 r (0 : Fin 1))) * l (ix2 r (0 : Fin 1))
        + ∑ k : Fin 512, Ideal.exp (X (ix2 r k) - k0_pay1 (F := Ideal) m X (ix2 r (0 : Fin 1))) := by
  refine congrArg (k0_pay3 (F := Ideal) m X (ix2 r (0 : Fin 1)) * l (ix2 r (0 : Fin 1)) + ·) ?_
  refine (rowSum_apply (k0_pay2 (F := Ideal) m X) _ _ _ _ r 0).trans ?_
  exact Finset.sum_congr rfl fun k _ => k0_pay2_apply m X r k

theorem k0_num_apply (r : Fin 512) (d : Fin 128) :
    k0_num m X acc v (ix2 r d)
      = Ideal.exp (m (ix2 r (0 : Fin 1)) - k0_pay1 (F := Ideal) m X (ix2 r (0 : Fin 1))) * acc (ix2 r d)
        + ∑ k : Fin 512, Ideal.exp (X (ix2 r k) - k0_pay1 (F := Ideal) m X (ix2 r (0 : Fin 1))) * v (ix2 k d) := by
  unfold k0_num
  rw [addf_apply, mulf_apply, colBcast_apply, k0_pay3_apply]
  congr 1
  show FloatOps.matmul (DotDims.plain 512 512 128) none _ v (constant S512x128 .f32 0x00000000#32) (ix2 r d) = _
  rw [Ideal.matmul_plain_apply, constant_apply, Ideal.ofBits_zero_f32, zero_add]
  refine Finset.sum_congr rfl fun k _ => ?_
  rw [truncf_apply, k0_pay2_apply]

/-- A block's update of every row at once: the running state over `n` positions becomes the one over `n + 512`. -/
theorem k0_step {s : ℕ → ℕ → ℝ} {w : ℕ → ℕ → ℝ} {n q0 : ℕ} (hn : n ≤ q0)
    (h : ∀ r : Fin 512, Running (s (q0 + r.val)) (q0 + r.val) w n (m (ix2 r (0 : Fin 1))) (l (ix2 r (0 : Fin 1))) fun d : Fin 128 => acc (ix2 r d))
    (hX : ∀ r k : Fin 512, X (ix2 r k) = sc (s (q0 + r.val)) (q0 + r.val) (n + k.val))
    (hv : IsR v fun j d => w (n + j) d) (r : Fin 512) :
    Running (s (q0 + r.val)) (q0 + r.val) w (n + 512) (k0_pay1 (F := Ideal) m X (ix2 r (0 : Fin 1)))
      (k0_pay4 (F := Ideal) m l X (ix2 r (0 : Fin 1))) fun d : Fin 128 => k0_num m X acc v (ix2 r d) := by
  refine (h r).step (by omega) (by omega) ?_ ?_ fun d => ?_
  · rw [k0_pay1_apply]; simp only [hX]
  · rw [k0_pay4_apply]; simp only [hX]
  · rw [k0_num_apply]; simp only [hX, hv _ d]

/-- The loop's three results are these updates at the block's scores. -/
theorem k0_pay12_eq (v0 v1 : FVec Ideal S512x128 .bf16) (v66 v68 : FVec Ideal S512x128 .bf16) :
    k0_pay12 (F := Ideal) v0 v1 m v66 v68 = k0_pay1 (F := Ideal) m (k0_pay11 (F := Ideal) v0 v1 v66 v68) := rfl
theorem k0_pay15_eq (v0 v1 : FVec Ideal S512x128 .bf16) (v66 v68 : FVec Ideal S512x128 .bf16) :
    k0_pay15 (F := Ideal) v0 v1 m l v66 v68 = k0_pay4 (F := Ideal) m l (k0_pay11 (F := Ideal) v0 v1 v66 v68) := rfl
theorem k0_pay16_eq (v0 v1 : FVec Ideal S512x128 .bf16) (v66 v68 : FVec Ideal S512x128 .bf16) :
    k0_pay16 (F := Ideal) v0 v1 m acc v66 v68 v = k0_num m (k0_pay11 (F := Ideal) v0 v1 v66 v68) acc v := rfl

/-- The stored output divides by the sum. -/
theorem k0_pay5_apply (r : Fin 512) (d : Fin 128) :
    k0_pay5 (F := Ideal) m l acc X v (ix2 r d) = Ideal.div (k0_num m X acc v (ix2 r d)) (k0_pay4 (F := Ideal) m l X (ix2 r (0 : Fin 1))) := by
  show Ideal.div (k0_num m X acc v (ix2 r d)) (broadcastTo S512x128 (k0_pay4 (F := Ideal) m l X) _ (ix2 r d)) = _
  rw [colBcast_apply]

/-- The stored normaliser's logarithm. -/
theorem k0_pay6_apply (r : Fin 512) (d : Fin 128) :
    k0_pay6 (F := Ideal) m l X (ix2 r d)
      = k0_pay1 (F := Ideal) m X (ix2 r (0 : Fin 1)) + Ideal.log (k0_pay4 (F := Ideal) m l X (ix2 r (0 : Fin 1))) := by
  unfold k0_pay6
  rw [shapeCast_self, colBcast_apply]
  rfl

end Cert.KernelIdeal.Gen

end
-- ==== Proof.Pay1.lean ====
/-
  The backward calls' arithmetic on one block of queries against one block of keys, and the queries' gradient: each
  block adds its share of the sum over the keys.
-/
module

public import proofs.«01_k».proof.Proof.Gen.KernelIdeal.Skeleton
public import proofs.«01_k».proof.Proof.Ops

@[expose] public section

noncomputable section

namespace Cert.KernelIdeal.Gen

open Idealize.ShloMosaic Idealize.ShloMosaic.ValueIdx Attn
open Finset (range)
open scoped BigOperators

/-! ## The words of a block's positions -/

theorem start_word {n : ℕ} (h : n < 8) : Scalar.muli (BitVec.ofNat 32 n) 512#32 = BitVec.ofNat 32 (512 * n) := by
  have h' : ∀ n < 8, Scalar.muli (BitVec.ofNat 32 n) 512#32 = BitVec.ofNat 32 (512 * n) := by decide
  exact h' n h

theorem iota_row (r c : Fin 512) : iota .tc S512x512 32 [0] iota_S512x512_d0_w32 (ix2 r c) = BitVec.ofNat 32 r.val := by
  rw [iota_single_apply]

theorem iota_lane (r c : Fin 512) : iota .tc S512x512 32 [1] iota_S512x512_d1_w32 (ix2 r c) = BitVec.ofNat 32 c.val := by
  rw [iota_single_apply]

/-! ## A block of a head's matrices -/

variable (A : Args) (h : ℕ)

/-- Rows from `q0` on of head `h`'s queries, in their two parts. -/
def IsQ (q0 : ℕ) (x y : FVec Ideal S512x128 .bf16) : Prop :=
  IsR x (fun r c => A.qn (q0 + r) (128 * h + c)) ∧ IsR y (fun r c => A.qr (q0 + r) (128 * h + c))
/-- Rows from `k0` on of head `h`'s keys, in their two parts. -/
def IsK (k0 : ℕ) (x y : FVec Ideal S512x128 .bf16) : Prop :=
  IsR x (fun r c => A.kn (k0 + r) (128 * h + c)) ∧ IsR y (fun r c => A.kr (k0 + r) c)
/-- Rows from `k0` on of head `h`'s values. -/
def IsV (k0 : ℕ) (x : FVec Ideal S512x128 .bf16) : Prop := IsR x fun r c => A.V h (k0 + r) c
/-- Rows from `q0` on of head `h`'s output gradient. -/
def IsG (q0 : ℕ) (x : FVec Ideal S512x128 .f32) : Prop := IsR x fun r c => A.G h (q0 + r) c
/-- Rows from `q0` on of head `h`'s output. -/
def IsO (q0 : ℕ) (x : FVec Ideal S512x128 .f32) : Prop := IsR x fun r c => A.O scale h (q0 + r) c
/-- Rows from `q0` on of head `h`'s normaliser's logarithm, the same in every lane. -/
def IsL (q0 : ℕ) (x : FVec Ideal S512x128 .f32) : Prop := IsR x fun r _ => A.lse scale h (q0 + r)

variable {A h} {q0 k0 : ℕ}

theorem IsQ.cat {x y : FVec Ideal S512x128 .bf16} (hq : IsQ A h q0 x y) : IsR (k1_pay4 (F := Ideal) x y) fun r e => A.Q h (q0 + r) e :=
  IsR.concat hq.1 hq.2 concatenates_S512x128_S512x128_S512x256_d1

theorem IsK.cat {x y : FVec Ideal S512x128 .bf16} (hk : IsK A h k0 x y) : IsR (k1_pay4 (F := Ideal) x y) fun r e => A.K h (k0 + r) e :=
  IsR.concat hk.1 hk.2 concatenates_S512x128_S512x128_S512x256_d1

/-- The first lane of the saved logarithm. -/
theorem IsL.lane {x : FVec Ideal S512x128 .f32} (hl : IsL A h q0 x) : IsR (k1_pay6 (F := Ideal) x) fun r _ => A.lse scale h (q0 + r) :=
  IsR.slice (IsR.castSelf hl shapeCasts_S512x128_S512x128) 0 (by omega) slices_S512x128_o0_0_S512x1

/-- The row's inner product of the output and its gradient. -/
theorem delta_isR {g o : FVec Ideal S512x128 .f32} (hg : IsG A h q0 g) (ho : IsO A h q0 o) :
    IsR (k1_pay5 (F := Ideal) g o) fun r _ => A.delta scale h (q0 + r) :=
  IsR.rowSum (IsR.mul hg (IsR.castSelf ho shapeCasts_S512x128_S512x128)) reduces_S512x128_S512 (.inl rfl) rfl shapeCasts_S512_S512x1

/-- The block's unmasked weights, from the saved logarithm. -/
theorem weight_isR {x y u w : FVec Ideal S512x128 .bf16} {l : FVec Ideal S512x128 .f32} (hq : IsQ A h q0 x y) (hk : IsK A h k0 u w) (hl : IsL A h q0 l) :
    IsR (k1_pay11 (F := Ideal) x y l u w) fun r c => Real.exp (A.S scale h (q0 + r) (k0 + c) - A.lse scale h (q0 + r)) :=
  IsR.expf (IsR.sub (IsR.mul (IsR.nt hq.cat hk.cat dot_S512x256_S512x256_S512x512_1_1_0_0_n_n rfl) (IsR.splat scale_eq))
    (IsR.col hl.lane broadcasts_S512x1_S512x512))

/-- Below the diagonal the unmasked weight is the probability. -/
theorem weight_eq {q k : ℕ} (hk : k ≤ q) : Real.exp (A.S scale h q k - A.lse scale h q) = A.P scale h q k := by
  unfold Args.P prob Args.lse
  rw [if_pos hk]

theorem masked_eq (q k : ℕ) : (if k ≤ q then Real.exp (A.S scale h q k - A.lse scale h q) else 0) = A.P scale h q k := rfl

/-- The block's gradients of the probabilities less the row's inner product. -/
theorem dp_isR {g : FVec Ideal S512x128 .f32} {v : FVec Ideal S512x128 .bf16} {d : FVec Ideal S512x1 .f32} (hg : IsG A h q0 g) (hv : IsV A h k0 v)
    (hd : IsR d fun r _ => A.delta scale h (q0 + r)) :
    IsR (subf (matmul dot_S512x128_S512x128_S512x512_1_1_0_0_n_n none (truncf .bf16 g bitsLt_bf16_f32) v (constant S512x512 .f32 0x00000000#32))
        (broadcastTo S512x512 d broadcasts_S512x1_S512x512)) fun r c => A.dP h (q0 + r) (k0 + c) - A.delta scale h (q0 + r) :=
  IsR.sub (IsR.nt (IsR.trunc hg bitsLt_bf16_f32) hv dot_S512x128_S512x128_S512x512_1_1_0_0_n_n rfl) (IsR.col hd broadcasts_S512x1_S512x512)

/-- The gradients of the scores on a block, from its probabilities. -/
theorem ds_isR {g : FVec Ideal S512x128 .f32} {v : FVec Ideal S512x128 .bf16} {d : FVec Ideal S512x1 .f32} {p : FVec Ideal S512x512 .f32}
    (hg : IsG A h q0 g) (hv : IsV A h k0 v) (hd : IsR d fun r _ => A.delta scale h (q0 + r))
    (hp : IsR p fun r c => A.P scale h (q0 + r) (k0 + c)) :
    IsR (truncf .bf16 (mulf p (subf (matmul dot_S512x128_S512x128_S512x512_1_1_0_0_n_n none (truncf .bf16 g bitsLt_bf16_f32) v (constant S512x512 .f32 0x00000000#32))
        (broadcastTo S512x512 d broadcasts_S512x1_S512x512))) bitsLt_bf16_f32 : FVec Ideal S512x512 .bf16) fun r c => A.dS scale h (q0 + r) (k0 + c) :=
  IsR.trunc (IsR.mul hp (dp_isR hg hv hd)) bitsLt_bf16_f32

/-! ## The queries' gradient -/

/-- A block of keys left of the diagonal adds its share. -/
theorem k1_pay8_isR {x y u w v : FVec Ideal S512x128 .bf16} {g o l : FVec Ideal S512x128 .f32} {acc : FVec Ideal S512x256 .f32} {a : ℕ → ℕ → ℝ}
    (hq : IsQ A h q0 x y) (hg : IsG A h q0 g) (ho : IsO A h q0 o) (hl : IsL A h q0 l) (hacc : IsR acc a) (hk : IsK A h k0 u w) (hv : IsV A h k0 v)
    (hlt : k0 + 512 ≤ q0) :
    IsR (k1_pay8 (F := Ideal) x y g o l acc u w v) fun r e => a r e + ∑ k ∈ range 512, A.dS scale h (q0 + r) (k0 + k) * A.K h (k0 + k) e :=
  IsR.add hacc (IsR.nn (ds_isR hg hv (delta_isR hg ho)
    ((weight_isR hq hk hl).congr fun r _ c hc => weight_eq (by omega))) hk.cat dot_S512x512_S512x256_S512x256_1_0_0_1_n_n rfl)

/-- The block on the diagonal, and the scale. -/
theorem k1_pay1_isR {x y u w v : FVec Ideal S512x128 .bf16} {g o l : FVec Ideal S512x128 .f32} {acc : FVec Ideal S512x256 .f32} {a : ℕ → ℕ → ℝ}
    (i : grid1.Coords) (hq0 : q0 = 512 * (i 1).val)
    (hq : IsQ A h q0 x y) (hg : IsG A h q0 g) (ho : IsO A h q0 o) (hl : IsL A h q0 l) (hacc : IsR acc a) (hk : IsK A h q0 u w) (hv : IsV A h q0 v) :
    IsR (k1_pay1 (F := Ideal) (BitVec.ofNat 32 (i 1).val) g (k1_pay5 g o) acc (k1_pay10 u w) (k1_pay11 x y l u w)
        (iota .tc S512x512 32 [0] iota_S512x512_d0_w32) (k1_pay12 i) v)
      fun r e => (a r e + ∑ k ∈ range 512, A.dS scale h (q0 + r) (q0 + k) * A.K h (q0 + k) e) * scale := by
  have hi : (i 1).val < 8 := (i 1).isLt
  have hp := IsR.masked (weight_isR hq hk hl) (C := addi (broadcast S512x512 (Scalar.muli (BitVec.ofNat 32 (i 1).val) 512#32)) (iota .tc S512x512 32 [1] iota_S512x512_d1_w32))
    (R := addi (k1_pay12 i) (iota .tc S512x512 32 [0] iota_S512x512_d0_w32)) q0 (by omega)
    (fun r c => by
      show Scalar.muli (BitVec.ofNat 32 (i 1).val) 512#32 + iota .tc S512x512 32 [1] iota_S512x512_d1_w32 (ix2 r c) = _
      rw [start_word hi, iota_lane, hq0])
    (fun r c => by
      show Scalar.muli (BitVec.ofNat 32 (i 1).val) 512#32 + iota .tc S512x512 32 [0] iota_S512x512_d0_w32 (ix2 r c) = _
      rw [start_word hi, iota_row, hq0])
  exact IsR.mul (IsR.add hacc (IsR.nn (ds_isR hg hv (delta_isR hg ho) hp) hk.cat dot_S512x512_S512x256_S512x256_1_0_0_1_n_n rfl)) (IsR.splat scale_eq)

end Cert.KernelIdeal.Gen

end
-- ==== Proof.Pay2.lean ====
/-
  The keys' and values' gradients on one block of queries against one block of keys: each block of queries adds its
  share of the sums over the queries.
-/
module

public import proofs.«01_k».proof.Proof.Pay1

@[expose] public section

noncomputable section

namespace Cert.KernelIdeal.Gen

open Idealize.ShloMosaic Idealize.ShloMosaic.ValueIdx Attn
open Finset (range)
open scoped BigOperators

variable {A : Args} {h q0 k0 : ℕ}

/-- The product over the queries with their 256 lanes. -/
theorem tn256 {L : FVec Ideal S512x512 .bf16} {R : FVec Ideal S512x256 .bf16} {l r : ℕ → ℕ → ℝ} (hl : IsR L l) (hr : IsR R r) :
    IsR (matmul dot_S512x512_S512x256_S512x256_0_0_1_1_n_n none L R (constant S512x256 .f32 0x00000000#32)) fun i j => ∑ k ∈ range 512, l k i * r k j :=
  IsR.tn hl hr dot_S512x512_S512x256_S512x256_0_0_1_1_n_n rfl rfl (fun _ _ _ => rfl) (fun _ _ _ => rfl) (fun _ _ _ => rfl) (fun _ _ _ => rfl)

/-- The product over the queries with the output gradient's 128 lanes. -/
theorem tn128 {L : FVec Ideal S512x512 .bf16} {R : FVec Ideal S512x128 .bf16} {l r : ℕ → ℕ → ℝ} (hl : IsR L l) (hr : IsR R r) :
    IsR (matmul dot_S512x512_S512x128_S512x128_0_0_1_1_n_n none L R (constant S512x128 .f32 0x00000000#32)) fun i j => ∑ k ∈ range 512, l k i * r k j :=
  IsR.tn hl hr dot_S512x512_S512x128_S512x128_0_0_1_1_n_n rfl rfl (fun _ _ _ => rfl) (fun _ _ _ => rfl) (fun _ _ _ => rfl) (fun _ _ _ => rfl)

variable {x y u w v : FVec Ideal S512x128 .bf16} {g o l : FVec Ideal S512x128 .f32} {acc : FVec Ideal S512x256 .f32} {acv : FVec Ideal S512x128 .f32}
  {a b : ℕ → ℕ → ℝ}

/-- The probabilities of a block of queries below the diagonal. -/
theorem k2_pay5_isR (hq : IsQ A h q0 x y) (hl : IsL A h q0 l) (hk : IsK A h k0 u w) (hlt : k0 + 512 ≤ q0) :
    IsR (k2_pay5 (F := Ideal) (k2_pay16 u w) x y l) fun r c => A.P scale h (q0 + r) (k0 + c) :=
  (weight_isR hq hk hl).congr fun r _ c hc => weight_eq (by omega)

/-- A block of queries below the diagonal adds its share of the keys' gradient. -/
theorem k2_pay6_isR (hq : IsQ A h q0 x y) (hg : IsG A h q0 g) (ho : IsO A h q0 o) (hl : IsL A h q0 l) (hk : IsK A h k0 u w) (hv : IsV A h k0 v)
    (hacc : IsR acc a) (hlt : k0 + 512 ≤ q0) :
    IsR (k2_pay6 (F := Ideal) (k2_pay16 u w) v acc x y g o l)
      fun r e => a r e + ∑ q ∈ range 512, A.dS scale h (q0 + q) (k0 + r) * A.Q h (q0 + q) e :=
  IsR.add hacc (tn256 (ds_isR hg hv (delta_isR hg ho) (k2_pay5_isR hq hl hk hlt)) hq.cat)

/-- And its share of the values' gradient. -/
theorem k2_pay7_isR (hq : IsQ A h q0 x y) (hg : IsG A h q0 g) (hl : IsL A h q0 l) (hk : IsK A h k0 u w) (hacv : IsR acv b) (hlt : k0 + 512 ≤ q0) :
    IsR (k2_pay7 (F := Ideal) (k2_pay16 u w) acv x y g l)
      fun r d => b r d + ∑ q ∈ range 512, A.P scale h (q0 + q) (k0 + r) * A.G h (q0 + q) d :=
  IsR.add hacv (tn128 (IsR.trunc (k2_pay5_isR hq hl hk hlt) bitsLt_bf16_f32) (IsR.trunc hg bitsLt_bf16_f32))

/-- The probabilities of the block on the diagonal. -/
theorem k2_pay1_isR (i : grid2.Coords) (hk0 : k0 = 512 * (i 1).val) (hq : IsQ A h k0 x y) (hl : IsL A h k0 l) (hk : IsK A h k0 u w) :
    IsR (k2_pay1 (F := Ideal) (k2_pay21 u w x y l) (k2_pay22 i) (k2_pay23 i)) fun r c => A.P scale h (k0 + r) (k0 + c) := by
  have hi : (i 1).val < 8 := (i 1).isLt
  exact IsR.masked (weight_isR hq hk hl) (C := k2_pay23 i) (R := k2_pay22 i) k0 (by omega)
    (fun r c => by
      show Scalar.muli (BitVec.ofNat 32 (i 1).val) 512#32 + iota .tc S512x512 32 [1] iota_S512x512_d1_w32 (ix2 r c) = _
      rw [start_word hi, iota_lane, hk0])
    (fun r c => by
      show Scalar.muli (BitVec.ofNat 32 (i 1).val) 512#32 + iota .tc S512x512 32 [0] iota_S512x512_d0_w32 (ix2 r c) = _
      rw [start_word hi, iota_row, hk0])

/-- The block on the diagonal opens the keys' gradient. -/
theorem k2_pay2_isR (i : grid2.Coords) (hk0 : k0 = 512 * (i 1).val) (hq : IsQ A h k0 x y) (hg : IsG A h k0 g) (ho : IsO A h k0 o) (hl : IsL A h k0 l)
    (hk : IsK A h k0 u w) (hv : IsV A h k0 v) :
    IsR (k2_pay2 (F := Ideal) v k2_pay17 (k2_pay19 x y) g (k2_pay20 g o) (k2_pay21 u w x y l) (k2_pay22 i) (k2_pay23 i))
      fun r e => ∑ q ∈ range 512, A.dS scale h (k0 + q) (k0 + r) * A.Q h (k0 + q) e :=
  (IsR.add (IsR.zeros (n0 := 512) (n1 := 256)) (tn256 (ds_isR hg hv (delta_isR hg ho) (k2_pay1_isR i hk0 hq hl hk)) hq.cat)).congr
    fun _ _ _ _ => zero_add _

/-- And the values' gradient. -/
theorem k2_pay3_isR (i : grid2.Coords) (hk0 : k0 = 512 * (i 1).val) (hq : IsQ A h k0 x y) (hg : IsG A h k0 g) (hl : IsL A h k0 l) (hk : IsK A h k0 u w) :
    IsR (k2_pay3 (F := Ideal) k2_pay18 g (k2_pay21 u w x y l) (k2_pay22 i) (k2_pay23 i))
      fun r d => ∑ q ∈ range 512, A.P scale h (k0 + q) (k0 + r) * A.G h (k0 + q) d :=
  (IsR.add (IsR.zeros (n0 := 512) (n1 := 128)) (tn128 (IsR.trunc (k2_pay1_isR i hk0 hq hl hk) bitsLt_bf16_f32) (IsR.trunc hg bitsLt_bf16_f32))).congr
    fun _ _ _ _ => zero_add _

/-- The scale over the finished keys' gradient, cut into its two parts. -/
theorem k2_pay12_isR (hacc : IsR acc a) : IsR (k2_pay12 (F := Ideal) acc) fun r e => a r e * scale :=
  IsR.mul hacc (IsR.splat scale_eq)
theorem k2_pay13_isR (hacc : IsR acc a) : IsR (k2_pay13 (F := Ideal) acc) fun r e => a r (0 + e) * scale :=
  IsR.trunc (IsR.slice (k2_pay12_isR hacc) 0 (by omega) slices_S512x256_o0_0_S512x128) bitsLt_bf16_f32
theorem k2_pay15_isR (hacc : IsR acc a) : IsR (k2_pay15 (F := Ideal) acc) fun r e => a r (128 + e) * scale :=
  IsR.slice (k2_pay12_isR hacc) 128 (by omega) slices_S512x256_o0_128_S512x128

end Cert.KernelIdeal.Gen

end
-- ==== Proof.Rows.lean ====
/-
  A load of 512 rows of a whole column of a head, and sums over the keys or queries of a head cut where the causal
  mask leaves nothing.
-/
module

public import proofs.«01_k».proof.Proof.Pay2

@[expose] public section

noncomputable section

namespace Cert.KernelIdeal.Gen

open Idealize.ShloMosaic Idealize.ShloMosaic.ValueIdx Attn
open Finset (range)
open scoped BigOperators

/-- The 512 rows a load at the offsets `off` reads. -/
def rows {Val : EltTy → Type} {e : EltTy} (X : S4096x128.Idx → Val e) (off : Fin S4096x128.rank → ℕ)
    (inb : ∀ a, off a + S512x128.size a ≤ S4096x128.size a) : S512x128.Idx → Val e :=
  View.ld X (Rect.unit (s := S4096x128) off S512x128.size inb)

theorem rows_apply {Val : EltTy → Type} {e : EltTy} (X : S4096x128.Idx → Val e) (off : Fin S4096x128.rank → ℕ)
    (inb : ∀ a, off a + S512x128.size a ≤ S4096x128.size a) (n : ℕ) (h : off = ![n, 0]) (r : Fin 512) (c : Fin 128) (hn : n + r.val < 4096) :
    rows X off inb (ix2 r c) = X (ix2 (⟨n + r.val, hn⟩ : Fin 4096) c) := by
  subst h
  refine congrArg X ?_
  funext a; apply Fin.ext
  match a with
  | ⟨0, _⟩ => show n + 1 * r.val = n + r.val; omega
  | ⟨1, _⟩ => show 0 + 1 * c.val = c.val; omega

/-- A load of 512 rows from row `n` on reads the reals from row `n` on. -/
theorem rows_bf16 {X : FVec Ideal S4096x128 .bf16} {f : ℕ → ℕ → ℝ} (hX : IsR X f) (off : Fin S4096x128.rank → ℕ)
    (inb : ∀ a, off a + S512x128.size a ≤ S4096x128.size a) (n : ℕ) (h : off = ![n, 0]) :
    IsR (n0 := 512) (n1 := 128) (rows (Val := Elt Ideal) (e := .bf16) X off inb) fun r c => f (n + r) c := fun r c => by
  have h0 : n + 512 ≤ 4096 := by subst h; exact inb 0
  have hr := r.isLt
  exact (rows_apply (Val := Elt Ideal) (e := .bf16) X off inb n h r c (by omega)).trans (hX _ c)

theorem rows_f32 {X : FVec Ideal S4096x128 .f32} {f : ℕ → ℕ → ℝ} (hX : IsR X f) (off : Fin S4096x128.rank → ℕ)
    (inb : ∀ a, off a + S512x128.size a ≤ S4096x128.size a) (n : ℕ) (h : off = ![n, 0]) :
    IsR (n0 := 512) (n1 := 128) (rows (Val := Elt Ideal) (e := .f32) X off inb) fun r c => f (n + r) c := fun r c => by
  have h0 : n + 512 ≤ 4096 := by subst h; exact inb 0
  have hr := r.isLt
  exact (rows_apply (Val := Elt Ideal) (e := .f32) X off inb n h r c (by omega)).trans (hX _ c)

/-- The keys past a row's diagonal add nothing to a sum of the scores' gradients. -/
theorem sum_keys (A : Args) (h q : ℕ) (f : ℕ → ℝ) {n : ℕ} (hq : q < n) (hn : n ≤ 4096) :
    ∑ k ∈ range n, A.dS scale h q k * f k = ∑ k ∈ range 4096, A.dS scale h q k * f k :=
  Finset.sum_subset (by intro j; simp only [Finset.mem_range]; omega) fun k _ hk => by
    rw [Args.dS_of_gt A scale h (by simp only [Finset.mem_range] at hk; omega), zero_mul]

/-- The queries before a key add nothing: the sum over all of them is the one from a row `n` at or before the key on. -/
theorem sum_queries (g : ℕ → ℝ) {n m : ℕ} (hg : ∀ q < n, g q = 0) (hm : n + m = 4096) :
    ∑ q ∈ range m, g (n + q) = ∑ q ∈ range 4096, g q := by
  rw [← hm, Finset.sum_range_add, Finset.sum_eq_zero fun q hq => hg q (Finset.mem_range.1 hq), zero_add]

end Cert.KernelIdeal.Gen

end
-- ==== Proof.Body0.lean ====
/-
  One point of the forward call: the carried state after each block of keys is the running softmax over the keys so
  far, and what the point stores is the attention and its normaliser's logarithm.
-/
module

public import proofs.«01_k».proof.Proof.Gen.KernelIdeal.Frame
public import proofs.«01_k».proof.Proof.Pay0
public import proofs.«01_k».proof.Proof.Rows

@[expose] public section

set_option maxRecDepth 16384

noncomputable section

namespace Cert.KernelIdeal.Gen

open Idealize.ShloMosaic Idealize.ShloMosaic.TcCoe Idealize.ShloMosaic.ValueIdx Idealize.SL.Sem Attn
open Idealize.ShloMosaic.Pipeline (Dat)
open Finset (range)
open scoped BigOperators

/-! ## The loop's words -/

theorem k0_trips (i : grid0.Coords) : (k0_t1_loop i).trips = (i 1).val := by
  unfold k0_t1_loop
  generalize i 1 = a
  revert a
  show ∀ a : Fin 8, _
  decide +kernel

theorem k0_rest (i : grid0.Coords) : (k0_t2_loop i).trips = 0 := by
  unfold k0_t2_loop
  generalize i 1 = a
  revert a
  show ∀ a : Fin 8, _
  decide +kernel

theorem k0_off1_at (i : grid0.Coords) (k : Fin (k0_t1_loop i).trips) : k0_off1 i k = ![512 * k.val, 0] := by
  have hk : k.val < 8 := lt_trans (lt_of_lt_of_eq k.isLt (k0_trips i)) (i 1).isLt
  unfold k0_off1
  generalize k.val = n at hk
  revert n
  decide +kernel

theorem k0_off3_at (i : grid0.Coords) : k0_off3 i = ![512 * (i 1).val, 0] := by
  unfold k0_off3
  generalize i 1 = a
  revert a
  show ∀ a : Fin 8, _
  decide +kernel

section Run
variable {F : FTy → Type} [FloatOps F] [Named F]
variable (c : Dev nD) (i : grid0.Coords)
  (a2 : Memref sig .tc .vmem S512x128 .bf16) (h2 : a2.IsWhole) (a3 : Memref sig .tc .vmem S512x128 .bf16) (h3 : a3.IsWhole)
  (a4 : Memref sig .tc .vmem S4096x128 .bf16) (h4 : a4.IsWhole) (a5 : Memref sig .tc .vmem S4096x128 .bf16) (h5 : a5.IsWhole)
  (a6 : Memref sig .tc .vmem S4096x128 .bf16) (h6 : a6.IsWhole) (a7 : Memref sig .tc .vmem S512x128 .f32) (h7 : a7.IsWhole)
  (a8 : Memref sig .tc .vmem S512x128 .f32) (h8 : a8.IsWhole)
  (x0 x1 : Vec F S512x128 .bf16) (x2 x3 x4 : Vec F S4096x128 .bf16)

/-- The state before block `n` of the keys. -/
def k0_state (n : ℕ) : FVec F S512x1 .f32 × FVec F S512x1 .f32 × FVec F S512x128 .f32 :=
  st_k0_t1 (F := F) Variants.none c none i a2 h2 a3 h3 a4 h4 a5 h5 a6 h6 a7 h7 a8 h8 x0 x1 (h4.unread x2) (h5.unread x3) (h6.unread x4)
    (k0_pay8, k0_pay9, k0_pay10) n

/-- The state before the block on the diagonal. -/
def k0_last : FVec F S512x1 .f32 × FVec F S512x1 .f32 × FVec F S512x128 .f32 :=
  st_k0_t2 (F := F) Variants.none c none i a2 h2 a3 h3 a4 h4 a5 h5 a6 h6 a7 h7 a8 h8 x0 x1 (h4.unread x2) (h5.unread x3) (h6.unread x4)
    (k0_state c i a2 h2 a3 h3 a4 h4 a5 h5 a6 h6 a7 h7 a8 h8 x0 x1 x2 x3 x4 (k0_t1_loop i).trips) (k0_t2_loop i).trips

theorem k0_last_eq : k0_last (F := F) c i a2 h2 a3 h3 a4 h4 a5 h5 a6 h6 a7 h7 a8 h8 x0 x1 x2 x3 x4
    = k0_state c i a2 h2 a3 h3 a4 h4 a5 h5 a6 h6 a7 h7 a8 h8 x0 x1 x2 x3 x4 (i 1).val := by
  unfold k0_last
  rw [k0_rest, st_k0_t2_zero, k0_trips]

/-- One trip of the loop: a block's update of the three carried values. -/
theorem k0_state_succ (k : Fin (k0_t1_loop i).trips) :
    k0_state (F := F) c i a2 h2 a3 h3 a4 h4 a5 h5 a6 h6 a7 h7 a8 h8 x0 x1 x2 x3 x4 (k.val + 1)
      = (k0_pay12 x0 x1 (k0_state c i a2 h2 a3 h3 a4 h4 a5 h5 a6 h6 a7 h7 a8 h8 x0 x1 x2 x3 x4 k.val).1
            (rows x2 (k0_off1 i k) (k0_off1_inb i k)) (rows x3 (k0_off1 i k) (k0_off1_inb i k)),
          k0_pay15 x0 x1 (k0_state c i a2 h2 a3 h3 a4 h4 a5 h5 a6 h6 a7 h7 a8 h8 x0 x1 x2 x3 x4 k.val).1
            (k0_state c i a2 h2 a3 h3 a4 h4 a5 h5 a6 h6 a7 h7 a8 h8 x0 x1 x2 x3 x4 k.val).2.1
            (rows x2 (k0_off1 i k) (k0_off1_inb i k)) (rows x3 (k0_off1 i k) (k0_off1_inb i k)),
          k0_pay16 x0 x1 (k0_state c i a2 h2 a3 h3 a4 h4 a5 h5 a6 h6 a7 h7 a8 h8 x0 x1 x2 x3 x4 k.val).1
            (k0_state c i a2 h2 a3 h3 a4 h4 a5 h5 a6 h6 a7 h7 a8 h8 x0 x1 x2 x3 x4 k.val).2.2
            (rows x2 (k0_off1 i k) (k0_off1_inb i k)) (rows x3 (k0_off1 i k) (k0_off1_inb i k))
            (rows x4 (k0_off1 i k) (k0_off1_inb i k))) := by
  unfold k0_state
  rw [st_k0_t1_succ]
  unfold tripR_k0_t1 trip_k0_t1
  dsimp only
  simp only [View.readAt_eq_ld, h4.read_unread, h5.read_unread, h6.read_unread]
  rfl

theorem out0_5_eq : out0_A_5 (F := F) c i a2 h2 a3 h3 a4 h4 a5 h5 a6 h6 a7 h7 a8 h8 x0 x1 x2 x3 x4
    = k0_pay5 (k0_last c i a2 h2 a3 h3 a4 h4 a5 h5 a6 h6 a7 h7 a8 h8 x0 x1 x2 x3 x4).1 (k0_last c i a2 h2 a3 h3 a4 h4 a5 h5 a6 h6 a7 h7 a8 h8 x0 x1 x2 x3 x4).2.1
        (k0_last c i a2 h2 a3 h3 a4 h4 a5 h5 a6 h6 a7 h7 a8 h8 x0 x1 x2 x3 x4).2.2
        (k0_pay23 i x0 x1 (rows x2 (k0_off3 i) (k0_off3_inb i)) (rows x3 (k0_off3 i) (k0_off3_inb i)))
        (rows x4 (k0_off3 i) (k0_off3_inb i)) := by
  have hz : (![0, 0] : Fin 2 → Nat) = fun _ => 0 := funext fun a => by fin_cases a <;> rfl
  unfold out0_A_5
  rw [View.read_writes_eq_canon _ _ _ (cover0_A_5 c i a2 h2 a3 h3 a4 h4 a5 h5 a6 h6 a7 h7 a8 h8 x0 x1 x2 x3 x4)]
  unfold kernelRun0_A
  dsimp only
  rw [View.canon_unit_zero hz]
  sl_unfold_words
  simp only [View.readAt_eq_ld, h2.read_unread, h3.read_unread, h4.read_unread, h5.read_unread, h6.read_unread, View.ld_unit_zero (S := S512x128) hz]
  rfl

theorem out0_6_eq : out0_A_6 (F := F) c i a2 h2 a3 h3 a4 h4 a5 h5 a6 h6 a7 h7 a8 h8 x0 x1 x2 x3 x4
    = k0_pay6 (k0_last c i a2 h2 a3 h3 a4 h4 a5 h5 a6 h6 a7 h7 a8 h8 x0 x1 x2 x3 x4).1 (k0_last c i a2 h2 a3 h3 a4 h4 a5 h5 a6 h6 a7 h7 a8 h8 x0 x1 x2 x3 x4).2.1
        (k0_pay23 i x0 x1 (rows x2 (k0_off3 i) (k0_off3_inb i)) (rows x3 (k0_off3 i) (k0_off3_inb i))) := by
  have hz : (![0, 0] : Fin 2 → Nat) = fun _ => 0 := funext fun a => by fin_cases a <;> rfl
  unfold out0_A_6
  rw [View.read_writes_eq_canon _ _ _ (cover0_A_6 c i a2 h2 a3 h3 a4 h4 a5 h5 a6 h6 a7 h7 a8 h8 x0 x1 x2 x3 x4)]
  unfold kernelRun0_A
  dsimp only
  rw [View.canon_unit_zero hz]
  sl_unfold_words
  simp only [View.readAt_eq_ld, h2.read_unread, h3.read_unread, h4.read_unread, h5.read_unread, h6.read_unread, View.ld_unit_zero (S := S512x128) hz]
  rfl

end Run

/-! ## At the ideal values -/

variable (c : Dev nD) (i : grid0.Coords)
  (a2 : Memref sig .tc .vmem S512x128 .bf16) (h2 : a2.IsWhole) (a3 : Memref sig .tc .vmem S512x128 .bf16) (h3 : a3.IsWhole)
  (a4 : Memref sig .tc .vmem S4096x128 .bf16) (h4 : a4.IsWhole) (a5 : Memref sig .tc .vmem S4096x128 .bf16) (h5 : a5.IsWhole)
  (a6 : Memref sig .tc .vmem S4096x128 .bf16) (h6 : a6.IsWhole) (a7 : Memref sig .tc .vmem S512x128 .f32) (h7 : a7.IsWhole)
  (a8 : Memref sig .tc .vmem S512x128 .f32) (h8 : a8.IsWhole)
  {A : Args} {h : ℕ} {x0 x1 : Vec Ideal S512x128 .bf16} {x2 x3 x4 : Vec Ideal S4096x128 .bf16}
  (hq : IsQ A h (512 * (i 1).val) x0 x1)
  (hkn : IsR (n0 := 4096) (n1 := 128) x2 fun r c => A.kn r (128 * h + c)) (hkr : IsR (n0 := 4096) (n1 := 128) x3 A.kr)
  (hv : IsR (n0 := 4096) (n1 := 128) x4 (A.V h))

include hq hkn hkr

/-- The scores of the block of keys from row `n` on. -/
theorem k0_scores (off : Fin S4096x128.rank → ℕ) (inb : ∀ a, off a + S512x128.size a ≤ S4096x128.size a) (n : ℕ) (ho : off = ![n, 0]) :
    IsR (k0_pay11 (F := Ideal) x0 x1 (rows x2 off inb) (rows x3 off inb))
      fun r k => A.S scale h (512 * (i 1).val + r) (n + k) :=
  have hk : IsK A h n (rows x2 off inb) (rows x3 off inb) := ⟨rows_bf16 hkn off inb n ho, rows_bf16 hkr off inb n ho⟩
  IsR.mul (IsR.nt hq.cat hk.cat dot_S512x256_S512x256_S512x512_1_1_0_0_n_n rfl) (IsR.splat scale_eq)

include hv

/-- Before block `n` every row's state is the running softmax over the first `512 n` keys. -/
theorem k0_state_running : ∀ n ≤ (i 1).val, ∀ r : Fin 512,
    Running (A.S scale h (512 * (i 1).val + r.val)) (512 * (i 1).val + r.val) (A.V h) (512 * n)
      ((k0_state (F := Ideal) c i a2 h2 a3 h3 a4 h4 a5 h5 a6 h6 a7 h7 a8 h8 x0 x1 x2 x3 x4 n).1 (ix2 r (0 : Fin 1)))
      ((k0_state (F := Ideal) c i a2 h2 a3 h3 a4 h4 a5 h5 a6 h6 a7 h7 a8 h8 x0 x1 x2 x3 x4 n).2.1 (ix2 r (0 : Fin 1)))
      fun d : Fin 128 => (k0_state (F := Ideal) c i a2 h2 a3 h3 a4 h4 a5 h5 a6 h6 a7 h7 a8 h8 x0 x1 x2 x3 x4 n).2.2 (ix2 r d) := by
  intro n
  induction n with
  | zero => exact fun _ r => Or.inl ⟨rfl, mask_bot, Ideal.ofBits_zero_f32, fun _ => Ideal.ofBits_zero_f32⟩
  | succ n ih =>
    intro hn r
    have hk : n < (k0_t1_loop i).trips := by rw [k0_trips]; omega
    have hs := k0_state_succ (F := Ideal) c i a2 h2 a3 h3 a4 h4 a5 h5 a6 h6 a7 h7 a8 h8 x0 x1 x2 x3 x4 ⟨n, hk⟩
    have ho := k0_off1_at i ⟨n, hk⟩
    dsimp only at hs ho
    rw [hs, k0_pay12_eq, k0_pay15_eq, k0_pay16_eq, show 512 * (n + 1) = 512 * n + 512 by ring]
    refine k0_step _ _ _ _ _ (s := A.S scale h) (w := A.V h) (n := 512 * n) (q0 := 512 * (i 1).val) (by omega) (ih (by omega)) (fun r' k => ?_)
      (rows_bf16 hv _ _ (512 * n) ho) r
    rw [k0_scores i hq hkn hkr _ _ (512 * n) ho r' k, sc, if_pos (by have := k.isLt; omega)]

/-- After the block on the diagonal the state reaches past every row's diagonal. -/
theorem k0_done (r : Fin 512) :
    let S := k0_state (F := Ideal) c i a2 h2 a3 h3 a4 h4 a5 h5 a6 h6 a7 h7 a8 h8 x0 x1 x2 x3 x4 (i 1).val
    let X := k0_pay23 (F := Ideal) i x0 x1 (rows x2 (k0_off3 i) (k0_off3_inb i)) (rows x3 (k0_off3 i) (k0_off3_inb i))
    Running (A.S scale h (512 * (i 1).val + r.val)) (512 * (i 1).val + r.val) (A.V h) (512 * (i 1).val + 512)
      (k0_pay1 (F := Ideal) S.1 X (ix2 r (0 : Fin 1))) (k0_pay4 (F := Ideal) S.1 S.2.1 X (ix2 r (0 : Fin 1)))
      fun d : Fin 128 => k0_num S.1 X S.2.2 (rows x4 (k0_off3 i) (k0_off3_inb i)) (ix2 r d) := by
  intro S X
  have ho := k0_off3_at i
  refine k0_step _ _ _ _ _ (s := A.S scale h) (w := A.V h) (n := 512 * (i 1).val) (q0 := 512 * (i 1).val) (by omega)
    (k0_state_running c i a2 h2 a3 h3 a4 h4 a5 h5 a6 h6 a7 h7 a8 h8 hq hkn hkr hv _ le_rfl) (fun r' k => ?_)
    (rows_bf16 hv _ _ (512 * (i 1).val) ho) r
  exact k0_pay23_apply i hq.1 hq.2 (rows_bf16 hkn _ _ _ ho) (rows_bf16 hkr _ _ _ ho) r' k

/-- The point stores the attention's output. -/
theorem out0_5_isO : IsO A h (512 * (i 1).val) (out0_A_5 (F := Ideal) c i a2 h2 a3 h3 a4 h4 a5 h5 a6 h6 a7 h7 a8 h8 x0 x1 x2 x3 x4) := by
  intro r d
  have hi : (i 1).val < 8 := (i 1).isLt
  have hr := r.isLt
  rw [out0_5_eq, k0_last_eq, k0_pay5_apply]
  rw [((k0_done c i a2 h2 a3 h3 a4 h4 a5 h5 a6 h6 a7 h7 a8 h8 hq hkn hkr hv r).finish (by omega)).2 d,
    sum_prob_of_le _ _ (fun j => A.V h j d.val) (M := 4096) (by omega) (by omega)]
  rfl

/-- The point stores the normaliser's logarithm. -/
theorem out0_6_isL : IsL A h (512 * (i 1).val) (out0_A_6 (F := Ideal) c i a2 h2 a3 h3 a4 h4 a5 h5 a6 h6 a7 h7 a8 h8 x0 x1 x2 x3 x4) := by
  intro r d
  have hr := r.isLt
  rw [out0_6_eq, k0_last_eq, k0_pay6_apply]
  exact ((k0_done c i a2 h2 a3 h3 a4 h4 a5 h5 a6 h6 a7 h7 a8 h8 hq hkn hkr hv r).finish (by omega)).1

end Cert.KernelIdeal.Gen

end
-- ==== Proof.Body1.lean ====
/-
  One point of the queries' gradient: the carried sum after each block of keys, and what the point stores.
-/
module

public import proofs.«01_k».proof.Proof.Gen.KernelIdeal.Frame
public import proofs.«01_k».proof.Proof.Rows

@[expose] public section

set_option maxRecDepth 16384

noncomputable section

namespace Cert.KernelIdeal.Gen

open Idealize.ShloMosaic Idealize.ShloMosaic.TcCoe Idealize.ShloMosaic.ValueIdx Idealize.SL.Sem Attn
open Idealize.ShloMosaic.Pipeline (Dat)
open Finset (range)
open scoped BigOperators

/-! ## The loop's words -/

theorem k1_trips (i : grid1.Coords) : (k1_t1_loop i).trips = (i 1).val := by
  unfold k1_t1_loop
  generalize i 1 = a
  revert a
  show ∀ a : Fin 8, _
  decide +kernel

theorem k1_rest (i : grid1.Coords) : (k1_t2_loop i).trips = 0 := by
  unfold k1_t2_loop
  generalize i 1 = a
  revert a
  show ∀ a : Fin 8, _
  decide +kernel

theorem k1_off1_at (i : grid1.Coords) (k : Fin (k1_t1_loop i).trips) : k1_off1 i k = ![512 * k.val, 0] := by
  have hk : k.val < 8 := lt_trans (lt_of_lt_of_eq k.isLt (k1_trips i)) (i 1).isLt
  unfold k1_off1
  generalize k.val = n at hk
  revert n
  decide +kernel

theorem k1_off3_at (i : grid1.Coords) : k1_off3 i = ![512 * (i 1).val, 0] := by
  unfold k1_off3
  generalize i 1 = a
  revert a
  show ∀ a : Fin 8, _
  decide +kernel

section Run
variable {F : FTy → Type} [FloatOps F] [Named F]
variable (c : Dev nD) (i : grid1.Coords)
  (a2 : Memref sig .tc .vmem S512x128 .bf16) (h2 : a2.IsWhole)
  (a3 : Memref sig .tc .vmem S512x128 .bf16) (h3 : a3.IsWhole)
  (a4 : Memref sig .tc .vmem S4096x128 .bf16) (h4 : a4.IsWhole)
  (a5 : Memref sig .tc .vmem S4096x128 .bf16) (h5 : a5.IsWhole)
  (a6 : Memref sig .tc .vmem S4096x128 .bf16) (h6 : a6.IsWhole)
  (a7 : Memref sig .tc .vmem S512x128 .f32) (h7 : a7.IsWhole)
  (a8 : Memref sig .tc .vmem S512x128 .f32) (h8 : a8.IsWhole)
  (a9 : Memref sig .tc .vmem S512x128 .f32) (h9 : a9.IsWhole)
  (a10 : Memref sig .tc .vmem S512x128 .bf16) (h10 : a10.IsWhole)
  (a11 : Memref sig .tc .vmem S512x128 .f32) (h11 : a11.IsWhole)
  (x0 x1 : Vec F S512x128 .bf16) (x2 x3 x4 : Vec F S4096x128 .bf16) (x5 x6 x7 : Vec F S512x128 .f32)

/-- The sum before block `n` of the keys. -/
def k1_state (n : ℕ) : FVec F S512x256 .f32 :=
  st_k1_t1 (F := F) Variants.none c none i a2 h2 a3 h3 a4 h4 a5 h5 a6 h6 a7 h7 a8 h8 a9 h9 a10 h10 a11 h11
    x0 x1 x7 x5 x6 (h4.unread x2) (h5.unread x3) (h6.unread x4) k1_pay7 n

/-- The sum before the block on the diagonal. -/
def k1_last : FVec F S512x256 .f32 :=
  st_k1_t2 (F := F) Variants.none c none i a2 h2 a3 h3 a4 h4 a5 h5 a6 h6 a7 h7 a8 h8 a9 h9 a10 h10 a11 h11
    x0 x1 x7 x5 x6 (h4.unread x2) (h5.unread x3) (h6.unread x4)
    (k1_state c i a2 h2 a3 h3 a4 h4 a5 h5 a6 h6 a7 h7 a8 h8 a9 h9 a10 h10 a11 h11 x0 x1 x2 x3 x4 x5 x6 x7 (k1_t1_loop i).trips) (k1_t2_loop i).trips

theorem k1_last_eq : k1_last (F := F) c i a2 h2 a3 h3 a4 h4 a5 h5 a6 h6 a7 h7 a8 h8 a9 h9 a10 h10 a11 h11 x0 x1 x2 x3 x4 x5 x6 x7
    = k1_state c i a2 h2 a3 h3 a4 h4 a5 h5 a6 h6 a7 h7 a8 h8 a9 h9 a10 h10 a11 h11 x0 x1 x2 x3 x4 x5 x6 x7 (i 1).val := by
  unfold k1_last
  rw [k1_rest, st_k1_t2_zero, k1_trips]

/-- One trip of the loop. -/
theorem k1_state_succ (k : Fin (k1_t1_loop i).trips) :
    k1_state (F := F) c i a2 h2 a3 h3 a4 h4 a5 h5 a6 h6 a7 h7 a8 h8 a9 h9 a10 h10 a11 h11 x0 x1 x2 x3 x4 x5 x6 x7 (k.val + 1)
      = k1_pay8 x0 x1 x7 x5 x6 (k1_state c i a2 h2 a3 h3 a4 h4 a5 h5 a6 h6 a7 h7 a8 h8 a9 h9 a10 h10 a11 h11 x0 x1 x2 x3 x4 x5 x6 x7 k.val)
          (rows x2 (k1_off1 i k) (k1_off1_inb i k)) (rows x3 (k1_off1 i k) (k1_off1_inb i k)) (rows x4 (k1_off1 i k) (k1_off1_inb i k)) := by
  unfold k1_state
  rw [st_k1_t1_succ]
  unfold tripR_k1_t1 trip_k1_t1
  dsimp only
  simp only [View.readAt_eq_ld, h4.read_unread, h5.read_unread, h6.read_unread]
  rfl

theorem out1_8_eq : out1_A_8 (F := F) c i a2 h2 a3 h3 a4 h4 a5 h5 a6 h6 a7 h7 a8 h8 a9 h9 a10 h10 a11 h11 x0 x1 x2 x3 x4 x5 x6 x7
    = k1_pay2 (BitVec.ofNat 32 (i 1).val) x7 (k1_pay5 x7 x5) (k1_last c i a2 h2 a3 h3 a4 h4 a5 h5 a6 h6 a7 h7 a8 h8 a9 h9 a10 h10 a11 h11 x0 x1 x2 x3 x4 x5 x6 x7)
        (k1_pay10 (rows x2 (k1_off3 i) (k1_off3_inb i)) (rows x3 (k1_off3 i) (k1_off3_inb i)))
        (k1_pay11 x0 x1 x6 (rows x2 (k1_off3 i) (k1_off3_inb i)) (rows x3 (k1_off3 i) (k1_off3_inb i)))
        (iota .tc S512x512 32 [0] iota_S512x512_d0_w32) (k1_pay12 i) (rows x4 (k1_off3 i) (k1_off3_inb i)) := by
  have hz : (![0, 0] : Fin 2 → Nat) = fun _ => 0 := funext fun a => by fin_cases a <;> rfl
  unfold out1_A_8
  rw [View.read_writes_eq_canon _ _ _ (cover1_A_8 c i a2 h2 a3 h3 a4 h4 a5 h5 a6 h6 a7 h7 a8 h8 a9 h9 a10 h10 a11 h11 x0 x1 x2 x3 x4 x5 x6 x7)]
  unfold kernelRun1_A
  dsimp only
  rw [View.canon_unit_zero hz]
  sl_unfold_words
  simp only [View.readAt_eq_ld, h2.read_unread, h3.read_unread, h4.read_unread, h5.read_unread, h6.read_unread, h7.read_unread, h8.read_unread,
    h9.read_unread, View.ld_unit_zero (S := S512x128) hz]
  rfl

theorem out1_9_eq : out1_A_9 (F := F) c i a2 h2 a3 h3 a4 h4 a5 h5 a6 h6 a7 h7 a8 h8 a9 h9 a10 h10 a11 h11 x0 x1 x2 x3 x4 x5 x6 x7
    = k1_pay3 (BitVec.ofNat 32 (i 1).val) x7 (k1_pay5 x7 x5) (k1_last c i a2 h2 a3 h3 a4 h4 a5 h5 a6 h6 a7 h7 a8 h8 a9 h9 a10 h10 a11 h11 x0 x1 x2 x3 x4 x5 x6 x7)
        (k1_pay10 (rows x2 (k1_off3 i) (k1_off3_inb i)) (rows x3 (k1_off3 i) (k1_off3_inb i)))
        (k1_pay11 x0 x1 x6 (rows x2 (k1_off3 i) (k1_off3_inb i)) (rows x3 (k1_off3 i) (k1_off3_inb i)))
        (iota .tc S512x512 32 [0] iota_S512x512_d0_w32) (k1_pay12 i) (rows x4 (k1_off3 i) (k1_off3_inb i)) := by
  have hz : (![0, 0] : Fin 2 → Nat) = fun _ => 0 := funext fun a => by fin_cases a <;> rfl
  unfold out1_A_9
  rw [View.read_writes_eq_canon _ _ _ (cover1_A_9 c i a2 h2 a3 h3 a4 h4 a5 h5 a6 h6 a7 h7 a8 h8 a9 h9 a10 h10 a11 h11 x0 x1 x2 x3 x4 x5 x6 x7)]
  unfold kernelRun1_A
  dsimp only
  rw [View.canon_unit_zero hz]
  sl_unfold_words
  simp only [View.readAt_eq_ld, h2.read_unread, h3.read_unread, h4.read_unread, h5.read_unread, h6.read_unread, h7.read_unread, h8.read_unread,
    h9.read_unread, View.ld_unit_zero (S := S512x128) hz]
  rfl

end Run

/-! ## At the ideal values -/

variable (c : Dev nD) (i : grid1.Coords)
  (a2 : Memref sig .tc .vmem S512x128 .bf16) (h2 : a2.IsWhole)
  (a3 : Memref sig .tc .vmem S512x128 .bf16) (h3 : a3.IsWhole)
  (a4 : Memref sig .tc .vmem S4096x128 .bf16) (h4 : a4.IsWhole)
  (a5 : Memref sig .tc .vmem S4096x128 .bf16) (h5 : a5.IsWhole)
  (a6 : Memref sig .tc .vmem S4096x128 .bf16) (h6 : a6.IsWhole)
  (a7 : Memref sig .tc .vmem S512x128 .f32) (h7 : a7.IsWhole)
  (a8 : Memref sig .tc .vmem S512x128 .f32) (h8 : a8.IsWhole)
  (a9 : Memref sig .tc .vmem S512x128 .f32) (h9 : a9.IsWhole)
  (a10 : Memref sig .tc .vmem S512x128 .bf16) (h10 : a10.IsWhole)
  (a11 : Memref sig .tc .vmem S512x128 .f32) (h11 : a11.IsWhole)
  {A : Args} {h : ℕ} {x0 x1 : Vec Ideal S512x128 .bf16} {x2 x3 x4 : Vec Ideal S4096x128 .bf16} {x5 x6 x7 : Vec Ideal S512x128 .f32}
  (hq : IsQ A h (512 * (i 1).val) x0 x1)
  (hkn : IsR (n0 := 4096) (n1 := 128) x2 fun r c => A.kn r (128 * h + c)) (hkr : IsR (n0 := 4096) (n1 := 128) x3 A.kr)
  (hv : IsR (n0 := 4096) (n1 := 128) x4 (A.V h))
  (ho : IsO A h (512 * (i 1).val) x5) (hl : IsL A h (512 * (i 1).val) x6) (hg : IsG A h (512 * (i 1).val) x7)

include hq hkn hkr hv ho hl hg

/-- Before block `n` the carried sum is over the first `512 n` keys. -/
theorem k1_state_isR : ∀ n ≤ (i 1).val,
    IsR (k1_state (F := Ideal) c i a2 h2 a3 h3 a4 h4 a5 h5 a6 h6 a7 h7 a8 h8 a9 h9 a10 h10 a11 h11 x0 x1 x2 x3 x4 x5 x6 x7 n)
      fun r e => ∑ k ∈ range (512 * n), A.dS scale h (512 * (i 1).val + r) k * A.K h k e := by
  intro n
  induction n with
  | zero => exact fun _ => IsR.congr (IsR.zeros (n0 := 512) (n1 := 256)) fun _ _ _ _ => (Finset.sum_range_zero _).symm
  | succ n ih =>
    intro hn
    have hk : n < (k1_t1_loop i).trips := by rw [k1_trips]; omega
    have hs := k1_state_succ (F := Ideal) c i a2 h2 a3 h3 a4 h4 a5 h5 a6 h6 a7 h7 a8 h8 a9 h9 a10 h10 a11 h11 x0 x1 x2 x3 x4 x5 x6 x7 ⟨n, hk⟩
    have hf := k1_off1_at i ⟨n, hk⟩
    dsimp only at hs hf
    rw [hs]
    refine IsR.congr (k1_pay8_isR (k0 := 512 * n) hq hg ho hl (ih (by omega)) ⟨rows_bf16 hkn _ _ _ hf, rows_bf16 hkr _ _ _ hf⟩
      (rows_bf16 hv _ _ _ hf) (by omega)) fun r _ e _ => ?_
    rw [show 512 * (n + 1) = 512 * n + 512 by ring, Finset.sum_range_add]

/-- After the block on the diagonal, and the scale, the sum is the queries' gradient. -/
theorem k1_done : IsR (k1_pay1 (F := Ideal) (BitVec.ofNat 32 (i 1).val) x7 (k1_pay5 x7 x5)
      (k1_last (F := Ideal) c i a2 h2 a3 h3 a4 h4 a5 h5 a6 h6 a7 h7 a8 h8 a9 h9 a10 h10 a11 h11 x0 x1 x2 x3 x4 x5 x6 x7)
      (k1_pay10 (rows x2 (k1_off3 i) (k1_off3_inb i)) (rows x3 (k1_off3 i) (k1_off3_inb i)))
      (k1_pay11 x0 x1 x6 (rows x2 (k1_off3 i) (k1_off3_inb i)) (rows x3 (k1_off3 i) (k1_off3_inb i)))
      (iota .tc S512x512 32 [0] iota_S512x512_d0_w32) (k1_pay12 i) (rows x4 (k1_off3 i) (k1_off3_inb i)))
    fun r e => A.dQ scale h (512 * (i 1).val + r) e := by
  have hi : (i 1).val < 8 := (i 1).isLt
  have hf := k1_off3_at i
  rw [k1_last_eq]
  refine IsR.congr (k1_pay1_isR i rfl hq hg ho hl
    (k1_state_isR c i a2 h2 a3 h3 a4 h4 a5 h5 a6 h6 a7 h7 a8 h8 a9 h9 a10 h10 a11 h11 hq hkn hkr hv ho hl hg _ le_rfl)
    ⟨rows_bf16 hkn _ _ _ hf, rows_bf16 hkr _ _ _ hf⟩ (rows_bf16 hv _ _ _ hf)) fun r hr e _ => ?_
  rw [← Finset.sum_range_add fun k => A.dS scale h (512 * (i 1).val + r) k * A.K h k e, sum_keys A h _ (fun k => A.K h k e) (by omega) (by omega)]
  rfl

/-- The point stores the first part of the queries' gradient. -/
theorem out1_8_isR : IsR (out1_A_8 (F := Ideal) c i a2 h2 a3 h3 a4 h4 a5 h5 a6 h6 a7 h7 a8 h8 a9 h9 a10 h10 a11 h11 x0 x1 x2 x3 x4 x5 x6 x7)
    fun r d => A.dQ scale h (512 * (i 1).val + r) (0 + d) := by
  rw [out1_8_eq]
  exact IsR.trunc (IsR.slice (k1_done c i a2 h2 a3 h3 a4 h4 a5 h5 a6 h6 a7 h7 a8 h8 a9 h9 a10 h10 a11 h11 hq hkn hkr hv ho hl hg)
    0 (by omega) slices_S512x256_o0_0_S512x128) bitsLt_bf16_f32

/-- The point stores the second part. -/
theorem out1_9_isR : IsR (out1_A_9 (F := Ideal) c i a2 h2 a3 h3 a4 h4 a5 h5 a6 h6 a7 h7 a8 h8 a9 h9 a10 h10 a11 h11 x0 x1 x2 x3 x4 x5 x6 x7)
    fun r d => A.dQ scale h (512 * (i 1).val + r) (128 + d) := by
  rw [out1_9_eq]
  exact IsR.slice (k1_done c i a2 h2 a3 h3 a4 h4 a5 h5 a6 h6 a7 h7 a8 h8 a9 h9 a10 h10 a11 h11 hq hkn hkr hv ho hl hg)
    128 (by omega) slices_S512x256_o0_128_S512x128

end Cert.KernelIdeal.Gen

end
-- ==== Proof.Body2.lean ====
/-
  One point of the keys' and values' gradients: the carried sums after each block of queries, and what the point stores.
-/
module

public import proofs.«01_k».proof.Proof.Gen.KernelIdeal.Frame
public import proofs.«01_k».proof.Proof.Rows

@[expose] public section

set_option maxRecDepth 16384

noncomputable section

namespace Cert.KernelIdeal.Gen

open Idealize.ShloMosaic Idealize.ShloMosaic.TcCoe Idealize.ShloMosaic.ValueIdx Idealize.SL.Sem Attn
open Idealize.ShloMosaic.Pipeline (Dat)
open Finset (range)
open scoped BigOperators

/-! ## The loop's words -/

theorem k2_trips (i : grid2.Coords) : (k2_t1_loop i).trips = 7 - (i 1).val := by
  unfold k2_t1_loop
  generalize i 1 = a
  revert a
  show ∀ a : Fin 8, _
  decide +kernel

theorem k2_rest (i : grid2.Coords) : (k2_t2_loop i).trips = 0 := by
  unfold k2_t2_loop
  generalize i 1 = a
  revert a
  show ∀ a : Fin 8, _
  decide +kernel

theorem k2_off1_at (i : grid2.Coords) : k2_off1 i = ![512 * (i 1).val, 0] := by
  unfold k2_off1
  generalize i 1 = a
  revert a
  show ∀ a : Fin 8, _
  decide +kernel

theorem k2_off2_at (i : grid2.Coords) (k : Fin (k2_t1_loop i).trips) : k2_off2 i k = ![512 * ((i 1).val + 1 + k.val), 0] := by
  have hk : k.val < 8 := by
    have h := lt_of_lt_of_eq k.isLt (k2_trips i)
    omega
  unfold k2_off2
  generalize k.val = n at hk
  generalize i 1 = a
  revert n a
  show ∀ n < 8, ∀ a : Fin 8, _
  decide +kernel

section Run
variable {F : FTy → Type} [FloatOps F] [Named F]
variable (c : Dev nD) (i : grid2.Coords)
  (a2 : Memref sig .tc .vmem S4096x128 .bf16) (h2 : a2.IsWhole)
  (a3 : Memref sig .tc .vmem S4096x128 .bf16) (h3 : a3.IsWhole)
  (a4 : Memref sig .tc .vmem S512x128 .bf16) (h4 : a4.IsWhole)
  (a5 : Memref sig .tc .vmem S512x128 .bf16) (h5 : a5.IsWhole)
  (a6 : Memref sig .tc .vmem S512x128 .bf16) (h6 : a6.IsWhole)
  (a7 : Memref sig .tc .vmem S4096x128 .f32) (h7 : a7.IsWhole)
  (a8 : Memref sig .tc .vmem S4096x128 .f32) (h8 : a8.IsWhole)
  (a9 : Memref sig .tc .vmem S4096x128 .f32) (h9 : a9.IsWhole)
  (a10 : Memref sig .tc .vmem S512x128 .bf16) (h10 : a10.IsWhole)
  (a11 : Memref sig .tc .vmem S512x128 .f32) (h11 : a11.IsWhole)
  (a12 : Memref sig .tc .vmem S512x128 .bf16) (h12 : a12.IsWhole)
  (x0 x1 : Vec F S4096x128 .bf16) (x2 x3 x4 : Vec F S512x128 .bf16) (x5 x6 x7 : Vec F S4096x128 .f32)

/-- What the block on the diagonal opens the two sums with. -/
def k2_first : FVec F S512x256 .f32 × FVec F S512x128 .f32 :=
  (k2_pay2 x4 k2_pay17 (k2_pay19 (rows x0 (k2_off1 i) (k2_off1_inb i)) (rows x1 (k2_off1 i) (k2_off1_inb i))) (rows x7 (k2_off1 i) (k2_off1_inb i)) (k2_pay20 (rows x7 (k2_off1 i) (k2_off1_inb i)) (rows x5 (k2_off1 i) (k2_off1_inb i)))
      (k2_pay21 x2 x3 (rows x0 (k2_off1 i) (k2_off1_inb i)) (rows x1 (k2_off1 i) (k2_off1_inb i)) (rows x6 (k2_off1 i) (k2_off1_inb i))) (k2_pay22 i) (k2_pay23 i),
    k2_pay3 k2_pay18 (rows x7 (k2_off1 i) (k2_off1_inb i)) (k2_pay21 x2 x3 (rows x0 (k2_off1 i) (k2_off1_inb i)) (rows x1 (k2_off1 i) (k2_off1_inb i)) (rows x6 (k2_off1 i) (k2_off1_inb i))) (k2_pay22 i) (k2_pay23 i))

/-- The sums before the `n`-th block of queries below the diagonal. -/
def k2_state (n : ℕ) : FVec F S512x256 .f32 × FVec F S512x128 .f32 :=
  st_k2_t1 (F := F) Variants.none c none i a2 h2 a3 h3 a4 h4 a5 h5 a6 h6 a7 h7 a8 h8 a9 h9 a10 h10 a11 h11 a12 h12
    (k2_pay16 x2 x3) x4 (h2.unread x0) (h3.unread x1) (h7.unread x5) (h8.unread x6) (h9.unread x7) (k2_first i x0 x1 x2 x3 x4 x5 x6 x7) n

/-- The finished sums. -/
def k2_last : FVec F S512x256 .f32 × FVec F S512x128 .f32 :=
  st_k2_t2 (F := F) Variants.none c none i a2 h2 a3 h3 a4 h4 a5 h5 a6 h6 a7 h7 a8 h8 a9 h9 a10 h10 a11 h11 a12 h12
    (k2_pay16 x2 x3) x4 (h2.unread x0) (h3.unread x1) (h7.unread x5) (h8.unread x6) (h9.unread x7)
    (k2_state c i a2 h2 a3 h3 a4 h4 a5 h5 a6 h6 a7 h7 a8 h8 a9 h9 a10 h10 a11 h11 a12 h12 x0 x1 x2 x3 x4 x5 x6 x7 (k2_t1_loop i).trips) (k2_t2_loop i).trips

theorem k2_last_eq : k2_last (F := F) c i a2 h2 a3 h3 a4 h4 a5 h5 a6 h6 a7 h7 a8 h8 a9 h9 a10 h10 a11 h11 a12 h12 x0 x1 x2 x3 x4 x5 x6 x7
    = k2_state c i a2 h2 a3 h3 a4 h4 a5 h5 a6 h6 a7 h7 a8 h8 a9 h9 a10 h10 a11 h11 a12 h12 x0 x1 x2 x3 x4 x5 x6 x7 (7 - (i 1).val) := by
  unfold k2_last
  rw [k2_rest, st_k2_t2_zero, k2_trips]

/-- One trip of the loop. -/
theorem k2_state_succ (k : Fin (k2_t1_loop i).trips) :
    k2_state (F := F) c i a2 h2 a3 h3 a4 h4 a5 h5 a6 h6 a7 h7 a8 h8 a9 h9 a10 h10 a11 h11 a12 h12 x0 x1 x2 x3 x4 x5 x6 x7 (k.val + 1)
      = (k2_pay6 (k2_pay16 x2 x3) x4 (k2_state c i a2 h2 a3 h3 a4 h4 a5 h5 a6 h6 a7 h7 a8 h8 a9 h9 a10 h10 a11 h11 a12 h12 x0 x1 x2 x3 x4 x5 x6 x7 k.val).1
            (rows x0 (k2_off2 i k) (k2_off2_inb i k)) (rows x1 (k2_off2 i k) (k2_off2_inb i k)) (rows x7 (k2_off2 i k) (k2_off2_inb i k)) (rows x5 (k2_off2 i k) (k2_off2_inb i k)) (rows x6 (k2_off2 i k) (k2_off2_inb i k)),
          k2_pay7 (k2_pay16 x2 x3) (k2_state c i a2 h2 a3 h3 a4 h4 a5 h5 a6 h6 a7 h7 a8 h8 a9 h9 a10 h10 a11 h11 a12 h12 x0 x1 x2 x3 x4 x5 x6 x7 k.val).2
            (rows x0 (k2_off2 i k) (k2_off2_inb i k)) (rows x1 (k2_off2 i k) (k2_off2_inb i k)) (rows x7 (k2_off2 i k) (k2_off2_inb i k)) (rows x6 (k2_off2 i k) (k2_off2_inb i k))) := by
  unfold k2_state
  rw [st_k2_t1_succ]
  unfold tripR_k2_t1 trip_k2_t1
  dsimp only
  simp only [View.readAt_eq_ld, h2.read_unread, h3.read_unread, h7.read_unread, h8.read_unread, h9.read_unread]
  rfl

theorem out2_8_eq : out2_A_8 (F := F) c i a2 h2 a3 h3 a4 h4 a5 h5 a6 h6 a7 h7 a8 h8 a9 h9 a10 h10 a11 h11 a12 h12 x0 x1 x2 x3 x4 x5 x6 x7
    = k2_pay13 (k2_last c i a2 h2 a3 h3 a4 h4 a5 h5 a6 h6 a7 h7 a8 h8 a9 h9 a10 h10 a11 h11 a12 h12 x0 x1 x2 x3 x4 x5 x6 x7).1 := by
  have hz : (![0, 0] : Fin 2 → Nat) = fun _ => 0 := funext fun a => by fin_cases a <;> rfl
  unfold out2_A_8
  rw [View.read_writes_eq_canon _ _ _ (cover2_A_8 c i a2 h2 a3 h3 a4 h4 a5 h5 a6 h6 a7 h7 a8 h8 a9 h9 a10 h10 a11 h11 a12 h12 x0 x1 x2 x3 x4 x5 x6 x7)]
  unfold kernelRun2_A
  dsimp only
  rw [View.canon_unit_zero hz]
  sl_unfold_words
  simp only [View.readAt_eq_ld, h2.read_unread, h3.read_unread, h4.read_unread, h5.read_unread, h6.read_unread, h7.read_unread, h8.read_unread,
    h9.read_unread, View.ld_unit_zero (S := S512x128) hz]
  rfl

theorem out2_9_eq : out2_A_9 (F := F) c i a2 h2 a3 h3 a4 h4 a5 h5 a6 h6 a7 h7 a8 h8 a9 h9 a10 h10 a11 h11 a12 h12 x0 x1 x2 x3 x4 x5 x6 x7
    = k2_pay15 (k2_last c i a2 h2 a3 h3 a4 h4 a5 h5 a6 h6 a7 h7 a8 h8 a9 h9 a10 h10 a11 h11 a12 h12 x0 x1 x2 x3 x4 x5 x6 x7).1 := by
  have hz : (![0, 0] : Fin 2 → Nat) = fun _ => 0 := funext fun a => by fin_cases a <;> rfl
  unfold out2_A_9
  rw [View.read_writes_eq_canon _ _ _ (cover2_A_9 c i a2 h2 a3 h3 a4 h4 a5 h5 a6 h6 a7 h7 a8 h8 a9 h9 a10 h10 a11 h11 a12 h12 x0 x1 x2 x3 x4 x5 x6 x7)]
  unfold kernelRun2_A
  dsimp only
  rw [View.canon_unit_zero hz]
  sl_unfold_words
  simp only [View.readAt_eq_ld, h2.read_unread, h3.read_unread, h4.read_unread, h5.read_unread, h6.read_unread, h7.read_unread, h8.read_unread,
    h9.read_unread, View.ld_unit_zero (S := S512x128) hz]
  rfl

theorem out2_10_eq : out2_A_10 (F := F) c i a2 h2 a3 h3 a4 h4 a5 h5 a6 h6 a7 h7 a8 h8 a9 h9 a10 h10 a11 h11 a12 h12 x0 x1 x2 x3 x4 x5 x6 x7
    = k2_pay14 (k2_last c i a2 h2 a3 h3 a4 h4 a5 h5 a6 h6 a7 h7 a8 h8 a9 h9 a10 h10 a11 h11 a12 h12 x0 x1 x2 x3 x4 x5 x6 x7).2 := by
  have hz : (![0, 0] : Fin 2 → Nat) = fun _ => 0 := funext fun a => by fin_cases a <;> rfl
  unfold out2_A_10
  rw [View.read_writes_eq_canon _ _ _ (cover2_A_10 c i a2 h2 a3 h3 a4 h4 a5 h5 a6 h6 a7 h7 a8 h8 a9 h9 a10 h10 a11 h11 a12 h12 x0 x1 x2 x3 x4 x5 x6 x7)]
  unfold kernelRun2_A
  dsimp only
  rw [View.canon_unit_zero hz]
  sl_unfold_words
  simp only [View.readAt_eq_ld, h2.read_unread, h3.read_unread, h4.read_unread, h5.read_unread, h6.read_unread, h7.read_unread, h8.read_unread,
    h9.read_unread, View.ld_unit_zero (S := S512x128) hz]
  rfl

end Run

/-! ## At the ideal values -/

variable (c : Dev nD) (i : grid2.Coords)
  (a2 : Memref sig .tc .vmem S4096x128 .bf16) (h2 : a2.IsWhole)
  (a3 : Memref sig .tc .vmem S4096x128 .bf16) (h3 : a3.IsWhole)
  (a4 : Memref sig .tc .vmem S512x128 .bf16) (h4 : a4.IsWhole)
  (a5 : Memref sig .tc .vmem S512x128 .bf16) (h5 : a5.IsWhole)
  (a6 : Memref sig .tc .vmem S512x128 .bf16) (h6 : a6.IsWhole)
  (a7 : Memref sig .tc .vmem S4096x128 .f32) (h7 : a7.IsWhole)
  (a8 : Memref sig .tc .vmem S4096x128 .f32) (h8 : a8.IsWhole)
  (a9 : Memref sig .tc .vmem S4096x128 .f32) (h9 : a9.IsWhole)
  (a10 : Memref sig .tc .vmem S512x128 .bf16) (h10 : a10.IsWhole)
  (a11 : Memref sig .tc .vmem S512x128 .f32) (h11 : a11.IsWhole)
  (a12 : Memref sig .tc .vmem S512x128 .bf16) (h12 : a12.IsWhole)
  {A : Args} {h : ℕ} {x0 x1 : Vec Ideal S4096x128 .bf16} {x2 x3 x4 : Vec Ideal S512x128 .bf16} {x5 x6 x7 : Vec Ideal S4096x128 .f32}
  (hqn : IsR (n0 := 4096) (n1 := 128) x0 fun r c => A.qn r (128 * h + c)) (hqr : IsR (n0 := 4096) (n1 := 128) x1 fun r c => A.qr r (128 * h + c))
  (hk : IsK A h (512 * (i 1).val) x2 x3) (hv : IsV A h (512 * (i 1).val) x4)
  (ho : IsR (n0 := 4096) (n1 := 128) x5 (A.O scale h)) (hl : IsR (n0 := 4096) (n1 := 128) x6 fun r _ => A.lse scale h r)
  (hg : IsR (n0 := 4096) (n1 := 128) x7 (A.G h))

include hqn hqr hk hv ho hl hg

/-- Before the `n`-th block below the diagonal the sums are over `512 (n + 1)` queries from the key block's first row on. -/
theorem k2_state_isR : ∀ n ≤ 7 - (i 1).val,
    IsR (k2_state (F := Ideal) c i a2 h2 a3 h3 a4 h4 a5 h5 a6 h6 a7 h7 a8 h8 a9 h9 a10 h10 a11 h11 a12 h12 x0 x1 x2 x3 x4 x5 x6 x7 n).1
        (fun r e => ∑ q ∈ range (512 * (n + 1)), A.dS scale h (512 * (i 1).val + q) (512 * (i 1).val + r) * A.Q h (512 * (i 1).val + q) e) ∧
      IsR (k2_state (F := Ideal) c i a2 h2 a3 h3 a4 h4 a5 h5 a6 h6 a7 h7 a8 h8 a9 h9 a10 h10 a11 h11 a12 h12 x0 x1 x2 x3 x4 x5 x6 x7 n).2
        (fun r d => ∑ q ∈ range (512 * (n + 1)), A.P scale h (512 * (i 1).val + q) (512 * (i 1).val + r) * A.G h (512 * (i 1).val + q) d) := by
  intro n
  induction n with
  | zero =>
    intro _
    have hf := k2_off1_at i
    have hq' : IsQ A h (512 * (i 1).val) (rows x0 (k2_off1 i) (k2_off1_inb i)) (rows x1 (k2_off1 i) (k2_off1_inb i)) := ⟨rows_bf16 hqn _ _ _ hf, rows_bf16 hqr _ _ _ hf⟩
    exact ⟨k2_pay2_isR i rfl hq' (rows_f32 hg _ _ _ hf) (rows_f32 ho _ _ _ hf) (rows_f32 hl _ _ _ hf) hk hv,
      k2_pay3_isR i rfl hq' (rows_f32 hg _ _ _ hf) (rows_f32 hl _ _ _ hf) hk⟩
  | succ n ih =>
    intro hn
    have hkk : n < (k2_t1_loop i).trips := by rw [k2_trips]; omega
    have hs := k2_state_succ (F := Ideal) c i a2 h2 a3 h3 a4 h4 a5 h5 a6 h6 a7 h7 a8 h8 a9 h9 a10 h10 a11 h11 a12 h12 x0 x1 x2 x3 x4 x5 x6 x7 ⟨n, hkk⟩
    have hf := k2_off2_at i ⟨n, hkk⟩
    dsimp only at hs hf
    rw [hs]
    obtain ⟨ih1, ih2⟩ := ih (by omega)
    have hq' : IsQ A h (512 * ((i 1).val + 1 + n)) (rows x0 (k2_off2 i ⟨n, hkk⟩) (k2_off2_inb i ⟨n, hkk⟩)) (rows x1 (k2_off2 i ⟨n, hkk⟩) (k2_off2_inb i ⟨n, hkk⟩)) :=
      ⟨rows_bf16 hqn _ _ _ hf, rows_bf16 hqr _ _ _ hf⟩
    constructor
    · refine IsR.congr (k2_pay6_isR hq' (rows_f32 hg _ _ _ hf) (rows_f32 ho _ _ _ hf) (rows_f32 hl _ _ _ hf) hk hv ih1 (by omega)) fun r _ e _ => ?_
      rw [show 512 * (n + 1 + 1) = 512 * (n + 1) + 512 by ring, Finset.sum_range_add]
      refine congrArg _ (Finset.sum_congr rfl fun q _ => ?_)
      rw [show 512 * ((i 1).val + 1 + n) + q = 512 * (i 1).val + (512 * (n + 1) + q) by ring]
    · refine IsR.congr (k2_pay7_isR hq' (rows_f32 hg _ _ _ hf) (rows_f32 hl _ _ _ hf) hk ih2 (by omega)) fun r _ e _ => ?_
      rw [show 512 * (n + 1 + 1) = 512 * (n + 1) + 512 by ring, Finset.sum_range_add]
      refine congrArg _ (Finset.sum_congr rfl fun q _ => ?_)
      rw [show 512 * ((i 1).val + 1 + n) + q = 512 * (i 1).val + (512 * (n + 1) + q) by ring]

/-- The finished sums are over every query. -/
theorem k2_done :
    IsR (k2_last (F := Ideal) c i a2 h2 a3 h3 a4 h4 a5 h5 a6 h6 a7 h7 a8 h8 a9 h9 a10 h10 a11 h11 a12 h12 x0 x1 x2 x3 x4 x5 x6 x7).1
        (fun r e => ∑ q ∈ range 4096, A.dS scale h q (512 * (i 1).val + r) * A.Q h q e) ∧
      IsR (k2_last (F := Ideal) c i a2 h2 a3 h3 a4 h4 a5 h5 a6 h6 a7 h7 a8 h8 a9 h9 a10 h10 a11 h11 a12 h12 x0 x1 x2 x3 x4 x5 x6 x7).2
        (fun r d => A.dV scale h (512 * (i 1).val + r) d) := by
  have hi : (i 1).val < 8 := (i 1).isLt
  rw [k2_last_eq]
  obtain ⟨h1, h2⟩ := k2_state_isR c i a2 h2 a3 h3 a4 h4 a5 h5 a6 h6 a7 h7 a8 h8 a9 h9 a10 h10 a11 h11 a12 h12 hqn hqr hk hv ho hl hg _ le_rfl
  exact ⟨h1.congr fun r _ e _ => sum_queries (fun q => A.dS scale h q (512 * (i 1).val + r) * A.Q h q e)
      (fun q hq => by rw [Args.dS_of_gt A scale h (by omega), zero_mul]) (by omega),
    h2.congr fun r _ e _ => sum_queries (fun q => A.P scale h q (512 * (i 1).val + r) * A.G h q e)
      (fun q hq => by rw [Args.P_of_gt A scale h (by omega), zero_mul]) (by omega)⟩

/-- The point stores the first part of the keys' gradient. -/
theorem out2_8_isR : IsR (out2_A_8 (F := Ideal) c i a2 h2 a3 h3 a4 h4 a5 h5 a6 h6 a7 h7 a8 h8 a9 h9 a10 h10 a11 h11 a12 h12 x0 x1 x2 x3 x4 x5 x6 x7)
    fun r d => A.dK scale h (512 * (i 1).val + r) (0 + d) := by
  rw [out2_8_eq]
  exact k2_pay13_isR (k2_done c i a2 h2 a3 h3 a4 h4 a5 h5 a6 h6 a7 h7 a8 h8 a9 h9 a10 h10 a11 h11 a12 h12 hqn hqr hk hv ho hl hg).1

/-- The point stores the second part. -/
theorem out2_9_isR : IsR (out2_A_9 (F := Ideal) c i a2 h2 a3 h3 a4 h4 a5 h5 a6 h6 a7 h7 a8 h8 a9 h9 a10 h10 a11 h11 a12 h12 x0 x1 x2 x3 x4 x5 x6 x7)
    fun r d => A.dK scale h (512 * (i 1).val + r) (128 + d) := by
  rw [out2_9_eq]
  exact k2_pay15_isR (k2_done c i a2 h2 a3 h3 a4 h4 a5 h5 a6 h6 a7 h7 a8 h8 a9 h9 a10 h10 a11 h11 a12 h12 hqn hqr hk hv ho hl hg).1

/-- The point stores the values' gradient. -/
theorem out2_10_isR : IsR (out2_A_10 (F := Ideal) c i a2 h2 a3 h3 a4 h4 a5 h5 a6 h6 a7 h7 a8 h8 a9 h9 a10 h10 a11 h11 a12 h12 x0 x1 x2 x3 x4 x5 x6 x7)
    fun r d => A.dV scale h (512 * (i 1).val + r) d := by
  rw [out2_10_eq]
  exact IsR.trunc (k2_done c i a2 h2 a3 h3 a4 h4 a5 h5 a6 h6 a7 h7 a8 h8 a9 h9 a10 h10 a11 h11 a12 h12 hqn hqr hk hv ho hl hg).2 bitsLt_bf16_f32

end Cert.KernelIdeal.Gen

end
-- ==== Proof.Blocks.lean ====
/-
  The blocks the pipelines cut out of the arrays, at coordinates.
-/
module

public import proofs.«01_k».proof.Proof.Gen.KernelIdeal.Frame
public import proofs.«01_k».proof.Proof.Body0
public import proofs.«01_k».proof.Proof.Body1
public import proofs.«01_k».proof.Proof.Body2
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.ValueIdx Idealize.SL.Sem Attn
open Idealize.ShloMosaic.Pipeline (Dat)
open Finset (range)
open scoped BigOperators

/-- An array of reals read under an index that moves each coordinate by itself. -/
theorem _root_.Attn.IsR.under {n0 n1 N0 N1 : ℕ} {X : (⟨2, ![N0, N1]⟩ : Shape).Idx → EReal} {f : ℕ → ℕ → ℝ} (hX : IsR X f) (a0 a1 : ℕ → ℕ)
    (e : (⟨2, ![n0, n1]⟩ : Shape).Idx → (⟨2, ![N0, N1]⟩ : Shape).Idx)
    (he : ∀ j, (e j 0).val = a0 (j 0).val ∧ (e j 1).val = a1 (j 1).val) :
    IsR (fun j => X (e j)) fun r c => f (a0 r) (a1 c) := by
  intro r c
  have h := hX (e (ix2 r c) 0) (e (ix2 r c) 1)
  rw [(he (ix2 r c)).1, (he (ix2 r c)).2] at h
  refine Eq.trans (congrArg X (funext fun a => ?_)) h
  match a with
  | ⟨0, _⟩ => rfl
  | ⟨1, _⟩ => rfl

/-- The first row of a block of rows. -/
theorem row_at (b : Fin 8) (x : ℕ) : (BitVec.ofNat 32 b.val).toNat * 512 + 1 * x = 512 * b.val + x := by
  rw [BitVec.toNat_ofNat, Nat.mod_eq_of_lt (by omega)]; ring

/-- The first column of a head. -/
theorem col_at (h : Fin 16) (x : ℕ) : (BitVec.ofNat 32 h.val).toNat * 128 + 1 * x = 128 * h.val + x := by
  rw [BitVec.toNat_ofNat, Nat.mod_eq_of_lt (by omega)]; ring

/-- A window that is the whole axis. -/
theorem all_at (n x : ℕ) : (0#32 : BitVec 32).toNat * n + 1 * x = x := by
  rw [show (0#32 : BitVec 32).toNat = 0 from rfl]; ring

/-- A matrix of one column block per head. -/
def heads (g : ℕ → ℕ → ℕ → ℝ) (r c : ℕ) : ℝ := g (c / 128) r (c % 128)

theorem heads_at (g : ℕ → ℕ → ℕ → ℝ) (h r : ℕ) {d : ℕ} (hd : d < 128) : heads g r (128 * h + d) = g h r d := by
  unfold heads
  rw [show (128 * h + d) / 128 = h by omega, show (128 * h + d) % 128 = d by omega]

section Blocks
variable (V : (c : Dev nD) → (b : Ref sig .tc) → Buf (Elt Ideal) ((c : Thread nD τ).loc b)) (c : Dev nD) {A : Args}

/-- The six arguments are real. -/
structure IsArgs (A : Args) : Prop where
  qn : IsR (n0 := 4096) (n1 := 2048) (V c main_arg0) A.qn
  qr : IsR (n0 := 4096) (n1 := 2048) (V c main_arg1) A.qr
  kn : IsR (n0 := 4096) (n1 := 2048) (V c main_arg2) A.kn
  kr : IsR (n0 := 4096) (n1 := 128) (V c main_arg3) A.kr
  v : IsR (n0 := 4096) (n1 := 2048) (V c main_arg4) A.v
  g : IsR (n0 := 4096) (n1 := 2048) (V c main_arg5) A.g

/-- The forward call's results. -/
structure IsFwd (A : Args) : Prop where
  o : IsR (n0 := 4096) (n1 := 2048) (V c main_v0_0) (heads (A.O scale))
  l : IsR (n0 := 4096) (n1 := 2048) (V c main_v0_1) (heads fun h r _ => A.lse scale h r)

variable {V c}

theorem reads0 (hA : IsArgs V c A) (t : Fin cfg0.N) :
    IsQ A (grid0.coords t 0).val (512 * (grid0.coords t 1).val) (iblk0 V c 0 t) (iblk0 V c 1 t) ∧
      IsR (n0 := 4096) (n1 := 128) (iblk0 V c 2 t) (fun r k => A.kn r (128 * (grid0.coords t 0).val + k)) ∧
      IsR (n0 := 4096) (n1 := 128) (iblk0 V c 3 t) A.kr ∧
      IsR (n0 := 4096) (n1 := 128) (iblk0 V c 4 t) (A.V (grid0.coords t 0).val) :=
  ⟨⟨IsR.under hA.qn _ _ _ fun _ => ⟨row_at _ _, col_at _ _⟩, IsR.under hA.qr _ _ _ fun _ => ⟨row_at _ _, col_at _ _⟩⟩,
    IsR.under hA.kn (fun r => r) _ _ fun _ => ⟨all_at _ _, col_at _ _⟩,
    IsR.under hA.kr (fun r => r) (fun c => c) _ fun _ => ⟨all_at _ _, all_at _ _⟩,
    IsR.under hA.v (fun r => r) _ _ fun _ => ⟨all_at _ _, col_at _ _⟩⟩

/-- A row block and a head's columns of an array given by heads. -/
theorem IsR.head {n : ℕ} {X : (⟨2, ![4096, 2048]⟩ : Shape).Idx → EReal} {g : ℕ → ℕ → ℕ → ℝ} (hX : IsR X (heads g)) (h : ℕ) (a0 : ℕ → ℕ)
    (e : (⟨2, ![n, 128]⟩ : Shape).Idx → (⟨2, ![4096, 2048]⟩ : Shape).Idx)
    (he : ∀ j, (e j 0).val = a0 (j 0).val ∧ (e j 1).val = 128 * h + (j 1).val) :
    IsR (fun j => X (e j)) fun r d => g h (a0 r) d :=
  (IsR.under hX a0 (fun d => 128 * h + d) e he).congr fun _ _ _ hd => heads_at _ _ _ hd

/-- An element a point stores, where it lands. -/
theorem lands {X : FVec Ideal S512x128 .f32} {g : ℕ → ℕ → ℕ → ℝ} {h n : ℕ} (hX : IsR X fun r d => g h (n + r) d) (y : S512x128.Idx) {a b : ℕ}
    (ha : a = n + (y 0).val) (hb : b = 128 * h + (y 1).val) : X y = ((heads g a b : ℝ) : EReal) := by
  rw [ha, hb, heads_at g h _ (y 1).isLt, ← hX (y 0) (y 1)]
  refine congrArg X (funext fun a => ?_)
  match a with
  | ⟨0, _⟩ => rfl
  | ⟨1, _⟩ => rfl

theorem reads1 (hA : IsArgs V c A) (hF : IsFwd V c A) (t : Fin cfg1.N) :
    (IsQ A (grid1.coords t 0).val (512 * (grid1.coords t 1).val) (iblk1 V c 0 t) (iblk1 V c 1 t) ∧
      IsR (n0 := 4096) (n1 := 128) (iblk1 V c 2 t) (fun r k => A.kn r (128 * (grid1.coords t 0).val + k)) ∧
      IsR (n0 := 4096) (n1 := 128) (iblk1 V c 3 t) A.kr ∧
      IsR (n0 := 4096) (n1 := 128) (iblk1 V c 4 t) (A.V (grid1.coords t 0).val)) ∧
      IsO A (grid1.coords t 0).val (512 * (grid1.coords t 1).val) (iblk1 V c 5 t) ∧
      IsL A (grid1.coords t 0).val (512 * (grid1.coords t 1).val) (iblk1 V c 6 t) ∧
      IsG A (grid1.coords t 0).val (512 * (grid1.coords t 1).val) (iblk1 V c 7 t) :=
  ⟨⟨⟨IsR.under hA.qn _ _ _ fun _ => ⟨row_at _ _, col_at _ _⟩, IsR.under hA.qr _ _ _ fun _ => ⟨row_at _ _, col_at _ _⟩⟩,
    IsR.under hA.kn (fun r => r) _ _ fun _ => ⟨all_at _ _, col_at _ _⟩,
    IsR.under hA.kr (fun r => r) (fun c => c) _ fun _ => ⟨all_at _ _, all_at _ _⟩,
    IsR.under hA.v (fun r => r) _ _ fun _ => ⟨all_at _ _, col_at _ _⟩⟩,
    IsR.head hF.o _ _ _ fun _ => ⟨row_at _ _, col_at _ _⟩,
    IsR.head hF.l _ _ _ fun _ => ⟨row_at _ _, col_at _ _⟩,
    IsR.under hA.g _ _ _ fun _ => ⟨row_at _ _, col_at _ _⟩⟩

theorem reads2 (hA : IsArgs V c A) (hF : IsFwd V c A) (t : Fin cfg2.N) :
    (IsR (n0 := 4096) (n1 := 128) (iblk2 V c 0 t) (fun r k => A.qn r (128 * (grid2.coords t 0).val + k)) ∧
      IsR (n0 := 4096) (n1 := 128) (iblk2 V c 1 t) (fun r k => A.qr r (128 * (grid2.coords t 0).val + k)) ∧
      IsK A (grid2.coords t 0).val (512 * (grid2.coords t 1).val) (iblk2 V c 2 t) (iblk2 V c 3 t) ∧
      IsV A (grid2.coords t 0).val (512 * (grid2.coords t 1).val) (iblk2 V c 4 t)) ∧
      IsR (n0 := 4096) (n1 := 128) (iblk2 V c 5 t) (A.O scale (grid2.coords t 0).val) ∧
      IsR (n0 := 4096) (n1 := 128) (iblk2 V c 6 t) (fun r _ => A.lse scale (grid2.coords t 0).val r) ∧
      IsR (n0 := 4096) (n1 := 128) (iblk2 V c 7 t) (A.G (grid2.coords t 0).val) :=
  ⟨⟨IsR.under hA.qn (fun r => r) _ _ fun _ => ⟨all_at _ _, col_at _ _⟩,
    IsR.under hA.qr (fun r => r) _ _ fun _ => ⟨all_at _ _, col_at _ _⟩,
    ⟨IsR.under hA.kn _ _ _ fun _ => ⟨row_at _ _, col_at _ _⟩, IsR.under hA.kr _ (fun c => c) _ fun _ => ⟨row_at _ _, all_at _ _⟩⟩,
    IsR.under hA.v _ _ _ fun _ => ⟨row_at _ _, col_at _ _⟩⟩,
    IsR.head hF.o _ (fun r => r) _ fun _ => ⟨all_at _ _, col_at _ _⟩,
    IsR.head hF.l _ (fun r => r) _ fun _ => ⟨all_at _ _, col_at _ _⟩,
    IsR.under hA.g (fun r => r) _ _ fun _ => ⟨all_at _ _, col_at _ _⟩⟩

end Blocks

end Cert.KernelIdeal.Gen

end
-- ==== Proof.Leaves.lean ====
/-
  The arrays the three pipelines leave, at coordinates.
-/
module

public import proofs.«01_k».proof.Proof.Blocks

@[expose] public section

set_option maxRecDepth 16384

noncomputable section

namespace Cert.KernelIdeal.Gen

open Idealize.ShloMosaic Idealize.ShloMosaic.TcCoe Idealize.ShloMosaic.ValueIdx Idealize.SL.Sem Attn
open Idealize.ShloMosaic.Pipeline (Dat)
open Finset (range)
open scoped BigOperators

section Leaves
variable {V : (c : Dev nD) → (b : Ref sig .tc) → Buf (Elt Ideal) ((c : Thread nD τ).loc b)} {c : Dev nD} {A : Args}

/-- What a point stores of the output. -/
theorem stores0_o (hA : IsArgs V c A) (t : Fin cfg0.N) :
    IsR (n0 := 512) (n1 := 128) (outsAt0 V c t).1 fun r d => A.O scale (grid0.coords t 0).val (512 * (grid0.coords t 1).val + r) d := by
  obtain ⟨hq, hkn, hkr, hv⟩ := reads0 hA t
  unfold outsAt0
  dsimp only
  exact out0_5_isO c _ _ _ _ _ _ _ _ _ _ _ _ _ _ _ hq hkn hkr hv

/-- The array left of the output. -/
theorem leaves0_o (hA : IsArgs V c A) :
    IsR (n0 := 4096) (n1 := 2048) ((dat0 V c).arrAt 5 cfg0.N) (heads (A.O scale)) := fun r d =>
  (dat0 V c).arrAt_forall_of_covers 5 (fun i v => v = ((heads (A.O scale) (i 0).val (i 1).val : ℝ) : EReal)) (by decide +kernel)
    (fun t _ y => by
      show (dat0 V c).after 5 t y = _
      rw [after0_5]
      exact lands (g := A.O scale) (stores0_o hA t) y (row_at _ _) (col_at _ _)) (ix2 r d)

/-- What a point stores of the normaliser's logarithm. -/
theorem stores0_l (hA : IsArgs V c A) (t : Fin cfg0.N) :
    IsR (n0 := 512) (n1 := 128) (outsAt0 V c t).2 fun r _ => A.lse scale (grid0.coords t 0).val (512 * (grid0.coords t 1).val + r) := by
  obtain ⟨hq, hkn, hkr, hv⟩ := reads0 hA t
  unfold outsAt0
  dsimp only
  exact out0_6_isL c _ _ _ _ _ _ _ _ _ _ _ _ _ _ _ hq hkn hkr hv

/-- The array left of the normaliser's logarithm. -/
theorem leaves0_l (hA : IsArgs V c A) :
    IsR (n0 := 4096) (n1 := 2048) ((dat0 V c).arrAt 6 cfg0.N) (heads (fun h r _ => A.lse scale h r)) := fun r d =>
  (dat0 V c).arrAt_forall_of_covers 6 (fun i v => v = ((heads (fun h r _ => A.lse scale h r) (i 0).val (i 1).val : ℝ) : EReal)) (by decide +kernel)
    (fun t _ y => by
      show (dat0 V c).after 6 t y = _
      rw [after0_6]
      exact lands (g := (fun h r _ => A.lse scale h r)) (stores0_l hA t) y (row_at _ _) (col_at _ _)) (ix2 r d)

/-- What a point stores of the first part of the queries' gradient. -/
theorem stores1_n (hA : IsArgs V c A) (hF : IsFwd V c A) (t : Fin cfg1.N) :
    IsR (n0 := 512) (n1 := 128) (outsAt1 V c t).1 fun r d => A.dQ scale (grid1.coords t 0).val (512 * (grid1.coords t 1).val + r) (0 + d) := by
  obtain ⟨⟨hq, hkn, hkr, hv⟩, ho, hl, hg⟩ := reads1 hA hF t
  unfold outsAt1
  dsimp only
  exact out1_8_isR c _ _ _ _ _ _ _ _ _ _ _ _ _ _ _ _ _ _ _ _ _ hq hkn hkr hv ho hl hg

/-- The array left of the first part of the queries' gradient. -/
theorem leaves1_n (hA : IsArgs V c A) (hF : IsFwd V c A) :
    IsR (n0 := 4096) (n1 := 2048) ((dat1 V c).arrAt 8 cfg1.N) (heads (fun h r d => A.dQ scale h r (0 + d))) := fun r d =>
  (dat1 V c).arrAt_forall_of_covers 8 (fun i v => v = ((heads (fun h r d => A.dQ scale h r (0 + d)) (i 0).val (i 1).val : ℝ) : EReal)) (by decide +kernel)
    (fun t _ y => by
      show (dat1 V c).after 8 t y = _
      rw [after1_8]
      exact lands (g := (fun h r d => A.dQ scale h r (0 + d))) (stores1_n hA hF t) y (row_at _ _) (col_at _ _)) (ix2 r d)

/-- What a point stores of the second part of the queries' gradient. -/
theorem stores1_r (hA : IsArgs V c A) (hF : IsFwd V c A) (t : Fin cfg1.N) :
    IsR (n0 := 512) (n1 := 128) (outsAt1 V c t).2 fun r d => A.dQ scale (grid1.coords t 0).val (512 * (grid1.coords t 1).val + r) (128 + d) := by
  obtain ⟨⟨hq, hkn, hkr, hv⟩, ho, hl, hg⟩ := reads1 hA hF t
  unfold outsAt1
  dsimp only
  exact out1_9_isR c _ _ _ _ _ _ _ _ _ _ _ _ _ _ _ _ _ _ _ _ _ hq hkn hkr hv ho hl hg

/-- The array left of the second part of the queries' gradient. -/
theorem leaves1_r (hA : IsArgs V c A) (hF : IsFwd V c A) :
    IsR (n0 := 4096) (n1 := 2048) ((dat1 V c).arrAt 9 cfg1.N) (heads (fun h r d => A.dQ scale h r (128 + d))) := fun r d =>
  (dat1 V c).arrAt_forall_of_covers 9 (fun i v => v = ((heads (fun h r d => A.dQ scale h r (128 + d)) (i 0).val (i 1).val : ℝ) : EReal)) (by decide +kernel)
    (fun t _ y => by
      show (dat1 V c).after 9 t y = _
      rw [after1_9]
      exact lands (g := (fun h r d => A.dQ scale h r (128 + d))) (stores1_r hA hF t) y (row_at _ _) (col_at _ _)) (ix2 r d)

/-- What a point stores of the first part of the keys' gradient. -/
theorem stores2_n (hA : IsArgs V c A) (hF : IsFwd V c A) (t : Fin cfg2.N) :
    IsR (n0 := 512) (n1 := 128) (outsAt2 V c t).1 fun r d => A.dK scale (grid2.coords t 0).val (512 * (grid2.coords t 1).val + r) (0 + d) := by
  obtain ⟨⟨hqn, hqr, hk, hv⟩, ho, hl, hg⟩ := reads2 hA hF t
  unfold outsAt2
  dsimp only
  exact out2_8_isR c _ _ _ _ _ _ _ _ _ _ _ _ _ _ _ _ _ _ _ _ _ _ _ hqn hqr hk hv ho hl hg

/-- The array left of the first part of the keys' gradient. -/
theorem leaves2_n (hA : IsArgs V c A) (hF : IsFwd V c A) :
    IsR (n0 := 4096) (n1 := 2048) ((dat2 V c).arrAt 8 cfg2.N) (heads (fun h r d => A.dK scale h r (0 + d))) := fun r d =>
  (dat2 V c).arrAt_forall_of_covers 8 (fun i v => v = ((heads (fun h r d => A.dK scale h r (0 + d)) (i 0).val (i 1).val : ℝ) : EReal)) (by decide +kernel)
    (fun t _ y => by
      show (dat2 V c).after 8 t y = _
      rw [after2_8]
      exact lands (g := (fun h r d => A.dK scale h r (0 + d))) (stores2_n hA hF t) y (row_at _ _) (col_at _ _)) (ix2 r d)

/-- What a point stores of the second part of the keys' gradient. -/
theorem stores2_r (hA : IsArgs V c A) (hF : IsFwd V c A) (t : Fin cfg2.N) :
    IsR (n0 := 512) (n1 := 128) (outsAt2 V c t).2.1 fun r d => A.dK scale (grid2.coords t 0).val (512 * (grid2.coords t 1).val + r) (128 + d) := by
  obtain ⟨⟨hqn, hqr, hk, hv⟩, ho, hl, hg⟩ := reads2 hA hF t
  unfold outsAt2
  dsimp only
  exact out2_9_isR c _ _ _ _ _ _ _ _ _ _ _ _ _ _ _ _ _ _ _ _ _ _ _ hqn hqr hk hv ho hl hg

/-- The array left of the second part of the keys' gradient. -/
theorem leaves2_r (hA : IsArgs V c A) (hF : IsFwd V c A) :
    IsR (n0 := 4096) (n1 := 2048) ((dat2 V c).arrAt 9 cfg2.N) (heads (fun h r d => A.dK scale h r (128 + d))) := fun r d =>
  (dat2 V c).arrAt_forall_of_covers 9 (fun i v => v = ((heads (fun h r d => A.dK scale h r (128 + d)) (i 0).val (i 1).val : ℝ) : EReal)) (by decide +kernel)
    (fun t _ y => by
      show (dat2 V c).after 9 t y = _
      rw [after2_9]
      exact lands (g := (fun h r d => A.dK scale h r (128 + d))) (stores2_r hA hF t) y (row_at _ _) (col_at _ _)) (ix2 r d)

/-- What a point stores of the values' gradient. -/
theorem stores2_v (hA : IsArgs V c A) (hF : IsFwd V c A) (t : Fin cfg2.N) :
    IsR (n0 := 512) (n1 := 128) (outsAt2 V c t).2.2 fun r d => A.dV scale (grid2.coords t 0).val (512 * (grid2.coords t 1).val + r) d := by
  obtain ⟨⟨hqn, hqr, hk, hv⟩, ho, hl, hg⟩ := reads2 hA hF t
  unfold outsAt2
  dsimp only
  exact out2_10_isR c _ _ _ _ _ _ _ _ _ _ _ _ _ _ _ _ _ _ _ _ _ _ _ hqn hqr hk hv ho hl hg

/-- The array left of the values' gradient. -/
theorem leaves2_v (hA : IsArgs V c A) (hF : IsFwd V c A) :
    IsR (n0 := 4096) (n1 := 2048) ((dat2 V c).arrAt 10 cfg2.N) (heads (A.dV scale)) := fun r d =>
  (dat2 V c).arrAt_forall_of_covers 10 (fun i v => v = ((heads (A.dV scale) (i 0).val (i 1).val : ℝ) : EReal)) (by decide +kernel)
    (fun t _ y => by
      show (dat2 V c).after 10 t y = _
      rw [after2_10]
      exact lands (g := (A.dV scale)) (stores2_v hA hF t) y (row_at _ _) (col_at _ _)) (ix2 r d)

end Leaves

end Cert.KernelIdeal.Gen

end
-- ==== Proof.KernelValue.lean ====
/-
  The three calls one after the other: what the final memory holds of the output and of the five gradients.
-/
module

public import proofs.«01_k».proof.Proof.Leaves
public import proofs.«01_k».proof.Proof.Run

@[expose] public section

set_option maxRecDepth 16384

noncomputable section

namespace Cert.KernelIdeal.Gen

open Idealize.ShloMosaic Idealize.ShloMosaic.TcCoe Idealize.ShloMosaic.ValueIdx Idealize.SL.Sem Attn
open Idealize.ShloMosaic.Pipeline (Dat)

variable (m : (ℓ : Loc nD τ sig) → Buf (Elt Ideal) ℓ) (ρ : Dev nD → PrngReg) (c : Dev nD) {A : Args}

/-- The memory holds a training step's six arguments of the attention. -/
structure Holds (A : Args) : Prop where
  qn : IsR (n0 := 4096) (n1 := 2048) (m ((c : Thread nD τ).loc main_arg0)) A.qn
  qr : IsR (n0 := 4096) (n1 := 2048) (m ((c : Thread nD τ).loc main_arg1)) A.qr
  kn : IsR (n0 := 4096) (n1 := 2048) (m ((c : Thread nD τ).loc main_arg2)) A.kn
  kr : IsR (n0 := 4096) (n1 := 128) (m ((c : Thread nD τ).loc main_arg3)) A.kr
  v : IsR (n0 := 4096) (n1 := 2048) (m ((c : Thread nD τ).loc main_arg4)) A.v
  g : IsR (n0 := 4096) (n1 := 2048) (m ((c : Thread nD τ).loc main_arg5)) A.g

variable {m c}

theorem args0 (h : Holds m c A) : IsArgs (V0 m ρ) c A :=
  ⟨h.qn, h.qr, h.kn, h.kr, h.v, h.g⟩

theorem args1 (h : Holds m c A) : IsArgs (V1 m ρ) c A := by
  constructor
  · show IsR (W1 m ρ c (Proc.devRef .tc main_arg0)) _; rw [W1_args m ρ c main_arg0 (by decide)]; exact h.qn
  · show IsR (W1 m ρ c (Proc.devRef .tc main_arg1)) _; rw [W1_args m ρ c main_arg1 (by decide)]; exact h.qr
  · show IsR (W1 m ρ c (Proc.devRef .tc main_arg2)) _; rw [W1_args m ρ c main_arg2 (by decide)]; exact h.kn
  · show IsR (W1 m ρ c (Proc.devRef .tc main_arg3)) _; rw [W1_args m ρ c main_arg3 (by decide)]; exact h.kr
  · show IsR (W1 m ρ c (Proc.devRef .tc main_arg4)) _; rw [W1_args m ρ c main_arg4 (by decide)]; exact h.v
  · show IsR (W1 m ρ c (Proc.devRef .tc main_arg5)) _; rw [W1_args m ρ c main_arg5 (by decide)]; exact h.g

theorem args2 (h : Holds m c A) : IsArgs (V2 m ρ) c A := by
  constructor
  · show IsR (W2 m ρ c (Proc.devRef .tc main_arg0)) _; rw [W2_args m ρ c main_arg0 (by decide)]; exact h.qn
  · show IsR (W2 m ρ c (Proc.devRef .tc main_arg1)) _; rw [W2_args m ρ c main_arg1 (by decide)]; exact h.qr
  · show IsR (W2 m ρ c (Proc.devRef .tc main_arg2)) _; rw [W2_args m ρ c main_arg2 (by decide)]; exact h.kn
  · show IsR (W2 m ρ c (Proc.devRef .tc main_arg3)) _; rw [W2_args m ρ c main_arg3 (by decide)]; exact h.kr
  · show IsR (W2 m ρ c (Proc.devRef .tc main_arg4)) _; rw [W2_args m ρ c main_arg4 (by decide)]; exact h.v
  · show IsR (W2 m ρ c (Proc.devRef .tc main_arg5)) _; rw [W2_args m ρ c main_arg5 (by decide)]; exact h.g

theorem exit0_o : W1 m ρ c (Proc.devRef .tc main_v0_0) = (dat0 (V0 m ρ) c).arrAt 5 cfg0.N := W1_arr m ρ c 5
theorem exit0_l : W1 m ρ c (Proc.devRef .tc main_v0_1) = (dat0 (V0 m ρ) c).arrAt 6 cfg0.N := W1_arr m ρ c 6

/-- A result of the forward call passes the second call. -/
theorem keep1_o : W2 m ρ c (Proc.devRef .tc main_v0_0) = W1 m ρ c (Proc.devRef .tc main_v0_0) := W2_of m ρ c main_v0_0 (by decide)
theorem keep1_l : W2 m ρ c (Proc.devRef .tc main_v0_1) = W1 m ρ c (Proc.devRef .tc main_v0_1) := W2_of m ρ c main_v0_1 (by decide)

theorem fwd1 (h : Holds m c A) : IsFwd (V1 m ρ) c A := by
  constructor
  · show IsR (W1 m ρ c (Proc.devRef .tc main_v0_0)) _; rw [exit0_o]; exact leaves0_o (args0 ρ h)
  · show IsR (W1 m ρ c (Proc.devRef .tc main_v0_1)) _; rw [exit0_l]; exact leaves0_l (args0 ρ h)

theorem fwd2 (h : Holds m c A) : IsFwd (V2 m ρ) c A := by
  constructor
  · show IsR (W2 m ρ c (Proc.devRef .tc main_v0_0)) _; rw [keep1_o, exit0_o]; exact leaves0_o (args0 ρ h)
  · show IsR (W2 m ρ c (Proc.devRef .tc main_v0_1)) _; rw [keep1_l, exit0_l]; exact leaves0_l (args0 ρ h)

theorem final_o (h : Holds m c A) : IsR (n0 := 4096) (n1 := 2048) (W3 m ρ c (Proc.devRef .tc main_v0_0)) (heads (A.O scale)) := by
  rw [W3_of m ρ c main_v0_0 (by decide), keep1_o, exit0_o]
  exact leaves0_o (args0 ρ h)

theorem final_qn (h : Holds m c A) :
    IsR (n0 := 4096) (n1 := 2048) (W3 m ρ c (Proc.devRef .tc main_v1_0)) (heads fun h r d => A.dQ scale h r (0 + d)) := by
  rw [W3_of m ρ c main_v1_0 (by decide), show W2 m ρ c (Proc.devRef .tc main_v1_0) = _ from W2_arr m ρ c 8]
  exact leaves1_n (args1 ρ h) (fwd1 ρ h)

theorem final_qr (h : Holds m c A) :
    IsR (n0 := 4096) (n1 := 2048) (W3 m ρ c (Proc.devRef .tc main_v1_1)) (heads fun h r d => A.dQ scale h r (128 + d)) := by
  rw [W3_of m ρ c main_v1_1 (by decide), show W2 m ρ c (Proc.devRef .tc main_v1_1) = _ from W2_arr m ρ c 9]
  exact leaves1_r (args1 ρ h) (fwd1 ρ h)

theorem final_kn (h : Holds m c A) :
    IsR (n0 := 4096) (n1 := 2048) (W3 m ρ c (Proc.devRef .tc main_v2_0)) (heads fun h r d => A.dK scale h r (0 + d)) := by
  rw [show W3 m ρ c (Proc.devRef .tc main_v2_0) = _ from W3_arr m ρ c 8]
  exact leaves2_n (args2 ρ h) (fwd2 ρ h)

theorem final_kr (h : Holds m c A) :
    IsR (n0 := 4096) (n1 := 2048) (W3 m ρ c (Proc.devRef .tc main_v2_1)) (heads fun h r d => A.dK scale h r (128 + d)) := by
  rw [show W3 m ρ c (Proc.devRef .tc main_v2_1) = _ from W3_arr m ρ c 9]
  exact leaves2_r (args2 ρ h) (fwd2 ρ h)

theorem final_v (h : Holds m c A) :
    IsR (n0 := 4096) (n1 := 2048) (W3 m ρ c (Proc.devRef .tc main_v2_2)) (heads (A.dV scale)) := by
  rw [show W3 m ρ c (Proc.devRef .tc main_v2_2) = _ from W3_arr m ρ c 10]
  exact leaves2_v (args2 ρ h) (fwd2 ρ h)

end Cert.KernelIdeal.Gen

end
-- ==== Proof.RefValue.lean ====
/-
  The reference program's results over real arguments: each stage of the plain attention, and of the gradient jax
  takes of it, read at an index as a real, down to the six results the kernel's program also has.
-/
module

public import proofs.«01_k».proof.Proof.Gen.ReferenceIdeal.Read
public import Idealize.ShloMosaic.Lib.IdealHost
public import proofs.«01_k».proof.Proof.Blocks

@[expose] public section

set_option maxRecDepth 16384

noncomputable section

namespace Attn

open Finset (range)
open scoped BigOperators

/-- The gradient through a softmax written as a quotient, at one entry. -/
theorem quotient_grad (s dp : ℕ → ℝ) (q : ℕ) (μ : ℝ) (j : ℕ) {N : ℕ} (h : q < N) :
    (dp j / (∑ i ∈ range N, wt s q μ i)
        + -(∑ i ∈ range N, dp i * (1 / ((∑ i ∈ range N, wt s q μ i) * (∑ i ∈ range N, wt s q μ i))) * wt s q μ i)) * wt s q μ j
      = prob s q j * (dp j - ∑ i ∈ range N, prob s q i * dp i) := by
  simp only [← wt_div_sum s q μ _ h]
  generalize (∑ i ∈ range N, wt s q μ i) = L
  have e : (∑ i ∈ range N, dp i * (1 / (L * L)) * wt s q μ i) = (∑ i ∈ range N, wt s q μ i / L * dp i) / L := by
    rw [Finset.sum_div]
    refine Finset.sum_congr rfl fun i _ => ?_
    rw [div_mul_eq_mul_div, div_div, mul_one_div, div_mul_eq_mul_div, mul_comm (dp i)]
  rw [e]
  ring

/-- The row's sum of weights is not zero. -/
theorem sum_wt_ne (s : ℕ → ℝ) (q : ℕ) (μ : ℝ) {N : ℕ} (h : q < N) : (∑ i ∈ range N, wt s q μ i) ≠ 0 := by
  rw [sum_wt s q μ h]
  exact (mul_pos (Real.exp_pos _) (mass_pos s q)).ne'

/-- A row of 2048 lanes read as 16 heads of 128. -/
theorem flat (x : ℕ → ℕ → ℝ) (a : ℕ) {b c : ℕ} (hb : b < 16) (hc : c < 128) :
    x (((a * 16 + b) * 128 + c) / 2048) (((a * 16 + b) * 128 + c) % 2048) = x a (128 * b + c) := by
  congr 1 <;> omega

end Attn

namespace Cert.ReferenceIdeal.Read

open Idealize.ShloMosaic Idealize.ShloMosaic.ValueIdx
open Finset (range)
open scoped BigOperators
open Attn Cert.ReferenceIdeal Cert.ReferenceIdeal.Gen
open Cert.KernelIdeal.Gen (heads)

/-- The contents of the wide arguments, of the rotary key and of the output's gradient. -/
abbrev Wide := (⟨S4096x2048, .bf16⟩ : BufTy).Contents (Elt Ideal)
abbrev OneHead := (⟨S4096x128, .bf16⟩ : BufTy).Contents (Elt Ideal)
abbrev Grad := (⟨S4096x2048, .f32⟩ : BufTy).Contents (Elt Ideal)

/-- A real matrix at any index. -/
theorem real_at {n0 n1 : ℕ} {X : (⟨2, ![n0, n1]⟩ : Shape).Idx → EReal} {x : ℕ → ℕ → ℝ} (h : IsR X x)
    (i : (⟨2, ![n0, n1]⟩ : Shape).Idx) : X i = ((x (i 0).val (i 1).val : ℝ) : EReal) := by
  have e : i = ix2 (i 0) (i 1) := by
    funext a
    match a with
    | ⟨0, _⟩ => rfl
    | ⟨1, _⟩ => rfl
  exact (congrArg X e).trans (h (i 0) (i 1))

/-- The arguments hold reals. -/
structure Given (A : Args) (x0 x1 x2 : Wide) (x3 : OneHead) (x4 : Wide) (x5 : Grad) : Prop where
  qn : IsR (n0 := 4096) (n1 := 2048) x0 A.qn
  qr : IsR (n0 := 4096) (n1 := 2048) x1 A.qr
  kn : IsR (n0 := 4096) (n1 := 2048) x2 A.kn
  kr : IsR (n0 := 4096) (n1 := 128) x3 A.kr
  v : IsR (n0 := 4096) (n1 := 2048) x4 A.v
  g : IsR (n0 := 4096) (n1 := 2048) x5 A.g

variable {A : Args} {x0 x1 x2 : Wide} {x3 : OneHead} {x4 : Wide} {x5 : Grad}

/-! ## The arguments as heads -/

theorem lt16 (i : S4096x16x128.Idx) : (i 1).val < 16 := (i 1).isLt
theorem lt128 (i : S4096x16x128.Idx) : (i 2).val < 128 := (i 2).isLt

section
variable (h : Given A x0 x1 x2 x3 x4 x5)
include h

theorem v8_at (i : S4096x16x128.Idx) :
    val_main_v8 (F := Ideal) x0 i = ((A.qn (i 0).val (128 * (i 1).val + (i 2).val) : ℝ) : EReal) := by
  rw [val_main_v8_apply]
  exact (real_at h.qn (idx_main_v8 i)).trans (congrArg _ (flat A.qn _ (lt16 i) (lt128 i)))

theorem v9_at (i : S4096x16x128.Idx) :
    val_main_v9 (F := Ideal) x1 i = ((A.qr (i 0).val (128 * (i 1).val + (i 2).val) : ℝ) : EReal) := by
  rw [val_main_v9_apply]
  exact (real_at h.qr (idx_main_v9 i)).trans (congrArg _ (flat A.qr _ (lt16 i) (lt128 i)))

theorem v10_at (i : S4096x16x128.Idx) :
    val_main_v10 (F := Ideal) x2 i = ((A.kn (i 0).val (128 * (i 1).val + (i 2).val) : ℝ) : EReal) := by
  rw [val_main_v10_apply]
  exact (real_at h.kn (idx_main_v10 i)).trans (congrArg _ (flat A.kn _ (lt16 i) (lt128 i)))

theorem v12_at (i : S4096x16x128.Idx) :
    val_main_v12 (F := Ideal) x4 i = ((A.v (i 0).val (128 * (i 1).val + (i 2).val) : ℝ) : EReal) := by
  rw [val_main_v12_apply]
  exact (real_at h.v (idx_main_v12 i)).trans (congrArg _ (flat A.v _ (lt16 i) (lt128 i)))

theorem v57_at (i : S16x128x4096.Idx) :
    val_main_v57 (F := Ideal) x5 i = ((A.g (i 2).val (128 * (i 0).val + (i 1).val) : ℝ) : EReal) := by
  rw [val_main_v57_apply, val_main_v56_apply]
  exact (real_at h.g (idx_main_v56 (idx_main_v57 i))).trans
    (congrArg _ (flat A.g _ (lt16 (idx_main_v57 i)) (lt128 (idx_main_v57 i))))

/-- The one rotary key, the same for every head. -/
theorem v11_at (i : S4096x16x128.Idx) :
    val_main_v11 (F := Ideal) x3 i = ((A.kr (i 0).val (i 2).val : ℝ) : EReal) := by
  rw [val_main_v11_apply, val_main_v7_apply, val_main_v6_apply, val_main_v5_apply]
  refine (real_at h.kr (idx_main_v5 (idx_main_v6 (idx_main_v7 (idx_main_v11 i))))).trans (congrArg _ ?_)
  have h0 : (i 0).val < 4096 := (i 0).isLt
  have h1 : (i 1).val < 16 := (i 1).isLt
  have h2 : (i 2).val < 128 := (i 2).isLt
  show A.kr (((((0 * 4096 + ((((i 0).val * 16 + (i 1).val) * 128 + (i 2).val) / 2048 * 2048
      + (((i 0).val * 16 + (i 1).val) * 128 + (i 2).val) % 2048) / 2048 % 4096) * 1 + 0) * 128
      + ((((i 0).val * 16 + (i 1).val) * 128 + (i 2).val) / 2048 * 2048
      + (((i 0).val * 16 + (i 1).val) * 128 + (i 2).val) % 2048) % 128)) / 128)
    (((((0 * 4096 + ((((i 0).val * 16 + (i 1).val) * 128 + (i 2).val) / 2048 * 2048
      + (((i 0).val * 16 + (i 1).val) * 128 + (i 2).val) % 2048) / 2048 % 4096) * 1 + 0) * 128
      + ((((i 0).val * 16 + (i 1).val) * 128 + (i 2).val) / 2048 * 2048
      + (((i 0).val * 16 + (i 1).val) * 128 + (i 2).val) % 2048) % 128)) % 128) = _
  congr 1 <;> omega

/-! ## The scores and the probabilities -/

theorem v13_at (i : S16x4096x4096.Idx) :
    val_main_v13 (F := Ideal) x0 x2 i
      = ((∑ e ∈ range 128, A.qn (i 1).val (128 * (i 0).val + e) * A.kn (i 2).val (128 * (i 0).val + e) : ℝ) : EReal) := by
  rw [val_main_v13_apply]
  simp only [v8_at h, v10_at h, ← EReal.coe_mul]
  exact sum_fin_coe 128 fun e => A.qn (i 1).val (128 * (i 0).val + e) * A.kn (i 2).val (128 * (i 0).val + e)

theorem v14_at (i : S16x4096x4096.Idx) :
    val_main_v14 (F := Ideal) x1 x3 i
      = ((∑ e ∈ range 128, A.qr (i 1).val (128 * (i 0).val + e) * A.kr (i 2).val e : ℝ) : EReal) := by
  rw [val_main_v14_apply]
  simp only [v9_at h, v11_at h, ← EReal.coe_mul]
  exact sum_fin_coe 128 fun e => A.qr (i 1).val (128 * (i 0).val + e) * A.kr (i 2).val e

theorem v17_at (i : S16x4096x4096.Idx) :
    val_main_v17 (F := Ideal) x0 x1 x2 x3 i = ((A.S scale (i 0).val (i 1).val (i 2).val : ℝ) : EReal) := by
  rw [val_main_v17_apply, val_main_v15_apply, v13_at h, v14_at h, val_main_v16_apply]
  show (_ + _) * Ideal.ofBits .f32 0x3D93CD3A#32 = _
  rw [scale_eq, ← EReal.coe_add, ← EReal.coe_mul]
  congr 2
  rw [show (256 : ℕ) = 128 + 128 from rfl, Finset.sum_range_add]
  refine congrArg₂ (· + ·) (Finset.sum_congr rfl fun e he => ?_) (Finset.sum_congr rfl fun e _ => ?_)
  · simp only [Args.Q, Args.K, cat, if_pos (Finset.mem_range.1 he)]
  · simp only [Args.Q, Args.K, cat, if_neg (show ¬(128 + e < 128) by omega), Nat.add_sub_cancel_left]

omit h in
/-- The mask keeps the keys no later than the query. -/
theorem v24_1_at (i : S16x4096x4096.Idx) :
    val_main_v24_1 (F := Ideal) i = if (i 2).val ≤ (i 1).val then 1#1 else 0#1 := by
  have h1 : (i 1).val < 4096 := (i 1).isLt
  have h2 : (i 2).val < 4096 := (i 2).isLt
  rw [val_main_v24_1_apply, val_main_v23_apply, val_main_v21_apply, val_main_v22_apply, val_main_v19_apply, val_main_v20_apply,
    val_main_v18_apply, val_main_v18_apply]
  show BitVec.ofBool ((BitVec.ofNat 32 (i 2).val).sle (BitVec.ofNat 32 (i 1).val)) = _
  rw [sle_ofNat _ _ (by omega) (by omega)]
  by_cases hk : (i 2).val ≤ (i 1).val
  · rw [if_pos hk, decide_eq_true hk]; rfl
  · rw [if_neg hk, decide_eq_false hk]; rfl

omit h in
theorem neg_inf : Ideal.ofBits .f32 0xFF800000#32 = (⊥ : EReal) := by simp [Ideal.ofBits, Ideal.ieee]

theorem v24_0_at (i : S16x4096x4096.Idx) :
    val_main_v24_0 (F := Ideal) x0 x1 x2 x3 i = sc (A.S scale (i 0).val (i 1).val) (i 1).val (i 2).val := by
  rw [val_main_v24_0_apply, v24_1_at, v17_at h, val_main_call0_v2_apply]
  unfold sc
  by_cases hk : (i 2).val ≤ (i 1).val
  · rw [if_pos hk, if_pos hk]; rfl
  · rw [if_neg hk, if_neg hk]
    exact neg_inf

/-- The row's greatest score is a real. -/
theorem v32_real (i : S16x4096.Idx) : ∃ μ : ℝ, val_main_v32 (F := Ideal) x0 x1 x2 x3 i = (μ : EReal) := by
  have hr : S16x4096x4096.Reduces [2] S16x4096 := by decide
  have e0 (k : Fin (S16x4096x4096.size 2)) : (hr.lift i k 0).val = (i 0).val := (hr.lift_val i k 0).trans rfl
  have e1 (k : Fin (S16x4096x4096.size 2)) : (hr.lift i k 1).val = (i 1).val := (hr.lift_val i k 1).trans rfl
  have e2 (k : Fin (S16x4096x4096.size 2)) : (hr.lift i k 2).val = k.val := (hr.lift_val i k 2).trans rfl
  have hs : (fun k : Fin 4096 => val_main_v24_0 (F := Ideal) x0 x1 x2 x3 (hr.lift i k))
      = fun k : Fin 4096 => sc (A.S scale (i 0).val (i 1).val) (i 1).val k.val :=
    funext fun k => by
      refine (v24_0_at h (hr.lift i k)).trans ?_
      exact (congrArg₂ (fun a q => sc (A.S scale a q) q (hr.lift i k 2).val) (e0 k) (e1 k)).trans (congrArg (sc _ _) (e2 k))
  have hf : val_main_v25 (F := Ideal) x0 x1 x2 x3 i
      = (Finset.univ : Finset (Fin 4096)).fold max ⊥ fun k => sc (A.S scale (i 0).val (i 1).val) (i 1).val k.val := by
    rw [← hs]
    refine (Host.reduce_eq_fold_single (FloatOps.maximumf (F := Ideal) (φ := .f32)) (val_main_v24_0 (F := Ideal) x0 x1 x2 x3)
      (val_main_cst_1 (F := Ideal)) reducesTo_S16x4096x4096_S16x4096_d2 hr h_S_ i).trans ?_
    rw [show val_main_cst_1 (F := Ideal) (Shape.Idx.first h_S_) = (⊥ : EReal) from neg_inf]
    rfl
  obtain ⟨μ, hμ⟩ := max_real (fun k : Fin 4096 => sc (A.S scale (i 0).val (i 1).val) (i 1).val k.val)
    (⟨(i 1).val, (i 1).isLt⟩ : Fin 4096)
    (by show sc _ (i 1).val (i 1).val ≠ ⊥
        unfold sc; rw [if_pos le_rfl]; exact EReal.coe_ne_bot _)
    (fun j => sc_ne_top _ _ _)
  refine ⟨μ, ?_⟩
  rw [val_main_v32_apply, val_main_v31_apply, hf, hμ]
  show max (Ideal.ofBits .f32 0xFF800000#32) (μ : EReal) = _
  rw [neg_inf]
  exact max_eq_right bot_le

end

/-- The level the reference subtracts from the scores of head `a`'s row `q`. -/
def level (x0 x1 x2 : Wide) (x3 : OneHead) (a q : ℕ) : ℝ :=
  if hq : a < 16 ∧ q < 4096 then (val_main_v32 (F := Ideal) x0 x1 x2 x3 (ix2 ⟨a, hq.1⟩ ⟨q, hq.2⟩)).toReal else 0

section
variable (h : Given A x0 x1 x2 x3 x4 x5)
include h

theorem v32_at (i : S16x4096.Idx) :
    val_main_v32 (F := Ideal) x0 x1 x2 x3 i = ((level x0 x1 x2 x3 (i 0).val (i 1).val : ℝ) : EReal) := by
  have e : ix2 (⟨(i 0).val, (i 0).isLt⟩ : Fin 16) (⟨(i 1).val, (i 1).isLt⟩ : Fin 4096) = i := by
    funext a
    match a with
    | ⟨0, _⟩ => rfl
    | ⟨1, _⟩ => rfl
  obtain ⟨μ, hμ⟩ := v32_real h i
  rw [level, dif_pos ⟨(i 0).isLt, (i 1).isLt⟩, e, hμ, EReal.toReal_coe]

/-- The exponential of a masked score less the row's level. -/
theorem v45_at (i : S16x4096x4096.Idx) :
    val_main_v45 (F := Ideal) x0 x1 x2 x3 i
      = ((wt (A.S scale (i 0).val (i 1).val) (i 1).val (level x0 x1 x2 x3 (i 0).val (i 1).val) (i 2).val : ℝ) : EReal) := by
  rw [val_main_v45_apply, val_main_v44_apply, val_main_v43_apply, val_main_v42_apply, v24_0_at h, v32_at h]
  exact exp_sc (A.S scale (i 0).val (i 1).val) (i 1).val (i 2).val _

end

/-- The row's sum of exponentials. -/
def total (A : Args) (x0 x1 x2 : Wide) (x3 : OneHead) (a q : ℕ) : ℝ :=
  ∑ k ∈ range 4096, wt (A.S scale a q) q (level x0 x1 x2 x3 a q) k

theorem total_ne (A : Args) (x0 x1 x2 : Wide) (x3 : OneHead) (a : ℕ) {q : ℕ} (hq : q < 4096) : total A x0 x1 x2 x3 a q ≠ 0 :=
  sum_wt_ne _ _ _ hq

section
variable (h : Given A x0 x1 x2 x3 x4 x5)
include h

theorem v46_at (i : S16x4096.Idx) :
    val_main_v46 (F := Ideal) x0 x1 x2 x3 i = ((total A x0 x1 x2 x3 (i 0).val (i 1).val : ℝ) : EReal) := by
  rw [val_main_v46_apply]
  simp only [v45_at h]
  refine (congrArg (· + _) (show val_main_cst_9 (F := Ideal) _ = 0 from Ideal.ofBits_zero_f32)).trans ?_
  rw [zero_add]
  exact sum_fin_coe 4096 fun k => wt (A.S scale (i 0).val (i 1).val) (i 1).val (level x0 x1 x2 x3 (i 0).val (i 1).val) k

theorem v47_at (i : S16x4096x1.Idx) :
    val_main_v47 (F := Ideal) x0 x1 x2 x3 i = ((total A x0 x1 x2 x3 (i 0).val (i 1).val : ℝ) : EReal) := by
  rw [val_main_v47_apply, v46_at h]

/-- The softmax. -/
theorem v49_at (i : S16x4096x4096.Idx) :
    val_main_v49 (F := Ideal) x0 x1 x2 x3 i = ((A.P scale (i 0).val (i 1).val (i 2).val : ℝ) : EReal) := by
  rw [val_main_v49_apply, val_main_v48_apply, v45_at h, v47_at h]
  refine (div_coe _ (total_ne A x0 x1 x2 x3 _ (i 1).isLt)).trans (congrArg _ ?_)
  exact wt_div_sum _ _ _ _ (i 1).isLt

theorem v52_at (i : S16x4096x1.Idx) :
    val_main_v52 (F := Ideal) x0 x1 x2 x3 i
      = ((1 / (total A x0 x1 x2 x3 (i 0).val (i 1).val * total A x0 x1 x2 x3 (i 0).val (i 1).val) : ℝ) : EReal) := by
  have hne := total_ne A x0 x1 x2 x3 (i 0).val (show (i 1).val < 4096 from (i 1).isLt)
  rw [val_main_v52_apply, val_main_v51_apply, val_main_v50_apply, v47_at h]
  show Ideal.div (Ideal.ofBits .f32 0x3F800000#32) (_ * _) = _
  rw [Ideal.ofBits_one_f32, ← EReal.coe_mul, ← EReal.coe_one]
  exact div_coe 1 (mul_ne_zero hne hne)

/-! ## The gradients of the probabilities and of the scores -/

theorem v58_at (i : S16x4096x4096.Idx) :
    val_main_v58 (F := Ideal) x4 x5 i = ((A.dP (i 0).val (i 1).val (i 2).val : ℝ) : EReal) := by
  rw [val_main_v58_apply]
  simp only [v57_at h, v12_at h, ← EReal.coe_mul]
  exact sum_fin_coe 128 fun d => A.G (i 0).val (i 1).val d * A.V (i 0).val (i 2).val d

theorem v63_at (i : S16x4096x4096.Idx) :
    val_main_v63 (F := Ideal) x0 x1 x2 x3 x4 x5 i
      = ((A.dP (i 0).val (i 1).val (i 2).val
          * (1 / (total A x0 x1 x2 x3 (i 0).val (i 1).val * total A x0 x1 x2 x3 (i 0).val (i 1).val))
          * wt (A.S scale (i 0).val (i 1).val) (i 1).val (level x0 x1 x2 x3 (i 0).val (i 1).val) (i 2).val : ℝ) : EReal) := by
  rw [val_main_v63_apply, val_main_v62_apply, val_main_v61_apply, v58_at h, v52_at h, v45_at h]
  exact (congrArg (· * _) (EReal.coe_mul _ _).symm).trans (EReal.coe_mul _ _).symm

/-- The quotient's second term, summed over the row. -/
def second (A : Args) (x0 x1 x2 : Wide) (x3 : OneHead) (a q : ℕ) : ℝ :=
  ∑ k ∈ range 4096, A.dP a q k * (1 / (total A x0 x1 x2 x3 a q * total A x0 x1 x2 x3 a q))
    * wt (A.S scale a q) q (level x0 x1 x2 x3 a q) k

theorem v64_at (i : S16x4096.Idx) :
    val_main_v64 (F := Ideal) x0 x1 x2 x3 x4 x5 i = ((second A x0 x1 x2 x3 (i 0).val (i 1).val : ℝ) : EReal) := by
  rw [val_main_v64_apply]
  simp only [v63_at h]
  refine (congrArg (· + _) (show val_main_cst_11 (F := Ideal) _ = 0 from Ideal.ofBits_zero_f32)).trans ?_
  rw [zero_add]
  exact sum_fin_coe 4096 fun k => A.dP (i 0).val (i 1).val k
    * (1 / (total A x0 x1 x2 x3 (i 0).val (i 1).val * total A x0 x1 x2 x3 (i 0).val (i 1).val))
    * wt (A.S scale (i 0).val (i 1).val) (i 1).val (level x0 x1 x2 x3 (i 0).val (i 1).val) k

theorem v66_at (i : S16x4096x1.Idx) :
    val_main_v66 (F := Ideal) x0 x1 x2 x3 x4 x5 i = ((-second A x0 x1 x2 x3 (i 0).val (i 1).val : ℝ) : EReal) := by
  have h1 : (i 1).val < 4096 := (i 1).isLt
  have h2 : (i 2).val < 1 := (i 2).isLt
  rw [val_main_v66_apply, val_main_v65_apply, v64_at h]
  show -((second A x0 x1 x2 x3 ((((i 0).val * 4096 + (i 1).val) * 1 + (i 2).val) / 4096)
    ((((i 0).val * 4096 + (i 1).val) * 1 + (i 2).val) % 4096) : ℝ) : EReal) = _
  rw [show (((i 0).val * 4096 + (i 1).val) * 1 + (i 2).val) / 4096 = (i 0).val by omega,
    show (((i 0).val * 4096 + (i 1).val) * 1 + (i 2).val) % 4096 = (i 1).val by omega]
  exact (EReal.coe_neg _).symm

theorem v69_at (i : S16x4096.Idx) :
    val_main_v69 (F := Ideal) x0 x1 x2 x3 x4 x5 i = ((-second A x0 x1 x2 x3 (i 0).val (i 1).val : ℝ) : EReal) := by
  rw [val_main_v69_apply]
  simp only [v66_at h]
  refine (congrArg (· + _) (show val_main_cst_12 (F := Ideal) _ = 0 from Ideal.ofBits_zero_f32)).trans ?_
  rw [zero_add, Fin.sum_univ_one]

/-- The gradient of the score, the scale not yet applied. -/
theorem v72_at (i : S16x4096x4096.Idx) :
    val_main_v72 (F := Ideal) x0 x1 x2 x3 x4 x5 i = ((A.dS scale (i 0).val (i 1).val (i 2).val : ℝ) : EReal) := by
  rw [val_main_v72_apply, val_main_v71_apply, val_main_v70_apply, val_main_v68_apply, val_main_v67_apply, v58_at h, v47_at h, v69_at h,
    v45_at h]
  refine (congrArg (fun y : EReal => (y + _) * _) (div_coe _ (total_ne A x0 x1 x2 x3 _ (i 1).isLt))).trans ?_
  refine (congrArg (· * _) (EReal.coe_add _ _).symm).trans ((EReal.coe_mul _ _).symm.trans (congrArg _ ?_))
  rw [Args.dS, Args.delta_eq]
  exact quotient_grad (A.S scale (i 0).val (i 1).val) (A.dP (i 0).val (i 1).val) (i 1).val _ (i 2).val (i 1).isLt

theorem v75_at (i : S16x4096x4096.Idx) :
    val_main_v75 (F := Ideal) x0 x1 x2 x3 x4 x5 i = ((A.dS scale (i 0).val (i 1).val (i 2).val * scale : ℝ) : EReal) := by
  have e : val_main_v73 (F := Ideal) x0 x1 x2 x3 x4 x5 i = ((A.dS scale (i 0).val (i 1).val (i 2).val : ℝ) : EReal) := by
    rw [val_main_v73_apply, v24_1_at, v72_at h, val_main_call1_v0_apply]
    by_cases hk : (i 2).val ≤ (i 1).val
    · rw [if_pos hk]; rfl
    · rw [if_neg hk, Args.dS_of_gt A scale _ (not_le.1 hk), EReal.coe_zero]
      exact Ideal.ofBits_zero_f32
  rw [val_main_v75_apply, e, val_main_v74_apply]
  exact (congrArg (_ * ·) scale_eq).trans (EReal.coe_mul _ _).symm

/-! ## The results -/

omit h in
/-- Heads of 128 lanes side by side, read back. -/
theorem unflat (x : ℕ → ℕ → ℕ → ℝ) (i : S4096x2048.Idx) :
    x (((i 0).val * 2048 + (i 1).val) / 128 % 16) (((i 0).val * 2048 + (i 1).val) / 2048) (((i 0).val * 2048 + (i 1).val) % 128)
      = heads x (i 0).val (i 1).val := by
  have h0 : (i 0).val < 4096 := (i 0).isLt
  have h1 : (i 1).val < 2048 := (i 1).isLt
  unfold heads
  rw [show ((i 0).val * 2048 + (i 1).val) / 128 % 16 = (i 1).val / 128 by omega,
    show ((i 0).val * 2048 + (i 1).val) / 2048 = (i 0).val by omega,
    show ((i 0).val * 2048 + (i 1).val) % 128 = (i 1).val % 128 by omega]

theorem v55_at (i : S4096x2048.Idx) :
    val_main_v55 (F := Ideal) x0 x1 x2 x3 x4 i = ((heads (A.O scale) (i 0).val (i 1).val : ℝ) : EReal) := by
  have e (j : S16x128x4096.Idx) : val_main_v53 (F := Ideal) x0 x1 x2 x3 x4 j
      = ((A.O scale (j 0).val (j 2).val (j 1).val : ℝ) : EReal) := by
    rw [val_main_v53_apply]
    simp only [v49_at h, v12_at h, ← EReal.coe_mul]
    refine (sum_fin_coe 4096 fun k => A.V (j 0).val k (j 1).val * A.P scale (j 0).val (j 2).val k).trans (congrArg _ ?_)
    exact Finset.sum_congr rfl fun k _ => mul_comm _ _
  rw [val_main_v55_apply, val_main_v54_apply, e]
  exact congrArg _ (unflat (A.O scale) i)

theorem v91_at (i : S4096x2048.Idx) :
    val_main_v91 (F := Ideal) x0 x1 x2 x3 x5 i = ((heads (A.dV scale) (i 0).val (i 1).val : ℝ) : EReal) := by
  have e (j : S16x128x4096.Idx) : val_main_v59 (F := Ideal) x0 x1 x2 x3 x5 j
      = ((A.dV scale (j 0).val (j 2).val (j 1).val : ℝ) : EReal) := by
    rw [val_main_v59_apply]
    simp only [v49_at h, v57_at h, ← EReal.coe_mul]
    refine (sum_fin_coe 4096 fun q => A.G (j 0).val q (j 1).val * A.P scale (j 0).val q (j 2).val).trans (congrArg _ ?_)
    exact Finset.sum_congr rfl fun k _ => mul_comm _ _
  rw [val_main_v91_apply, val_main_v84_apply, val_main_v60_apply, e]
  exact congrArg (fun y : ℝ => (y : EReal)) (unflat (A.dV scale) i)

omit h in
/-- The scale inside a sum of products, or outside it. -/
theorem scaled (x y : ℕ → ℝ) : ∑ k ∈ range 4096, x k * scale * y k = (∑ k ∈ range 4096, x k * y k) * scale := by
  rw [Finset.sum_mul]
  exact Finset.sum_congr rfl fun k _ => mul_right_comm _ _ _

theorem v89_at (i : S4096x2048.Idx) :
    val_main_v89 (F := Ideal) x0 x1 x2 x3 x4 x5 i
      = ((heads (fun a r d => A.dQ scale a r (0 + d)) (i 0).val (i 1).val : ℝ) : EReal) := by
  have e (j : S16x4096x128.Idx) : val_main_v82 (F := Ideal) x0 x1 x2 x3 x4 x5 j
      = ((A.dQ scale (j 0).val (j 1).val (0 + (j 2).val) : ℝ) : EReal) := by
    have hd : (j 2).val < 128 := (j 2).isLt
    rw [val_main_v82_apply]
    simp only [v75_at h, v10_at h, ← EReal.coe_mul]
    refine (sum_fin_coe 4096 fun k => A.dS scale (j 0).val (j 1).val k * scale * A.kn k (128 * (j 0).val + (j 2).val)).trans
      (congrArg _ ((scaled _ _).trans ?_))
    simp only [Args.dQ, Args.K, cat, zero_add, if_pos hd]
  rw [val_main_v89_apply, val_main_v88_apply, val_main_v83_apply, e]
  exact congrArg (fun y : ℝ => (y : EReal)) (unflat (fun a r d => A.dQ scale a r (0 + d)) i)

theorem v87_at (i : S4096x2048.Idx) :
    val_main_v87 (F := Ideal) x0 x1 x2 x3 x4 x5 i
      = ((heads (fun a r d => A.dQ scale a r (128 + d)) (i 0).val (i 1).val : ℝ) : EReal) := by
  have e (j : S16x4096x128.Idx) : val_main_v78 (F := Ideal) x0 x1 x2 x3 x4 x5 j
      = ((A.dQ scale (j 0).val (j 1).val (128 + (j 2).val) : ℝ) : EReal) := by
    rw [val_main_v78_apply]
    simp only [v75_at h, v11_at h, ← EReal.coe_mul]
    refine (sum_fin_coe 4096 fun k => A.dS scale (j 0).val (j 1).val k * scale * A.kr k (j 2).val).trans
      (congrArg _ ((scaled _ _).trans ?_))
    simp only [Args.dQ, Args.K, cat, if_neg (show ¬(128 + (j 2).val < 128) by omega), Nat.add_sub_cancel_left]
  rw [val_main_v87_apply, val_main_v79_apply, e]
  exact congrArg _ (unflat (fun a r d => A.dQ scale a r (128 + d)) i)

theorem v90_at (i : S4096x2048.Idx) :
    val_main_v90 (F := Ideal) x0 x1 x2 x3 x4 x5 i
      = ((heads (fun a r d => A.dK scale a r (0 + d)) (i 0).val (i 1).val : ℝ) : EReal) := by
  have e (j : S16x4096x128.Idx) : val_main_v80 (F := Ideal) x0 x1 x2 x3 x4 x5 j
      = ((A.dK scale (j 0).val (j 1).val (0 + (j 2).val) : ℝ) : EReal) := by
    have hd : (j 2).val < 128 := (j 2).isLt
    rw [val_main_v80_apply]
    simp only [v75_at h, v8_at h, ← EReal.coe_mul]
    refine (sum_fin_coe 4096 fun q => A.dS scale (j 0).val q (j 1).val * scale * A.qn q (128 * (j 0).val + (j 2).val)).trans
      (congrArg _ ((scaled (fun q => A.dS scale (j 0).val q (j 1).val) _).trans ?_))
    simp only [Args.dK, Args.Q, cat, zero_add, if_pos hd]
  rw [val_main_v90_apply, val_main_v86_apply, val_main_v81_apply, e]
  exact congrArg (fun y : ℝ => (y : EReal)) (unflat (fun a r d => A.dK scale a r (0 + d)) i)

theorem v85_at (i : S4096x2048.Idx) :
    val_main_v85 (F := Ideal) x0 x1 x2 x3 x4 x5 i
      = ((heads (fun a r d => A.dK scale a r (128 + d)) (i 0).val (i 1).val : ℝ) : EReal) := by
  have e (j : S16x4096x128.Idx) : val_main_v76 (F := Ideal) x0 x1 x2 x3 x4 x5 j
      = ((A.dK scale (j 0).val (j 1).val (128 + (j 2).val) : ℝ) : EReal) := by
    rw [val_main_v76_apply]
    simp only [v75_at h, v9_at h, ← EReal.coe_mul]
    refine (sum_fin_coe 4096 fun q => A.dS scale (j 0).val q (j 1).val * scale * A.qr q (128 * (j 0).val + (j 2).val)).trans
      (congrArg _ ((scaled (fun q => A.dS scale (j 0).val q (j 1).val) _).trans ?_))
    simp only [Args.dK, Args.Q, cat, if_neg (show ¬(128 + (j 2).val < 128) by omega), Nat.add_sub_cancel_left]
  rw [val_main_v85_apply, val_main_v77_apply, e]
  exact congrArg _ (unflat (fun a r d => A.dK scale a r (128 + d)) i)

end

end Cert.ReferenceIdeal.Read

end
-- ==== Proof.Finite.lean ====
/-
  The precondition read back: an array all of whose elements have an absolute value below infinity holds reals, and
  so there are real arguments that the six argument arrays hold.
-/
module

public import proofs.«01_k».proof.Pre_finite
public import Idealize.ShloMosaic.Lib.ReduceAll
public import proofs.«01_k».proof.Proof.KernelValue

@[expose] public section

set_option maxRecDepth 16384

noncomputable section

namespace Cert.Pre_finite

open Idealize.ShloMosaic Idealize.ShloMosaic.ValueIdx Attn

instance facts : Facts where
  bitsLt_bf16_f32 := by decide
  bcast_S_S4096x2048 := by decide
  reducesTo_S4096x2048_S_d0_1 := by decide
  h_S_ := by decide
  bcast_S_S4096x128 := by decide
  reducesTo_S4096x128_S_d0_1 := by decide

/-- A conjunction of two bits that is one. -/
theorem both (a b : BitVec 1) (h : IntOp.andi a b = 1#1) : a = 1#1 ∧ b = 1#1 := by
  revert a b; decide

/-- A value whose absolute value is below infinity is a real. -/
theorem real_of_lt (x : EReal) (h : FloatOps.cmpf (F := Ideal) (φ := .f32) .olt (max x (-x)) (Ideal.ofBits .f32 0x7F800000#32) = 1#1) :
    x = ((x.toReal : ℝ) : EReal) := by
  have e : Ideal.ofBits .f32 0x7F800000#32 = (⊤ : EReal) := by simp [Ideal.ofBits, Ideal.ieee]
  rw [e] at h
  have hlt : max x (-x) < ⊤ := by
    by_contra hn
    have : FloatOps.cmpf (F := Ideal) (φ := .f32) .olt (max x (-x)) ⊤ = 0#1 := by
      show Ideal.cmp .olt (max x (-x)) ⊤ = 0#1
      simp [Ideal.cmp, hn]
    rw [this] at h
    exact absurd h (by decide)
  refine (EReal.coe_toReal ?_ ?_).symm
  · exact ne_of_lt (lt_of_le_of_lt (le_max_left _ _) hlt)
  · intro hb
    rw [hb] at hlt
    exact absurd hlt (by simp)

instance : Subsingleton S_.Idx := ⟨fun a b => funext fun k => k.elim0⟩

/-- One array's test read back: every element is a real. -/
theorem all_real {s : Shape} {axes : List (Fin s.rank)} (X : FVec Ideal s .f32) (b : S_.BroadcastsInDim s (![] : Fin 0 → Fin s.rank))
    (h : s.ReducesTo axes S_) (hu : 0 < S_.numel) (j : S_.Idx)
    (e : Host.reduce IntOp.andi (cmpf .olt (Host.absf X) (broadcastInDim s ![] b (constant (F := Ideal) S_ .f32 0x7F800000#32)))
      (constantI S_ 1 1#1) h hu j = 1#1) (i : s.Idx) : X i = (((X i).toReal : ℝ) : EReal) :=
  real_of_lt (X i) (Host.reduce_andi_all _ _ h hu j e i)

/-- The entries of a matrix of reals. -/
def entries {n0 n1 : ℕ} (X : (⟨2, ![n0, n1]⟩ : Shape).Idx → EReal) (r c : ℕ) : ℝ :=
  if h : r < n0 ∧ c < n1 then (X (ix2 ⟨r, h.1⟩ ⟨c, h.2⟩)).toReal else 0

theorem isR_entries {n0 n1 : ℕ} (X : (⟨2, ![n0, n1]⟩ : Shape).Idx → EReal) (h : ∀ i, X i = (((X i).toReal : ℝ) : EReal)) :
    IsR X (entries X) := fun r c => by
  rw [entries, dif_pos ⟨r.isLt, c.isLt⟩]
  exact h _

variable (x0 x1 x2 : FVec Ideal S4096x2048 .bf16) (x3 : FVec Ideal S4096x128 .bf16) (x4 : FVec Ideal S4096x2048 .bf16)
  (x5 : FVec Ideal S4096x2048 .f32)

/-- The arguments' entries as reals. -/
def args : Args := ⟨entries x0, entries x1, entries x2, entries x3, entries x4, entries x5⟩

/-- The precondition makes every argument an array of reals. -/
theorem decoded (h : fn (F := Ideal) x0 x1 x2 x3 x4 x5 = fun _ => 1#1) :
    IsR (n0 := 4096) (n1 := 2048) x0 (entries x0) ∧ IsR (n0 := 4096) (n1 := 2048) x1 (entries x1)
      ∧ IsR (n0 := 4096) (n1 := 2048) x2 (entries x2) ∧ IsR (n0 := 4096) (n1 := 128) x3 (entries x3)
      ∧ IsR (n0 := 4096) (n1 := 2048) x4 (entries x4) ∧ IsR (n0 := 4096) (n1 := 2048) x5 (entries x5) := by
  have e := congrFun h ix0
  dsimp only [fn, fn_part1] at e
  obtain ⟨e, e5⟩ := both _ _ e
  obtain ⟨e, e4⟩ := both _ _ e
  obtain ⟨e, e3⟩ := both _ _ e
  obtain ⟨e, e2⟩ := both _ _ e
  obtain ⟨e0, e1⟩ := both _ _ e
  exact ⟨isR_entries _ (all_real x0 _ _ _ _ e0), isR_entries _ (all_real x1 _ _ _ _ e1), isR_entries _ (all_real x2 _ _ _ _ e2),
    isR_entries _ (all_real x3 _ _ _ _ e3), isR_entries _ (all_real x4 _ _ _ _ e4), isR_entries _ (all_real x5 _ _ _ _ e5)⟩

end Cert.Pre_finite

end
-- ==== Proof.Agree.lean ====
/-
  The value claim: over arguments that hold reals, the kernel's program and the reference end with the same six
  arrays.
-/
module

public import proofs.«01_k».proof.Defs
public import proofs.«01_k».proof.Proof.Run
public import proofs.«01_k».proof.Proof.KernelValue
public import proofs.«01_k».proof.Proof.RefValue
public import proofs.«01_k».proof.Proof.Finite
public import proofs.«01_k».proof.Proof.Gen.ReferenceIdeal.Run

@[expose] public section

set_option maxRecDepth 16384

noncomputable section

namespace Cert.Agree

open Idealize.ShloMosaic Idealize.ShloMosaic.TcCoe Idealize.ShloMosaic.ValueIdx Idealize.SL.Sem Attn
open Cert.KernelIdeal Cert.KernelIdeal.Gen
open Cert.ReferenceIdeal.Read (Given real_at)

/-- An array of reals is the one array of those reals. -/
theorem same {n0 n1 : ℕ} {X Y : (⟨2, ![n0, n1]⟩ : Shape).Idx → EReal} {x : ℕ → ℕ → ℝ} (hX : IsR X x)
    (hY : ∀ i, Y i = ((x (i 0).val (i 1).val : ℝ) : EReal)) : Y = X :=
  funext fun i => (hY i).trans (real_at hX i).symm

variable (m : (ℓ : Loc nD τ sig) → Buf (Elt Ideal) ℓ) (ρ : Dev nD → PrngReg)

/-- The real arguments of device `c`. -/
def argsOf (c : Dev nD) : Args :=
  Cert.Pre_finite.args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem holds (h : Cert.Pre_KernelIdeal_finite m) (c : Dev nD) : Holds m c (argsOf m c) := by
  obtain ⟨h0, h1, h2, h3, h4, h5⟩ := Cert.Pre_finite.decoded _ _ _ _ _ _ (h c)
  exact ⟨h0, h1, h2, h3, h4, h5⟩

/-- The kernel's program ends with its six results and its arguments at the last boundary's contents. -/
theorem kernel_ends : θ_run (defs (F := Ideal)) (onTc (τ := τ) (main (F := Ideal))) ⟨m, fun _ => 0, ρ⟩ (fun r => ∀ c : Dev nD,
      r.2.mem ((c.tc : Thread nD τ).loc main_v0_0) = W3 m ρ c (Proc.devRef .tc main_v0_0)
      ∧ r.2.mem ((c.tc : Thread nD τ).loc main_v1_0) = W3 m ρ c (Proc.devRef .tc main_v1_0)
      ∧ r.2.mem ((c.tc : Thread nD τ).loc main_v1_1) = W3 m ρ c (Proc.devRef .tc main_v1_1)
      ∧ r.2.mem ((c.tc : Thread nD τ).loc main_v2_0) = W3 m ρ c (Proc.devRef .tc main_v2_0)
      ∧ r.2.mem ((c.tc : Thread nD τ).loc main_v2_1) = W3 m ρ c (Proc.devRef .tc main_v2_1)
      ∧ r.2.mem ((c.tc : Thread nD τ).loc main_v2_2) = W3 m ρ c (Proc.devRef .tc main_v2_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c =>
    ⟨h c _ (mem_uc main_v0_0 (by decide)), h c _ (mem_uc main_v1_0 (by decide)), h c _ (mem_uc main_v1_1 (by decide)),
     h c _ (mem_uc main_v2_0 (by decide)), h c _ (mem_uc main_v2_1 (by decide)), h c _ (mem_uc main_v2_2 (by decide)),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (final_memory m ρ)

section
variable {m} {A : Args} {c : Dev nD} (h : Holds m c A)
include h

/-- The reference's arguments hold the same reals. -/
theorem given : Given A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) :=
  ⟨h.qn, h.qr, h.kn, h.kr, h.v, h.g⟩

variable (m' : (ℓ : Loc Cert.ReferenceIdeal.nD Cert.ReferenceIdeal.τ Cert.ReferenceIdeal.sig) → Buf (Elt Ideal) ℓ)
  (e : m' ((c.tc : Thread Cert.ReferenceIdeal.nD Cert.ReferenceIdeal.τ).loc Cert.ReferenceIdeal.main_arg0) = m ((c.tc : Thread nD τ).loc main_arg0)
    ∧ m' ((c.tc : Thread Cert.ReferenceIdeal.nD Cert.ReferenceIdeal.τ).loc Cert.ReferenceIdeal.main_arg1) = m ((c.tc : Thread nD τ).loc main_arg1)
    ∧ m' ((c.tc : Thread Cert.ReferenceIdeal.nD Cert.ReferenceIdeal.τ).loc Cert.ReferenceIdeal.main_arg2) = m ((c.tc : Thread nD τ).loc main_arg2)
    ∧ m' ((c.tc : Thread Cert.ReferenceIdeal.nD Cert.ReferenceIdeal.τ).loc Cert.ReferenceIdeal.main_arg3) = m ((c.tc : Thread nD τ).loc main_arg3)
    ∧ m' ((c.tc : Thread Cert.ReferenceIdeal.nD Cert.ReferenceIdeal.τ).loc Cert.ReferenceIdeal.main_arg4) = m ((c.tc : Thread nD τ).loc main_arg4)
    ∧ m' ((c.tc : Thread Cert.ReferenceIdeal.nD Cert.ReferenceIdeal.τ).loc Cert.ReferenceIdeal.main_arg5) = m ((c.tc : Thread nD τ).loc main_arg5))
include e

theorem agree_o : Cert.ReferenceIdeal.Value.res_main_v55 m' c = W3 m ρ c (Proc.devRef .tc main_v0_0) := by
  obtain ⟨e0, e1, e2, e3, e4, e5⟩ := e
  rw [Cert.ReferenceIdeal.Read.val_main_v55_eq, e0, e1, e2, e3, e4]
  exact same (final_o ρ h) (Cert.ReferenceIdeal.Read.v55_at (given h))

theorem agree_qn : Cert.ReferenceIdeal.Value.res_main_v89 m' c = W3 m ρ c (Proc.devRef .tc main_v1_0) := by
  obtain ⟨e0, e1, e2, e3, e4, e5⟩ := e
  rw [Cert.ReferenceIdeal.Read.val_main_v89_eq, e0, e1, e2, e3, e4, e5]
  exact same (final_qn ρ h) (Cert.ReferenceIdeal.Read.v89_at (given h))

theorem agree_qr : Cert.ReferenceIdeal.Value.res_main_v87 m' c = W3 m ρ c (Proc.devRef .tc main_v1_1) := by
  obtain ⟨e0, e1, e2, e3, e4, e5⟩ := e
  rw [Cert.ReferenceIdeal.Read.val_main_v87_eq, e0, e1, e2, e3, e4, e5]
  exact same (final_qr ρ h) (Cert.ReferenceIdeal.Read.v87_at (given h))

theorem agree_kn : Cert.ReferenceIdeal.Value.res_main_v90 m' c = W3 m ρ c (Proc.devRef .tc main_v2_0) := by
  obtain ⟨e0, e1, e2, e3, e4, e5⟩ := e
  rw [Cert.ReferenceIdeal.Read.val_main_v90_eq, e0, e1, e2, e3, e4, e5]
  exact same (final_kn ρ h) (Cert.ReferenceIdeal.Read.v90_at (given h))

theorem agree_kr : Cert.ReferenceIdeal.Value.res_main_v85 m' c = W3 m ρ c (Proc.devRef .tc main_v2_1) := by
  obtain ⟨e0, e1, e2, e3, e4, e5⟩ := e
  rw [Cert.ReferenceIdeal.Read.val_main_v85_eq, e0, e1, e2, e3, e4, e5]
  exact same (final_kr ρ h) (Cert.ReferenceIdeal.Read.v85_at (given h))

theorem agree_v : Cert.ReferenceIdeal.Value.res_main_v91 m' c = W3 m ρ c (Proc.devRef .tc main_v2_2) := by
  obtain ⟨e0, e1, e2, e3, e4, e5⟩ := e
  rw [Cert.ReferenceIdeal.Read.val_main_v91_eq, e0, e1, e2, e3, e5]
  exact same (final_v ρ h) (Cert.ReferenceIdeal.Read.v91_at (given h))

end

theorem algebraic : Cert.algebraic_KernelIdeal_ReferenceIdeal_pre_finite := fun m g m' g' hpre hargs =>
  ⟨fun c => W3 m g c (Proc.devRef .tc main_v0_0), fun c => W3 m g c (Proc.devRef .tc main_v1_0),
   fun c => W3 m g c (Proc.devRef .tc main_v1_1), fun c => W3 m g c (Proc.devRef .tc main_v2_0),
   fun c => W3 m g c (Proc.devRef .tc main_v2_1), fun c => W3 m g c (Proc.devRef .tc main_v2_2),
   kernel_ends m g,
   (θ_run (Cert.ReferenceIdeal.defs (F := Ideal)) _ _).mono (fun _ h c => by
      obtain ⟨r0, r1, r2, r3, r4, r5, ra⟩ := h c
      have hh := holds m hpre c
      have he := hargs c
      exact ⟨r0.trans (agree_o g hh m' he), r1.trans (agree_qn g hh m' he), r2.trans (agree_qr g hh m' he),
        r3.trans (agree_kn g hh m' he), r4.trans (agree_kr g hh m' he), r5.trans (agree_v g hh m' he), ra⟩)
    (Cert.ReferenceIdeal.Value.run (F := Ideal) m' g')⟩

/-- The reference leaves its arguments and has no semaphore. -/
theorem reference_frame : Cert.quiescent_ReferenceIdeal := fun m g _ =>
  (θ_run (Cert.ReferenceIdeal.defs (F := Ideal)) _ _).mono (fun r h =>
    ⟨fun c => (h c).2.2.2.2.2.2, sem_eq_zero_of_no_sems (by decide) r.2⟩) (Cert.ReferenceIdeal.Value.run (F := Ideal) m g)

theorem preserves : Cert.preserves_Kernel_KernelIdeal :=
  IdealRules.named_const.statement Cert.KernelIdeal.κ "mask" .f32 0xF149F2CA#32 ⊥ rfl

end Cert.Agree

end
-- ==== Proof.Product.lean ====
/-
  A matrix product at the ideal values, and a product whose contraction is cut into blocks of 2048 summed one grid
  point after the other: `IsE X x` says the matrix `X` holds `x r c` at row `r`, lane `c`, and each operation carries
  it. No element need be finite: sums of extended reals may be cut anywhere.
-/
module

public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.KernelVsHost

@[expose] public section

noncomputable section

namespace Product

open Idealize.ShloMosaic Idealize.ShloMosaic.ValueIdx
open Finset (range)
open scoped BigOperators

theorem hz : (![0, 0] : Fin 2 → Nat) = fun _ => 0 := funext fun a => by fin_cases a <;> rfl

/-- The matrix holds `x`. -/
def IsE {n0 n1 : ℕ} (X : (⟨2, ![n0, n1]⟩ : Shape).Idx → EReal) (x : ℕ → ℕ → EReal) : Prop :=
  ∀ (r : Fin n0) (c : Fin n1), X (ix2 r c) = x r.val c.val

/-- A matrix's elements, by numbers. -/
def ent {n0 n1 : ℕ} (X : (⟨2, ![n0, n1]⟩ : Shape).Idx → EReal) (r c : ℕ) : EReal :=
  if h : r < n0 ∧ c < n1 then X (ix2 ⟨r, h.1⟩ ⟨c, h.2⟩) else 0

namespace IsE

variable {n0 n1 N0 N1 M K N : ℕ} {φ ψ : FTy}

theorem own (X : (⟨2, ![n0, n1]⟩ : Shape).Idx → EReal) : IsE X (ent X) := fun r c => by
  rw [ent, dif_pos ⟨r.isLt, c.isLt⟩]

theorem congr {X : (⟨2, ![n0, n1]⟩ : Shape).Idx → EReal} {x x' : ℕ → ℕ → EReal} (h : IsE X x) (e : ∀ r c, x r c = x' r c) : IsE X x' :=
  fun r c => (h r c).trans (e _ _)

/-- At an index not written as a pair. -/
theorem idx {X : (⟨2, ![n0, n1]⟩ : Shape).Idx → EReal} {x : ℕ → ℕ → EReal} (h : IsE X x) (i : (⟨2, ![n0, n1]⟩ : Shape).Idx) :
    X i = x (i 0).val (i 1).val := by
  refine Eq.trans (congrArg X (funext fun a => ?_)) (h (i 0) (i 1))
  match a with
  | ⟨0, _⟩ => rfl
  | ⟨1, _⟩ => rfl

/-- Two matrices that hold the same. -/
theorem same {X Y : (⟨2, ![n0, n1]⟩ : Shape).Idx → EReal} {x : ℕ → ℕ → EReal} (hX : IsE X x) (hY : IsE Y x) : X = Y :=
  funext fun i => (hX.idx i).trans (hY.idx i).symm

theorem add {X Y : FVec Ideal ⟨2, ![n0, n1]⟩ φ} {x y : ℕ → ℕ → EReal} (hx : IsE X x) (hy : IsE Y y) :
    IsE (addf X Y) fun r c => x r c + y r c := fun r c => by
  rw [addf_apply, hx r c, hy r c]

theorem mul {X Y : FVec Ideal ⟨2, ![n0, n1]⟩ φ} {x y : ℕ → ℕ → EReal} (hx : IsE X x) (hy : IsE Y y) :
    IsE (mulf X Y) fun r c => x r c * y r c := fun r c => by
  rw [mulf_apply, hx r c, hy r c]

/-- The zeros. -/
theorem zeros : IsE (broadcast ⟨2, ![n0, n1]⟩ (Scalar.ofBits (F := Ideal) .f32 0x00000000#32)) fun _ _ => 0 :=
  fun _ _ => Ideal.ofBits_zero_f32

/-- A matrix cast to its own shape. -/
theorem castSelf {X : (⟨2, ![n0, n1]⟩ : Shape).Idx → EReal} {x : ℕ → ℕ → EReal} (hx : IsE X x)
    (h : (⟨2, ![n0, n1]⟩ : Shape).ShapeCasts ⟨2, ![n0, n1]⟩) : IsE (shapeCast ⟨2, ![n0, n1]⟩ X h) x := by
  rw [shapeCast_self]; exact hx

/-- A matrix with its axes exchanged. -/
theorem swap {X : (⟨2, ![n0, n1]⟩ : Shape).Idx → EReal} {x : ℕ → ℕ → EReal} (hx : IsE X x)
    (h : (⟨2, ![n0, n1]⟩ : Shape).Transposes [1, 0] ⟨2, ![n1, n0]⟩) : IsE (transpose ⟨2, ![n1, n0]⟩ [1, 0] X h) fun r c => x c r := fun r c => by
  rw [transpose_ix2_apply]
  exact hx c r

/-- A block of a matrix: of the blocks of this size, the one at `(q0, q1)`. -/
theorem block {X : (⟨2, ![N0, N1]⟩ : Shape).Idx → EReal} {x : ℕ → ℕ → EReal} (hX : IsE X x) {q0 q1 : ℕ}
    (e : (⟨2, ![n0, n1]⟩ : Shape).Idx → (⟨2, ![N0, N1]⟩ : Shape).Idx)
    (he : ∀ j, (e j 0).val = q0 * n0 + 1 * (j 0).val ∧ (e j 1).val = q1 * n1 + 1 * (j 1).val) :
    IsE (fun j => X (e j)) fun r c => x (n0 * q0 + r) (n1 * q1 + c) := fun r c => by
  refine (hX.idx (e (ix2 r c))).trans ?_
  rw [(he (ix2 r c)).1, (he (ix2 r c)).2, one_mul, one_mul, Nat.mul_comm q0, Nat.mul_comm q1]
  rfl

/-- What a block holds at an index, where the whole matrix is to hold `x`. -/
theorem lands {X : (⟨2, ![n0, n1]⟩ : Shape).Idx → EReal} {x : ℕ → ℕ → EReal} {q0 q1 : ℕ}
    (h : IsE X fun r c => x (n0 * q0 + r) (n1 * q1 + c)) (y : (⟨2, ![n0, n1]⟩ : Shape).Idx) {i0 i1 : ℕ}
    (h0 : i0 = q0 * n0 + 1 * (y 0).val) (h1 : i1 = q1 * n1 + 1 * (y 1).val) : X y = x i0 i1 := by
  rw [h.idx y, h0, h1, one_mul, one_mul, Nat.mul_comm q0, Nat.mul_comm q1]

/-- The product of two matrices that share their first operand's lanes and second operand's rows. -/
theorem nn {L : FVec Ideal ⟨2, ![M, K]⟩ φ} {R : FVec Ideal ⟨2, ![K, N]⟩ ψ} {l r : ℕ → ℕ → EReal} (hl : IsE L l) (hr : IsE R r)
    (D : DotDims ⟨2, ![M, K]⟩ ⟨2, ![K, N]⟩ ⟨2, ![M, N]⟩) (hD : D = DotDims.plain M K N) :
    IsE (matmul D none L R (constant ⟨2, ![M, N]⟩ .f32 0x00000000#32)) fun i j => ∑ k ∈ range K, l i k * r k j := fun i j => by
  subst hD
  show FloatOps.matmul (DotDims.plain M K N) none L R _ (ix2 i j) = _
  rw [Ideal.matmul_plain_apply, constant_apply, Ideal.ofBits_zero_f32, zero_add]
  refine Eq.trans ?_ (Finset.sum_range _).symm
  exact Finset.sum_congr rfl fun k _ => by rw [hl i k, hr k j]

/-- The product of two matrices that share their lanes. -/
theorem nt {L : FVec Ideal ⟨2, ![M, K]⟩ φ} {R : FVec Ideal ⟨2, ![N, K]⟩ ψ} {l r : ℕ → ℕ → EReal} (hl : IsE L l) (hr : IsE R r)
    (D : DotDims ⟨2, ![M, K]⟩ ⟨2, ![N, K]⟩ ⟨2, ![M, N]⟩) (hD : D = DotDims.transposedRhs M K N) :
    IsE (matmul D none L R (constant ⟨2, ![M, N]⟩ .f32 0x00000000#32)) fun i j => ∑ k ∈ range K, l i k * r j k := fun i j => by
  subst hD
  show FloatOps.matmul (DotDims.transposedRhs M K N) none L R _ (ix2 i j) = _
  rw [Ideal.matmul_transposedRhs_apply, constant_apply, Ideal.ofBits_zero_f32, zero_add]
  refine Eq.trans ?_ (Finset.sum_range _).symm
  exact Finset.sum_congr rfl fun k _ => by rw [hl i k, hr j k]

/-- The dimensions of a product of two matrices that share their rows. -/
def shareRows {M K N : ℕ} (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

theorem rank_shareRows (wf : DotDims.WF ⟨2, ![K, M]⟩ ⟨2, ![K, N]⟩ ⟨2, ![M, N]⟩ [0] [0] [1] [1] [] []) : (shareRows wf).contr.rank = 1 := rfl

theorem size_shareRows (wf : DotDims.WF ⟨2, ![K, M]⟩ ⟨2, ![K, N]⟩ ⟨2, ![M, N]⟩ [0] [0] [1] [1] [] []) :
    (shareRows wf).contr.size ⟨0, by rw [rank_shareRows]; exact Nat.one_pos⟩ = K := rfl

/-- The product of two matrices that share their rows. -/
theorem tn {L : FVec Ideal ⟨2, ![K, M]⟩ φ} {R : FVec Ideal ⟨2, ![K, N]⟩ ψ} {l r : ℕ → ℕ → EReal} (hl : IsE L l) (hr : IsE R r)
    (D : DotDims ⟨2, ![K, M]⟩ ⟨2, ![K, N]⟩ ⟨2, ![M, N]⟩) (hD : ∃ wf, D = shareRows wf) :
    IsE (matmul D none L R (constant ⟨2, ![M, N]⟩ .f32 0x00000000#32)) fun i j => ∑ k ∈ range K, l k i * r k j := fun i j => by
  obtain ⟨wf, rfl⟩ := hD
  show FloatOps.matmul _ none L R _ (ix2 i j) = _
  rw [Ideal.matmul_constant_zero_apply, ← Equiv.sum_comp (contrEquiv1 _ K (rank_shareRows wf) (size_shareRows wf)).symm]
  refine Eq.trans ?_ (Finset.sum_range _).symm
  refine Finset.sum_congr rfl fun k _ => ?_
  have hk := contrEquiv1_symm_val _ K (rank_shareRows wf) (size_shareRows wf) k
  have el : (shareRows wf).lhsIdx (ix2 i j) ((contrEquiv1 _ K (rank_shareRows wf) (size_shareRows wf)).symm k) = ix2 k i := by
    funext a; apply Fin.ext
    match a with
    | ⟨0, _⟩ => exact hk
    | ⟨1, _⟩ => rfl
  have er : (shareRows wf).rhsIdx (ix2 i j) ((contrEquiv1 _ K (rank_shareRows wf) (size_shareRows wf)).symm k) = ix2 k j := by
    funext a; apply Fin.ext
    match a with
    | ⟨0, _⟩ => exact hk
    | ⟨1, _⟩ => rfl
  rw [el, er, hl k i, hr k j]

/-- The host's product is the same sum. -/
theorem host {sl sr : Shape} {L : FVec Ideal sl φ} {R : FVec Ideal sr ψ} {D : DotDims sl sr ⟨2, ![M, N]⟩} {x : ℕ → ℕ → EReal}
    (h : IsE (matmul D none L R (constant ⟨2, ![M, N]⟩ .f32 0x00000000#32)) x) : IsE (Host.dotGeneral D none L R) x := by
  rw [← matmul_zero_eq_dotGeneral]; exact h

/-- The host's product of two matrices that share their rows, its operands exchanged and then its axes: how the gradient
    of a product in its second operand is written. -/
theorem gradient {L : FVec Ideal ⟨2, ![K, N]⟩ φ} {R : FVec Ideal ⟨2, ![K, M]⟩ ψ} {l r : ℕ → ℕ → EReal} (hl : IsE L l) (hr : IsE R r)
    (D : DotDims ⟨2, ![K, N]⟩ ⟨2, ![K, M]⟩ ⟨2, ![N, M]⟩) (hD : ∃ wf, D = shareRows wf) (h : (⟨2, ![N, M]⟩ : Shape).Transposes [1, 0] ⟨2, ![M, N]⟩) :
    IsE (transpose ⟨2, ![M, N]⟩ [1, 0] (Host.dotGeneral D none L R) h) fun i j => ∑ k ∈ range K, r k i * l k j :=
  (IsE.swap (IsE.host (IsE.tn hl hr D hD)) h).congr fun _ _ => Finset.sum_congr rfl fun _ _ => mul_comm _ _

end IsE

/-- A product's contraction summed in blocks: at each point of the grid `(i, j, k)`, `k` innermost of `nk`, a block of
    1024 rows and lanes gets the terms of the `k`-th 2048 positions, onto nothing where `k` is 0 and onto the point
    before otherwise. So after a point it holds the sum up to there. -/
theorem folds {n nk nj : ℕ} (hk : 0 < nk) (s : (t : ℕ) → t < n → (⟨2, ![1024, 1024]⟩ : Shape).Idx → EReal) (g : ℕ → ℕ → ℕ → EReal)
    (first : ∀ t (h : t < n), t % nk = 0 → IsE (s t h) fun r c =>
      0 + ∑ κ ∈ range 2048, g (1024 * (t / nk / nj) + r) (1024 * (t / nk % nj) + c) (2048 * (t % nk) + κ))
    (next : ∀ t (h : t < n), t % nk ≠ 0 → ∀ x, IsE (s (t - 1) (Nat.lt_of_le_of_lt (Nat.sub_le _ _) h)) x → IsE (s t h) fun r c =>
      x r c + ∑ κ ∈ range 2048, g (1024 * (t / nk / nj) + r) (1024 * (t / nk % nj) + c) (2048 * (t % nk) + κ)) :
    ∀ t (h : t < n), IsE (s t h) fun r c =>
      ∑ κ ∈ range (2048 * (t % nk + 1)), g (1024 * (t / nk / nj) + r) (1024 * (t / nk % nj) + c) κ := by
  intro t
  induction t with
  | zero =>
    intro h
    refine (first 0 h (Nat.zero_mod _)).congr fun r c => ?_
    simp
  | succ t ih =>
    intro h
    by_cases h0 : (t + 1) % nk = 0
    · refine (first _ h h0).congr fun r c => ?_
      rw [h0, zero_add]
      simp
    · have hd : (t + 1) / nk = t / nk := by
        refine Nat.succ_div_of_not_dvd fun hv => h0 (Nat.mod_eq_zero_of_dvd hv)
      have hm : (t + 1) % nk = t % nk + 1 := by
        have e1 := Nat.div_add_mod t nk
        have e2 := Nat.div_add_mod (t + 1) nk
        rw [hd] at e2
        omega
      refine (next _ h h0 _ (ih _)).congr fun r c => ?_
      rw [hd, hm, show 2048 * (t % nk + 1 + 1) = 2048 * (t % nk + 1) + 2048 by ring, Finset.sum_range_add]

end Product

end
-- ==== Proof.Kernel2.lean ====
/-
  The gradient of the gated output through the output projection: `dr woᵀ`. A block takes the contraction's 2048 positions at one grid point.
-/
module

public import proofs.«01_k».proof.Defs
public import proofs.«01_k».proof.Proof.Product
public import proofs.«01_k».proof.Proof.Gen.Kernel2Ideal.Value
public import proofs.«01_k».proof.Proof.Gen.Reference2Ideal.Run
public import Idealize.ShloMosaic.Lib.Pipeline.ValueKit.Geometry

@[expose] public section

set_option maxRecDepth 16384

noncomputable section

namespace Cert.Kernel2Ideal.Gen

open Idealize.ShloMosaic Idealize.ShloMosaic.TcCoe Idealize.ShloMosaic.ValueIdx Idealize.SL.Sem Product
open Finset (range)
open scoped BigOperators

/-- A point's block. -/
theorem point {a b : ℕ → ℕ → EReal} {A B : Vec Ideal S1024x2048 .bf16} (ha : IsE A a) (hb : IsE B b) :
    IsE (out0_2 (F := Ideal) A B) fun r l => ∑ κ ∈ range 2048, a r κ * b l κ := by
  unfold out0_2
  rw [View.canon_unit_zero hz, View.ld_unit_zero (S := S1024x2048) hz, View.ld_unit_zero (S := S1024x2048) hz]
  unfold k0_pay1
  exact IsE.nt ha hb _ rfl

section
variable (m : (ℓ : Loc nD τ sig) → Buf (Elt Ideal) ℓ) (c : Dev nD)

/-- Where the windows lie at a point. -/
theorem at_points : ∀ t : Fin cfg0.N,
    (cc0_transform_0 (grid0.coords t) 0 = cc0_transform_2 (grid0.coords t) 0 ∧ cc0_transform_0 (grid0.coords t) 1 = 0)
    ∧ cc0_transform_1 (grid0.coords t) 0 = cc0_transform_2 (grid0.coords t) 1 ∧ cc0_transform_1 (grid0.coords t) 1 = 0 := by
  decide +kernel

/-- The arguments' elements. -/
abbrev u := ent (n0 := 4096) (n1 := 2048) (m ((c.tc : Thread nD τ).loc main_arg0))
abbrev w := ent (n0 := 4096) (n1 := 2048) (m ((c.tc : Thread nD τ).loc main_arg1))

theorem reads0 (t : Fin cfg0.N) : IsE (n0 := 1024) (n1 := 2048) (iblk m c 0 t) fun r κ => u m c (1024 * cc0_transform_2 (grid0.coords t) 0 + r) (2048 * 0 + κ) := by
  rw [← (at_points t).1.1, ← (at_points t).1.2]
  exact IsE.block (IsE.own (n0 := 4096) (n1 := 2048) _) _ fun _ => ⟨rfl, rfl⟩

theorem reads1 (t : Fin cfg0.N) : IsE (n0 := 1024) (n1 := 2048) (iblk m c 1 t) fun l κ => w m c (1024 * cc0_transform_2 (grid0.coords t) 1 + l) (2048 * 0 + κ) := by
  rw [← (at_points t).2.1, ← (at_points t).2.2]
  exact IsE.block (IsE.own (n0 := 4096) (n1 := 2048) _) _ fun _ => ⟨rfl, rfl⟩

/-- The array left. -/
theorem leaves : IsE (n0 := 4096) (n1 := 4096) ((dats m 0 c).arrAt 2 cfg0.N) fun r l => ∑ κ ∈ range 2048, u m c r κ * w m c l κ := fun r l =>
  (dats m 0 c).arrAt_forall_of_covers 2 (fun i y => y = ∑ κ ∈ range 2048, u m c (i 0).val κ * w m c (i 1).val κ) (by decide +kernel)
    (fun t _ y => by
      have hp := point (reads0 m c t) (reads1 m c t)
      simp only [Nat.mul_zero, Nat.zero_add] at hp
      show (dats m 0 c).after 2 t y = _
      rw [after0_2]
      exact IsE.lands (x := fun r l => ∑ κ ∈ range 2048, u m c r κ * w m c l κ) hp y rfl rfl) (ix2 r l)

end

theorem algebraic : Cert.algebraic_Kernel2Ideal_Reference2Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.host (IsE.nt (IsE.own (n0 := 4096) (n1 := 2048) _) (IsE.own (n0 := 4096) (n1 := 2048) _) _ rfl)) (leaves m c))
    (Cert.Reference2Ideal.Value.run (F := Ideal) m' ρ')⟩

/-- The program as it runs has the same text as its reading at the ideal values. -/
instance facts_bits : Cert.Kernel2.Facts :=
  Cert.Kernel2Ideal.Facts.rec (motive := fun _ => Cert.Kernel2.Facts)
    (@fun h => @Cert.Kernel2.Facts.mk (Cert.Kernel2Ideal.Facts₀.rec (motive := fun _ => Cert.Kernel2.Facts₀) Cert.Kernel2.Facts₀.mk h)) facts

theorem defs_bits : Cert.Kernel2.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel2 := fun m ρ _ =>
  Eq.mpr (congrArg (fun d => θ_run d (onTc (τ := τ) (main (F := Bits))) ⟨m, fun _ => 0, ρ⟩ _) defs_bits) (frame (F := Bits) m ρ)

theorem frame_reference : Cert.quiescent_Reference2Ideal := fun m ρ _ =>
  (θ_run (Cert.Reference2Ideal.defs (F := Ideal)) _ _).mono (fun r h => ⟨fun c => (h c).2, sem_eq_zero_of_no_sems (by decide) r.2⟩)
    (Cert.Reference2Ideal.Value.run (F := Ideal) m ρ)

end Cert.Kernel2Ideal.Gen

end
-- ==== Proof.Kernel3.lean ====
/-
  The gradient of the gate's weight: `hᵀ dz`. The contraction's 4096 tokens are two grid points, the innermost axis; the
  sum so far is carried in the scratch, and the second point stores it.
-/
module

public import proofs.«01_k».proof.Defs
public import proofs.«01_k».proof.Proof.Product
public import proofs.«01_k».proof.Proof.Gen.Kernel3Ideal.Value
public import proofs.«01_k».proof.Proof.Gen.Reference3Ideal.Run
public import Idealize.ShloMosaic.Lib.Pipeline.ValueKit.Geometry

@[expose] public section

set_option maxRecDepth 16384

noncomputable section

namespace Cert.Kernel3Ideal.Gen

open Idealize.ShloMosaic Idealize.ShloMosaic.TcCoe Idealize.ShloMosaic.ValueIdx Idealize.SL.Sem Product
open Finset (range)
open scoped BigOperators

theorem pay1_holds : IsE (k0_pay1 (F := Ideal)) fun _ _ => 0 := by
  unfold k0_pay1
  exact IsE.zeros.castSelf _

theorem pay2_holds {x a b : ℕ → ℕ → EReal} {X : Vec Ideal S1024x1024 .f32} {A B : Vec Ideal S2048x1024 .bf16}
    (hx : IsE X x) (ha : IsE A a) (hb : IsE B b) : IsE (k0_pay2 (F := Ideal) X A B) fun r l => x r l + ∑ κ ∈ range 2048, a κ r * b κ l := by
  unfold k0_pay2
  exact (hx.add (.tn ha hb _ ⟨_, rfl⟩)).castSelf _

section
variable (m : (ℓ : Loc nD τ sig) → Buf (Elt Ideal) ℓ) (c : Dev nD)

/-- A block's first point puts its terms over zeros in the scratch, -/
theorem sum_first (t : Fin cfg0.N) (h0 : t.val % 2 = 0) : (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun _ => scover0_A_0 ..)]
  unfold kernelRun0_A; dsimp only; sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S2048x1024) hz]

/-- its last point over what the point before left, -/
theorem sum_last (t : Fin cfg0.N) (h1 : t.val % 2 = 1) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t (by omega) h1]
  dsimp only
  unfold sout0_B_0
  rw [View.read_writes_eq_canon _ _ _ (fun _ => scover0_B_0 ..)]
  unfold kernelRun0_B; dsimp only; sl_unfold_words
  rw [View.canon_unit_zero hz]
  simp only [View.readAt_eq_ld, (hs0_0 t).read_unread, (hs0_1 t).read_unread, (Memref.isWhole_whole _).read_unread,
    View.ld_unit_zero (S := S2048x1024) hz, View.ld_unit_zero (S := S1024x1024) hz]

/-- and stores that. -/
theorem out_last (t : Fin cfg0.N) (h1 : t.val % 2 = 1) : (outsAt0 m c t.val t.isLt).1 = (outsAt0 m c t.val t.isLt).2 := by
  rw [sum_last m c t h1, outsAt0_B m c t (by omega) h1]
  dsimp only
  unfold out0_B_2
  rw [View.read_writes_eq_canon _ _ _ (fun _ => cover0_B_2 ..)]
  unfold kernelRun0_B; dsimp only; sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S2048x1024) hz, View.ld_unit_zero (S := S1024x1024) hz]

/-- Where the windows lie at a point. -/
theorem at_points : ∀ t : Fin cfg0.N,
    (cc0_transform_0 (grid0.coords t) 0 = t.val % 2 ∧ cc0_transform_0 (grid0.coords t) 1 = t.val / 2 / 4)
    ∧ (cc0_transform_1 (grid0.coords t) 0 = t.val % 2 ∧ cc0_transform_1 (grid0.coords t) 1 = t.val / 2 % 4)
    ∧ cc0_transform_2 (grid0.coords t) 0 = t.val / 2 / 4 ∧ cc0_transform_2 (grid0.coords t) 1 = t.val / 2 % 4 := by
  decide +kernel

/-- The arguments' elements. -/
abbrev u := ent (n0 := 4096) (n1 := 2048) (m ((c.tc : Thread nD τ).loc main_arg0))
abbrev v := ent (n0 := 4096) (n1 := 4096) (m ((c.tc : Thread nD τ).loc main_arg1))

theorem reads0 (t : Fin cfg0.N) : IsE (n0 := 2048) (n1 := 1024) (iblk m c 0 t) fun κ r => u m c (2048 * (t.val % 2) + κ) (1024 * (t.val / 2 / 4) + r) := by
  rw [← (at_points t).1.1, ← (at_points t).1.2]
  exact IsE.block (IsE.own (n0 := 4096) (n1 := 2048) _) _ fun _ => ⟨rfl, rfl⟩

theorem reads1 (t : Fin cfg0.N) : IsE (n0 := 2048) (n1 := 1024) (iblk m c 1 t) fun κ l => v m c (2048 * (t.val % 2) + κ) (1024 * (t.val / 2 % 4) + l) := by
  rw [← (at_points t).2.1.1, ← (at_points t).2.1.2]
  exact IsE.block (IsE.own (n0 := 4096) (n1 := 4096) _) _ fun _ => ⟨rfl, rfl⟩

/-- The scratch after a point. -/
theorem scratch : ∀ (t : ℕ) (h : t < cfg0.N), IsE (n0 := 1024) (n1 := 1024) (outsAt0 m c t h).2 fun r l =>
    ∑ κ ∈ range (2048 * (t % 2 + 1)), u m c κ (1024 * (t / 2 / 4) + r) * v m c κ (1024 * (t / 2 % 4) + l) := by
  refine folds (nk := 2) (by decide) (fun t h => (outsAt0 m c t h).2) (fun r l κ => u m c κ r * v m c κ l) (fun t h h0 => ?_) (fun t h h0 x hx => ?_)
  · exact sum_first m c ⟨t, h⟩ h0 ▸ pay2_holds pay1_holds (reads0 m c ⟨t, h⟩) (reads1 m c ⟨t, h⟩)
  · exact sum_last m c ⟨t, h⟩ (by show t % 2 = 1; omega) ▸ pay2_holds hx (reads0 m c ⟨t, h⟩) (reads1 m c ⟨t, h⟩)

/-- The array left. -/
theorem leaves : IsE (n0 := 2048) (n1 := 4096) ((dats m 0 c).arrAt 2 cfg0.N) fun r l => ∑ κ ∈ range 4096, u m c κ r * v m c κ l := fun r l =>
  (dats m 0 c).arrAt_forall_of_covers 2 (fun i y => y = ∑ κ ∈ range 4096, u m c κ (i 0).val * v m c κ (i 1).val) (by decide +kernel)
    (fun t ht y => by
      have h1 : t.val % 2 = 1 := (flush0_2 t).mp ht
      have hs := scratch m c t.val t.isLt
      rw [h1, ← (at_points t).2.2.1, ← (at_points t).2.2.2] at hs
      show (dats m 0 c).after 2 t y = _
      rw [after0_2, out_last m c t h1]
      exact IsE.lands (x := fun r l => ∑ κ ∈ range 4096, u m c κ r * v m c κ l) hs y rfl rfl) (ix2 r l)

end

theorem algebraic : Cert.algebraic_Kernel3Ideal_Reference3Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.gradient (IsE.own (n0 := 4096) (n1 := 4096) _) (IsE.own (n0 := 4096) (n1 := 2048) _) _ ⟨_, rfl⟩ _) (leaves m c))
    (Cert.Reference3Ideal.Value.run (F := Ideal) m' ρ')⟩

/-- The program as it runs has the same text as its reading at the ideal values. -/
instance facts_bits : Cert.Kernel3.Facts :=
  Cert.Kernel3Ideal.Facts.rec (motive := fun _ => Cert.Kernel3.Facts)
    (@fun h => @Cert.Kernel3.Facts.mk (Cert.Kernel3Ideal.Facts₀.rec (motive := fun _ => Cert.Kernel3.Facts₀) Cert.Kernel3.Facts₀.mk h)) facts

theorem defs_bits : Cert.Kernel3.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel3 := fun m ρ _ =>
  Eq.mpr (congrArg (fun d => θ_run d (onTc (τ := τ) (main (F := Bits))) ⟨m, fun _ => 0, ρ⟩ _) defs_bits) (frame (F := Bits) m ρ)

theorem frame_reference : Cert.quiescent_Reference3Ideal := fun m ρ _ =>
  (θ_run (Cert.Reference3Ideal.defs (F := Ideal)) _ _).mono (fun r h => ⟨fun c => (h c).2, sem_eq_zero_of_no_sems (by decide) r.2⟩)
    (Cert.Reference3Ideal.Value.run (F := Ideal) m ρ)

end Cert.Kernel3Ideal.Gen

end
-- ==== Proof.Kernel4.lean ====
/-
  The gradient of the hidden states through the gate's product, onto the scaled gradient of the residual path:
  `dz wzᵀ + α dr`. The contraction's 4096 positions are two grid points, the innermost axis; the sum so far is carried in
  the scratch, and the second point adds the addend and stores.
-/
module

public import proofs.«01_k».proof.Defs
public import proofs.«01_k».proof.Proof.Product
public import proofs.«01_k».proof.Proof.Gen.Kernel4Ideal.Value
public import proofs.«01_k».proof.Proof.Gen.Reference4Ideal.Run
public import Idealize.ShloMosaic.Lib.Pipeline.ValueKit.Geometry

@[expose] public section

set_option maxRecDepth 16384

noncomputable section

namespace Cert.Kernel4Ideal.Gen

open Idealize.ShloMosaic Idealize.ShloMosaic.TcCoe Idealize.ShloMosaic.ValueIdx Idealize.SL.Sem Product
open Finset (range)
open scoped BigOperators

/-! ## The payloads -/

theorem pay1_holds : IsE (k0_pay1 (F := Ideal)) fun _ _ => 0 := by
  unfold k0_pay1
  exact IsE.zeros.castSelf _

theorem pay2_holds {x a b : ℕ → ℕ → EReal} {X : Vec Ideal S1024x1024 .f32} {A B : Vec Ideal S1024x2048 .bf16}
    (hx : IsE X x) (ha : IsE A a) (hb : IsE B b) : IsE (k0_pay2 (F := Ideal) X A B) fun r l => x r l + ∑ κ ∈ range 2048, a r κ * b l κ := by
  unfold k0_pay2
  exact (hx.add (.nt ha hb _ rfl)).castSelf _

theorem pay3_holds {x y : ℕ → ℕ → EReal} {X Y : Vec Ideal S1024x1024 .f32} (hx : IsE X x) (hy : IsE Y y) :
    IsE (k0_pay3 (F := Ideal) X Y) fun r l => x r l + Ideal.ofBits .f32 0x3FD744FD#32 * y r l := by
  unfold k0_pay3
  exact hx.add (IsE.mul (fun _ _ => rfl) hy)

/-! ## What a point leaves -/

section
variable (m : (ℓ : Loc nD τ sig) → Buf (Elt Ideal) ℓ) (c : Dev nD)

/-- A block's first point puts its terms over zeros in the scratch, -/
theorem sum_first (t : Fin cfg0.N) (h0 : t.val % 2 = 0) : (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun _ => scover0_A_0 ..)]
  unfold kernelRun0_A; dsimp only; sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x2048) hz]

/-- its last point over what the point before left, -/
theorem sum_last (t : Fin cfg0.N) (h1 : t.val % 2 = 1) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t (by omega) h1]
  dsimp only
  unfold sout0_B_0
  rw [View.read_writes_eq_canon _ _ _ (fun _ => scover0_B_0 ..)]
  unfold kernelRun0_B; dsimp only; sl_unfold_words
  rw [View.canon_unit_zero hz]
  simp only [View.readAt_eq_ld, (hs0_0 t).read_unread, (hs0_1 t).read_unread, (Memref.isWhole_whole _).read_unread,
    View.ld_unit_zero (S := S1024x2048) hz, View.ld_unit_zero (S := S1024x1024) hz]

/-- and stores that with the addend. -/
theorem out_last (t : Fin cfg0.N) (h1 : t.val % 2 = 1) : (outsAt0 m c t.val t.isLt).1 = k0_pay3 (outsAt0 m c t.val t.isLt).2 (iblk m c 2 t) := by
  rw [sum_last m c t h1, outsAt0_B m c t (by omega) h1]
  dsimp only
  unfold out0_B_3
  rw [View.read_writes_eq_canon _ _ _ (fun _ => cover0_B_3 ..)]
  unfold kernelRun0_B; dsimp only; sl_unfold_words
  rw [View.canon_unit_zero hz, View.readCov_unit_zero (S := S1024x1024) _ hz]
  simp only [View.readAt_eq_ld, (hs0_0 t).read_unread, (hs0_1 t).read_unread, (hs0_2 t).read_unread, (Memref.isWhole_whole _).read_unread,
    View.ld_unit_zero (S := S1024x2048) hz, View.ld_unit_zero (S := S1024x1024) hz]

/-! ## The blocks in the arrays -/

/-- Where the windows lie at a point. -/
theorem at_points : ∀ t : Fin cfg0.N,
    (cc0_transform_0 (grid0.coords t) 0 = t.val / 2 / 2 ∧ cc0_transform_0 (grid0.coords t) 1 = t.val % 2)
    ∧ (cc0_transform_1 (grid0.coords t) 0 = t.val / 2 % 2 ∧ cc0_transform_1 (grid0.coords t) 1 = t.val % 2)
    ∧ cc0_transform_3 (grid0.coords t) 0 = t.val / 2 / 2 ∧ cc0_transform_3 (grid0.coords t) 1 = t.val / 2 % 2 := by
  decide +kernel

/-- The arguments' elements. -/
abbrev dz := ent (n0 := 4096) (n1 := 4096) (m ((c.tc : Thread nD τ).loc main_arg0))
abbrev wz := ent (n0 := 2048) (n1 := 4096) (m ((c.tc : Thread nD τ).loc main_arg1))
abbrev dr := ent (n0 := 4096) (n1 := 2048) (m ((c.tc : Thread nD τ).loc main_arg2))

theorem reads0 (t : Fin cfg0.N) : IsE (n0 := 1024) (n1 := 2048) (iblk m c 0 t) fun r κ => dz m c (1024 * (t.val / 2 / 2) + r) (2048 * (t.val % 2) + κ) := by
  rw [← (at_points t).1.1, ← (at_points t).1.2]
  exact IsE.block (IsE.own (n0 := 4096) (n1 := 4096) _) _ fun _ => ⟨rfl, rfl⟩

theorem reads1 (t : Fin cfg0.N) : IsE (n0 := 1024) (n1 := 2048) (iblk m c 1 t) fun l κ => wz m c (1024 * (t.val / 2 % 2) + l) (2048 * (t.val % 2) + κ) := by
  rw [← (at_points t).2.1.1, ← (at_points t).2.1.2]
  exact IsE.block (IsE.own (n0 := 2048) (n1 := 4096) _) _ fun _ => ⟨rfl, rfl⟩

/-- The addend's block is the result's. -/
theorem reads2 (t : Fin cfg0.N) : IsE (n0 := 1024) (n1 := 1024) (iblk m c 2 t) fun r l =>
    dr m c (1024 * cc0_transform_3 (grid0.coords t) 0 + r) (1024 * cc0_transform_3 (grid0.coords t) 1 + l) :=
  IsE.block (IsE.own (n0 := 4096) (n1 := 2048) _) _ fun _ => ⟨rfl, rfl⟩

/-- The scratch after a point. -/
theorem scratch : ∀ (t : ℕ) (h : t < cfg0.N), IsE (n0 := 1024) (n1 := 1024) (outsAt0 m c t h).2 fun r l =>
    ∑ κ ∈ range (2048 * (t % 2 + 1)), dz m c (1024 * (t / 2 / 2) + r) κ * wz m c (1024 * (t / 2 % 2) + l) κ := by
  refine folds (nk := 2) (by decide) (fun t h => (outsAt0 m c t h).2) (fun r l κ => dz m c r κ * wz m c l κ) (fun t h h0 => ?_) (fun t h h0 x hx => ?_)
  · exact sum_first m c ⟨t, h⟩ h0 ▸ pay2_holds pay1_holds (reads0 m c ⟨t, h⟩) (reads1 m c ⟨t, h⟩)
  · exact sum_last m c ⟨t, h⟩ (by show t % 2 = 1; omega) ▸ pay2_holds hx (reads0 m c ⟨t, h⟩) (reads1 m c ⟨t, h⟩)

/-- The array left. -/
theorem leaves : IsE (n0 := 4096) (n1 := 2048) ((dats m 0 c).arrAt 3 cfg0.N) fun r l =>
    ∑ κ ∈ range 4096, dz m c r κ * wz m c l κ + Ideal.ofBits .f32 0x3FD744FD#32 * dr m c r l := fun r l =>
  (dats m 0 c).arrAt_forall_of_covers 3 (fun i v => v = ∑ κ ∈ range 4096, dz m c (i 0).val κ * wz m c (i 1).val κ
      + Ideal.ofBits .f32 0x3FD744FD#32 * dr m c (i 0).val (i 1).val) (by decide +kernel)
    (fun t ht y => by
      have h1 : t.val % 2 = 1 := (flush0_3 t).mp ht
      have hs := scratch m c t.val t.isLt
      rw [h1, ← (at_points t).2.2.1, ← (at_points t).2.2.2] at hs
      show (dats m 0 c).after 3 t y = _
      rw [after0_3, out_last m c t h1]
      exact IsE.lands (x := fun r l => ∑ κ ∈ range 4096, dz m c r κ * wz m c l κ + Ideal.ofBits .f32 0x3FD744FD#32 * dr m c r l)
        (pay3_holds hs (reads2 m c t)) y rfl rfl) (ix2 r l)

end

/-! ## The claims -/

theorem algebraic : Cert.algebraic_Kernel4Ideal_Reference4Ideal := fun m ρ m' ρ' _ hargs =>
  ⟨fun c => (dats m 0 c).arrAt 3 cfg0.N, Value.run_blocks m ρ, (θ_run _ _ _).mono (fun _ h c => by
    obtain ⟨e0, e1, e2⟩ := hargs c
    refine ⟨(h c).1.trans ?_, (h c).2⟩
    rw [e0, e1, e2]
    exact IsE.same (IsE.add (IsE.host (IsE.nt (IsE.own (n0 := 4096) (n1 := 4096) _) (IsE.own (n0 := 2048) (n1 := 4096) _) _ rfl))
      (IsE.mul (x := fun _ _ => Ideal.ofBits .f32 0x3FD744FD#32) (fun _ _ => rfl) (IsE.own (n0 := 4096) (n1 := 2048) _))) (leaves m c))
    (Cert.Reference4Ideal.Value.run (F := Ideal) m' ρ')⟩

/-- The program as it runs has the same text as its reading at the ideal values. -/
instance facts_bits : Cert.Kernel4.Facts :=
  Cert.Kernel4Ideal.Facts.rec (motive := fun _ => Cert.Kernel4.Facts)
    (@fun h => @Cert.Kernel4.Facts.mk (Cert.Kernel4Ideal.Facts₀.rec (motive := fun _ => Cert.Kernel4.Facts₀) Cert.Kernel4.Facts₀.mk h)) facts

theorem defs_bits : Cert.Kernel4.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel4 := fun m ρ _ =>
  Eq.mpr (congrArg (fun d => θ_run d (onTc (τ := τ) (main (F := Bits))) ⟨m, fun _ => 0, ρ⟩ _) defs_bits) (frame (F := Bits) m ρ)

theorem frame_reference : Cert.quiescent_Reference4Ideal := fun m ρ _ =>
  (θ_run (Cert.Reference4Ideal.defs (F := Ideal)) _ _).mono (fun r h => ⟨fun c => (h c).2, sem_eq_zero_of_no_sems (by decide) r.2⟩)
    (Cert.Reference4Ideal.Value.run (F := Ideal) m ρ)

end Cert.Kernel4Ideal.Gen

end
-- ==== Proof.Kernel5.lean ====
/-
  The gradient of the output projection's weight: `yᵀ dr`. The contraction's 4096 tokens are two grid points, the innermost axis; the
  sum so far is carried in the scratch, and the second point stores it.
-/
module

public import proofs.«01_k».proof.Defs
public import proofs.«01_k».proof.Proof.Product
public import proofs.«01_k».proof.Proof.Gen.Kernel5Ideal.Value
public import proofs.«01_k».proof.Proof.Gen.Reference5Ideal.Run
public import Idealize.ShloMosaic.Lib.Pipeline.ValueKit.Geometry

@[expose] public section

set_option maxRecDepth 16384

noncomputable section

namespace Cert.Kernel5Ideal.Gen

open Idealize.ShloMosaic Idealize.ShloMosaic.TcCoe Idealize.ShloMosaic.ValueIdx Idealize.SL.Sem Product
open Finset (range)
open scoped BigOperators

theorem pay1_holds : IsE (k0_pay1 (F := Ideal)) fun _ _ => 0 := by
  unfold k0_pay1
  exact IsE.zeros.castSelf _

theorem pay2_holds {x a b : ℕ → ℕ → EReal} {X : Vec Ideal S1024x1024 .f32} {A B : Vec Ideal S2048x1024 .bf16}
    (hx : IsE X x) (ha : IsE A a) (hb : IsE B b) : IsE (k0_pay2 (F := Ideal) X A B) fun r l => x r l + ∑ κ ∈ range 2048, a κ r * b κ l := by
  unfold k0_pay2
  exact (hx.add (.tn ha hb _ ⟨_, rfl⟩)).castSelf _

section
variable (m : (ℓ : Loc nD τ sig) → Buf (Elt Ideal) ℓ) (c : Dev nD)

/-- A block's first point puts its terms over zeros in the scratch, -/
theorem sum_first (t : Fin cfg0.N) (h0 : t.val % 2 = 0) : (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun _ => scover0_A_0 ..)]
  unfold kernelRun0_A; dsimp only; sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S2048x1024) hz]

/-- its last point over what the point before left, -/
theorem sum_last (t : Fin cfg0.N) (h1 : t.val % 2 = 1) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t (by omega) h1]
  dsimp only
  unfold sout0_B_0
  rw [View.read_writes_eq_canon _ _ _ (fun _ => scover0_B_0 ..)]
  unfold kernelRun0_B; dsimp only; sl_unfold_words
  rw [View.canon_unit_zero hz]
  simp only [View.readAt_eq_ld, (hs0_0 t).read_unread, (hs0_1 t).read_unread, (Memref.isWhole_whole _).read_unread,
    View.ld_unit_zero (S := S2048x1024) hz, View.ld_unit_zero (S := S1024x1024) hz]

/-- and stores that. -/
theorem out_last (t : Fin cfg0.N) (h1 : t.val % 2 = 1) : (outsAt0 m c t.val t.isLt).1 = (outsAt0 m c t.val t.isLt).2 := by
  rw [sum_last m c t h1, outsAt0_B m c t (by omega) h1]
  dsimp only
  unfold out0_B_2
  rw [View.read_writes_eq_canon _ _ _ (fun _ => cover0_B_2 ..)]
  unfold kernelRun0_B; dsimp only; sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S2048x1024) hz, View.ld_unit_zero (S := S1024x1024) hz]

/-- Where the windows lie at a point. -/
theorem at_points : ∀ t : Fin cfg0.N,
    (cc0_transform_0 (grid0.coords t) 0 = t.val % 2 ∧ cc0_transform_0 (grid0.coords t) 1 = t.val / 2 / 2)
    ∧ (cc0_transform_1 (grid0.coords t) 0 = t.val % 2 ∧ cc0_transform_1 (grid0.coords t) 1 = t.val / 2 % 2)
    ∧ cc0_transform_2 (grid0.coords t) 0 = t.val / 2 / 2 ∧ cc0_transform_2 (grid0.coords t) 1 = t.val / 2 % 2 := by
  decide +kernel

/-- The arguments' elements. -/
abbrev u := ent (n0 := 4096) (n1 := 4096) (m ((c.tc : Thread nD τ).loc main_arg0))
abbrev v := ent (n0 := 4096) (n1 := 2048) (m ((c.tc : Thread nD τ).loc main_arg1))

theorem reads0 (t : Fin cfg0.N) : IsE (n0 := 2048) (n1 := 1024) (iblk m c 0 t) fun κ r => u m c (2048 * (t.val % 2) + κ) (1024 * (t.val / 2 / 2) + r) := by
  rw [← (at_points t).1.1, ← (at_points t).1.2]
  exact IsE.block (IsE.own (n0 := 4096) (n1 := 4096) _) _ fun _ => ⟨rfl, rfl⟩

theorem reads1 (t : Fin cfg0.N) : IsE (n0 := 2048) (n1 := 1024) (iblk m c 1 t) fun κ l => v m c (2048 * (t.val % 2) + κ) (1024 * (t.val / 2 % 2) + l) := by
  rw [← (at_points t).2.1.1, ← (at_points t).2.1.2]
  exact IsE.block (IsE.own (n0 := 4096) (n1 := 2048) _) _ fun _ => ⟨rfl, rfl⟩

/-- The scratch after a point. -/
theorem scratch : ∀ (t : ℕ) (h : t < cfg0.N), IsE (n0 := 1024) (n1 := 1024) (outsAt0 m c t h).2 fun r l =>
    ∑ κ ∈ range (2048 * (t % 2 + 1)), u m c κ (1024 * (t / 2 / 2) + r) * v m c κ (1024 * (t / 2 % 2) + l) := by
  refine folds (nk := 2) (by decide) (fun t h => (outsAt0 m c t h).2) (fun r l κ => u m c κ r * v m c κ l) (fun t h h0 => ?_) (fun t h h0 x hx => ?_)
  · exact sum_first m c ⟨t, h⟩ h0 ▸ pay2_holds pay1_holds (reads0 m c ⟨t, h⟩) (reads1 m c ⟨t, h⟩)
  · exact sum_last m c ⟨t, h⟩ (by show t % 2 = 1; omega) ▸ pay2_holds hx (reads0 m c ⟨t, h⟩) (reads1 m c ⟨t, h⟩)

/-- The array left. -/
theorem leaves : IsE (n0 := 4096) (n1 := 2048) ((dats m 0 c).arrAt 2 cfg0.N) fun r l => ∑ κ ∈ range 4096, u m c κ r * v m c κ l := fun r l =>
  (dats m 0 c).arrAt_forall_of_covers 2 (fun i y => y = ∑ κ ∈ range 4096, u m c κ (i 0).val * v m c κ (i 1).val) (by decide +kernel)
    (fun t ht y => by
      have h1 : t.val % 2 = 1 := (flush0_2 t).mp ht
      have hs := scratch m c t.val t.isLt
      rw [h1, ← (at_points t).2.2.1, ← (at_points t).2.2.2] at hs
      show (dats m 0 c).after 2 t y = _
      rw [after0_2, out_last m c t h1]
      exact IsE.lands (x := fun r l => ∑ κ ∈ range 4096, u m c κ r * v m c κ l) hs y rfl rfl) (ix2 r l)

end

theorem algebraic : Cert.algebraic_Kernel5Ideal_Reference5Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.gradient (IsE.own (n0 := 4096) (n1 := 2048) _) (IsE.own (n0 := 4096) (n1 := 4096) _) _ ⟨_, rfl⟩ _) (leaves m c))
    (Cert.Reference5Ideal.Value.run (F := Ideal) m' ρ')⟩

/-- The program as it runs has the same text as its reading at the ideal values. -/
instance facts_bits : Cert.Kernel5.Facts :=
  Cert.Kernel5Ideal.Facts.rec (motive := fun _ => Cert.Kernel5.Facts)
    (@fun h => @Cert.Kernel5.Facts.mk (Cert.Kernel5Ideal.Facts₀.rec (motive := fun _ => Cert.Kernel5.Facts₀) Cert.Kernel5.Facts₀.mk h)) facts

theorem defs_bits : Cert.Kernel5.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel5 := fun m ρ _ =>
  Eq.mpr (congrArg (fun d => θ_run d (onTc (τ := τ) (main (F := Bits))) ⟨m, fun _ => 0, ρ⟩ _) defs_bits) (frame (F := Bits) m ρ)

theorem frame_reference : Cert.quiescent_Reference5Ideal := fun m ρ _ =>
  (θ_run (Cert.Reference5Ideal.defs (F := Ideal)) _ _).mono (fun r h => ⟨fun c => (h c).2, sem_eq_zero_of_no_sems (by decide) r.2⟩)
    (Cert.Reference5Ideal.Value.run (F := Ideal) m ρ)

end Cert.Kernel5Ideal.Gen

end
-- ==== Proof.Kernel6.lean ====
/-
  The gradient of the state-space layers' input projection: `hᵀ dx`. The contraction's 4096 tokens are two grid points, the innermost axis; the
  sum so far is carried in the scratch, and the second point stores it.
-/
module

public import proofs.«01_k».proof.Defs
public import proofs.«01_k».proof.Proof.Product
public import proofs.«01_k».proof.Proof.Gen.Kernel6Ideal.Value
public import proofs.«01_k».proof.Proof.Gen.Reference6Ideal.Run
public import Idealize.ShloMosaic.Lib.Pipeline.ValueKit.Geometry

@[expose] public section

set_option maxRecDepth 16384

noncomputable section

namespace Cert.Kernel6Ideal.Gen

open Idealize.ShloMosaic Idealize.ShloMosaic.TcCoe Idealize.ShloMosaic.ValueIdx Idealize.SL.Sem Product
open Finset (range)
open scoped BigOperators

theorem pay1_holds : IsE (k0_pay1 (F := Ideal)) fun _ _ => 0 := by
  unfold k0_pay1
  exact IsE.zeros.castSelf _

theorem pay2_holds {x a b : ℕ → ℕ → EReal} {X : Vec Ideal S1024x1024 .f32} {A B : Vec Ideal S2048x1024 .bf16}
    (hx : IsE X x) (ha : IsE A a) (hb : IsE B b) : IsE (k0_pay2 (F := Ideal) X A B) fun r l => x r l + ∑ κ ∈ range 2048, a κ r * b κ l := by
  unfold k0_pay2
  exact (hx.add (.tn ha hb _ ⟨_, rfl⟩)).castSelf _

section
variable (m : (ℓ : Loc nD τ sig) → Buf (Elt Ideal) ℓ) (c : Dev nD)

/-- A block's first point puts its terms over zeros in the scratch, -/
theorem sum_first (t : Fin cfg0.N) (h0 : t.val % 2 = 0) : (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun _ => scover0_A_0 ..)]
  unfold kernelRun0_A; dsimp only; sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S2048x1024) hz]

/-- its last point over what the point before left, -/
theorem sum_last (t : Fin cfg0.N) (h1 : t.val % 2 = 1) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t (by omega) h1]
  dsimp only
  unfold sout0_B_0
  rw [View.read_writes_eq_canon _ _ _ (fun _ => scover0_B_0 ..)]
  unfold kernelRun0_B; dsimp only; sl_unfold_words
  rw [View.canon_unit_zero hz]
  simp only [View.readAt_eq_ld, (hs0_0 t).read_unread, (hs0_1 t).read_unread, (Memref.isWhole_whole _).read_unread,
    View.ld_unit_zero (S := S2048x1024) hz, View.ld_unit_zero (S := S1024x1024) hz]

/-- and stores that. -/
theorem out_last (t : Fin cfg0.N) (h1 : t.val % 2 = 1) : (outsAt0 m c t.val t.isLt).1 = (outsAt0 m c t.val t.isLt).2 := by
  rw [sum_last m c t h1, outsAt0_B m c t (by omega) h1]
  dsimp only
  unfold out0_B_2
  rw [View.read_writes_eq_canon _ _ _ (fun _ => cover0_B_2 ..)]
  unfold kernelRun0_B; dsimp only; sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S2048x1024) hz, View.ld_unit_zero (S := S1024x1024) hz]

/-- Where the windows lie at a point. -/
theorem at_points : ∀ t : Fin cfg0.N,
    (cc0_transform_0 (grid0.coords t) 0 = t.val % 2 ∧ cc0_transform_0 (grid0.coords t) 1 = t.val / 2 / 6)
    ∧ (cc0_transform_1 (grid0.coords t) 0 = t.val % 2 ∧ cc0_transform_1 (grid0.coords t) 1 = t.val / 2 % 6)
    ∧ cc0_transform_2 (grid0.coords t) 0 = t.val / 2 / 6 ∧ cc0_transform_2 (grid0.coords t) 1 = t.val / 2 % 6 := by
  decide +kernel

/-- The arguments' elements. -/
abbrev u := ent (n0 := 4096) (n1 := 2048) (m ((c.tc : Thread nD τ).loc main_arg0))
abbrev v := ent (n0 := 4096) (n1 := 6144) (m ((c.tc : Thread nD τ).loc main_arg1))

theorem reads0 (t : Fin cfg0.N) : IsE (n0 := 2048) (n1 := 1024) (iblk m c 0 t) fun κ r => u m c (2048 * (t.val % 2) + κ) (1024 * (t.val / 2 / 6) + r) := by
  rw [← (at_points t).1.1, ← (at_points t).1.2]
  exact IsE.block (IsE.own (n0 := 4096) (n1 := 2048) _) _ fun _ => ⟨rfl, rfl⟩

theorem reads1 (t : Fin cfg0.N) : IsE (n0 := 2048) (n1 := 1024) (iblk m c 1 t) fun κ l => v m c (2048 * (t.val % 2) + κ) (1024 * (t.val / 2 % 6) + l) := by
  rw [← (at_points t).2.1.1, ← (at_points t).2.1.2]
  exact IsE.block (IsE.own (n0 := 4096) (n1 := 6144) _) _ fun _ => ⟨rfl, rfl⟩

/-- The scratch after a point. -/
theorem scratch : ∀ (t : ℕ) (h : t < cfg0.N), IsE (n0 := 1024) (n1 := 1024) (outsAt0 m c t h).2 fun r l =>
    ∑ κ ∈ range (2048 * (t % 2 + 1)), u m c κ (1024 * (t / 2 / 6) + r) * v m c κ (1024 * (t / 2 % 6) + l) := by
  refine folds (nk := 2) (by decide) (fun t h => (outsAt0 m c t h).2) (fun r l κ => u m c κ r * v m c κ l) (fun t h h0 => ?_) (fun t h h0 x hx => ?_)
  · exact sum_first m c ⟨t, h⟩ h0 ▸ pay2_holds pay1_holds (reads0 m c ⟨t, h⟩) (reads1 m c ⟨t, h⟩)
  · exact sum_last m c ⟨t, h⟩ (by show t % 2 = 1; omega) ▸ pay2_holds hx (reads0 m c ⟨t, h⟩) (reads1 m c ⟨t, h⟩)

/-- The array left. -/
theorem leaves : IsE (n0 := 2048) (n1 := 6144) ((dats m 0 c).arrAt 2 cfg0.N) fun r l => ∑ κ ∈ range 4096, u m c κ r * v m c κ l := fun r l =>
  (dats m 0 c).arrAt_forall_of_covers 2 (fun i y => y = ∑ κ ∈ range 4096, u m c κ (i 0).val * v m c κ (i 1).val) (by decide +kernel)
    (fun t ht y => by
      have h1 : t.val % 2 = 1 := (flush0_2 t).mp ht
      have hs := scratch m c t.val t.isLt
      rw [h1, ← (at_points t).2.2.1, ← (at_points t).2.2.2] at hs
      show (dats m 0 c).after 2 t y = _
      rw [after0_2, out_last m c t h1]
      exact IsE.lands (x := fun r l => ∑ κ ∈ range 4096, u m c κ r * v m c κ l) hs y rfl rfl) (ix2 r l)

end

theorem algebraic : Cert.algebraic_Kernel6Ideal_Reference6Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.gradient (IsE.own (n0 := 4096) (n1 := 6144) _) (IsE.own (n0 := 4096) (n1 := 2048) _) _ ⟨_, rfl⟩ _) (leaves m c))
    (Cert.Reference6Ideal.Value.run (F := Ideal) m' ρ')⟩

/-- The program as it runs has the same text as its reading at the ideal values. -/
instance facts_bits : Cert.Kernel6.Facts :=
  Cert.Kernel6Ideal.Facts.rec (motive := fun _ => Cert.Kernel6.Facts)
    (@fun h => @Cert.Kernel6.Facts.mk (Cert.Kernel6Ideal.Facts₀.rec (motive := fun _ => Cert.Kernel6.Facts₀) Cert.Kernel6.Facts₀.mk h)) facts

theorem defs_bits : Cert.Kernel6.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel6 := fun m ρ _ =>
  Eq.mpr (congrArg (fun d => θ_run d (onTc (τ := τ) (main (F := Bits))) ⟨m, fun _ => 0, ρ⟩ _) defs_bits) (frame (F := Bits) m ρ)

theorem frame_reference : Cert.quiescent_Reference6Ideal := fun m ρ _ =>
  (θ_run (Cert.Reference6Ideal.defs (F := Ideal)) _ _).mono (fun r h => ⟨fun c => (h c).2, sem_eq_zero_of_no_sems (by decide) r.2⟩)
    (Cert.Reference6Ideal.Value.run (F := Ideal) m ρ)

end Cert.Kernel6Ideal.Gen

end
-- ==== Proof.Kernel7.lean ====
/-
  The gradient of the delta-rule layer's input projection: `hᵀ dx`. The contraction's 4096 tokens are two grid points, the innermost axis; the
  sum so far is carried in the scratch, and the second point stores it.
-/
module

public import proofs.«01_k».proof.Defs
public import proofs.«01_k».proof.Proof.Product
public import proofs.«01_k».proof.Proof.Gen.Kernel7Ideal.Value
public import proofs.«01_k».proof.Proof.Gen.Reference7Ideal.Run
public import Idealize.ShloMosaic.Lib.Pipeline.ValueKit.Geometry

@[expose] public section

set_option maxRecDepth 16384

noncomputable section

namespace Cert.Kernel7Ideal.Gen

open Idealize.ShloMosaic Idealize.ShloMosaic.TcCoe Idealize.ShloMosaic.ValueIdx Idealize.SL.Sem Product
open Finset (range)
open scoped BigOperators

theorem pay1_holds : IsE (k0_pay1 (F := Ideal)) fun _ _ => 0 := by
  unfold k0_pay1
  exact IsE.zeros.castSelf _

theorem pay2_holds {x a b : ℕ → ℕ → EReal} {X : Vec Ideal S1024x1024 .f32} {A B : Vec Ideal S2048x1024 .bf16}
    (hx : IsE X x) (ha : IsE A a) (hb : IsE B b) : IsE (k0_pay2 (F := Ideal) X A B) fun r l => x r l + ∑ κ ∈ range 2048, a κ r * b κ l := by
  unfold k0_pay2
  exact (hx.add (.tn ha hb _ ⟨_, rfl⟩)).castSelf _

section
variable (m : (ℓ : Loc nD τ sig) → Buf (Elt Ideal) ℓ) (c : Dev nD)

/-- A block's first point puts its terms over zeros in the scratch, -/
theorem sum_first (t : Fin cfg0.N) (h0 : t.val % 2 = 0) : (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun _ => scover0_A_0 ..)]
  unfold kernelRun0_A; dsimp only; sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S2048x1024) hz]

/-- its last point over what the point before left, -/
theorem sum_last (t : Fin cfg0.N) (h1 : t.val % 2 = 1) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t (by omega) h1]
  dsimp only
  unfold sout0_B_0
  rw [View.read_writes_eq_canon _ _ _ (fun _ => scover0_B_0 ..)]
  unfold kernelRun0_B; dsimp only; sl_unfold_words
  rw [View.canon_unit_zero hz]
  simp only [View.readAt_eq_ld, (hs0_0 t).read_unread, (hs0_1 t).read_unread, (Memref.isWhole_whole _).read_unread,
    View.ld_unit_zero (S := S2048x1024) hz, View.ld_unit_zero (S := S1024x1024) hz]

/-- and stores that. -/
theorem out_last (t : Fin cfg0.N) (h1 : t.val % 2 = 1) : (outsAt0 m c t.val t.isLt).1 = (outsAt0 m c t.val t.isLt).2 := by
  rw [sum_last m c t h1, outsAt0_B m c t (by omega) h1]
  dsimp only
  unfold out0_B_2
  rw [View.read_writes_eq_canon _ _ _ (fun _ => cover0_B_2 ..)]
  unfold kernelRun0_B; dsimp only; sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S2048x1024) hz, View.ld_unit_zero (S := S1024x1024) hz]

/-- Where the windows lie at a point. -/
theorem at_points : ∀ t : Fin cfg0.N,
    (cc0_transform_0 (grid0.coords t) 0 = t.val % 2 ∧ cc0_transform_0 (grid0.coords t) 1 = t.val / 2 / 8)
    ∧ (cc0_transform_1 (grid0.coords t) 0 = t.val % 2 ∧ cc0_transform_1 (grid0.coords t) 1 = t.val / 2 % 8)
    ∧ cc0_transform_2 (grid0.coords t) 0 = t.val / 2 / 8 ∧ cc0_transform_2 (grid0.coords t) 1 = t.val / 2 % 8 := by
  decide +kernel

/-- The arguments' elements. -/
abbrev u := ent (n0 := 4096) (n1 := 2048) (m ((c.tc : Thread nD τ).loc main_arg0))
abbrev v := ent (n0 := 4096) (n1 := 8192) (m ((c.tc : Thread nD τ).loc main_arg1))

theorem reads0 (t : Fin cfg0.N) : IsE (n0 := 2048) (n1 := 1024) (iblk m c 0 t) fun κ r => u m c (2048 * (t.val % 2) + κ) (1024 * (t.val / 2 / 8) + r) := by
  rw [← (at_points t).1.1, ← (at_points t).1.2]
  exact IsE.block (IsE.own (n0 := 4096) (n1 := 2048) _) _ fun _ => ⟨rfl, rfl⟩

theorem reads1 (t : Fin cfg0.N) : IsE (n0 := 2048) (n1 := 1024) (iblk m c 1 t) fun κ l => v m c (2048 * (t.val % 2) + κ) (1024 * (t.val / 2 % 8) + l) := by
  rw [← (at_points t).2.1.1, ← (at_points t).2.1.2]
  exact IsE.block (IsE.own (n0 := 4096) (n1 := 8192) _) _ fun _ => ⟨rfl, rfl⟩

/-- The scratch after a point. -/
theorem scratch : ∀ (t : ℕ) (h : t < cfg0.N), IsE (n0 := 1024) (n1 := 1024) (outsAt0 m c t h).2 fun r l =>
    ∑ κ ∈ range (2048 * (t % 2 + 1)), u m c κ (1024 * (t / 2 / 8) + r) * v m c κ (1024 * (t / 2 % 8) + l) := by
  refine folds (nk := 2) (by decide) (fun t h => (outsAt0 m c t h).2) (fun r l κ => u m c κ r * v m c κ l) (fun t h h0 => ?_) (fun t h h0 x hx => ?_)
  · exact sum_first m c ⟨t, h⟩ h0 ▸ pay2_holds pay1_holds (reads0 m c ⟨t, h⟩) (reads1 m c ⟨t, h⟩)
  · exact sum_last m c ⟨t, h⟩ (by show t % 2 = 1; omega) ▸ pay2_holds hx (reads0 m c ⟨t, h⟩) (reads1 m c ⟨t, h⟩)

/-- The array left. -/
theorem leaves : IsE (n0 := 2048) (n1 := 8192) ((dats m 0 c).arrAt 2 cfg0.N) fun r l => ∑ κ ∈ range 4096, u m c κ r * v m c κ l := fun r l =>
  (dats m 0 c).arrAt_forall_of_covers 2 (fun i y => y = ∑ κ ∈ range 4096, u m c κ (i 0).val * v m c κ (i 1).val) (by decide +kernel)
    (fun t ht y => by
      have h1 : t.val % 2 = 1 := (flush0_2 t).mp ht
      have hs := scratch m c t.val t.isLt
      rw [h1, ← (at_points t).2.2.1, ← (at_points t).2.2.2] at hs
      show (dats m 0 c).after 2 t y = _
      rw [after0_2, out_last m c t h1]
      exact IsE.lands (x := fun r l => ∑ κ ∈ range 4096, u m c κ r * v m c κ l) hs y rfl rfl) (ix2 r l)

end

theorem algebraic : Cert.algebraic_Kernel7Ideal_Reference7Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.gradient (IsE.own (n0 := 4096) (n1 := 8192) _) (IsE.own (n0 := 4096) (n1 := 2048) _) _ ⟨_, rfl⟩ _) (leaves m c))
    (Cert.Reference7Ideal.Value.run (F := Ideal) m' ρ')⟩

/-- The program as it runs has the same text as its reading at the ideal values. -/
instance facts_bits : Cert.Kernel7.Facts :=
  Cert.Kernel7Ideal.Facts.rec (motive := fun _ => Cert.Kernel7.Facts)
    (@fun h => @Cert.Kernel7.Facts.mk (Cert.Kernel7Ideal.Facts₀.rec (motive := fun _ => Cert.Kernel7.Facts₀) Cert.Kernel7.Facts₀.mk h)) facts

theorem defs_bits : Cert.Kernel7.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel7 := fun m ρ _ =>
  Eq.mpr (congrArg (fun d => θ_run d (onTc (τ := τ) (main (F := Bits))) ⟨m, fun _ => 0, ρ⟩ _) defs_bits) (frame (F := Bits) m ρ)

theorem frame_reference : Cert.quiescent_Reference7Ideal := fun m ρ _ =>
  (θ_run (Cert.Reference7Ideal.defs (F := Ideal)) _ _).mono (fun r h => ⟨fun c => (h c).2, sem_eq_zero_of_no_sems (by decide) r.2⟩)
    (Cert.Reference7Ideal.Value.run (F := Ideal) m ρ)

end Cert.Kernel7Ideal.Gen

end
-- ==== Proof.Kernel8.lean ====
/-
  The gradient of the hidden states through a state-space layer's input projection, onto the gradient so far:
  `dx wxᵀ + da`. The contraction's 6144 positions are three grid points, the innermost axis; the sum so far is carried in
  the scratch, and the last point adds the addend and stores.
-/
module

public import proofs.«01_k».proof.Defs
public import proofs.«01_k».proof.Proof.Product
public import proofs.«01_k».proof.Proof.Gen.Kernel8Ideal.Value
public import proofs.«01_k».proof.Proof.Gen.Reference8Ideal.Run
public import Idealize.ShloMosaic.Lib.Pipeline.ValueKit.Geometry

@[expose] public section

set_option maxRecDepth 16384

noncomputable section

namespace Cert.Kernel8Ideal.Gen

open Idealize.ShloMosaic Idealize.ShloMosaic.TcCoe Idealize.ShloMosaic.ValueIdx Idealize.SL.Sem Product
open Finset (range)
open scoped BigOperators

/-! ## The payloads -/

theorem pay1_holds : IsE (k0_pay1 (F := Ideal)) fun _ _ => 0 := by
  unfold k0_pay1
  exact IsE.zeros.castSelf _

theorem pay2_holds {x a b : ℕ → ℕ → EReal} {X : Vec Ideal S1024x1024 .f32} {A B : Vec Ideal S1024x2048 .bf16}
    (hx : IsE X x) (ha : IsE A a) (hb : IsE B b) : IsE (k0_pay2 (F := Ideal) X A B) fun r l => x r l + ∑ κ ∈ range 2048, a r κ * b l κ := by
  unfold k0_pay2
  exact (hx.add (.nt ha hb _ rfl)).castSelf _

theorem pay3_holds {x y : ℕ → ℕ → EReal} {X Y : Vec Ideal S1024x1024 .f32} (hx : IsE X x) (hy : IsE Y y) :
    IsE (k0_pay3 (F := Ideal) X Y) fun r l => x r l + Ideal.ofBits .f32 0x3F800000#32 * y r l := by
  unfold k0_pay3
  exact hx.add (IsE.mul (fun _ _ => rfl) hy)

/-! ## What a point leaves -/

section
variable (m : (ℓ : Loc nD τ sig) → Buf (Elt Ideal) ℓ) (c : Dev nD)

/-- A block's first point puts its terms over zeros in the scratch, -/
theorem sum_first (t : Fin cfg0.N) (h0 : t.val % 3 = 0) : (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun _ => scover0_A_0 ..)]
  unfold kernelRun0_A; dsimp only; sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x2048) hz]

/-- a point between over what the point before left, -/
theorem sum_next (t : Fin cfg0.N) (h0 : t.val % 3 ≠ 0) (h1 : t.val % 3 ≠ 2) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B; dsimp only; sl_unfold_words
  rw [View.canon_unit_zero hz]
  simp only [View.readAt_eq_ld, (hs0_0 t).read_unread, (hs0_1 t).read_unread, (Memref.isWhole_whole _).read_unread,
    View.ld_unit_zero (S := S1024x2048) hz, View.ld_unit_zero (S := S1024x1024) hz]

/-- its last point too over what the point before left, -/
theorem sum_last (t : Fin cfg0.N) (h1 : t.val % 3 = 2) : (outsAt0 m c t.val t.isLt).2
    = k0_pay2 (outsAt0 m c (t.val - 1) (Nat.lt_of_le_of_lt (Nat.sub_le _ _) t.isLt)).2 (iblk m c 0 t) (iblk m c 1 t) := by
  rw [outsAt0_C m c t (by omega) h1]
  dsimp only
  unfold sout0_C_0
  rw [View.read_writes_eq_canon _ _ _ (fun _ => scover0_C_0 ..)]
  unfold kernelRun0_C; dsimp only; sl_unfold_words
  rw [View.canon_unit_zero hz]
  simp only [View.readAt_eq_ld, (hs0_0 t).read_unread, (hs0_1 t).read_unread, (Memref.isWhole_whole _).read_unread,
    View.ld_unit_zero (S := S1024x2048) hz, View.ld_unit_zero (S := S1024x1024) hz]

/-- and stores that with the addend. -/
theorem out_last (t : Fin cfg0.N) (h1 : t.val % 3 = 2) : (outsAt0 m c t.val t.isLt).1 = k0_pay3 (outsAt0 m c t.val t.isLt).2 (iblk m c 2 t) := by
  rw [sum_last m c t h1, outsAt0_C m c t (by omega) h1]
  dsimp only
  unfold out0_C_3
  rw [View.read_writes_eq_canon _ _ _ (fun _ => cover0_C_3 ..)]
  unfold kernelRun0_C; dsimp only; sl_unfold_words
  rw [View.canon_unit_zero hz, View.readCov_unit_zero (S := S1024x1024) _ hz]
  simp only [View.readAt_eq_ld, (hs0_0 t).read_unread, (hs0_1 t).read_unread, (hs0_2 t).read_unread, (Memref.isWhole_whole _).read_unread,
    View.ld_unit_zero (S := S1024x2048) hz, View.ld_unit_zero (S := S1024x1024) hz]

/-! ## The blocks in the arrays -/

/-- Where the windows lie at a point. -/
theorem at_points : ∀ t : Fin cfg0.N,
    (cc0_transform_0 (grid0.coords t) 0 = t.val / 3 / 2 ∧ cc0_transform_0 (grid0.coords t) 1 = t.val % 3)
    ∧ (cc0_transform_1 (grid0.coords t) 0 = t.val / 3 % 2 ∧ cc0_transform_1 (grid0.coords t) 1 = t.val % 3)
    ∧ cc0_transform_3 (grid0.coords t) 0 = t.val / 3 / 2 ∧ cc0_transform_3 (grid0.coords t) 1 = t.val / 3 % 2 := by
  decide +kernel

/-- The arguments' elements. -/
abbrev dx := ent (n0 := 4096) (n1 := 6144) (m ((c.tc : Thread nD τ).loc main_arg0))
abbrev wx := ent (n0 := 2048) (n1 := 6144) (m ((c.tc : Thread nD τ).loc main_arg1))
abbrev da := ent (n0 := 4096) (n1 := 2048) (m ((c.tc : Thread nD τ).loc main_arg2))

theorem reads0 (t : Fin cfg0.N) : IsE (n0 := 1024) (n1 := 2048) (iblk m c 0 t) fun r κ => dx m c (1024 * (t.val / 3 / 2) + r) (2048 * (t.val % 3) + κ) := by
  rw [← (at_points t).1.1, ← (at_points t).1.2]
  exact IsE.block (IsE.own (n0 := 4096) (n1 := 6144) _) _ fun _ => ⟨rfl, rfl⟩

theorem reads1 (t : Fin cfg0.N) : IsE (n0 := 1024) (n1 := 2048) (iblk m c 1 t) fun l κ => wx m c (1024 * (t.val / 3 % 2) + l) (2048 * (t.val % 3) + κ) := by
  rw [← (at_points t).2.1.1, ← (at_points t).2.1.2]
  exact IsE.block (IsE.own (n0 := 2048) (n1 := 6144) _) _ fun _ => ⟨rfl, rfl⟩

/-- The addend's block is the result's. -/
theorem reads2 (t : Fin cfg0.N) : IsE (n0 := 1024) (n1 := 1024) (iblk m c 2 t) fun r l =>
    da m c (1024 * cc0_transform_3 (grid0.coords t) 0 + r) (1024 * cc0_transform_3 (grid0.coords t) 1 + l) :=
  IsE.block (IsE.own (n0 := 4096) (n1 := 2048) _) _ fun _ => ⟨rfl, rfl⟩

/-- The scratch after a point. -/
theorem scratch : ∀ (t : ℕ) (h : t < cfg0.N), IsE (n0 := 1024) (n1 := 1024) (outsAt0 m c t h).2 fun r l =>
    ∑ κ ∈ range (2048 * (t % 3 + 1)), dx m c (1024 * (t / 3 / 2) + r) κ * wx m c (1024 * (t / 3 % 2) + l) κ := by
  refine folds (nk := 3) (by decide) (fun t h => (outsAt0 m c t h).2) (fun r l κ => dx m c r κ * wx m c l κ) (fun t h h0 => ?_) (fun t h h0 x hx => ?_)
  · exact sum_first m c ⟨t, h⟩ h0 ▸ pay2_holds pay1_holds (reads0 m c ⟨t, h⟩) (reads1 m c ⟨t, h⟩)
  · rcases eq_or_ne (t % 3) 2 with h1 | h1
    · exact sum_last m c ⟨t, h⟩ h1 ▸ pay2_holds hx (reads0 m c ⟨t, h⟩) (reads1 m c ⟨t, h⟩)
    · exact sum_next m c ⟨t, h⟩ h0 h1 ▸ pay2_holds hx (reads0 m c ⟨t, h⟩) (reads1 m c ⟨t, h⟩)

/-- The array left. -/
theorem leaves : IsE (n0 := 4096) (n1 := 2048) ((dats m 0 c).arrAt 3 cfg0.N) fun r l =>
    ∑ κ ∈ range 6144, dx m c r κ * wx m c l κ + Ideal.ofBits .f32 0x3F800000#32 * da m c r l := fun r l =>
  (dats m 0 c).arrAt_forall_of_covers 3 (fun i v => v = ∑ κ ∈ range 6144, dx m c (i 0).val κ * wx m c (i 1).val κ
      + Ideal.ofBits .f32 0x3F800000#32 * da m c (i 0).val (i 1).val) (by decide +kernel)
    (fun t ht y => by
      have h1 : t.val % 3 = 2 := (flush0_3 t).mp ht
      have hs := scratch m c t.val t.isLt
      rw [h1, ← (at_points t).2.2.1, ← (at_points t).2.2.2] at hs
      show (dats m 0 c).after 3 t y = _
      rw [after0_3, out_last m c t h1]
      exact IsE.lands (x := fun r l => ∑ κ ∈ range 6144, dx m c r κ * wx m c l κ + Ideal.ofBits .f32 0x3F800000#32 * da m c r l)
        (pay3_holds hs (reads2 m c t)) y rfl rfl) (ix2 r l)

end

/-! ## The claims -/

theorem algebraic : Cert.algebraic_Kernel8Ideal_Reference8Ideal := fun m ρ m' ρ' _ hargs =>
  ⟨fun c => (dats m 0 c).arrAt 3 cfg0.N, Value.run_blocks m ρ, (θ_run _ _ _).mono (fun _ h c => by
    obtain ⟨e0, e1, e2⟩ := hargs c
    refine ⟨(h c).1.trans ?_, (h c).2⟩
    rw [e0, e1, e2]
    exact IsE.same (IsE.add (IsE.host (IsE.nt (IsE.own (n0 := 4096) (n1 := 6144) _) (IsE.own (n0 := 2048) (n1 := 6144) _) _ rfl))
      (IsE.mul (x := fun _ _ => Ideal.ofBits .f32 0x3F800000#32) (fun _ _ => rfl) (IsE.own (n0 := 4096) (n1 := 2048) _))) (leaves m c))
    (Cert.Reference8Ideal.Value.run (F := Ideal) m' ρ')⟩

/-- The program as it runs has the same text as its reading at the ideal values. -/
instance facts_bits : Cert.Kernel8.Facts :=
  Cert.Kernel8Ideal.Facts.rec (motive := fun _ => Cert.Kernel8.Facts)
    (@fun h => @Cert.Kernel8.Facts.mk (Cert.Kernel8Ideal.Facts₀.rec (motive := fun _ => Cert.Kernel8.Facts₀) Cert.Kernel8.Facts₀.mk h)) facts

theorem defs_bits : Cert.Kernel8.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel8 := fun m ρ _ =>
  Eq.mpr (congrArg (fun d => θ_run d (onTc (τ := τ) (main (F := Bits))) ⟨m, fun _ => 0, ρ⟩ _) defs_bits) (frame (F := Bits) m ρ)

theorem frame_reference : Cert.quiescent_Reference8Ideal := fun m ρ _ =>
  (θ_run (Cert.Reference8Ideal.defs (F := Ideal)) _ _).mono (fun r h => ⟨fun c => (h c).2, sem_eq_zero_of_no_sems (by decide) r.2⟩)
    (Cert.Reference8Ideal.Value.run (F := Ideal) m ρ)

end Cert.Kernel8Ideal.Gen

end
-- ==== Proof.Kernel9.lean ====
/-
  The gradient of the hidden states through the delta-rule layer's input projection, onto the gradient so far:
  `dx wxᵀ + da`. The contraction's 8192 positions are four grid points, the innermost axis; the sum so far is carried in
  the scratch, and the last point adds the addend and stores.
-/
module

public import proofs.«01_k».proof.Defs
public import proofs.«01_k».proof.Proof.Product
public import proofs.«01_k».proof.Proof.Gen.Kernel9Ideal.Value
public import proofs.«01_k».proof.Proof.Gen.Reference9Ideal.Run
public import Idealize.ShloMosaic.Lib.Pipeline.ValueKit.Geometry

@[expose] public section

set_option maxRecDepth 16384

noncomputable section

namespace Cert.Kernel9Ideal.Gen

open Idealize.ShloMosaic Idealize.ShloMosaic.TcCoe Idealize.ShloMosaic.ValueIdx Idealize.SL.Sem Product
open Finset (range)
open scoped BigOperators

/-! ## The payloads -/

theorem pay1_holds : IsE (k0_pay1 (F := Ideal)) fun _ _ => 0 := by
  unfold k0_pay1
  exact IsE.zeros.castSelf _

theorem pay2_holds {x a b : ℕ → ℕ → EReal} {X : Vec Ideal S1024x1024 .f32} {A B : Vec Ideal S1024x2048 .bf16}
    (hx : IsE X x) (ha : IsE A a) (hb : IsE B b) : IsE (k0_pay2 (F := Ideal) X A B) fun r l => x r l + ∑ κ ∈ range 2048, a r κ * b l κ := by
  unfold k0_pay2
  exact (hx.add (.nt ha hb _ rfl)).castSelf _

theorem pay3_holds {x y : ℕ → ℕ → EReal} {X Y : Vec Ideal S1024x1024 .f32} (hx : IsE X x) (hy : IsE Y y) :
    IsE (k0_pay3 (F := Ideal) X Y) fun r l => x r l + Ideal.ofBits .f32 0x3F800000#32 * y r l := by
  unfold k0_pay3
  exact hx.add (IsE.mul (fun _ _ => rfl) hy)

/-! ## What a point leaves -/

section
variable (m : (ℓ : Loc nD τ sig) → Buf (Elt Ideal) ℓ) (c : Dev nD)

/-- A block's first point puts its terms over zeros in the scratch, -/
theorem sum_first (t : Fin cfg0.N) (h0 : t.val % 4 = 0) : (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun _ => scover0_A_0 ..)]
  unfold kernelRun0_A; dsimp only; sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x2048) hz]

/-- a point between over what the point before left, -/
theorem sum_next (t : Fin cfg0.N) (h0 : t.val % 4 ≠ 0) (h1 : t.val % 4 ≠ 3) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h0 h1]
  dsimp only
  unfold sout0_B_0
  rw [View.read_writes_eq_canon _ _ _ (fun _ => scover0_B_0 ..)]
  unfold kernelRun0_B; dsimp only; sl_unfold_words
  rw [View.canon_unit_zero hz]
  simp only [View.readAt_eq_ld, (hs0_0 t).read_unread, (hs0_1 t).read_unread, (Memref.isWhole_whole _).read_unread,
    View.ld_unit_zero (S := S1024x2048) hz, View.ld_unit_zero (S := S1024x1024) hz]

/-- its last point too over what the point before left, -/
theorem sum_last (t : Fin cfg0.N) (h1 : t.val % 4 = 3) : (outsAt0 m c t.val t.isLt).2
    = k0_pay2 (outsAt0 m c (t.val - 1) (Nat.lt_of_le_of_lt (Nat.sub_le _ _) t.isLt)).2 (iblk m c 0 t) (iblk m c 1 t) := by
  rw [outsAt0_C m c t (by omega) h1]
  dsimp only
  unfold sout0_C_0
  rw [View.read_writes_eq_canon _ _ _ (fun _ => scover0_C_0 ..)]
  unfold kernelRun0_C; dsimp only; sl_unfold_words
  rw [View.canon_unit_zero hz]
  simp only [View.readAt_eq_ld, (hs0_0 t).read_unread, (hs0_1 t).read_unread, (Memref.isWhole_whole _).read_unread,
    View.ld_unit_zero (S := S1024x2048) hz, View.ld_unit_zero (S := S1024x1024) hz]

/-- and stores that with the addend. -/
theorem out_last (t : Fin cfg0.N) (h1 : t.val % 4 = 3) : (outsAt0 m c t.val t.isLt).1 = k0_pay3 (outsAt0 m c t.val t.isLt).2 (iblk m c 2 t) := by
  rw [sum_last m c t h1, outsAt0_C m c t (by omega) h1]
  dsimp only
  unfold out0_C_3
  rw [View.read_writes_eq_canon _ _ _ (fun _ => cover0_C_3 ..)]
  unfold kernelRun0_C; dsimp only; sl_unfold_words
  rw [View.canon_unit_zero hz, View.readCov_unit_zero (S := S1024x1024) _ hz]
  simp only [View.readAt_eq_ld, (hs0_0 t).read_unread, (hs0_1 t).read_unread, (hs0_2 t).read_unread, (Memref.isWhole_whole _).read_unread,
    View.ld_unit_zero (S := S1024x2048) hz, View.ld_unit_zero (S := S1024x1024) hz]

/-! ## The blocks in the arrays -/

/-- Where the windows lie at a point. -/
theorem at_points : ∀ t : Fin cfg0.N,
    (cc0_transform_0 (grid0.coords t) 0 = t.val / 4 / 2 ∧ cc0_transform_0 (grid0.coords t) 1 = t.val % 4)
    ∧ (cc0_transform_1 (grid0.coords t) 0 = t.val / 4 % 2 ∧ cc0_transform_1 (grid0.coords t) 1 = t.val % 4)
    ∧ cc0_transform_3 (grid0.coords t) 0 = t.val / 4 / 2 ∧ cc0_transform_3 (grid0.coords t) 1 = t.val / 4 % 2 := by
  decide +kernel

/-- The arguments' elements. -/
abbrev dx := ent (n0 := 4096) (n1 := 8192) (m ((c.tc : Thread nD τ).loc main_arg0))
abbrev wx := ent (n0 := 2048) (n1 := 8192) (m ((c.tc : Thread nD τ).loc main_arg1))
abbrev da := ent (n0 := 4096) (n1 := 2048) (m ((c.tc : Thread nD τ).loc main_arg2))

theorem reads0 (t : Fin cfg0.N) : IsE (n0 := 1024) (n1 := 2048) (iblk m c 0 t) fun r κ => dx m c (1024 * (t.val / 4 / 2) + r) (2048 * (t.val % 4) + κ) := by
  rw [← (at_points t).1.1, ← (at_points t).1.2]
  exact IsE.block (IsE.own (n0 := 4096) (n1 := 8192) _) _ fun _ => ⟨rfl, rfl⟩

theorem reads1 (t : Fin cfg0.N) : IsE (n0 := 1024) (n1 := 2048) (iblk m c 1 t) fun l κ => wx m c (1024 * (t.val / 4 % 2) + l) (2048 * (t.val % 4) + κ) := by
  rw [← (at_points t).2.1.1, ← (at_points t).2.1.2]
  exact IsE.block (IsE.own (n0 := 2048) (n1 := 8192) _) _ fun _ => ⟨rfl, rfl⟩

/-- The addend's block is the result's. -/
theorem reads2 (t : Fin cfg0.N) : IsE (n0 := 1024) (n1 := 1024) (iblk m c 2 t) fun r l =>
    da m c (1024 * cc0_transform_3 (grid0.coords t) 0 + r) (1024 * cc0_transform_3 (grid0.coords t) 1 + l) :=
  IsE.block (IsE.own (n0 := 4096) (n1 := 2048) _) _ fun _ => ⟨rfl, rfl⟩

/-- The scratch after a point. -/
theorem scratch : ∀ (t : ℕ) (h : t < cfg0.N), IsE (n0 := 1024) (n1 := 1024) (outsAt0 m c t h).2 fun r l =>
    ∑ κ ∈ range (2048 * (t % 4 + 1)), dx m c (1024 * (t / 4 / 2) + r) κ * wx m c (1024 * (t / 4 % 2) + l) κ := by
  refine folds (nk := 4) (by decide) (fun t h => (outsAt0 m c t h).2) (fun r l κ => dx m c r κ * wx m c l κ) (fun t h h0 => ?_) (fun t h h0 x hx => ?_)
  · exact sum_first m c ⟨t, h⟩ h0 ▸ pay2_holds pay1_holds (reads0 m c ⟨t, h⟩) (reads1 m c ⟨t, h⟩)
  · rcases eq_or_ne (t % 4) 3 with h1 | h1
    · exact sum_last m c ⟨t, h⟩ h1 ▸ pay2_holds hx (reads0 m c ⟨t, h⟩) (reads1 m c ⟨t, h⟩)
    · exact sum_next m c ⟨t, h⟩ h0 h1 ▸ pay2_holds hx (reads0 m c ⟨t, h⟩) (reads1 m c ⟨t, h⟩)

/-- The array left. -/
theorem leaves : IsE (n0 := 4096) (n1 := 2048) ((dats m 0 c).arrAt 3 cfg0.N) fun r l =>
    ∑ κ ∈ range 8192, dx m c r κ * wx m c l κ + Ideal.ofBits .f32 0x3F800000#32 * da m c r l := fun r l =>
  (dats m 0 c).arrAt_forall_of_covers 3 (fun i v => v = ∑ κ ∈ range 8192, dx m c (i 0).val κ * wx m c (i 1).val κ
      + Ideal.ofBits .f32 0x3F800000#32 * da m c (i 0).val (i 1).val) (by decide +kernel)
    (fun t ht y => by
      have h1 : t.val % 4 = 3 := (flush0_3 t).mp ht
      have hs := scratch m c t.val t.isLt
      rw [h1, ← (at_points t).2.2.1, ← (at_points t).2.2.2] at hs
      show (dats m 0 c).after 3 t y = _
      rw [after0_3, out_last m c t h1]
      exact IsE.lands (x := fun r l => ∑ κ ∈ range 8192, dx m c r κ * wx m c l κ + Ideal.ofBits .f32 0x3F800000#32 * da m c r l)
        (pay3_holds hs (reads2 m c t)) y rfl rfl) (ix2 r l)

end

/-! ## The claims -/

theorem algebraic : Cert.algebraic_Kernel9Ideal_Reference9Ideal := fun m ρ m' ρ' _ hargs =>
  ⟨fun c => (dats m 0 c).arrAt 3 cfg0.N, Value.run_blocks m ρ, (θ_run _ _ _).mono (fun _ h c => by
    obtain ⟨e0, e1, e2⟩ := hargs c
    refine ⟨(h c).1.trans ?_, (h c).2⟩
    rw [e0, e1, e2]
    exact IsE.same (IsE.add (IsE.host (IsE.nt (IsE.own (n0 := 4096) (n1 := 8192) _) (IsE.own (n0 := 2048) (n1 := 8192) _) _ rfl))
      (IsE.mul (x := fun _ _ => Ideal.ofBits .f32 0x3F800000#32) (fun _ _ => rfl) (IsE.own (n0 := 4096) (n1 := 2048) _))) (leaves m c))
    (Cert.Reference9Ideal.Value.run (F := Ideal) m' ρ')⟩

/-- The program as it runs has the same text as its reading at the ideal values. -/
instance facts_bits : Cert.Kernel9.Facts :=
  Cert.Kernel9Ideal.Facts.rec (motive := fun _ => Cert.Kernel9.Facts)
    (@fun h => @Cert.Kernel9.Facts.mk (Cert.Kernel9Ideal.Facts₀.rec (motive := fun _ => Cert.Kernel9.Facts₀) Cert.Kernel9.Facts₀.mk h)) facts

theorem defs_bits : Cert.Kernel9.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel9 := fun m ρ _ =>
  Eq.mpr (congrArg (fun d => θ_run d (onTc (τ := τ) (main (F := Bits))) ⟨m, fun _ => 0, ρ⟩ _) defs_bits) (frame (F := Bits) m ρ)

theorem frame_reference : Cert.quiescent_Reference9Ideal := fun m ρ _ =>
  (θ_run (Cert.Reference9Ideal.defs (F := Ideal)) _ _).mono (fun r h => ⟨fun c => (h c).2, sem_eq_zero_of_no_sems (by decide) r.2⟩)
    (Cert.Reference9Ideal.Value.run (F := Ideal) m ρ)

end Cert.Kernel9Ideal.Gen

end
-- ==== Proof.Kernel10.lean ====
/-
  The gate's pre-activation: `h wz`. A block takes the contraction's 2048 positions at one grid point.
-/
module

public import proofs.«01_k».proof.Defs
public import proofs.«01_k».proof.Proof.Product
public import proofs.«01_k».proof.Proof.Gen.Kernel10Ideal.Value
public import proofs.«01_k».proof.Proof.Gen.Reference10Ideal.Run
public import Idealize.ShloMosaic.Lib.Pipeline.ValueKit.Geometry

@[expose] public section

set_option maxRecDepth 16384

noncomputable section

namespace Cert.Kernel10Ideal.Gen

open Idealize.ShloMosaic Idealize.ShloMosaic.TcCoe Idealize.ShloMosaic.ValueIdx Idealize.SL.Sem Product
open Finset (range)
open scoped BigOperators

/-- A point's block. -/
theorem point {a b : ℕ → ℕ → EReal} {A : Vec Ideal S1024x2048 .bf16} {B : Vec Ideal S2048x1024 .bf16} (ha : IsE A a) (hb : IsE B b) :
    IsE (out0_2 (F := Ideal) A B) fun r l => ∑ κ ∈ range 2048, a r κ * b κ l := by
  unfold out0_2
  rw [View.canon_unit_zero hz, View.ld_unit_zero (S := S1024x2048) hz, View.ld_unit_zero (S := S2048x1024) hz]
  unfold k0_pay1
  exact IsE.nn ha hb _ rfl

section
variable (m : (ℓ : Loc nD τ sig) → Buf (Elt Ideal) ℓ) (c : Dev nD)

/-- Where the windows lie at a point. -/
theorem at_points : ∀ t : Fin cfg0.N,
    (cc0_transform_0 (grid0.coords t) 0 = cc0_transform_2 (grid0.coords t) 0 ∧ cc0_transform_0 (grid0.coords t) 1 = 0)
    ∧ cc0_transform_1 (grid0.coords t) 0 = 0 ∧ cc0_transform_1 (grid0.coords t) 1 = cc0_transform_2 (grid0.coords t) 1 := by
  decide +kernel

/-- The arguments' elements. -/
abbrev u := ent (n0 := 4096) (n1 := 2048) (m ((c.tc : Thread nD τ).loc main_arg0))
abbrev w := ent (n0 := 2048) (n1 := 4096) (m ((c.tc : Thread nD τ).loc main_arg1))

theorem reads0 (t : Fin cfg0.N) : IsE (n0 := 1024) (n1 := 2048) (iblk m c 0 t) fun r κ => u m c (1024 * cc0_transform_2 (grid0.coords t) 0 + r) (2048 * 0 + κ) := by
  rw [← (at_points t).1.1, ← (at_points t).1.2]
  exact IsE.block (IsE.own (n0 := 4096) (n1 := 2048) _) _ fun _ => ⟨rfl, rfl⟩

theorem reads1 (t : Fin cfg0.N) : IsE (n0 := 2048) (n1 := 1024) (iblk m c 1 t) fun κ l => w m c (2048 * 0 + κ) (1024 * cc0_transform_2 (grid0.coords t) 1 + l) := by
  rw [← (at_points t).2.1, ← (at_points t).2.2]
  exact IsE.block (IsE.own (n0 := 2048) (n1 := 4096) _) _ fun _ => ⟨rfl, rfl⟩

/-- The array left. -/
theorem leaves : IsE (n0 := 4096) (n1 := 4096) ((dats m 0 c).arrAt 2 cfg0.N) fun r l => ∑ κ ∈ range 2048, u m c r κ * w m c κ l := fun r l =>
  (dats m 0 c).arrAt_forall_of_covers 2 (fun i y => y = ∑ κ ∈ range 2048, u m c (i 0).val κ * w m c κ (i 1).val) (by decide +kernel)
    (fun t _ y => by
      have hp := point (reads0 m c t) (reads1 m c t)
      simp only [Nat.mul_zero, Nat.zero_add] at hp
      show (dats m 0 c).after 2 t y = _
      rw [after0_2]
      exact IsE.lands (x := fun r l => ∑ κ ∈ range 2048, u m c r κ * w m c κ l) hp y rfl rfl) (ix2 r l)

end

theorem algebraic : Cert.algebraic_Kernel10Ideal_Reference10Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.host (IsE.nn (IsE.own (n0 := 4096) (n1 := 2048) _) (IsE.own (n0 := 2048) (n1 := 4096) _) _ rfl)) (leaves m c))
    (Cert.Reference10Ideal.Value.run (F := Ideal) m' ρ')⟩

/-- The program as it runs has the same text as its reading at the ideal values. -/
instance facts_bits : Cert.Kernel10.Facts :=
  Cert.Kernel10Ideal.Facts.rec (motive := fun _ => Cert.Kernel10.Facts)
    (@fun h => @Cert.Kernel10.Facts.mk (Cert.Kernel10Ideal.Facts₀.rec (motive := fun _ => Cert.Kernel10.Facts₀) Cert.Kernel10.Facts₀.mk h)) facts

theorem defs_bits : Cert.Kernel10.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel10 := fun m ρ _ =>
  Eq.mpr (congrArg (fun d => θ_run d (onTc (τ := τ) (main (F := Bits))) ⟨m, fun _ => 0, ρ⟩ _) defs_bits) (frame (F := Bits) m ρ)

theorem frame_reference : Cert.quiescent_Reference10Ideal := fun m ρ _ =>
  (θ_run (Cert.Reference10Ideal.defs (F := Ideal)) _ _).mono (fun r h => ⟨fun c => (h c).2, sem_eq_zero_of_no_sems (by decide) r.2⟩)
    (Cert.Reference10Ideal.Value.run (F := Ideal) m ρ)

end Cert.Kernel10Ideal.Gen

end
-- ==== Proof.Kernel11.lean ====
/-
  The state-space layers' input projection: `h wx`. A block takes the contraction's 2048 positions at one grid point.
-/
module

public import proofs.«01_k».proof.Defs
public import proofs.«01_k».proof.Proof.Product
public import proofs.«01_k».proof.Proof.Gen.Kernel11Ideal.Value
public import proofs.«01_k».proof.Proof.Gen.Reference11Ideal.Run
public import Idealize.ShloMosaic.Lib.Pipeline.ValueKit.Geometry

@[expose] public section

set_option maxRecDepth 16384

noncomputable section

namespace Cert.Kernel11Ideal.Gen

open Idealize.ShloMosaic Idealize.ShloMosaic.TcCoe Idealize.ShloMosaic.ValueIdx Idealize.SL.Sem Product
open Finset (range)
open scoped BigOperators

/-- A point's block. -/
theorem point {a b : ℕ → ℕ → EReal} {A : Vec Ideal S1024x2048 .bf16} {B : Vec Ideal S2048x1024 .bf16} (ha : IsE A a) (hb : IsE B b) :
    IsE (out0_2 (F := Ideal) A B) fun r l => ∑ κ ∈ range 2048, a r κ * b κ l := by
  unfold out0_2
  rw [View.canon_unit_zero hz, View.ld_unit_zero (S := S1024x2048) hz, View.ld_unit_zero (S := S2048x1024) hz]
  unfold k0_pay1
  exact IsE.nn ha hb _ rfl

section
variable (m : (ℓ : Loc nD τ sig) → Buf (Elt Ideal) ℓ) (c : Dev nD)

/-- Where the windows lie at a point. -/
theorem at_points : ∀ t : Fin cfg0.N,
    (cc0_transform_0 (grid0.coords t) 0 = cc0_transform_2 (grid0.coords t) 0 ∧ cc0_transform_0 (grid0.coords t) 1 = 0)
    ∧ cc0_transform_1 (grid0.coords t) 0 = 0 ∧ cc0_transform_1 (grid0.coords t) 1 = cc0_transform_2 (grid0.coords t) 1 := by
  decide +kernel

/-- The arguments' elements. -/
abbrev u := ent (n0 := 4096) (n1 := 2048) (m ((c.tc : Thread nD τ).loc main_arg0))
abbrev w := ent (n0 := 2048) (n1 := 6144) (m ((c.tc : Thread nD τ).loc main_arg1))

theorem reads0 (t : Fin cfg0.N) : IsE (n0 := 1024) (n1 := 2048) (iblk m c 0 t) fun r κ => u m c (1024 * cc0_transform_2 (grid0.coords t) 0 + r) (2048 * 0 + κ) := by
  rw [← (at_points t).1.1, ← (at_points t).1.2]
  exact IsE.block (IsE.own (n0 := 4096) (n1 := 2048) _) _ fun _ => ⟨rfl, rfl⟩

theorem reads1 (t : Fin cfg0.N) : IsE (n0 := 2048) (n1 := 1024) (iblk m c 1 t) fun κ l => w m c (2048 * 0 + κ) (1024 * cc0_transform_2 (grid0.coords t) 1 + l) := by
  rw [← (at_points t).2.1, ← (at_points t).2.2]
  exact IsE.block (IsE.own (n0 := 2048) (n1 := 6144) _) _ fun _ => ⟨rfl, rfl⟩

/-- The array left. -/
theorem leaves : IsE (n0 := 4096) (n1 := 6144) ((dats m 0 c).arrAt 2 cfg0.N) fun r l => ∑ κ ∈ range 2048, u m c r κ * w m c κ l := fun r l =>
  (dats m 0 c).arrAt_forall_of_covers 2 (fun i y => y = ∑ κ ∈ range 2048, u m c (i 0).val κ * w m c κ (i 1).val) (by decide +kernel)
    (fun t _ y => by
      have hp := point (reads0 m c t) (reads1 m c t)
      simp only [Nat.mul_zero, Nat.zero_add] at hp
      show (dats m 0 c).after 2 t y = _
      rw [after0_2]
      exact IsE.lands (x := fun r l => ∑ κ ∈ range 2048, u m c r κ * w m c κ l) hp y rfl rfl) (ix2 r l)

end

theorem algebraic : Cert.algebraic_Kernel11Ideal_Reference11Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.host (IsE.nn (IsE.own (n0 := 4096) (n1 := 2048) _) (IsE.own (n0 := 2048) (n1 := 6144) _) _ rfl)) (leaves m c))
    (Cert.Reference11Ideal.Value.run (F := Ideal) m' ρ')⟩

/-- The program as it runs has the same text as its reading at the ideal values. -/
instance facts_bits : Cert.Kernel11.Facts :=
  Cert.Kernel11Ideal.Facts.rec (motive := fun _ => Cert.Kernel11.Facts)
    (@fun h => @Cert.Kernel11.Facts.mk (Cert.Kernel11Ideal.Facts₀.rec (motive := fun _ => Cert.Kernel11.Facts₀) Cert.Kernel11.Facts₀.mk h)) facts

theorem defs_bits : Cert.Kernel11.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel11 := fun m ρ _ =>
  Eq.mpr (congrArg (fun d => θ_run d (onTc (τ := τ) (main (F := Bits))) ⟨m, fun _ => 0, ρ⟩ _) defs_bits) (frame (F := Bits) m ρ)

theorem frame_reference : Cert.quiescent_Reference11Ideal := fun m ρ _ =>
  (θ_run (Cert.Reference11Ideal.defs (F := Ideal)) _ _).mono (fun r h => ⟨fun c => (h c).2, sem_eq_zero_of_no_sems (by decide) r.2⟩)
    (Cert.Reference11Ideal.Value.run (F := Ideal) m ρ)

end Cert.Kernel11Ideal.Gen

end
-- ==== Proof.Kernel12.lean ====
/-
  The delta-rule layer's input projection: `h wx`. A block takes the contraction's 2048 positions at one grid point.
-/
module

public import proofs.«01_k».proof.Defs
public import proofs.«01_k».proof.Proof.Product
public import proofs.«01_k».proof.Proof.Gen.Kernel12Ideal.Value
public import proofs.«01_k».proof.Proof.Gen.Reference12Ideal.Run
public import Idealize.ShloMosaic.Lib.Pipeline.ValueKit.Geometry

@[expose] public section

set_option maxRecDepth 16384

noncomputable section

namespace Cert.Kernel12Ideal.Gen

open Idealize.ShloMosaic Idealize.ShloMosaic.TcCoe Idealize.ShloMosaic.ValueIdx Idealize.SL.Sem Product
open Finset (range)
open scoped BigOperators

/-- A point's block. -/
theorem point {a b : ℕ → ℕ → EReal} {A : Vec Ideal S1024x2048 .bf16} {B : Vec Ideal S2048x1024 .bf16} (ha : IsE A a) (hb : IsE B b) :
    IsE (out0_2 (F := Ideal) A B) fun r l => ∑ κ ∈ range 2048, a r κ * b κ l := by
  unfold out0_2
  rw [View.canon_unit_zero hz, View.ld_unit_zero (S := S1024x2048) hz, View.ld_unit_zero (S := S2048x1024) hz]
  unfold k0_pay1
  exact IsE.nn ha hb _ rfl

section
variable (m : (ℓ : Loc nD τ sig) → Buf (Elt Ideal) ℓ) (c : Dev nD)

/-- Where the windows lie at a point. -/
theorem at_points : ∀ t : Fin cfg0.N,
    (cc0_transform_0 (grid0.coords t) 0 = cc0_transform_2 (grid0.coords t) 0 ∧ cc0_transform_0 (grid0.coords t) 1 = 0)
    ∧ cc0_transform_1 (grid0.coords t) 0 = 0 ∧ cc0_transform_1 (grid0.coords t) 1 = cc0_transform_2 (grid0.coords t) 1 := by
  decide +kernel

/-- The arguments' elements. -/
abbrev u := ent (n0 := 4096) (n1 := 2048) (m ((c.tc : Thread nD τ).loc main_arg0))
abbrev w := ent (n0 := 2048) (n1 := 8192) (m ((c.tc : Thread nD τ).loc main_arg1))

theorem reads0 (t : Fin cfg0.N) : IsE (n0 := 1024) (n1 := 2048) (iblk m c 0 t) fun r κ => u m c (1024 * cc0_transform_2 (grid0.coords t) 0 + r) (2048 * 0 + κ) := by
  rw [← (at_points t).1.1, ← (at_points t).1.2]
  exact IsE.block (IsE.own (n0 := 4096) (n1 := 2048) _) _ fun _ => ⟨rfl, rfl⟩

theorem reads1 (t : Fin cfg0.N) : IsE (n0 := 2048) (n1 := 1024) (iblk m c 1 t) fun κ l => w m c (2048 * 0 + κ) (1024 * cc0_transform_2 (grid0.coords t) 1 + l) := by
  rw [← (at_points t).2.1, ← (at_points t).2.2]
  exact IsE.block (IsE.own (n0 := 2048) (n1 := 8192) _) _ fun _ => ⟨rfl, rfl⟩

/-- The array left. -/
theorem leaves : IsE (n0 := 4096) (n1 := 8192) ((dats m 0 c).arrAt 2 cfg0.N) fun r l => ∑ κ ∈ range 2048, u m c r κ * w m c κ l := fun r l =>
  (dats m 0 c).arrAt_forall_of_covers 2 (fun i y => y = ∑ κ ∈ range 2048, u m c (i 0).val κ * w m c κ (i 1).val) (by decide +kernel)
    (fun t _ y => by
      have hp := point (reads0 m c t) (reads1 m c t)
      simp only [Nat.mul_zero, Nat.zero_add] at hp
      show (dats m 0 c).after 2 t y = _
      rw [after0_2]
      exact IsE.lands (x := fun r l => ∑ κ ∈ range 2048, u m c r κ * w m c κ l) hp y rfl rfl) (ix2 r l)

end

theorem algebraic : Cert.algebraic_Kernel12Ideal_Reference12Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.host (IsE.nn (IsE.own (n0 := 4096) (n1 := 2048) _) (IsE.own (n0 := 2048) (n1 := 8192) _) _ rfl)) (leaves m c))
    (Cert.Reference12Ideal.Value.run (F := Ideal) m' ρ')⟩

/-- The program as it runs has the same text as its reading at the ideal values. -/
instance facts_bits : Cert.Kernel12.Facts :=
  Cert.Kernel12Ideal.Facts.rec (motive := fun _ => Cert.Kernel12.Facts)
    (@fun h => @Cert.Kernel12.Facts.mk (Cert.Kernel12Ideal.Facts₀.rec (motive := fun _ => Cert.Kernel12.Facts₀) Cert.Kernel12.Facts₀.mk h)) facts

theorem defs_bits : Cert.Kernel12.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel12 := fun m ρ _ =>
  Eq.mpr (congrArg (fun d => θ_run d (onTc (τ := τ) (main (F := Bits))) ⟨m, fun _ => 0, ρ⟩ _) defs_bits) (frame (F := Bits) m ρ)

theorem frame_reference : Cert.quiescent_Reference12Ideal := fun m ρ _ =>
  (θ_run (Cert.Reference12Ideal.defs (F := Ideal)) _ _).mono (fun r h => ⟨fun c => (h c).2, sem_eq_zero_of_no_sems (by decide) r.2⟩)
    (Cert.Reference12Ideal.Value.run (F := Ideal) m ρ)

end Cert.Kernel12Ideal.Gen

end
-- ==== Proof.Kernel13.lean ====
/-
  The output projection: `y wo`. The contraction's 4096 positions are two grid points, the innermost axis; the
  sum so far is carried in the scratch, and the second point stores it.
-/
module

public import proofs.«01_k».proof.Defs
public import proofs.«01_k».proof.Proof.Product
public import proofs.«01_k».proof.Proof.Gen.Kernel13Ideal.Value
public import proofs.«01_k».proof.Proof.Gen.Reference13Ideal.Run
public import Idealize.ShloMosaic.Lib.Pipeline.ValueKit.Geometry

@[expose] public section

set_option maxRecDepth 16384

noncomputable section

namespace Cert.Kernel13Ideal.Gen

open Idealize.ShloMosaic Idealize.ShloMosaic.TcCoe Idealize.ShloMosaic.ValueIdx Idealize.SL.Sem Product
open Finset (range)
open scoped BigOperators

theorem pay1_holds : IsE (k0_pay1 (F := Ideal)) fun _ _ => 0 := by
  unfold k0_pay1
  exact IsE.zeros.castSelf _

theorem pay2_holds {x a b : ℕ → ℕ → EReal} {X : Vec Ideal S1024x1024 .f32} {A : Vec Ideal S1024x2048 .bf16} {B : Vec Ideal S2048x1024 .bf16}
    (hx : IsE X x) (ha : IsE A a) (hb : IsE B b) : IsE (k0_pay2 (F := Ideal) X A B) fun r l => x r l + ∑ κ ∈ range 2048, a r κ * b κ l := by
  unfold k0_pay2
  exact (hx.add (.nn ha hb _ rfl)).castSelf _

section
variable (m : (ℓ : Loc nD τ sig) → Buf (Elt Ideal) ℓ) (c : Dev nD)

/-- A block's first point puts its terms over zeros in the scratch, -/
theorem sum_first (t : Fin cfg0.N) (h0 : t.val % 2 = 0) : (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun _ => scover0_A_0 ..)]
  unfold kernelRun0_A; dsimp only; sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S1024x2048) hz, View.ld_unit_zero (S := S2048x1024) hz]

/-- its last point over what the point before left, -/
theorem sum_last (t : Fin cfg0.N) (h1 : t.val % 2 = 1) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t (by omega) h1]
  dsimp only
  unfold sout0_B_0
  rw [View.read_writes_eq_canon _ _ _ (fun _ => scover0_B_0 ..)]
  unfold kernelRun0_B; dsimp only; sl_unfold_words
  rw [View.canon_unit_zero hz]
  simp only [View.readAt_eq_ld, (hs0_0 t).read_unread, (hs0_1 t).read_unread, (Memref.isWhole_whole _).read_unread,
    View.ld_unit_zero (S := S1024x2048) hz, View.ld_unit_zero (S := S2048x1024) hz, View.ld_unit_zero (S := S1024x1024) hz]

/-- and stores that. -/
theorem out_last (t : Fin cfg0.N) (h1 : t.val % 2 = 1) : (outsAt0 m c t.val t.isLt).1 = (outsAt0 m c t.val t.isLt).2 := by
  rw [sum_last m c t h1, outsAt0_B m c t (by omega) h1]
  dsimp only
  unfold out0_B_2
  rw [View.read_writes_eq_canon _ _ _ (fun _ => cover0_B_2 ..)]
  unfold kernelRun0_B; dsimp only; sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S1024x2048) hz, View.ld_unit_zero (S := S2048x1024) hz, View.ld_unit_zero (S := S1024x1024) hz]

/-- Where the windows lie at a point. -/
theorem at_points : ∀ t : Fin cfg0.N,
    (cc0_transform_0 (grid0.coords t) 0 = t.val / 2 / 2 ∧ cc0_transform_0 (grid0.coords t) 1 = t.val % 2)
    ∧ (cc0_transform_1 (grid0.coords t) 0 = t.val % 2 ∧ cc0_transform_1 (grid0.coords t) 1 = t.val / 2 % 2)
    ∧ cc0_transform_2 (grid0.coords t) 0 = t.val / 2 / 2 ∧ cc0_transform_2 (grid0.coords t) 1 = t.val / 2 % 2 := by
  decide +kernel

/-- The arguments' elements. -/
abbrev u := ent (n0 := 4096) (n1 := 4096) (m ((c.tc : Thread nD τ).loc main_arg0))
abbrev w := ent (n0 := 4096) (n1 := 2048) (m ((c.tc : Thread nD τ).loc main_arg1))

theorem reads0 (t : Fin cfg0.N) : IsE (n0 := 1024) (n1 := 2048) (iblk m c 0 t) fun r κ => u m c (1024 * (t.val / 2 / 2) + r) (2048 * (t.val % 2) + κ) := by
  rw [← (at_points t).1.1, ← (at_points t).1.2]
  exact IsE.block (IsE.own (n0 := 4096) (n1 := 4096) _) _ fun _ => ⟨rfl, rfl⟩

theorem reads1 (t : Fin cfg0.N) : IsE (n0 := 2048) (n1 := 1024) (iblk m c 1 t) fun κ l => w m c (2048 * (t.val % 2) + κ) (1024 * (t.val / 2 % 2) + l) := by
  rw [← (at_points t).2.1.1, ← (at_points t).2.1.2]
  exact IsE.block (IsE.own (n0 := 4096) (n1 := 2048) _) _ fun _ => ⟨rfl, rfl⟩

/-- The scratch after a point. -/
theorem scratch : ∀ (t : ℕ) (h : t < cfg0.N), IsE (n0 := 1024) (n1 := 1024) (outsAt0 m c t h).2 fun r l =>
    ∑ κ ∈ range (2048 * (t % 2 + 1)), u m c (1024 * (t / 2 / 2) + r) κ * w m c κ (1024 * (t / 2 % 2) + l) := by
  refine folds (nk := 2) (by decide) (fun t h => (outsAt0 m c t h).2) (fun r l κ => u m c r κ * w m c κ l) (fun t h h0 => ?_) (fun t h h0 x hx => ?_)
  · exact sum_first m c ⟨t, h⟩ h0 ▸ pay2_holds pay1_holds (reads0 m c ⟨t, h⟩) (reads1 m c ⟨t, h⟩)
  · exact sum_last m c ⟨t, h⟩ (by show t % 2 = 1; omega) ▸ pay2_holds hx (reads0 m c ⟨t, h⟩) (reads1 m c ⟨t, h⟩)

/-- The array left. -/
theorem leaves : IsE (n0 := 4096) (n1 := 2048) ((dats m 0 c).arrAt 2 cfg0.N) fun r l => ∑ κ ∈ range 4096, u m c r κ * w m c κ l := fun r l =>
  (dats m 0 c).arrAt_forall_of_covers 2 (fun i y => y = ∑ κ ∈ range 4096, u m c (i 0).val κ * w m c κ (i 1).val) (by decide +kernel)
    (fun t ht y => by
      have h1 : t.val % 2 = 1 := (flush0_2 t).mp ht
      have hs := scratch m c t.val t.isLt
      rw [h1, ← (at_points t).2.2.1, ← (at_points t).2.2.2] at hs
      show (dats m 0 c).after 2 t y = _
      rw [after0_2, out_last m c t h1]
      exact IsE.lands (x := fun r l => ∑ κ ∈ range 4096, u m c r κ * w m c κ l) hs y rfl rfl) (ix2 r l)

end

theorem algebraic : Cert.algebraic_Kernel13Ideal_Reference13Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.host (IsE.nn (IsE.own (n0 := 4096) (n1 := 4096) _) (IsE.own (n0 := 4096) (n1 := 2048) _) _ rfl)) (leaves m c))
    (Cert.Reference13Ideal.Value.run (F := Ideal) m' ρ')⟩

/-- The program as it runs has the same text as its reading at the ideal values. -/
instance facts_bits : Cert.Kernel13.Facts :=
  Cert.Kernel13Ideal.Facts.rec (motive := fun _ => Cert.Kernel13.Facts)
    (@fun h => @Cert.Kernel13.Facts.mk (Cert.Kernel13Ideal.Facts₀.rec (motive := fun _ => Cert.Kernel13.Facts₀) Cert.Kernel13.Facts₀.mk h)) facts

theorem defs_bits : Cert.Kernel13.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel13 := fun m ρ _ =>
  Eq.mpr (congrArg (fun d => θ_run d (onTc (τ := τ) (main (F := Bits))) ⟨m, fun _ => 0, ρ⟩ _) defs_bits) (frame (F := Bits) m ρ)

theorem frame_reference : Cert.quiescent_Reference13Ideal := fun m ρ _ =>
  (θ_run (Cert.Reference13Ideal.defs (F := Ideal)) _ _).mono (fun r h => ⟨fun c => (h c).2, sem_eq_zero_of_no_sems (by decide) r.2⟩)
    (Cert.Reference13Ideal.Value.run (F := Ideal) m ρ)

end Cert.Kernel13Ideal.Gen

end
-- ==== Proof.Kernel14.lean ====
/-
  The latent-attention layer's gate and output projections: `h wz`, `y wo`. A block takes the contraction's 2048 positions at one grid point.
-/
module

public import proofs.«01_k».proof.Defs
public import proofs.«01_k».proof.Proof.Product
public import proofs.«01_k».proof.Proof.Gen.Kernel14Ideal.Value
public import proofs.«01_k».proof.Proof.Gen.Reference14Ideal.Run
public import Idealize.ShloMosaic.Lib.Pipeline.ValueKit.Geometry

@[expose] public section

set_option maxRecDepth 16384

noncomputable section

namespace Cert.Kernel14Ideal.Gen

open Idealize.ShloMosaic Idealize.ShloMosaic.TcCoe Idealize.ShloMosaic.ValueIdx Idealize.SL.Sem Product
open Finset (range)
open scoped BigOperators

/-- A point's block. -/
theorem point {a b : ℕ → ℕ → EReal} {A : Vec Ideal S1024x2048 .bf16} {B : Vec Ideal S2048x1024 .bf16} (ha : IsE A a) (hb : IsE B b) :
    IsE (out0_2 (F := Ideal) A B) fun r l => ∑ κ ∈ range 2048, a r κ * b κ l := by
  unfold out0_2
  rw [View.canon_unit_zero hz, View.ld_unit_zero (S := S1024x2048) hz, View.ld_unit_zero (S := S2048x1024) hz]
  unfold k0_pay1
  exact IsE.nn ha hb _ rfl

section
variable (m : (ℓ : Loc nD τ sig) → Buf (Elt Ideal) ℓ) (c : Dev nD)

/-- Where the windows lie at a point. -/
theorem at_points : ∀ t : Fin cfg0.N,
    (cc0_transform_0 (grid0.coords t) 0 = cc0_transform_2 (grid0.coords t) 0 ∧ cc0_transform_0 (grid0.coords t) 1 = 0)
    ∧ cc0_transform_1 (grid0.coords t) 0 = 0 ∧ cc0_transform_1 (grid0.coords t) 1 = cc0_transform_2 (grid0.coords t) 1 := by
  decide +kernel

/-- The arguments' elements. -/
abbrev u := ent (n0 := 4096) (n1 := 2048) (m ((c.tc : Thread nD τ).loc main_arg0))
abbrev w := ent (n0 := 2048) (n1 := 2048) (m ((c.tc : Thread nD τ).loc main_arg1))

theorem reads0 (t : Fin cfg0.N) : IsE (n0 := 1024) (n1 := 2048) (iblk m c 0 t) fun r κ => u m c (1024 * cc0_transform_2 (grid0.coords t) 0 + r) (2048 * 0 + κ) := by
  rw [← (at_points t).1.1, ← (at_points t).1.2]
  exact IsE.block (IsE.own (n0 := 4096) (n1 := 2048) _) _ fun _ => ⟨rfl, rfl⟩

theorem reads1 (t : Fin cfg0.N) : IsE (n0 := 2048) (n1 := 1024) (iblk m c 1 t) fun κ l => w m c (2048 * 0 + κ) (1024 * cc0_transform_2 (grid0.coords t) 1 + l) := by
  rw [← (at_points t).2.1, ← (at_points t).2.2]
  exact IsE.block (IsE.own (n0 := 2048) (n1 := 2048) _) _ fun _ => ⟨rfl, rfl⟩

/-- The array left. -/
theorem leaves : IsE (n0 := 4096) (n1 := 2048) ((dats m 0 c).arrAt 2 cfg0.N) fun r l => ∑ κ ∈ range 2048, u m c r κ * w m c κ l := fun r l =>
  (dats m 0 c).arrAt_forall_of_covers 2 (fun i y => y = ∑ κ ∈ range 2048, u m c (i 0).val κ * w m c κ (i 1).val) (by decide +kernel)
    (fun t _ y => by
      have hp := point (reads0 m c t) (reads1 m c t)
      simp only [Nat.mul_zero, Nat.zero_add] at hp
      show (dats m 0 c).after 2 t y = _
      rw [after0_2]
      exact IsE.lands (x := fun r l => ∑ κ ∈ range 2048, u m c r κ * w m c κ l) hp y rfl rfl) (ix2 r l)

end

theorem algebraic : Cert.algebraic_Kernel14Ideal_Reference14Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.host (IsE.nn (IsE.own (n0 := 4096) (n1 := 2048) _) (IsE.own (n0 := 2048) (n1 := 2048) _) _ rfl)) (leaves m c))
    (Cert.Reference14Ideal.Value.run (F := Ideal) m' ρ')⟩

/-- The program as it runs has the same text as its reading at the ideal values. -/
instance facts_bits : Cert.Kernel14.Facts :=
  Cert.Kernel14Ideal.Facts.rec (motive := fun _ => Cert.Kernel14.Facts)
    (@fun h => @Cert.Kernel14.Facts.mk (Cert.Kernel14Ideal.Facts₀.rec (motive := fun _ => Cert.Kernel14.Facts₀) Cert.Kernel14.Facts₀.mk h)) facts

theorem defs_bits : Cert.Kernel14.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel14 := fun m ρ _ =>
  Eq.mpr (congrArg (fun d => θ_run d (onTc (τ := τ) (main (F := Bits))) ⟨m, fun _ => 0, ρ⟩ _) defs_bits) (frame (F := Bits) m ρ)

theorem frame_reference : Cert.quiescent_Reference14Ideal := fun m ρ _ =>
  (θ_run (Cert.Reference14Ideal.defs (F := Ideal)) _ _).mono (fun r h => ⟨fun c => (h c).2, sem_eq_zero_of_no_sems (by decide) r.2⟩)
    (Cert.Reference14Ideal.Value.run (F := Ideal) m ρ)

end Cert.Kernel14Ideal.Gen

end
-- ==== Proof.Kernel15.lean ====
/-
  The gradient of the latent-attention layer's gated output: `dr woᵀ`. A block takes the contraction's 2048 positions at one grid point.
-/
module

public import proofs.«01_k».proof.Defs
public import proofs.«01_k».proof.Proof.Product
public import proofs.«01_k».proof.Proof.Gen.Kernel15Ideal.Value
public import proofs.«01_k».proof.Proof.Gen.Reference15Ideal.Run
public import Idealize.ShloMosaic.Lib.Pipeline.ValueKit.Geometry

@[expose] public section

set_option maxRecDepth 16384

noncomputable section

namespace Cert.Kernel15Ideal.Gen

open Idealize.ShloMosaic Idealize.ShloMosaic.TcCoe Idealize.ShloMosaic.ValueIdx Idealize.SL.Sem Product
open Finset (range)
open scoped BigOperators

/-- A point's block. -/
theorem point {a b : ℕ → ℕ → EReal} {A B : Vec Ideal S1024x2048 .bf16} (ha : IsE A a) (hb : IsE B b) :
    IsE (out0_2 (F := Ideal) A B) fun r l => ∑ κ ∈ range 2048, a r κ * b l κ := by
  unfold out0_2
  rw [View.canon_unit_zero hz, View.ld_unit_zero (S := S1024x2048) hz, View.ld_unit_zero (S := S1024x2048) hz]
  unfold k0_pay1
  exact IsE.nt ha hb _ rfl

section
variable (m : (ℓ : Loc nD τ sig) → Buf (Elt Ideal) ℓ) (c : Dev nD)

/-- Where the windows lie at a point. -/
theorem at_points : ∀ t : Fin cfg0.N,
    (cc0_transform_0 (grid0.coords t) 0 = cc0_transform_2 (grid0.coords t) 0 ∧ cc0_transform_0 (grid0.coords t) 1 = 0)
    ∧ cc0_transform_1 (grid0.coords t) 0 = cc0_transform_2 (grid0.coords t) 1 ∧ cc0_transform_1 (grid0.coords t) 1 = 0 := by
  decide +kernel

/-- The arguments' elements. -/
abbrev u := ent (n0 := 4096) (n1 := 2048) (m ((c.tc : Thread nD τ).loc main_arg0))
abbrev w := ent (n0 := 2048) (n1 := 2048) (m ((c.tc : Thread nD τ).loc main_arg1))

theorem reads0 (t : Fin cfg0.N) : IsE (n0 := 1024) (n1 := 2048) (iblk m c 0 t) fun r κ => u m c (1024 * cc0_transform_2 (grid0.coords t) 0 + r) (2048 * 0 + κ) := by
  rw [← (at_points t).1.1, ← (at_points t).1.2]
  exact IsE.block (IsE.own (n0 := 4096) (n1 := 2048) _) _ fun _ => ⟨rfl, rfl⟩

theorem reads1 (t : Fin cfg0.N) : IsE (n0 := 1024) (n1 := 2048) (iblk m c 1 t) fun l κ => w m c (1024 * cc0_transform_2 (grid0.coords t) 1 + l) (2048 * 0 + κ) := by
  rw [← (at_points t).2.1, ← (at_points t).2.2]
  exact IsE.block (IsE.own (n0 := 2048) (n1 := 2048) _) _ fun _ => ⟨rfl, rfl⟩

/-- The array left. -/
theorem leaves : IsE (n0 := 4096) (n1 := 2048) ((dats m 0 c).arrAt 2 cfg0.N) fun r l => ∑ κ ∈ range 2048, u m c r κ * w m c l κ := fun r l =>
  (dats m 0 c).arrAt_forall_of_covers 2 (fun i y => y = ∑ κ ∈ range 2048, u m c (i 0).val κ * w m c (i 1).val κ) (by decide +kernel)
    (fun t _ y => by
      have hp := point (reads0 m c t) (reads1 m c t)
      simp only [Nat.mul_zero, Nat.zero_add] at hp
      show (dats m 0 c).after 2 t y = _
      rw [after0_2]
      exact IsE.lands (x := fun r l => ∑ κ ∈ range 2048, u m c r κ * w m c l κ) hp y rfl rfl) (ix2 r l)

end

theorem algebraic : Cert.algebraic_Kernel15Ideal_Reference15Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.host (IsE.nt (IsE.own (n0 := 4096) (n1 := 2048) _) (IsE.own (n0 := 2048) (n1 := 2048) _) _ rfl)) (leaves m c))
    (Cert.Reference15Ideal.Value.run (F := Ideal) m' ρ')⟩

/-- The program as it runs has the same text as its reading at the ideal values. -/
instance facts_bits : Cert.Kernel15.Facts :=
  Cert.Kernel15Ideal.Facts.rec (motive := fun _ => Cert.Kernel15.Facts)
    (@fun h => @Cert.Kernel15.Facts.mk (Cert.Kernel15Ideal.Facts₀.rec (motive := fun _ => Cert.Kernel15.Facts₀) Cert.Kernel15.Facts₀.mk h)) facts

theorem defs_bits : Cert.Kernel15.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel15 := fun m ρ _ =>
  Eq.mpr (congrArg (fun d => θ_run d (onTc (τ := τ) (main (F := Bits))) ⟨m, fun _ => 0, ρ⟩ _) defs_bits) (frame (F := Bits) m ρ)

theorem frame_reference : Cert.quiescent_Reference15Ideal := fun m ρ _ =>
  (θ_run (Cert.Reference15Ideal.defs (F := Ideal)) _ _).mono (fun r h => ⟨fun c => (h c).2, sem_eq_zero_of_no_sems (by decide) r.2⟩)
    (Cert.Reference15Ideal.Value.run (F := Ideal) m ρ)

end Cert.Kernel15Ideal.Gen

end
-- ==== Proof.Kernel16.lean ====
/-
  The gradient of the latent-attention layer's hidden states through its gate, onto the scaled gradient of the residual
  path: `dz wzᵀ + α dr`. A block takes the contraction's 2048 positions and its addend at one grid point.
-/
module

public import proofs.«01_k».proof.Defs
public import proofs.«01_k».proof.Proof.Product
public import proofs.«01_k».proof.Proof.Gen.Kernel16Ideal.Value
public import proofs.«01_k».proof.Proof.Gen.Reference16Ideal.Run
public import Idealize.ShloMosaic.Lib.Pipeline.ValueKit.Geometry

@[expose] public section

set_option maxRecDepth 16384

noncomputable section

namespace Cert.Kernel16Ideal.Gen

open Idealize.ShloMosaic Idealize.ShloMosaic.TcCoe Idealize.ShloMosaic.ValueIdx Idealize.SL.Sem Product
open Finset (range)
open scoped BigOperators

/-- A point's block. -/
theorem point {a b y : ℕ → ℕ → EReal} {A B : Vec Ideal S1024x2048 .bf16} {Y : Vec Ideal S1024x1024 .f32} (ha : IsE A a) (hb : IsE B b) (hy : IsE Y y) :
    IsE (out0_3 (F := Ideal) A B Y) fun r l => ∑ κ ∈ range 2048, a r κ * b l κ + Ideal.ofBits .f32 0x3FD744FD#32 * y r l := by
  unfold out0_3
  rw [View.canon_unit_zero hz, View.ld_unit_zero (S := S1024x2048) hz, View.ld_unit_zero (S := S1024x2048) hz, View.ld_unit_zero (S := S1024x1024) hz]
  unfold k0_pay1
  exact IsE.add (IsE.nt ha hb _ rfl) (IsE.mul (fun _ _ => rfl) hy)

section
variable (m : (ℓ : Loc nD τ sig) → Buf (Elt Ideal) ℓ) (c : Dev nD)

/-- Where the windows lie at a point. -/
theorem at_points : ∀ t : Fin cfg0.N,
    (cc0_transform_0 (grid0.coords t) 0 = cc0_transform_3 (grid0.coords t) 0 ∧ cc0_transform_0 (grid0.coords t) 1 = 0)
    ∧ cc0_transform_1 (grid0.coords t) 0 = cc0_transform_3 (grid0.coords t) 1 ∧ cc0_transform_1 (grid0.coords t) 1 = 0 := by
  decide +kernel

/-- The arguments' elements. -/
abbrev dz := ent (n0 := 4096) (n1 := 2048) (m ((c.tc : Thread nD τ).loc main_arg0))
abbrev wz := ent (n0 := 2048) (n1 := 2048) (m ((c.tc : Thread nD τ).loc main_arg1))
abbrev dr := ent (n0 := 4096) (n1 := 2048) (m ((c.tc : Thread nD τ).loc main_arg2))

theorem reads0 (t : Fin cfg0.N) : IsE (n0 := 1024) (n1 := 2048) (iblk m c 0 t) fun r κ => dz m c (1024 * cc0_transform_3 (grid0.coords t) 0 + r) (2048 * 0 + κ) := by
  rw [← (at_points t).1.1, ← (at_points t).1.2]
  exact IsE.block (IsE.own (n0 := 4096) (n1 := 2048) _) _ fun _ => ⟨rfl, rfl⟩

theorem reads1 (t : Fin cfg0.N) : IsE (n0 := 1024) (n1 := 2048) (iblk m c 1 t) fun l κ => wz m c (1024 * cc0_transform_3 (grid0.coords t) 1 + l) (2048 * 0 + κ) := by
  rw [← (at_points t).2.1, ← (at_points t).2.2]
  exact IsE.block (IsE.own (n0 := 2048) (n1 := 2048) _) _ fun _ => ⟨rfl, rfl⟩

/-- The addend's block is the result's. -/
theorem reads2 (t : Fin cfg0.N) : IsE (n0 := 1024) (n1 := 1024) (iblk m c 2 t) fun r l =>
    dr m c (1024 * cc0_transform_3 (grid0.coords t) 0 + r) (1024 * cc0_transform_3 (grid0.coords t) 1 + l) :=
  IsE.block (IsE.own (n0 := 4096) (n1 := 2048) _) _ fun _ => ⟨rfl, rfl⟩

/-- The array left. -/
theorem leaves : IsE (n0 := 4096) (n1 := 2048) ((dats m 0 c).arrAt 3 cfg0.N) fun r l =>
    ∑ κ ∈ range 2048, dz m c r κ * wz m c l κ + Ideal.ofBits .f32 0x3FD744FD#32 * dr m c r l := fun r l =>
  (dats m 0 c).arrAt_forall_of_covers 3 (fun i v => v = ∑ κ ∈ range 2048, dz m c (i 0).val κ * wz m c (i 1).val κ
      + Ideal.ofBits .f32 0x3FD744FD#32 * dr m c (i 0).val (i 1).val) (by decide +kernel)
    (fun t _ y => by
      have hp := point (reads0 m c t) (reads1 m c t) (reads2 m c t)
      simp only [Nat.mul_zero, Nat.zero_add] at hp
      show (dats m 0 c).after 3 t y = _
      rw [after0_3]
      exact IsE.lands (x := fun r l => ∑ κ ∈ range 2048, dz m c r κ * wz m c l κ + Ideal.ofBits .f32 0x3FD744FD#32 * dr m c r l)
        hp y rfl rfl) (ix2 r l)

end

theorem algebraic : Cert.algebraic_Kernel16Ideal_Reference16Ideal := fun m ρ m' ρ' _ hargs =>
  ⟨fun c => (dats m 0 c).arrAt 3 cfg0.N, Value.run_blocks m ρ, (θ_run _ _ _).mono (fun _ h c => by
    obtain ⟨e0, e1, e2⟩ := hargs c
    refine ⟨(h c).1.trans ?_, (h c).2⟩
    rw [e0, e1, e2]
    exact IsE.same (IsE.add (IsE.host (IsE.nt (IsE.own (n0 := 4096) (n1 := 2048) _) (IsE.own (n0 := 2048) (n1 := 2048) _) _ rfl))
      (IsE.mul (x := fun _ _ => Ideal.ofBits .f32 0x3FD744FD#32) (fun _ _ => rfl) (IsE.own (n0 := 4096) (n1 := 2048) _))) (leaves m c))
    (Cert.Reference16Ideal.Value.run (F := Ideal) m' ρ')⟩

/-- The program as it runs has the same text as its reading at the ideal values. -/
instance facts_bits : Cert.Kernel16.Facts :=
  Cert.Kernel16Ideal.Facts.rec (motive := fun _ => Cert.Kernel16.Facts)
    (@fun h => @Cert.Kernel16.Facts.mk (Cert.Kernel16Ideal.Facts₀.rec (motive := fun _ => Cert.Kernel16.Facts₀) Cert.Kernel16.Facts₀.mk h)) facts

theorem defs_bits : Cert.Kernel16.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel16 := fun m ρ _ =>
  Eq.mpr (congrArg (fun d => θ_run d (onTc (τ := τ) (main (F := Bits))) ⟨m, fun _ => 0, ρ⟩ _) defs_bits) (frame (F := Bits) m ρ)

theorem frame_reference : Cert.quiescent_Reference16Ideal := fun m ρ _ =>
  (θ_run (Cert.Reference16Ideal.defs (F := Ideal)) _ _).mono (fun r h => ⟨fun c => (h c).2, sem_eq_zero_of_no_sems (by decide) r.2⟩)
    (Cert.Reference16Ideal.Value.run (F := Ideal) m ρ)

end Cert.Kernel16Ideal.Gen

end
-- ==== Proof.Kernel17.lean ====
/-
  The gradient of the latent-attention layer's gate and output weights: `hᵀ dz`, `yᵀ dr`. The contraction's 4096 tokens are two grid points, the innermost axis; the
  sum so far is carried in the scratch, and the second point stores it.
-/
module

public import proofs.«01_k».proof.Defs
public import proofs.«01_k».proof.Proof.Product
public import proofs.«01_k».proof.Proof.Gen.Kernel17Ideal.Value
public import proofs.«01_k».proof.Proof.Gen.Reference17Ideal.Run
public import Idealize.ShloMosaic.Lib.Pipeline.ValueKit.Geometry

@[expose] public section

set_option maxRecDepth 16384

noncomputable section

namespace Cert.Kernel17Ideal.Gen

open Idealize.ShloMosaic Idealize.ShloMosaic.TcCoe Idealize.ShloMosaic.ValueIdx Idealize.SL.Sem Product
open Finset (range)
open scoped BigOperators

theorem pay1_holds : IsE (k0_pay1 (F := Ideal)) fun _ _ => 0 := by
  unfold k0_pay1
  exact IsE.zeros.castSelf _

theorem pay2_holds {x a b : ℕ → ℕ → EReal} {X : Vec Ideal S1024x1024 .f32} {A B : Vec Ideal S2048x1024 .bf16}
    (hx : IsE X x) (ha : IsE A a) (hb : IsE B b) : IsE (k0_pay2 (F := Ideal) X A B) fun r l => x r l + ∑ κ ∈ range 2048, a κ r * b κ l := by
  unfold k0_pay2
  exact (hx.add (.tn ha hb _ ⟨_, rfl⟩)).castSelf _

section
variable (m : (ℓ : Loc nD τ sig) → Buf (Elt Ideal) ℓ) (c : Dev nD)

/-- A block's first point puts its terms over zeros in the scratch, -/
theorem sum_first (t : Fin cfg0.N) (h0 : t.val % 2 = 0) : (outsAt0 m c t.val t.isLt).2 = k0_pay2 (k0_pay1 (F := Ideal)) (iblk m c 0 t) (iblk m c 1 t) := by
  rw [outsAt0_A m c t h0 (by omega)]
  dsimp only
  unfold sout0_A_0
  rw [View.read_writes_eq_canon _ _ _ (fun _ => scover0_A_0 ..)]
  unfold kernelRun0_A; dsimp only; sl_unfold_words
  rw [View.canon_cons_unit_zero (S := S1024x1024) hz, View.readCov_unit_zero (S := S1024x1024) _ hz]
  simp only [View.readAt_eq_ld, (hs0_0 t).read_unread, (hs0_1 t).read_unread, View.ld_unit_zero (S := S2048x1024) hz]

/-- its last point over what the point before left, -/
theorem sum_last (t : Fin cfg0.N) (h1 : t.val % 2 = 1) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t (by omega) h1]
  dsimp only
  unfold sout0_B_0
  rw [View.read_writes_eq_canon _ _ _ (fun _ => scover0_B_0 ..)]
  unfold kernelRun0_B; dsimp only; sl_unfold_words
  rw [View.canon_unit_zero hz]
  simp only [View.readAt_eq_ld, (hs0_0 t).read_unread, (hs0_1 t).read_unread, (Memref.isWhole_whole _).read_unread,
    View.ld_unit_zero (S := S2048x1024) hz, View.ld_unit_zero (S := S1024x1024) hz]

/-- and stores that. -/
theorem out_last (t : Fin cfg0.N) (h1 : t.val % 2 = 1) : (outsAt0 m c t.val t.isLt).1 = (outsAt0 m c t.val t.isLt).2 := by
  rw [sum_last m c t h1, outsAt0_B m c t (by omega) h1]
  dsimp only
  unfold out0_B_2
  rw [View.read_writes_eq_canon _ _ _ (fun _ => cover0_B_2 ..)]
  unfold kernelRun0_B; dsimp only; sl_unfold_words
  rw [View.canon_unit_zero hz, View.readCov_unit_zero (S := S1024x1024) _ hz]
  simp only [View.readAt_eq_ld, (hs0_0 t).read_unread, (hs0_1 t).read_unread, (Memref.isWhole_whole _).read_unread,
    View.ld_unit_zero (S := S2048x1024) hz, View.ld_unit_zero (S := S1024x1024) hz]

/-- Where the windows lie at a point. -/
theorem at_points : ∀ t : Fin cfg0.N,
    (cc0_transform_0 (grid0.coords t) 0 = t.val % 2 ∧ cc0_transform_0 (grid0.coords t) 1 = t.val / 2 / 2)
    ∧ (cc0_transform_1 (grid0.coords t) 0 = t.val % 2 ∧ cc0_transform_1 (grid0.coords t) 1 = t.val / 2 % 2)
    ∧ cc0_transform_2 (grid0.coords t) 0 = t.val / 2 / 2 ∧ cc0_transform_2 (grid0.coords t) 1 = t.val / 2 % 2 := by
  decide +kernel

/-- The arguments' elements. -/
abbrev u := ent (n0 := 4096) (n1 := 2048) (m ((c.tc : Thread nD τ).loc main_arg0))
abbrev v := ent (n0 := 4096) (n1 := 2048) (m ((c.tc : Thread nD τ).loc main_arg1))

theorem reads0 (t : Fin cfg0.N) : IsE (n0 := 2048) (n1 := 1024) (iblk m c 0 t) fun κ r => u m c (2048 * (t.val % 2) + κ) (1024 * (t.val / 2 / 2) + r) := by
  rw [← (at_points t).1.1, ← (at_points t).1.2]
  exact IsE.block (IsE.own (n0 := 4096) (n1 := 2048) _) _ fun _ => ⟨rfl, rfl⟩

theorem reads1 (t : Fin cfg0.N) : IsE (n0 := 2048) (n1 := 1024) (iblk m c 1 t) fun κ l => v m c (2048 * (t.val % 2) + κ) (1024 * (t.val / 2 % 2) + l) := by
  rw [← (at_points t).2.1.1, ← (at_points t).2.1.2]
  exact IsE.block (IsE.own (n0 := 4096) (n1 := 2048) _) _ fun _ => ⟨rfl, rfl⟩

/-- The scratch after a point. -/
theorem scratch : ∀ (t : ℕ) (h : t < cfg0.N), IsE (n0 := 1024) (n1 := 1024) (outsAt0 m c t h).2 fun r l =>
    ∑ κ ∈ range (2048 * (t % 2 + 1)), u m c κ (1024 * (t / 2 / 2) + r) * v m c κ (1024 * (t / 2 % 2) + l) := by
  refine folds (nk := 2) (by decide) (fun t h => (outsAt0 m c t h).2) (fun r l κ => u m c κ r * v m c κ l) (fun t h h0 => ?_) (fun t h h0 x hx => ?_)
  · exact sum_first m c ⟨t, h⟩ h0 ▸ pay2_holds pay1_holds (reads0 m c ⟨t, h⟩) (reads1 m c ⟨t, h⟩)
  · exact sum_last m c ⟨t, h⟩ (by show t % 2 = 1; omega) ▸ pay2_holds hx (reads0 m c ⟨t, h⟩) (reads1 m c ⟨t, h⟩)

/-- The array left. -/
theorem leaves : IsE (n0 := 2048) (n1 := 2048) ((dats m 0 c).arrAt 2 cfg0.N) fun r l => ∑ κ ∈ range 4096, u m c κ r * v m c κ l := fun r l =>
  (dats m 0 c).arrAt_forall_of_covers 2 (fun i y => y = ∑ κ ∈ range 4096, u m c κ (i 0).val * v m c κ (i 1).val) (by decide +kernel)
    (fun t ht y => by
      have h1 : t.val % 2 = 1 := (flush0_2 t).mp ht
      have hs := scratch m c t.val t.isLt
      rw [h1, ← (at_points t).2.2.1, ← (at_points t).2.2.2] at hs
      show (dats m 0 c).after 2 t y = _
      rw [after0_2, out_last m c t h1]
      exact IsE.lands (x := fun r l => ∑ κ ∈ range 4096, u m c κ r * v m c κ l) hs y rfl rfl) (ix2 r l)

end

theorem algebraic : Cert.algebraic_Kernel17Ideal_Reference17Ideal := fun m ρ m' ρ' _ hargs =>
  ⟨fun c => (dats m 0 c).arrAt 2 cfg0.N, Value.run_blocks m ρ, (θ_run _ _ _).mono (fun _ h c => by
    obtain ⟨e0, e1⟩ := hargs c
    refine ⟨(h c).1.trans ?_, (h c).2⟩
    rw [e0, e1]
    exact IsE.same (IsE.gradient (IsE.own (n0 := 4096) (n1 := 2048) _) (IsE.own (n0 := 4096) (n1 := 2048) _) _ ⟨_, rfl⟩ _) (leaves m c))
    (Cert.Reference17Ideal.Value.run (F := Ideal) m' ρ')⟩

/-- The program as it runs has the same text as its reading at the ideal values. -/
instance facts_bits : Cert.Kernel17.Facts :=
  Cert.Kernel17Ideal.Facts.rec (motive := fun _ => Cert.Kernel17.Facts)
    (@fun h => @Cert.Kernel17.Facts.mk (Cert.Kernel17Ideal.Facts₀.rec (motive := fun _ => Cert.Kernel17.Facts₀) Cert.Kernel17.Facts₀.mk h)) facts

theorem defs_bits : Cert.Kernel17.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel17 := fun m ρ _ =>
  Eq.mpr (congrArg (fun d => θ_run d (onTc (τ := τ) (main (F := Bits))) ⟨m, fun _ => 0, ρ⟩ _) defs_bits) (frame (F := Bits) m ρ)

theorem frame_reference : Cert.quiescent_Reference17Ideal := fun m ρ _ =>
  (θ_run (Cert.Reference17Ideal.defs (F := Ideal)) _ _).mono (fun r h => ⟨fun c => (h c).2, sem_eq_zero_of_no_sems (by decide) r.2⟩)
    (Cert.Reference17Ideal.Value.run (F := Ideal) m ρ)

end Cert.Kernel17Ideal.Gen

end
-- ==== Proof.Rowwise.lean ====
/-
  Element by element and row by row at the ideal values: `IsE X x` of `Product.lean` for the operations of a gate and of
  a normalization, `Is1` and `Is3` the same of an array of one axis and of three, and a sum over rows taken block after block. Extended reals
  throughout: no element need be finite.
-/
module

public import proofs.«01_k».proof.Proof.Product
public import Idealize.ShloMosaic.Lib.IdealHost
public import Idealize.ShloMosaic.Lib.Pointwise.Reduce

@[expose] public section

noncomputable section

namespace Product

open Idealize.ShloMosaic hiding ix1 ix2 ix3 ix4
open Idealize.ShloMosaic.ValueIdx
open Finset (range)
open scoped BigOperators

/-- The sigmoid as the reference writes it. -/
theorem sigmoid {S : Shape} (z : FVec Ideal S .f32) (h : (⟨0, ![]⟩ : Shape).BroadcastsInDim S ![]) :
    Host.divf (broadcastInDim S ![] h (constant (F := Ideal) ⟨0, ![]⟩ .f32 0x3F800000#32))
      (addf (broadcastInDim S ![] h (constant (F := Ideal) ⟨0, ![]⟩ .f32 0x3F800000#32)) (Host.exp (Host.negf z))) = logistic z := funext fun i => by
  show Ideal.div (Ideal.ofBits .f32 0x3F800000#32) (Ideal.ofBits .f32 0x3F800000#32 + Ideal.exp (-(z i))) = Ideal.div 1 (1 + Ideal.exp (-(z i)))
  rw [Ideal.ofBits_one_f32]

/-- The array of three axes holds `x`. -/
def Is3 {n0 n1 n2 : ℕ} (X : (⟨3, ![n0, n1, n2]⟩ : Shape).Idx → EReal) (x : ℕ → ℕ → ℕ → EReal) : Prop :=
  ∀ (r : Fin n0) (g : Fin n1) (k : Fin n2), X (ix3 r g k) = x r.val g.val k.val

/-- The array of one axis holds `x`. -/
def Is1 {n0 : ℕ} (X : (⟨1, ![n0]⟩ : Shape).Idx → EReal) (x : ℕ → EReal) : Prop := ∀ r : Fin n0, X (ix1 r) = x r.val

namespace IsE

variable {n0 n1 n2 N : ℕ}

theorem sub {X Y : FVec Ideal ⟨2, ![n0, n1]⟩ .f32} {x y : ℕ → ℕ → EReal} (hx : IsE X x) (hy : IsE Y y) :
    IsE (subf X Y) fun r c => x r c - y r c := fun r c => congrArg₂ (fun a b : EReal => a - b) (hx r c) (hy r c)

theorem quot {X Y : FVec Ideal ⟨2, ![n0, n1]⟩ .f32} {x y : ℕ → ℕ → EReal} (hx : IsE X x) (hy : IsE Y y) :
    IsE (divf X Y) fun r c => Ideal.div (x r c) (y r c) := fun r c => congrArg₂ Ideal.div (hx r c) (hy r c)

theorem quotHost {X Y : FVec Ideal ⟨2, ![n0, n1]⟩ .f32} {x y : ℕ → ℕ → EReal} (hx : IsE X x) (hy : IsE Y y) :
    IsE (Host.divf X Y) fun r c => Ideal.div (x r c) (y r c) := fun r c => congrArg₂ Ideal.div (hx r c) (hy r c)

theorem sig {X : FVec Ideal ⟨2, ![n0, n1]⟩ .f32} {x : ℕ → ℕ → EReal} (hx : IsE X x) :
    IsE (logistic X) fun r c => Ideal.logistic (x r c) := fun r c => congrArg Ideal.logistic (hx r c)

theorem root {X : FVec Ideal ⟨2, ![n0, n1]⟩ .f32} {x : ℕ → ℕ → EReal} (hx : IsE X x) :
    IsE (rsqrt X) fun r c => Ideal.rsqrt (x r c) := fun r c => congrArg Ideal.rsqrt (hx r c)

theorem rootHost {X : FVec Ideal ⟨2, ![n0, n1]⟩ .f32} {x : ℕ → ℕ → EReal} (hx : IsE X x) :
    IsE (Host.rsqrt X) fun r c => Ideal.rsqrt (x r c) := fun r c => congrArg Ideal.rsqrt (hx r c)

theorem negHost {X : FVec Ideal ⟨2, ![n0, n1]⟩ .f32} {x : ℕ → ℕ → EReal} (hx : IsE X x) :
    IsE (Host.negf X) fun r c => -(x r c) := fun r c => congrArg (fun a : EReal => -a) (hx r c)

/-- Taken from zero. -/
theorem neg {X : FVec Ideal ⟨2, ![n0, n1]⟩ .f32} {x : ℕ → ℕ → EReal} (hx : IsE X x) :
    IsE (subf (broadcast ⟨2, ![n0, n1]⟩ (Scalar.ofBits (F := Ideal) .f32 0x00000000#32)) X) fun r c => -(x r c) := fun r c => by
  show Ideal.ofBits .f32 0x00000000#32 - X (ix2 r c) = _
  rw [Ideal.ofBits_zero_f32, zero_sub, hx r c]

/-- A constant everywhere. -/
theorem splat (b : BitVec 32) : IsE (broadcast ⟨2, ![n0, n1]⟩ (Scalar.ofBits (F := Ideal) .f32 b)) fun _ _ => Ideal.ofBits .f32 b :=
  fun _ _ => rfl

theorem splatHost (b : BitVec 32) (h : (⟨0, ![]⟩ : Shape).BroadcastsInDim ⟨2, ![n0, n1]⟩ ![]) :
    IsE (broadcastInDim ⟨2, ![n0, n1]⟩ ![] h (constant (F := Ideal) ⟨0, ![]⟩ .f32 b)) fun _ _ => Ideal.ofBits .f32 b :=
  fun _ _ => rfl

/-- A narrower format changes no element. -/
theorem narrow {X : FVec Ideal ⟨2, ![n0, n1]⟩ .f32} {x : ℕ → ℕ → EReal} (hx : IsE X x) (h : FTy.bits .bf16 < FTy.bits .f32) :
    IsE (truncf .bf16 X h) x := fun r c => hx r c

/-- A row's sum, as a column. -/
theorem rowSum {X : FVec Ideal ⟨2, ![n0, n1]⟩ .f32} {x : ℕ → ℕ → EReal} (hx : IsE X x)
    (h : Shape.Reduces ⟨2, ![n0, n1]⟩ [1] ⟨1, ![n0]⟩) (hφ : FKind.Formats .f32)
    (hacc : (0x00000000#32 : BitVec 32) = FKind.add.neutral .f32 hφ) (hc : (⟨1, ![n0]⟩ : Shape).ShapeCasts ⟨2, ![n0, 1]⟩) :
    IsE (shapeCast ⟨2, ![n0, 1]⟩ (multiReduction .add [1] ⟨1, ![n0]⟩ X 0x00000000#32 h hφ hacc) hc)
      fun r _ => ∑ k ∈ range n1, x r k := fun r c => by
  rw [shapeCast_a_a1_apply, multiReduction_add_apply, Ideal.reduceAdd_def, Ideal.reduceAdd_r2_a1]
  exact Eq.trans (Finset.sum_congr rfl fun k _ => hx r k) (Finset.sum_range fun k => x r.val k).symm

/-- A column's sum, as a row. -/
theorem colSum {X : FVec Ideal ⟨2, ![n0, n1]⟩ .f32} {x : ℕ → ℕ → EReal} (hx : IsE X x)
    (h : Shape.Reduces ⟨2, ![n0, n1]⟩ [0] ⟨1, ![n1]⟩) (hφ : FKind.Formats .f32)
    (hacc : (0x00000000#32 : BitVec 32) = FKind.add.neutral .f32 hφ) (hc : (⟨1, ![n1]⟩ : Shape).ShapeCasts ⟨2, ![1, n1]⟩) :
    IsE (shapeCast ⟨2, ![1, n1]⟩ (multiReduction .add [0] ⟨1, ![n1]⟩ X 0x00000000#32 h hφ hacc) hc)
      fun _ c => ∑ r ∈ range n0, x r c := fun r c => by
  rw [shapeCast_a_1a_apply, multiReduction_add_apply, Ideal.reduceAdd_def, Ideal.reduceAdd_r2_a0]
  exact Eq.trans (Finset.sum_congr rfl fun k _ => hx k c) (Finset.sum_range fun k => x k c.val).symm

/-- A column broadcast along the lanes. -/
theorem col {X : (⟨2, ![n0, 1]⟩ : Shape).Idx → EReal} {x : ℕ → ℕ → EReal} (hx : IsE X x)
    (h : (⟨2, ![n0, 1]⟩ : Shape).Broadcasts ⟨2, ![n0, n1]⟩) : IsE (broadcastTo ⟨2, ![n0, n1]⟩ X h) fun r _ => x r 0 := fun r c => by
  rw [broadcastTo_apply X h (ix2 r c) (ix2 r (0 : Fin 1)) fun ax => ?_]
  · exact hx r 0
  · match ax with
    | ⟨0, _⟩ =>
      show r.val = if n0 = 1 then 0 else r.val
      split
      · have := r.isLt; omega
      · rfl
    | ⟨1, _⟩ => rfl

/-- A row broadcast along the rows. -/
theorem row {X : (⟨2, ![1, n1]⟩ : Shape).Idx → EReal} {x : ℕ → ℕ → EReal} (hx : IsE X x)
    (h : (⟨2, ![1, n1]⟩ : Shape).Broadcasts ⟨2, ![n0, n1]⟩) : IsE (broadcastTo ⟨2, ![n0, n1]⟩ X h) fun _ c => x 0 c := fun r c => by
  rw [broadcastTo_1b_ab_apply]
  exact hx 0 c

/-- The same two of the reference's. -/
theorem colHost {X : (⟨2, ![n0, 1]⟩ : Shape).Idx → EReal} {x : ℕ → ℕ → EReal} (hx : IsE X x)
    (h : (⟨2, ![n0, 1]⟩ : Shape).BroadcastsInDim ⟨2, ![n0, n1]⟩ ![0, 1]) : IsE (broadcastInDim ⟨2, ![n0, n1]⟩ ![0, 1] h X) fun r _ => x r 0 := fun r c => by
  rw [broadcastInDim_apply ![0, 1] h _ (ix2 r c) (ix2 r (0 : Fin 1)) ?_]
  · exact hx r 0
  · intro a
    match a with
    | ⟨0, _⟩ =>
      show r.val = if n0 = 1 then 0 else r.val
      split
      · have := r.isLt; omega
      · rfl
    | ⟨1, _⟩ => rfl

theorem rowHost {X : (⟨2, ![1, n1]⟩ : Shape).Idx → EReal} {x : ℕ → ℕ → EReal} (hx : IsE X x)
    (h : (⟨2, ![1, n1]⟩ : Shape).BroadcastsInDim ⟨2, ![n0, n1]⟩ ![0, 1]) : IsE (broadcastInDim ⟨2, ![n0, n1]⟩ ![0, 1] h X) fun _ c => x 0 c := fun r c => by
  rw [broadcastInDim_apply ![0, 1] h _ (ix2 r c) (ix2 (0 : Fin 1) c) ?_]
  · exact hx 0 c
  · intro a
    match a with
    | ⟨0, _⟩ => rfl
    | ⟨1, _⟩ =>
      show c.val = if n1 = 1 then 0 else c.val
      split
      · have := c.isLt; omega
      · rfl

/-- The reference's sums over lanes and over rows. -/
theorem sumLanes {X : FVec Ideal ⟨2, ![n0, n1]⟩ .f32} {x : ℕ → ℕ → EReal} (hx : IsE X x)
    (h : Shape.ReducesTo ⟨2, ![n0, n1]⟩ [1] ⟨1, ![n0]⟩) (hu : 0 < (⟨0, ![]⟩ : Shape).numel) :
    Is1 (Host.reduceAdd X (constant (F := Ideal) ⟨0, ![]⟩ .f32 0x00000000#32) h hu) fun r => ∑ k ∈ range n1, x r k := fun r => by
  rw [Host.reduceAdd_apply, Ideal.hostReduceAdd_def, Ideal.hostReduceAdd_r2_a1, constant_apply, Ideal.ofBits_zero_f32, zero_add]
  exact Eq.trans (Finset.sum_congr rfl fun k _ => hx r k) (Finset.sum_range fun k => x r.val k).symm

theorem sumRows {X : FVec Ideal ⟨2, ![n0, n1]⟩ .f32} {x : ℕ → ℕ → EReal} (hx : IsE X x)
    (h : Shape.ReducesTo ⟨2, ![n0, n1]⟩ [0] ⟨1, ![n1]⟩) (hu : 0 < (⟨0, ![]⟩ : Shape).numel) :
    Is1 (Host.reduceAdd X (constant (F := Ideal) ⟨0, ![]⟩ .f32 0x00000000#32) h hu) fun c => ∑ r ∈ range n0, x r c := fun c => by
  rw [Host.reduceAdd_apply, Ideal.hostReduceAdd_def, Ideal.hostReduceAdd_r2_a0, constant_apply, Ideal.ofBits_zero_f32, zero_add]
  exact Eq.trans (Finset.sum_congr rfl fun r _ => hx r c) (Finset.sum_range fun r => x r c.val).symm

/-- One row cut into rows of `n1`. -/
theorem fold1 {X : (⟨2, ![1, N]⟩ : Shape).Idx → EReal} {x : ℕ → ℕ → EReal} (hx : IsE X x)
    (h : (⟨2, ![1, N]⟩ : Shape).ShapeCasts ⟨2, ![n0, n1]⟩) (hN : N = n0 * n1) :
    IsE (shapeCast ⟨2, ![n0, n1]⟩ X h) fun r c => x 0 (n1 * r + c) := fun r c => by
  have hl : n1 * r.val + c.val < N := by
    have h1 := r.isLt
    have h2 := c.isLt
    have h3 : n1 * (r.val + 1) ≤ n1 * n0 := Nat.mul_le_mul_left _ h1
    rw [hN, Nat.mul_comm n0]
    rw [Nat.mul_succ] at h3
    omega
  rw [shapeCast_apply X h (ix2 r c) (ix2 (0 : Fin 1) ⟨n1 * r.val + c.val, hl⟩)]
  · exact hx 0 _
  · rw [Shape.rowMajor_val_two, Shape.rowMajor_val_two]
    show 0 * N + (n1 * r.val + c.val) = r.val * n1 + c.val
    rw [Nat.zero_mul, Nat.zero_add, Nat.mul_comm]

/-- Rows laid one after the other in one row. -/
theorem flat1 {X : (⟨2, ![n0, n1]⟩ : Shape).Idx → EReal} {x : ℕ → ℕ → EReal} (hx : IsE X x)
    (h : (⟨2, ![n0, n1]⟩ : Shape).ShapeCasts ⟨2, ![1, N]⟩) (hN : N = n1 * n0) (h1 : 0 < n1) :
    IsE (shapeCast ⟨2, ![1, N]⟩ X h) fun _ c => x (c / n1) (c % n1) := fun r c => by
  have hc : c.val / n1 < n0 := Nat.div_lt_of_lt_mul (hN ▸ c.isLt)
  rw [shapeCast_apply X h (ix2 r c) (ix2 ⟨c.val / n1, hc⟩ ⟨c.val % n1, Nat.mod_lt _ h1⟩)]
  · exact hx _ _
  · have hr : r.val = 0 := by omega
    rw [Shape.rowMajor_val_two, Shape.rowMajor_val_two]
    show c.val / n1 * n1 + c.val % n1 = r.val * N + c.val
    rw [hr, Nat.zero_mul, Nat.zero_add, Nat.mul_comm, Nat.div_add_mod]

end IsE

namespace Is1

variable {n0 n1 : ℕ} {X : (⟨1, ![n0]⟩ : Shape).Idx → EReal} {x : ℕ → EReal}

/-- A value per row, along the lanes, -/
theorem spread (hx : Is1 X x) (h : (⟨1, ![n0]⟩ : Shape).BroadcastsInDim ⟨2, ![n0, n1]⟩ ![0]) :
    IsE (broadcastInDim ⟨2, ![n0, n1]⟩ ![0] h X) fun r _ => x r := fun r c => by
  rw [broadcastInDim_apply ![0] h _ (ix2 r c) (ix1 r) ?_]
  · exact hx r
  · intro a
    match a with
    | ⟨0, _⟩ =>
      show r.val = if n0 = 1 then 0 else r.val
      split
      · have := r.isLt; omega
      · rfl

/-- as a column, -/
theorem column (hx : Is1 X x) (h : (⟨1, ![n0]⟩ : Shape).ShapeCasts ⟨2, ![n0, 1]⟩) : IsE (shapeCast ⟨2, ![n0, 1]⟩ X h) fun r _ => x r := fun r c => by
  rw [shapeCast_a_a1_apply]
  exact hx r

/-- and a value per lane, as a row. -/
theorem row (hx : Is1 X x) (h : (⟨1, ![n0]⟩ : Shape).ShapeCasts ⟨2, ![1, n0]⟩) : IsE (shapeCast ⟨2, ![1, n0]⟩ X h) fun _ c => x c := fun r c => by
  rw [shapeCast_a_1a_apply]
  exact hx c

end Is1

namespace Is3

variable {n0 n1 n2 N : ℕ}

theorem congr {X : (⟨3, ![n0, n1, n2]⟩ : Shape).Idx → EReal} {x x' : ℕ → ℕ → ℕ → EReal} (h : Is3 X x) (e : ∀ r g k, x r g k = x' r g k) : Is3 X x' :=
  fun r g k => (h r g k).trans (e _ _ _)

theorem add {X Y : FVec Ideal ⟨3, ![n0, n1, n2]⟩ .f32} {x y : ℕ → ℕ → ℕ → EReal} (hx : Is3 X x) (hy : Is3 Y y) :
    Is3 (addf X Y) fun r g k => x r g k + y r g k := fun r g k => congrArg₂ (fun a b : EReal => a + b) (hx r g k) (hy r g k)

theorem sub {X Y : FVec Ideal ⟨3, ![n0, n1, n2]⟩ .f32} {x y : ℕ → ℕ → ℕ → EReal} (hx : Is3 X x) (hy : Is3 Y y) :
    Is3 (subf X Y) fun r g k => x r g k - y r g k := fun r g k => congrArg₂ (fun a b : EReal => a - b) (hx r g k) (hy r g k)

theorem mul {X Y : FVec Ideal ⟨3, ![n0, n1, n2]⟩ .f32} {x y : ℕ → ℕ → ℕ → EReal} (hx : Is3 X x) (hy : Is3 Y y) :
    Is3 (mulf X Y) fun r g k => x r g k * y r g k := fun r g k => congrArg₂ (fun a b : EReal => a * b) (hx r g k) (hy r g k)

theorem quot {X Y : FVec Ideal ⟨3, ![n0, n1, n2]⟩ .f32} {x y : ℕ → ℕ → ℕ → EReal} (hx : Is3 X x) (hy : Is3 Y y) :
    Is3 (Host.divf X Y) fun r g k => Ideal.div (x r g k) (y r g k) := fun r g k => congrArg₂ Ideal.div (hx r g k) (hy r g k)

theorem sig {X : FVec Ideal ⟨3, ![n0, n1, n2]⟩ .f32} {x : ℕ → ℕ → ℕ → EReal} (hx : Is3 X x)
    (h : (⟨0, ![]⟩ : Shape).BroadcastsInDim ⟨3, ![n0, n1, n2]⟩ ![]) :
    Is3 (Host.divf (broadcastInDim ⟨3, ![n0, n1, n2]⟩ ![] h (constant (F := Ideal) ⟨0, ![]⟩ .f32 0x3F800000#32))
      (addf (broadcastInDim ⟨3, ![n0, n1, n2]⟩ ![] h (constant (F := Ideal) ⟨0, ![]⟩ .f32 0x3F800000#32)) (Host.exp (Host.negf X))))
      fun r g k => Ideal.logistic (x r g k) := fun r g k => by
  rw [sigmoid]; exact congrArg Ideal.logistic (hx r g k)

theorem root {X : FVec Ideal ⟨3, ![n0, n1, n2]⟩ .f32} {x : ℕ → ℕ → ℕ → EReal} (hx : Is3 X x) :
    Is3 (Host.rsqrt X) fun r g k => Ideal.rsqrt (x r g k) := fun r g k => congrArg Ideal.rsqrt (hx r g k)

theorem splat (b : BitVec 32) (h : (⟨0, ![]⟩ : Shape).BroadcastsInDim ⟨3, ![n0, n1, n2]⟩ ![]) :
    Is3 (broadcastInDim ⟨3, ![n0, n1, n2]⟩ ![] h (constant (F := Ideal) ⟨0, ![]⟩ .f32 b)) fun _ _ _ => Ideal.ofBits .f32 b :=
  fun _ _ _ => rfl

/-- A matrix's lanes in groups of `n2`. -/
theorem split {X : (⟨2, ![n0, N]⟩ : Shape).Idx → EReal} {x : ℕ → ℕ → EReal} (hx : IsE X x)
    (h : (⟨2, ![n0, N]⟩ : Shape).ShapeCasts ⟨3, ![n0, n1, n2]⟩) (hN : N = n1 * n2) :
    Is3 (shapeCast ⟨3, ![n0, n1, n2]⟩ X h) fun r g k => x r (n2 * g + k) := fun r g k => by
  have hl : n2 * g.val + k.val < N := by
    have h1 := g.isLt
    have h2 := k.isLt
    have h3 : n2 * (g.val + 1) ≤ n2 * n1 := Nat.mul_le_mul_left _ h1
    rw [hN, Nat.mul_comm n1]
    rw [Nat.mul_succ] at h3
    omega
  rw [shapeCast_apply X h (ix3 r g k) (ix2 r ⟨n2 * g.val + k.val, hl⟩)]
  · exact hx r _
  · rw [Shape.rowMajor_val_two, Shape.rowMajor_val_three]
    show r.val * N + (n2 * g.val + k.val) = (r.val * n1 + g.val) * n2 + k.val
    rw [hN]; ring

/-- The groups laid side by side again. -/
theorem merge {X : (⟨3, ![n0, n1, n2]⟩ : Shape).Idx → EReal} {x : ℕ → ℕ → ℕ → EReal} (hx : Is3 X x)
    (h : (⟨3, ![n0, n1, n2]⟩ : Shape).ShapeCasts ⟨2, ![n0, N]⟩) (hN : N = n2 * n1) (h2 : 0 < n2) :
    IsE (shapeCast ⟨2, ![n0, N]⟩ X h) fun r c => x r (c / n2) (c % n2) := fun r c => by
  have hc : c.val / n2 < n1 := Nat.div_lt_of_lt_mul (hN ▸ c.isLt)
  rw [shapeCast_apply X h (ix2 r c) (ix3 r ⟨c.val / n2, hc⟩ ⟨c.val % n2, Nat.mod_lt _ h2⟩)]
  · exact hx _ _ _
  · rw [Shape.rowMajor_val_two, Shape.rowMajor_val_three]
    show (r.val * n1 + c.val / n2) * n2 + c.val % n2 = r.val * N + c.val
    have e := Nat.div_add_mod c.val n2
    generalize c.val / n2 = q at e ⊢
    generalize c.val % n2 = k at e ⊢
    rw [← e, hN]; ring

/-- A matrix under every row. -/
theorem lead {X : (⟨2, ![n1, n2]⟩ : Shape).Idx → EReal} {x : ℕ → ℕ → EReal} (hx : IsE X x)
    (h : (⟨2, ![n1, n2]⟩ : Shape).BroadcastsInDim ⟨3, ![1, n1, n2]⟩ ![1, 2])
    (h' : (⟨3, ![1, n1, n2]⟩ : Shape).BroadcastsInDim ⟨3, ![n0, n1, n2]⟩ ![0, 1, 2]) :
    Is3 (broadcastInDim ⟨3, ![n0, n1, n2]⟩ ![0, 1, 2] h' (broadcastInDim ⟨3, ![1, n1, n2]⟩ ![1, 2] h X)) fun _ g k => x g k := fun r g k => by
  rw [broadcastInDim_apply ![0, 1, 2] h' _ (ix3 r g k) (ix3 (0 : Fin 1) g k) ?_, broadcastInDim_apply ![1, 2] h _ (ix3 (0 : Fin 1) g k) (ix2 g k) ?_]
  · exact hx g k
  · intro a
    match a with
    | ⟨0, _⟩ =>
      show g.val = if n1 = 1 then 0 else g.val
      split
      · have := g.isLt; omega
      · rfl
    | ⟨1, _⟩ =>
      show k.val = if n2 = 1 then 0 else k.val
      split
      · have := k.isLt; omega
      · rfl
  · intro a
    match a with
    | ⟨0, _⟩ => rfl
    | ⟨1, _⟩ =>
      show g.val = if n1 = 1 then 0 else g.val
      split
      · have := g.isLt; omega
      · rfl
    | ⟨2, _⟩ =>
      show k.val = if n2 = 1 then 0 else k.val
      split
      · have := k.isLt; omega
      · rfl

/-- A group's sum. -/
theorem sum {X : FVec Ideal ⟨3, ![n0, n1, n2]⟩ .f32} {x : ℕ → ℕ → ℕ → EReal} (hx : Is3 X x)
    (h : Shape.ReducesTo ⟨3, ![n0, n1, n2]⟩ [2] ⟨2, ![n0, n1]⟩) (hu : 0 < (⟨0, ![]⟩ : Shape).numel) :
    IsE (Host.reduceAdd X (constant (F := Ideal) ⟨0, ![]⟩ .f32 0x00000000#32) h hu) fun r g => ∑ k ∈ range n2, x r g k := fun r g => by
  rw [Host.reduceAdd_apply, Ideal.hostReduceAdd_def, Ideal.hostReduceAdd_r3_a2, constant_apply, Ideal.ofBits_zero_f32, zero_add]
  exact Eq.trans (Finset.sum_congr rfl fun k _ => hx r g k) (Finset.sum_range fun k => x r.val g.val k).symm

/-- The sum over the rows. -/
theorem sum0 {X : FVec Ideal ⟨3, ![n0, n1, n2]⟩ .f32} {x : ℕ → ℕ → ℕ → EReal} (hx : Is3 X x)
    (h : Shape.ReducesTo ⟨3, ![n0, n1, n2]⟩ [0] ⟨2, ![n1, n2]⟩) (hu : 0 < (⟨0, ![]⟩ : Shape).numel) :
    IsE (Host.reduceAdd X (constant (F := Ideal) ⟨0, ![]⟩ .f32 0x00000000#32) h hu) fun g k => ∑ r ∈ range n0, x r g k := fun g k => by
  rw [Host.reduceAdd_apply, Ideal.hostReduceAdd_def, Ideal.hostReduceAdd_r3_a0, constant_apply, Ideal.ofBits_zero_f32, zero_add]
  exact Eq.trans (Finset.sum_congr rfl fun r _ => hx r g k) (Finset.sum_range fun r => x r g.val k.val).symm

/-- A leading axis of one. -/
theorem up {X : (⟨2, ![n1, n2]⟩ : Shape).Idx → EReal} {x : ℕ → ℕ → EReal} (hx : IsE X x)
    (h : (⟨2, ![n1, n2]⟩ : Shape).ShapeCasts ⟨3, ![1, n1, n2]⟩) : Is3 (shapeCast ⟨3, ![1, n1, n2]⟩ X h) fun _ g k => x g k := fun u g k => by
  rw [shapeCast_ab_1ab_apply]
  exact hx g k

/-- A value per row and group, as an array of three axes. -/
theorem keep {X : (⟨2, ![n0, n1]⟩ : Shape).Idx → EReal} {x : ℕ → ℕ → EReal} (hx : IsE X x)
    (h : (⟨2, ![n0, n1]⟩ : Shape).BroadcastsInDim ⟨3, ![n0, n1, n2]⟩ ![0, 1]) :
    Is3 (broadcastInDim ⟨3, ![n0, n1, n2]⟩ ![0, 1] h X) fun r g _ => x r g := fun r g k => by
  rw [broadcastInDim_apply ![0, 1] h _ (ix3 r g k) (ix2 r g) ?_]
  · exact hx r g
  · intro a
    match a with
    | ⟨0, _⟩ =>
      show r.val = if n0 = 1 then 0 else r.val
      split
      · have := r.isLt; omega
      · rfl
    | ⟨1, _⟩ =>
      show g.val = if n1 = 1 then 0 else g.val
      split
      · have := g.isLt; omega
      · rfl

theorem keepCast {X : (⟨2, ![n0, n1]⟩ : Shape).Idx → EReal} {x : ℕ → ℕ → EReal} (hx : IsE X x)
    (h : (⟨2, ![n0, n1]⟩ : Shape).ShapeCasts ⟨3, ![n0, n1, 1]⟩) :
    Is3 (shapeCast ⟨3, ![n0, n1, 1]⟩ X h) fun r g _ => x r g := fun r g k => by
  rw [shapeCast_apply X h (ix3 r g k) (ix2 r g)]
  · exact hx r g
  · have hk : k.val = 0 := by omega
    rw [Shape.rowMajor_val_two, Shape.rowMajor_val_three]
    show r.val * n1 + g.val = (r.val * n1 + g.val) * 1 + k.val
    omega

/-- A value per row and group, broadcast along the lanes. -/
theorem spread {X : (⟨3, ![n0, n1, 1]⟩ : Shape).Idx → EReal} {x : ℕ → ℕ → ℕ → EReal} (hx : Is3 X x)
    (h : (⟨3, ![n0, n1, 1]⟩ : Shape).BroadcastsInDim ⟨3, ![n0, n1, n2]⟩ ![0, 1, 2]) :
    Is3 (broadcastInDim ⟨3, ![n0, n1, n2]⟩ ![0, 1, 2] h X) fun r g _ => x r g 0 := fun r g k => by
  rw [broadcastInDim_apply ![0, 1, 2] h _ (ix3 r g k) (ix3 r g (0 : Fin 1)) ?_]
  · exact hx r g 0
  · intro a
    match a with
    | ⟨0, _⟩ =>
      show r.val = if n0 = 1 then 0 else r.val
      split
      · have := r.isLt; omega
      · rfl
    | ⟨1, _⟩ =>
      show g.val = if n1 = 1 then 0 else g.val
      split
      · have := g.isLt; omega
      · rfl
    | ⟨2, _⟩ => rfl

end Is3

/-- A sum over rows in blocks of `R`: at each point of the grid `(j, k)`, `k` innermost of `nk`, one row gets the terms of
    the `k`-th `R` positions, onto zeros where `k` is 0 and onto the point before otherwise. -/
theorem rowFolds {n nk R N : ℕ} (hk : 0 < nk) (s : (t : ℕ) → t < n → (⟨2, ![1, N]⟩ : Shape).Idx → EReal) (g : ℕ → ℕ → ℕ → EReal)
    (first : ∀ t (h : t < n), t % nk = 0 → IsE (s t h) fun _ c => 0 + ∑ κ ∈ range R, g (t / nk) (R * (t % nk) + κ) c)
    (next : ∀ t (h : t < n), t % nk ≠ 0 → ∀ x, IsE (s (t - 1) (Nat.lt_of_le_of_lt (Nat.sub_le _ _) h)) x → IsE (s t h) fun r c =>
      x r c + ∑ κ ∈ range R, g (t / nk) (R * (t % nk) + κ) c) :
    ∀ t (h : t < n), IsE (s t h) fun _ c => ∑ κ ∈ range (R * (t % nk + 1)), g (t / nk) κ c := by
  intro t
  induction t with
  | zero =>
    intro h
    refine (first 0 h (Nat.zero_mod _)).congr fun r c => ?_
    simp
  | succ t ih =>
    intro h
    by_cases h0 : (t + 1) % nk = 0
    · refine (first _ h h0).congr fun r c => ?_
      rw [h0, zero_add]
      simp
    · have hd : (t + 1) / nk = t / nk := by
        refine Nat.succ_div_of_not_dvd fun hv => h0 (Nat.mod_eq_zero_of_dvd hv)
      have hm : (t + 1) % nk = t % nk + 1 := by
        have e1 := Nat.div_add_mod t nk
        have e2 := Nat.div_add_mod (t + 1) nk
        rw [hd] at e2
        omega
      refine (next _ h h0 _ (ih _)).congr fun r c => ?_
      rw [hd, hm, show R * (t % nk + 1 + 1) = R * (t % nk + 1) + R by ring, Finset.sum_range_add]

end Product

end
-- ==== Proof.Kernel18.lean ====
/-
  The gradient of the attention's gate, `o · silu z`: element by element.
-/
module

public import proofs.«01_k».proof.Defs
public import proofs.«01_k».proof.Proof.Rowwise
public import proofs.«01_k».proof.Proof.Gen.Kernel18Ideal.Value
public import proofs.«01_k».proof.Proof.Gen.Reference18Ideal.Run

@[expose] public section

set_option maxRecDepth 16384

noncomputable section

namespace Cert.Kernel18Ideal.Gen

open Idealize.ShloMosaic Idealize.ShloMosaic.TcCoe Idealize.SL.Sem

theorem algebraic : Cert.algebraic_Kernel18Ideal_Reference18Ideal := fun m ρ m' ρ' _ hargs =>
  ⟨_, _, Value.run m ρ, (θ_run _ _ _).mono (fun _ h c => by
    obtain ⟨e0, e1, e2⟩ := hargs c
    obtain ⟨h0, h1, h2⟩ := h c
    refine ⟨h0.trans ?_, h1.trans ?_, h2⟩
    · rw [e1, e2]
      erw [Product.sigmoid]
      rfl
    · rw [e0, e1, e2]
      erw [Product.sigmoid]
      rfl)
    (Cert.Reference18Ideal.Value.run (F := Ideal) m' ρ')⟩

/-- The program as it runs has the same text as its reading at the ideal values. -/
instance facts_bits : Cert.Kernel18.Facts :=
  Cert.Kernel18Ideal.Facts.rec (motive := fun _ => Cert.Kernel18.Facts)
    (@fun h => @Cert.Kernel18.Facts.mk (Cert.Kernel18Ideal.Facts₀.rec (motive := fun _ => Cert.Kernel18.Facts₀) Cert.Kernel18.Facts₀.mk h)) facts

theorem defs_bits : Cert.Kernel18.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel18 := fun m ρ _ =>
  Eq.mpr (congrArg (fun d => θ_run d (onTc (τ := τ) (main (F := Bits))) ⟨m, fun _ => 0, ρ⟩ _) defs_bits) (frame (F := Bits) m ρ)

theorem frame_reference : Cert.quiescent_Reference18Ideal := fun m ρ _ =>
  (θ_run (Cert.Reference18Ideal.defs (F := Ideal)) _ _).mono (fun r h => ⟨fun c => (h c).2.2, sem_eq_zero_of_no_sems (by decide) r.2⟩)
    (Cert.Reference18Ideal.Value.run (F := Ideal) m ρ)

end Cert.Kernel18Ideal.Gen

end
-- ==== Proof.Kernel19.lean ====
/-
  The gradient of the scan's gated normalization: groups of 512 lanes of `y · silu z`, each scaled by the reciprocal root
  of its mean square and by `w`. A point of the grid is one group over 512 rows. The gradients of `y` and `z` are row by
  row; the gradient of `w` is a sum over the rows, 512 of them at each point, the innermost axis, over zeros at the first.
-/
module

public import proofs.«01_k».proof.Defs
public import proofs.«01_k».proof.Proof.Rowwise
public import proofs.«01_k».proof.Proof.Gen.Kernel19Ideal.Value
public import proofs.«01_k».proof.Proof.Gen.Reference19Ideal.Run
public import Idealize.ShloMosaic.Lib.Pipeline.ValueKit.Geometry

@[expose] public section

set_option maxRecDepth 16384

noncomputable section

/-! One group of one row: its lanes `y`, `z`, the gradient `d` of the result, and `q`, that times `w`. -/
namespace Gated

open Idealize.ShloMosaic
open Finset (range)
open scoped BigOperators

def pre (y z : ℕ → EReal) (k : ℕ) : EReal := y k * (z k * Ideal.logistic (z k))

/-- The mean square and the small constant added to it. -/
def msq (p : ℕ → EReal) : EReal := Ideal.div (∑ k ∈ range 512, p k * p k) (Ideal.ofBits .f32 0x44000000#32) + Ideal.ofBits .f32 0x358637BD#32

def corr (p q : ℕ → EReal) : EReal := ∑ _k ∈ range 1,
  Ideal.div ((∑ k ∈ range 512, p k * q k) * (Ideal.ofBits .f32 0xBF000000#32 * Ideal.div (Ideal.rsqrt (msq p)) (msq p))) (Ideal.ofBits .f32 0x44000000#32)

def dpre (p q : ℕ → EReal) (k : ℕ) : EReal := q k * Ideal.rsqrt (msq p) + p k * corr p q + corr p q * p k

def dy (y z q : ℕ → EReal) (k : ℕ) : EReal := dpre (pre y z) q k * (z k * Ideal.logistic (z k))

def dz (y z q : ℕ → EReal) (k : ℕ) : EReal := y k * dpre (pre y z) q k * Ideal.logistic (z k)
  + z k * (y k * dpre (pre y z) q k) * (Ideal.logistic (z k) * (Ideal.ofBits .f32 0x3F800000#32 - Ideal.logistic (z k)))

def dw (y z d : ℕ → EReal) (k : ℕ) : EReal := pre y z k * Ideal.rsqrt (msq (pre y z)) * d k

end Gated

/-! The reference, on arrays of 8 groups of 512 lanes a row. -/
namespace Cert.Reference19Ideal.Gen

open Idealize.ShloMosaic Idealize.ShloMosaic.TcCoe Idealize.SL.Sem Cert.Reference19Ideal.Value Product
open Finset (range)
open scoped BigOperators

section
variable {y z d : ℕ → ℕ → EReal} {Y Z D : FVec Ideal S4096x4096 .f32}

/-- `y · silu z` as the reference writes it, in groups, -/
abbrev preOf (Y Z : FVec Ideal S4096x4096 .f32) : FVec Ideal S4096x8x512 .f32 :=
  mulf (shapeCast _ Y shapeCasts_S4096x4096_S4096x8x512) (mulf (shapeCast _ Z shapeCasts_S4096x4096_S4096x8x512)
    (Host.divf (broadcastInDim S4096x8x512 ![] bcast_S_S4096x8x512 (constant S_ .f32 0x3F800000#32))
      (addf (broadcastInDim S4096x8x512 ![] bcast_S_S4096x8x512 (constant S_ .f32 0x3F800000#32))
        (Host.exp (Host.negf (shapeCast _ Z shapeCasts_S4096x4096_S4096x8x512))))))

/-- and the gradient of `w`. -/
abbrev dwOf (Y Z D : FVec Ideal S4096x4096 .f32) : FVec Ideal S1x4096 .f32 :=
  shapeCast _ (Host.reduceAdd (shapeCast S1x8x512 (Host.reduceAdd (mulf (mulf (preOf Y Z)
    (broadcastInDim S4096x8x512 ![0, 1, 2] bcast_S4096x8x1_S4096x8x512_0_1_2 (Host.rsqrt (addf (Host.divf
      (broadcastInDim S4096x8x1 ![0, 1] bcast_S4096x8_S4096x8x1_0_1
        (Host.reduceAdd (mulf (preOf Y Z) (preOf Y Z)) (constant S_ .f32 0x00000000#32) reducesTo_S4096x8x512_S4096x8_d2 h_S_))
      (broadcastInDim S4096x8x1 ![] bcast_S_S4096x8x1 (constant S_ .f32 0x44000000#32)))
      (broadcastInDim S4096x8x1 ![] bcast_S_S4096x8x1 (constant S_ .f32 0x358637BD#32))))))
    (shapeCast _ D shapeCasts_S4096x4096_S4096x8x512)) (constant S_ .f32 0x00000000#32) reducesTo_S4096x8x512_S8x512_d0 h_S_)
    shapeCasts_S8x512_S1x8x512) (constant S_ .f32 0x00000000#32) reducesTo_S1x8x512_S8x512_d0 h_S_) shapeCasts_S8x512_S1x4096

theorem dw_holds (hY : IsE Y y) (hZ : IsE Z z) (hD : IsE D d) : IsE (dwOf Y Z D) fun _ l => ∑ r ∈ range 4096,
    Gated.dw (fun k => y r (512 * (l / 512) + k)) (fun k => z r (512 * (l / 512) + k)) (fun k => d r (512 * (l / 512) + k)) (l % 512) := by
  have hz := Is3.split hZ shapeCasts_S4096x4096_S4096x8x512 rfl
  have hp := (Is3.split hY shapeCasts_S4096x4096_S4096x8x512 rfl).mul (hz.mul (hz.sig bcast_S_S4096x8x512))
  have hr := (((Is3.keep ((hp.mul hp).sum reducesTo_S4096x8x512_S4096x8_d2 h_S_) bcast_S4096x8_S4096x8x1_0_1).quot
    (Is3.splat 0x44000000#32 bcast_S_S4096x8x1)).add (Is3.splat 0x358637BD#32 bcast_S_S4096x8x1)).root
  have hs := (((hp.mul (hr.spread bcast_S4096x8x1_S4096x8x512_0_1_2)).mul (Is3.split hD shapeCasts_S4096x4096_S4096x8x512 rfl)).sum0
    reducesTo_S4096x8x512_S8x512_d0 h_S_)
  refine ((((Is3.up hs shapeCasts_S8x512_S1x8x512).sum0 reducesTo_S1x8x512_S8x512_d0 h_S_).flat1 shapeCasts_S8x512_S1x4096 rfl (by decide))).congr
    fun r l => ?_
  rw [Finset.sum_range_one]
  rfl

end

variable (m : (ℓ : Loc nD τ sig) → Buf (Elt Ideal) ℓ) (c : Dev nD)

/-- The arguments' elements. -/
abbrev w := ent (n0 := 1) (n1 := 4096) (m ((c.tc : Thread nD τ).loc main_arg0))
abbrev y := ent (n0 := 4096) (n1 := 4096) (m ((c.tc : Thread nD τ).loc main_arg1))
abbrev z := ent (n0 := 4096) (n1 := 4096) (m ((c.tc : Thread nD τ).loc main_arg2))
abbrev d := ent (n0 := 4096) (n1 := 4096) (m ((c.tc : Thread nD τ).loc main_arg3))

theorem dy_dz : IsE (n0 := 4096) (n1 := 4096) (res_main_v48 (F := Ideal) m c) (fun r l =>
      Gated.dy (fun k => y m c r (512 * (l / 512) + k)) (fun k => z m c r (512 * (l / 512) + k))
        (fun k => d m c r (512 * (l / 512) + k) * w m c 0 (512 * (l / 512) + k)) (l % 512))
    ∧ IsE (n0 := 4096) (n1 := 4096) (res_main_v49 (F := Ideal) m c) fun r l =>
      Gated.dz (fun k => y m c r (512 * (l / 512) + k)) (fun k => z m c r (512 * (l / 512) + k))
        (fun k => d m c r (512 * (l / 512) + k) * w m c 0 (512 * (l / 512) + k)) (l % 512) := by
  have hw := Is3.lead (IsE.fold1 (IsE.own (n0 := 1) (n1 := 4096) (m ((c.tc : Thread nD τ).loc main_arg0))) shapeCasts_S1x4096_S8x512 rfl)
    bcast_S8x512_S1x8x512_1_2 bcast_S1x8x512_S4096x8x512_0_1_2
  have hy := Is3.split (IsE.own (n0 := 4096) (n1 := 4096) (m ((c.tc : Thread nD τ).loc main_arg1))) shapeCasts_S4096x4096_S4096x8x512 rfl
  have hz := Is3.split (IsE.own (n0 := 4096) (n1 := 4096) (m ((c.tc : Thread nD τ).loc main_arg2))) shapeCasts_S4096x4096_S4096x8x512 rfl
  have hd := Is3.split (IsE.own (n0 := 4096) (n1 := 4096) (m ((c.tc : Thread nD τ).loc main_arg3))) shapeCasts_S4096x4096_S4096x8x512 rfl
  have hs := hz.sig bcast_S_S4096x8x512
  have hp := hy.mul (hz.mul hs)
  have hq := hd.mul hw
  have hv := ((Is3.keep ((hp.mul hp).sum reducesTo_S4096x8x512_S4096x8_d2 h_S_) bcast_S4096x8_S4096x8x1_0_1).quot
    (Is3.splat 0x44000000#32 bcast_S_S4096x8x1)).add (Is3.splat 0x358637BD#32 bcast_S_S4096x8x1)
  have hr := hv.root
  have hc := Is3.keep (n2 := 512) ((((Is3.keepCast ((hp.mul hq).sum reducesTo_S4096x8x512_S4096x8_d2 h_S_) shapeCasts_S4096x8_S4096x8x1).mul
    ((Is3.splat 0xBF000000#32 bcast_S_S4096x8x1).mul (hr.quot hv))).quot (Is3.splat 0x44000000#32 bcast_S_S4096x8x1)).sum
    reducesTo_S4096x8x1_S4096x8_d2 h_S_) bcast_S4096x8_S4096x8x512_0_1
  have hdp := ((hq.mul (hr.spread bcast_S4096x8x1_S4096x8x512_0_1_2)).add (hp.mul hc)).add (hc.mul hp)
  have hg := hy.mul hdp
  exact ⟨(hdp.mul (hz.mul hs)).merge shapeCasts_S4096x8x512_S4096x4096 rfl (by decide),
    (((hg.mul hs).add ((hz.mul hg).mul (hs.mul ((Is3.splat 0x3F800000#32 bcast_S_S4096x8x512).sub hs)))).merge
      shapeCasts_S4096x8x512_S4096x4096 rfl (by decide)).narrow bitsLt_bf16_f32⟩

end Cert.Reference19Ideal.Gen

namespace Cert.Kernel19Ideal.Gen

open Idealize.ShloMosaic hiding ix2
open Idealize.ShloMosaic.TcCoe Idealize.ShloMosaic.ValueIdx Idealize.SL.Sem Product
open Finset (range)
open scoped BigOperators

section
variable {w y z d : ℕ → ℕ → EReal} {W : Vec Ideal S1x512 .f32} {Y Z D : Vec Ideal S512x512 .f32}

theorem pay8_holds (hz : IsE Z z) : IsE (k0_pay8 (F := Ideal) Z) fun r k => z r k * Ideal.logistic (z r k) := hz.mul hz.sig

theorem pay9_holds (hy : IsE Y y) (hz : IsE Z z) : IsE (k0_pay9 (F := Ideal) Y Z) fun r => Gated.pre (y r) (z r) := hy.mul (pay8_holds hz)

theorem pay10_holds (hy : IsE Y y) (hz : IsE Z z) : IsE (k0_pay10 (F := Ideal) Y Z) fun r _ => Gated.msq (Gated.pre (y r) (z r)) :=
  ((((pay9_holds hy hz).mul (pay9_holds hy hz)).rowSum _ _ _ _).quot (IsE.splat _)).add (IsE.splat _)

theorem pay11_holds (hy : IsE Y y) (hz : IsE Z z) : IsE (k0_pay11 (F := Ideal) Y Z) fun r _ => Ideal.rsqrt (Gated.msq (Gated.pre (y r) (z r))) :=
  (pay10_holds hy hz).root

theorem pay12_holds (hy : IsE Y y) (hz : IsE Z z) (hd : IsE D d) :
    IsE (k0_pay12 (F := Ideal) Y Z D) fun _ k => ∑ r ∈ range 512, Gated.dw (y r) (z r) (d r) k := by
  unfold k0_pay12
  exact (((pay9_holds hy hz).mul ((pay11_holds hy hz).col broadcasts_S512x1_S512x512)).mul hd).colSum _ _ _ _

theorem pay13_holds (hw : IsE W w) (hd : IsE D d) : IsE (k0_pay13 (F := Ideal) W D) fun r k => d r k * w 0 k := hd.mul (hw.row _)

theorem pay14_holds (hw : IsE W w) (hy : IsE Y y) (hz : IsE Z z) (hd : IsE D d) :
    IsE (k0_pay14 (F := Ideal) W Y Z D) fun r _ => Gated.corr (Gated.pre (y r) (z r)) fun k => d r k * w 0 k :=
  ((((((pay9_holds hy hz).mul (pay13_holds hw hd)).rowSum _ _ _ _).mul ((IsE.splat _).mul ((pay11_holds hy hz).quot (pay10_holds hy hz)))).quot
    (IsE.splat _)).rowSum _ _ _ _).col broadcasts_S512x1_S512x512

theorem pay1_holds (hw : IsE W w) (hy : IsE Y y) (hz : IsE Z z) (hd : IsE D d) :
    IsE (k0_pay1 (F := Ideal) (k0_pay9 Y Z) (k0_pay14 W Y Z D) (k0_pay15 W Y Z D)) fun r => Gated.dpre (Gated.pre (y r) (z r)) fun k => d r k * w 0 k :=
  (((pay13_holds hw hd).mul ((pay11_holds hy hz).col broadcasts_S512x1_S512x512)).add ((pay9_holds hy hz).mul (pay14_holds hw hy hz hd))).add
    ((pay14_holds hw hy hz hd).mul (pay9_holds hy hz))

theorem dy_holds (hw : IsE W w) (hy : IsE Y y) (hz : IsE Z z) (hd : IsE D d) :
    IsE (k0_pay2 (F := Ideal) (k0_pay8 Z) (k0_pay9 Y Z) (k0_pay14 W Y Z D) (k0_pay15 W Y Z D))
      fun r => Gated.dy (y r) (z r) fun k => d r k * w 0 k := (pay1_holds hw hy hz hd).mul (pay8_holds hz)

theorem dz_holds (hw : IsE W w) (hy : IsE Y y) (hz : IsE Z z) (hd : IsE D d) :
    IsE (n0 := 512) (n1 := 512) (k0_pay5 (F := Ideal) Y Z (k0_pay6 Z) (k0_pay7 Z) (k0_pay9 Y Z) (k0_pay14 W Y Z D) (k0_pay15 W Y Z D))
      fun r => Gated.dz (y r) (z r) fun k => d r k * w 0 k := by
  have h := hy.mul (pay1_holds hw hy hz hd)
  exact ((h.mul hz.sig).add ((hz.mul h).mul (hz.sig.mul ((IsE.splat _).sub hz.sig)))).narrow _

theorem dw_holds {x : ℕ → ℕ → EReal} {X : Vec Ideal S1x512 .f32} (hx : IsE X x) (hy : IsE Y y) (hz : IsE Z z) (hd : IsE D d) :
    IsE (k0_pay4 (F := Ideal) (k0_pay12 Y Z D) X) fun r k => x r k + ∑ r ∈ range 512, Gated.dw (y r) (z r) (d r) k :=
  (hx.castSelf _).add (pay12_holds hy hz hd)

end

section
variable (m : (ℓ : Loc nD τ sig) → Buf (Elt Ideal) ℓ) (c : Dev nD)

/-- A group's first point puts its rows' terms over zeros, -/
theorem dw_first (t : Fin cfg0.N) (h0 : t.val % 8 = 0) : (outsAt0 m c t.val t.isLt).1
    = k0_pay4 (k0_pay12 (iblk m c 1 t) (iblk m c 2 t) (iblk m c 3 t)) (k0_pay3 (F := Ideal)) := by
  rw [outsAt0_A m c t h0]
  dsimp only
  unfold out0_A_4
  rw [View.read_writes_eq_canon _ _ _ (fun _ => cover0_A_4 ..)]
  unfold kernelRun0_A; dsimp only; sl_unfold_words
  rw [View.canon_cons_unit_zero (S := S1x512) hz, View.readCov_unit_zero (S := S1x512) _ hz]
  simp only [View.readAt_eq_ld, (hs0_1 t).read_unread, (hs0_2 t).read_unread, (hs0_3 t).read_unread, View.ld_unit_zero (S := S512x512) hz]

/-- a later one over what the point before left. -/
theorem dw_next (t : Fin cfg0.N) (h0 : ¬t.val % 8 = 0) : (outsAt0 m c t.val t.isLt).1
    = k0_pay4 (k0_pay12 (iblk m c 1 t) (iblk m c 2 t) (iblk m c 3 t)) (outsAt0 m c (t.val - 1) (Nat.lt_of_le_of_lt (Nat.sub_le _ _) t.isLt)).1 := by
  rw [outsAt0_B m c t h0]
  dsimp only
  unfold out0_B_4
  rw [View.read_writes_eq_canon _ _ _ (fun _ => cover0_B_4 ..)]
  unfold kernelRun0_B; dsimp only; sl_unfold_words
  rw [View.canon_unit_zero hz]
  simp only [View.readAt_eq_ld, (hs0_1 t).read_unread, (hs0_2 t).read_unread, (hs0_3 t).read_unread, (hs0_4 t).read_unread,
    View.ld_unit_zero (S := S512x512) hz, View.ld_unit_zero (S := S1x512) hz]

/-- The gradients of `y` and `z` at a point. -/
theorem dy_at (t : Fin cfg0.N) : (outsAt0 m c t.val t.isLt).2.1 = k0_pay2 (k0_pay8 (iblk m c 2 t)) (k0_pay9 (iblk m c 1 t) (iblk m c 2 t))
    (k0_pay14 (iblk m c 0 t) (iblk m c 1 t) (iblk m c 2 t) (iblk m c 3 t)) (k0_pay15 (iblk m c 0 t) (iblk m c 1 t) (iblk m c 2 t) (iblk m c 3 t)) := by
  by_cases h0 : t.val % 8 = 0
  · rw [outsAt0_A m c t h0]
    dsimp only
    unfold out0_A_5
    rw [View.read_writes_eq_canon _ _ _ (fun _ => cover0_A_5 ..)]
    unfold kernelRun0_A; dsimp only; sl_unfold_words
    rw [View.canon_unit_zero hz]
    simp only [View.readAt_eq_ld, (hs0_0 t).read_unread, (hs0_1 t).read_unread, (hs0_2 t).read_unread, (hs0_3 t).read_unread,
      View.ld_unit_zero (S := S512x512) hz, View.ld_unit_zero (S := S1x512) hz]
  · rw [outsAt0_B m c t h0]
    dsimp only
    unfold out0_B_5
    rw [View.read_writes_eq_canon _ _ _ (fun _ => cover0_B_5 ..)]
    unfold kernelRun0_B; dsimp only; sl_unfold_words
    rw [View.canon_unit_zero hz]
    simp only [View.readAt_eq_ld, (hs0_0 t).read_unread, (hs0_1 t).read_unread, (hs0_2 t).read_unread, (hs0_3 t).read_unread,
      View.ld_unit_zero (S := S512x512) hz, View.ld_unit_zero (S := S1x512) hz]

theorem dz_at (t : Fin cfg0.N) : (outsAt0 m c t.val t.isLt).2.2 = k0_pay5 (iblk m c 1 t) (iblk m c 2 t) (k0_pay6 (iblk m c 2 t)) (k0_pay7 (iblk m c 2 t))
    (k0_pay9 (iblk m c 1 t) (iblk m c 2 t)) (k0_pay14 (iblk m c 0 t) (iblk m c 1 t) (iblk m c 2 t) (iblk m c 3 t))
    (k0_pay15 (iblk m c 0 t) (iblk m c 1 t) (iblk m c 2 t) (iblk m c 3 t)) := by
  by_cases h0 : t.val % 8 = 0
  · rw [outsAt0_A m c t h0]
    dsimp only
    unfold out0_A_6
    rw [View.read_writes_eq_canon _ _ _ (fun _ => cover0_A_6 ..)]
    unfold kernelRun0_A; dsimp only; sl_unfold_words
    rw [View.canon_unit_zero hz]
    simp only [View.readAt_eq_ld, (hs0_0 t).read_unread, (hs0_1 t).read_unread, (hs0_2 t).read_unread, (hs0_3 t).read_unread,
      View.ld_unit_zero (S := S512x512) hz, View.ld_unit_zero (S := S1x512) hz]
  · rw [outsAt0_B m c t h0]
    dsimp only
    unfold out0_B_6
    rw [View.read_writes_eq_canon _ _ _ (fun _ => cover0_B_6 ..)]
    unfold kernelRun0_B; dsimp only; sl_unfold_words
    rw [View.canon_unit_zero hz]
    simp only [View.readAt_eq_ld, (hs0_0 t).read_unread, (hs0_1 t).read_unread, (hs0_2 t).read_unread, (hs0_3 t).read_unread,
      View.ld_unit_zero (S := S512x512) hz, View.ld_unit_zero (S := S1x512) hz]

/-- Where the windows lie at a point. -/
theorem at_points : ∀ t : Fin cfg0.N,
    (cc0_transform_0 (grid0.coords t) 0 = 0 ∧ cc0_transform_0 (grid0.coords t) 1 = t.val / 8)
    ∧ (cc0_transform_1 (grid0.coords t) 0 = t.val % 8 ∧ cc0_transform_1 (grid0.coords t) 1 = t.val / 8)
    ∧ (cc0_transform_2 (grid0.coords t) 0 = t.val % 8 ∧ cc0_transform_2 (grid0.coords t) 1 = t.val / 8)
    ∧ (cc0_transform_3 (grid0.coords t) 0 = t.val % 8 ∧ cc0_transform_3 (grid0.coords t) 1 = t.val / 8)
    ∧ (cc0_transform_4 (grid0.coords t) 0 = 0 ∧ cc0_transform_4 (grid0.coords t) 1 = t.val / 8)
    ∧ (cc0_transform_5 (grid0.coords t) 0 = t.val % 8 ∧ cc0_transform_5 (grid0.coords t) 1 = t.val / 8)
    ∧ cc0_transform_6 (grid0.coords t) 0 = t.val % 8 ∧ cc0_transform_6 (grid0.coords t) 1 = t.val / 8 := by
  decide +kernel

/-- The arguments' elements. -/
abbrev w := ent (n0 := 1) (n1 := 4096) (m ((c.tc : Thread nD τ).loc main_arg0))
abbrev y := ent (n0 := 4096) (n1 := 4096) (m ((c.tc : Thread nD τ).loc main_arg1))
abbrev z := ent (n0 := 4096) (n1 := 4096) (m ((c.tc : Thread nD τ).loc main_arg2))
abbrev d := ent (n0 := 4096) (n1 := 4096) (m ((c.tc : Thread nD τ).loc main_arg3))

theorem reads0 (t : Fin cfg0.N) : IsE (n0 := 1) (n1 := 512) (iblk m c 0 t) fun r k => w m c (1 * 0 + r) (512 * (t.val / 8) + k) := by
  have h : IsE (n0 := 1) (n1 := 512) (iblk m c 0 t) fun r k =>
      w m c (1 * cc0_transform_0 (grid0.coords t) 0 + r) (512 * cc0_transform_0 (grid0.coords t) 1 + k) :=
    IsE.block (IsE.own (n0 := 1) (n1 := 4096) _) _ fun _ => ⟨rfl, rfl⟩
  rwa [(at_points t).1.1, (at_points t).1.2] at h

theorem reads1 (t : Fin cfg0.N) : IsE (n0 := 512) (n1 := 512) (iblk m c 1 t) fun r k => y m c (512 * (t.val % 8) + r) (512 * (t.val / 8) + k) := by
  rw [← (at_points t).2.1.1, ← (at_points t).2.1.2]
  exact IsE.block (IsE.own (n0 := 4096) (n1 := 4096) _) _ fun _ => ⟨rfl, rfl⟩

theorem reads2 (t : Fin cfg0.N) : IsE (n0 := 512) (n1 := 512) (iblk m c 2 t) fun r k => z m c (512 * (t.val % 8) + r) (512 * (t.val / 8) + k) := by
  rw [← (at_points t).2.2.1.1, ← (at_points t).2.2.1.2]
  exact IsE.block (IsE.own (n0 := 4096) (n1 := 4096) _) _ fun _ => ⟨rfl, rfl⟩

theorem reads3 (t : Fin cfg0.N) : IsE (n0 := 512) (n1 := 512) (iblk m c 3 t) fun r k => d m c (512 * (t.val % 8) + r) (512 * (t.val / 8) + k) := by
  rw [← (at_points t).2.2.2.1.1, ← (at_points t).2.2.2.1.2]
  exact IsE.block (IsE.own (n0 := 4096) (n1 := 4096) _) _ fun _ => ⟨rfl, rfl⟩

/-- One group of a row. -/
abbrev gy (g r k : ℕ) := y m c r (512 * g + k)
abbrev gz (g r k : ℕ) := z m c r (512 * g + k)
abbrev gd (g r k : ℕ) := d m c r (512 * g + k)
abbrev gq (g r k : ℕ) := gd m c g r k * w m c 0 (512 * g + k)

/-- The sum over rows after a point. -/
theorem dw_sum : ∀ (t : ℕ) (h : t < cfg0.N), IsE (n0 := 1) (n1 := 512) (outsAt0 m c t h).1 fun _ k =>
    ∑ r ∈ range (512 * (t % 8 + 1)), Gated.dw (gy m c (t / 8) r) (gz m c (t / 8) r) (gd m c (t / 8) r) k := by
  refine rowFolds (nk := 8) (by decide) (fun t h => (outsAt0 m c t h).1) (fun g r k => Gated.dw (gy m c g r) (gz m c g r) (gd m c g r) k)
    (fun t h h0 => ?_) (fun t h h0 x hx => ?_)
  · exact dw_first m c ⟨t, h⟩ h0 ▸ dw_holds IsE.zeros (reads1 m c ⟨t, h⟩) (reads2 m c ⟨t, h⟩) (reads3 m c ⟨t, h⟩)
  · exact dw_next m c ⟨t, h⟩ h0 ▸ dw_holds hx (reads1 m c ⟨t, h⟩) (reads2 m c ⟨t, h⟩) (reads3 m c ⟨t, h⟩)

/-- The arrays left. -/
abbrev leftW (_ l : ℕ) : EReal := ∑ r ∈ range 4096, Gated.dw (gy m c (l / 512) r) (gz m c (l / 512) r) (gd m c (l / 512) r) (l % 512)
abbrev leftY (r l : ℕ) : EReal := Gated.dy (gy m c (l / 512) r) (gz m c (l / 512) r) (gq m c (l / 512) r) (l % 512)
abbrev leftZ (r l : ℕ) : EReal := Gated.dz (gy m c (l / 512) r) (gz m c (l / 512) r) (gq m c (l / 512) r) (l % 512)

theorem group {q k : ℕ} (h : k < 512) : (512 * q + k) / 512 = q ∧ (512 * q + k) % 512 = k := by omega

theorem leavesW : IsE (n0 := 1) (n1 := 4096) ((dats m 0 c).arrAt 4 cfg0.N) (leftW m c) := fun r l =>
  (dats m 0 c).arrAt_forall_of_covers 4 (fun i v => v = leftW m c (i 0).val (i 1).val) (by decide +kernel)
    (fun t ht i => by
      have h7 : t.val % 8 = 7 := (flush0_4 t).mp ht
      have hs : IsE (n0 := 1) (n1 := 512) (outsAt0 m c t.val t.isLt).1 fun r k =>
          leftW m c (1 * cc0_transform_4 (grid0.coords t) 0 + r) (512 * cc0_transform_4 (grid0.coords t) 1 + k) := fun r k => by
        rw [(at_points t).2.2.2.2.1.2]
        refine (dw_sum m c t.val t.isLt r k).trans ?_
        show _ = leftW m c _ _
        rw [leftW, (group k.isLt).1, (group k.isLt).2, h7]
      show (dats m 0 c).after 4 t i = _
      rw [after0_4]
      exact IsE.lands (x := leftW m c) hs i rfl rfl) (ix2 r l)

theorem leavesY : IsE (n0 := 4096) (n1 := 4096) ((dats m 0 c).arrAt 5 cfg0.N) (leftY m c) := fun r l =>
  (dats m 0 c).arrAt_forall_of_covers 5 (fun i v => v = leftY m c (i 0).val (i 1).val) (by decide +kernel)
    (fun t _ i => by
      have hs : IsE (n0 := 512) (n1 := 512) (outsAt0 m c t.val t.isLt).2.1 fun r k =>
          leftY m c (512 * cc0_transform_5 (grid0.coords t) 0 + r) (512 * cc0_transform_5 (grid0.coords t) 1 + k) := fun r k => by
        rw [dy_at, (at_points t).2.2.2.2.2.1.1, (at_points t).2.2.2.2.2.1.2]
        refine (dy_holds (reads0 m c t) (reads1 m c t) (reads2 m c t) (reads3 m c t) r k).trans ?_
        show _ = leftY m c _ _
        rw [leftY, (group k.isLt).1, (group k.isLt).2]
      show (dats m 0 c).after 5 t i = _
      rw [after0_5]
      exact IsE.lands (x := leftY m c) hs i rfl rfl) (ix2 r l)

theorem leavesZ : IsE (n0 := 4096) (n1 := 4096) ((dats m 0 c).arrAt 6 cfg0.N) (leftZ m c) := fun r l =>
  (dats m 0 c).arrAt_forall_of_covers 6 (fun i v => v = leftZ m c (i 0).val (i 1).val) (by decide +kernel)
    (fun t _ i => by
      have hs : IsE (n0 := 512) (n1 := 512) (outsAt0 m c t.val t.isLt).2.2 fun r k =>
          leftZ m c (512 * cc0_transform_6 (grid0.coords t) 0 + r) (512 * cc0_transform_6 (grid0.coords t) 1 + k) := fun r k => by
        rw [dz_at, (at_points t).2.2.2.2.2.2.1, (at_points t).2.2.2.2.2.2.2]
        refine (dz_holds (reads0 m c t) (reads1 m c t) (reads2 m c t) (reads3 m c t) r k).trans ?_
        show _ = leftZ m c _ _
        rw [leftZ, (group k.isLt).1, (group k.isLt).2]
      show (dats m 0 c).after 6 t i = _
      rw [after0_6]
      exact IsE.lands (x := leftZ m c) hs i rfl rfl) (ix2 r l)

end

theorem algebraic : Cert.algebraic_Kernel19Ideal_Reference19Ideal := fun m ρ m' ρ' _ hargs =>
  ⟨_, _, _, Value.run_blocks m ρ, (θ_run _ _ _).mono (fun _ h c => by
    obtain ⟨e0, e1, e2, e3⟩ := hargs c
    obtain ⟨h0, h1, h2, h3⟩ := h c
    obtain ⟨hy, hz⟩ := Cert.Reference19Ideal.Gen.dy_dz m' c
    rw [Cert.Reference19Ideal.Gen.w, Cert.Reference19Ideal.Gen.y, Cert.Reference19Ideal.Gen.z, Cert.Reference19Ideal.Gen.d, e0, e1, e2, e3] at hy hz
    refine ⟨h0.trans ?_, h1.trans (IsE.same hy (leavesY m c)), h2.trans (IsE.same hz (leavesZ m c)), h3⟩
    rw [e1, e2, e3]
    exact IsE.same (Cert.Reference19Ideal.Gen.dw_holds (IsE.own (n0 := 4096) (n1 := 4096) _) (IsE.own (n0 := 4096) (n1 := 4096) _)
      (IsE.own (n0 := 4096) (n1 := 4096) _)) (leavesW m c))
    (Cert.Reference19Ideal.Value.run (F := Ideal) m' ρ')⟩

/-- The program as it runs has the same text as its reading at the ideal values. -/
instance facts_bits : Cert.Kernel19.Facts :=
  Cert.Kernel19Ideal.Facts.rec (motive := fun _ => Cert.Kernel19.Facts)
    (@fun h => @Cert.Kernel19.Facts.mk (Cert.Kernel19Ideal.Facts₀.rec (motive := fun _ => Cert.Kernel19.Facts₀) Cert.Kernel19.Facts₀.mk h)) facts

theorem defs_bits : Cert.Kernel19.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel19 := fun m ρ _ =>
  Eq.mpr (congrArg (fun d => θ_run d (onTc (τ := τ) (main (F := Bits))) ⟨m, fun _ => 0, ρ⟩ _) defs_bits) (frame (F := Bits) m ρ)

theorem frame_reference : Cert.quiescent_Reference19Ideal := fun m ρ _ =>
  (θ_run (Cert.Reference19Ideal.defs (F := Ideal)) _ _).mono (fun r h => ⟨fun c => (h c).2.2.2, sem_eq_zero_of_no_sems (by decide) r.2⟩)
    (Cert.Reference19Ideal.Value.run (F := Ideal) m ρ)

end Cert.Kernel19Ideal.Gen

end
-- ==== Proof.Kernel20.lean ====
/-
  The gradient of LayerNorm: rows of 2048 lanes `r`, less their mean and scaled by the reciprocal root of their variance,
  times `g` and plus `b`. A point of the grid is 256 rows. The gradient of `r`, kept in two formats, is row by row; those of
  `g` and `b` are sums over the rows, 256 of them at each point over zeros at the first.
-/
module

public import proofs.«01_k».proof.Defs
public import proofs.«01_k».proof.Proof.Rowwise
public import proofs.«01_k».proof.Proof.Gen.Kernel20Ideal.Value
public import proofs.«01_k».proof.Proof.Gen.Reference20Ideal.Run
public import Idealize.ShloMosaic.Lib.Pipeline.ValueKit.Geometry

@[expose] public section

set_option maxRecDepth 16384

noncomputable section

/-! One row: its lanes `r`, the gradient `d` of the result, and `q`, that times `g`. -/
namespace LayerNorm

open Idealize.ShloMosaic
open Finset (range)
open scoped BigOperators

/-- The lanes less their mean, -/
def dev (r : ℕ → EReal) (k : ℕ) : EReal := r k - Ideal.div (∑ k ∈ range 2048, r k) (Ideal.ofBits .f32 0x45000000#32)

/-- and the mean square of that, with the small constant added. -/
def var (r : ℕ → EReal) : EReal := Ideal.div (∑ k ∈ range 2048, dev r k * dev r k) (Ideal.ofBits .f32 0x45000000#32) + Ideal.ofBits .f32 0x3727C5AC#32

def corr (r q : ℕ → EReal) : EReal := ∑ _k ∈ range 1,
  Ideal.div ((∑ k ∈ range 2048, dev r k * q k) * (Ideal.ofBits .f32 0xBF000000#32 * Ideal.div (Ideal.rsqrt (var r)) (var r))) (Ideal.ofBits .f32 0x45000000#32)

def ddev (r q : ℕ → EReal) (k : ℕ) : EReal := q k * Ideal.rsqrt (var r) + dev r k * corr r q + corr r q * dev r k

def dr (r q : ℕ → EReal) (k : ℕ) : EReal :=
  ddev r q k + ∑ _k ∈ range 1, Ideal.div (∑ k ∈ range 2048, -ddev r q k) (Ideal.ofBits .f32 0x45000000#32)

def dg (r d : ℕ → EReal) (k : ℕ) : EReal := dev r k * Ideal.rsqrt (var r) * d k

end LayerNorm

namespace Cert.Reference20Ideal.Gen

open Idealize.ShloMosaic Idealize.ShloMosaic.TcCoe Idealize.SL.Sem Cert.Reference20Ideal.Value Product
open Finset (range)
open scoped BigOperators

section
variable {r d : ℕ → ℕ → EReal} {R D : FVec Ideal S4096x2048 .f32}

theorem dev_holds (hR : IsE R r) : IsE (subf R (broadcastInDim S4096x2048 ![0, 1] bcast_S4096x1_S4096x2048_0_1
    (Host.divf (broadcastInDim S4096x1 ![0] bcast_S4096_S4096x1_0 (Host.reduceAdd R (constant S_ .f32 0x00000000#32) reducesTo_S4096x2048_S4096_d1 h_S_))
      (broadcastInDim S4096x1 ![] bcast_S_S4096x1 (constant S_ .f32 0x45000000#32))))) fun i => LayerNorm.dev (r i) :=
  hR.sub ((((hR.sumLanes reducesTo_S4096x2048_S4096_d1 h_S_).spread bcast_S4096_S4096x1_0).quotHost (IsE.splatHost 0x45000000#32 bcast_S_S4096x1)).colHost
    bcast_S4096x1_S4096x2048_0_1)

theorem var_holds {X : FVec Ideal S4096x2048 .f32} (hX : IsE X fun i => LayerNorm.dev (r i)) :
    IsE (addf (Host.divf (broadcastInDim S4096x1 ![0] bcast_S4096_S4096x1_0
      (Host.reduceAdd (mulf X X) (constant S_ .f32 0x00000000#32) reducesTo_S4096x2048_S4096_d1 h_S_))
      (broadcastInDim S4096x1 ![] bcast_S_S4096x1 (constant S_ .f32 0x45000000#32)))
      (broadcastInDim S4096x1 ![] bcast_S_S4096x1 (constant S_ .f32 0x3727C5AC#32))) fun i _ => LayerNorm.var (r i) :=
  ((((hX.mul hX).sumLanes reducesTo_S4096x2048_S4096_d1 h_S_).spread bcast_S4096_S4096x1_0).quotHost (IsE.splatHost 0x45000000#32 bcast_S_S4096x1)).add
    (IsE.splatHost 0x3727C5AC#32 bcast_S_S4096x1)

end

variable (m : (ℓ : Loc nD τ sig) → Buf (Elt Ideal) ℓ) (c : Dev nD)

/-- The arguments' elements. -/
abbrev g := ent (n0 := 1) (n1 := 2048) (m ((c.tc : Thread nD τ).loc main_arg0))
abbrev r := ent (n0 := 4096) (n1 := 2048) (m ((c.tc : Thread nD τ).loc main_arg2))
abbrev d := ent (n0 := 4096) (n1 := 2048) (m ((c.tc : Thread nD τ).loc main_arg3))

theorem dr_holds : IsE (n0 := 4096) (n1 := 2048) (res_main_v52 (F := Ideal) m c) (fun i => LayerNorm.dr (r m c i) fun k => d m c i k * g m c 0 k)
    ∧ IsE (n0 := 4096) (n1 := 2048) (res_main_v53 (F := Ideal) m c) (fun i => LayerNorm.dr (r m c i) fun k => d m c i k * g m c 0 k) := by
  have hg := IsE.rowHost (IsE.own (n0 := 1) (n1 := 2048) (m ((c.tc : Thread nD τ).loc main_arg0))) bcast_S1x2048_S4096x2048_0_1
  have hr := IsE.own (n0 := 4096) (n1 := 2048) (m ((c.tc : Thread nD τ).loc main_arg2))
  have hd := IsE.own (n0 := 4096) (n1 := 2048) (m ((c.tc : Thread nD τ).loc main_arg3))
  have hx := dev_holds hr
  have hv := var_holds hx
  have hs := hv.rootHost
  have hq := IsE.mul (φ := .f32) (hd.castSelf shapeCasts_S4096x2048_S4096x2048) hg
  have hc := IsE.sumLanes (((((hx.mul hq).sumLanes reducesTo_S4096x2048_S4096_d1 h_S_).column shapeCasts_S4096_S4096x1).mul
    ((IsE.splatHost 0xBF000000#32 bcast_S_S4096x1).mul (hs.quotHost hv))).quotHost (IsE.splatHost 0x45000000#32 bcast_S_S4096x1))
    reducesTo_S4096x1_S4096_d1 h_S_
  have hb := hc.spread bcast_S4096_S4096x2048_0
  have hdx := ((hq.mul (hs.colHost bcast_S4096x1_S4096x2048_0_1)).add (hx.mul hb)).add (hb.mul hx)
  have hm := IsE.sumLanes (((hdx.negHost.sumLanes reducesTo_S4096x2048_S4096_d1 h_S_).column shapeCasts_S4096_S4096x1).quotHost
    (IsE.splatHost 0x45000000#32 bcast_S_S4096x1)) reducesTo_S4096x1_S4096_d1 h_S_
  have h := hdx.add (hm.spread bcast_S4096_S4096x2048_0)
  exact ⟨h, h.narrow bitsLt_bf16_f32⟩

end Cert.Reference20Ideal.Gen

namespace Cert.Kernel20Ideal.Gen

open Idealize.ShloMosaic hiding ix2
open Idealize.ShloMosaic.TcCoe Idealize.ShloMosaic.ValueIdx Idealize.SL.Sem Product
open Finset (range)
open scoped BigOperators

section
variable {g r d : ℕ → ℕ → EReal} {G : Vec Ideal S1x2048 .f32} {R D : Vec Ideal S256x2048 .f32}

theorem pay1_holds (hr : IsE R r) : IsE (k0_pay1 (F := Ideal) R) fun i => LayerNorm.dev (r i) :=
  hr.sub (((hr.rowSum _ _ _ _).quot (IsE.splat _)).col broadcasts_S256x1_S256x2048)

theorem pay2_holds (hr : IsE R r) : IsE (k0_pay2 (F := Ideal) R) fun i _ => LayerNorm.var (r i) :=
  ((((pay1_holds hr).mul (pay1_holds hr)).rowSum _ _ _ _).quot (IsE.splat _)).add (IsE.splat _)

theorem pay3_holds (hr : IsE R r) : IsE (k0_pay3 (F := Ideal) R) fun i _ => Ideal.rsqrt (LayerNorm.var (r i)) := (pay2_holds hr).root

theorem pay7_holds (hg : IsE G g) (hd : IsE D d) : IsE (k0_pay7 (F := Ideal) G D) fun i k => d i k * g 0 k :=
  (hd.castSelf shapeCasts_S256x2048_S256x2048).mul (hg.row _)

theorem pay8_holds (hg : IsE G g) (hr : IsE R r) (hd : IsE D d) :
    IsE (k0_pay8 (F := Ideal) G R D) fun i k => d i k * g 0 k * Ideal.rsqrt (LayerNorm.var (r i)) :=
  (pay7_holds hg hd).mul ((pay3_holds hr).col broadcasts_S256x1_S256x2048)

theorem pay9_holds (hg : IsE G g) (hr : IsE R r) (hd : IsE D d) :
    IsE (k0_pay9 (F := Ideal) G R D) fun i _ => LayerNorm.corr (r i) fun k => d i k * g 0 k :=
  ((((((pay1_holds hr).mul (pay7_holds hg hd)).rowSum _ _ _ _).mul ((IsE.splat _).mul ((pay3_holds hr).quot (pay2_holds hr)))).quot
    (IsE.splat _)).rowSum _ _ _ _).col broadcasts_S256x1_S256x2048

theorem dr_holds (hg : IsE G g) (hr : IsE R r) (hd : IsE D d) :
    IsE (k0_pay10 (F := Ideal) (k0_pay1 R) (k0_pay8 G R D) (k0_pay9 G R D)) fun i => LayerNorm.dr (r i) fun k => d i k * g 0 k := by
  have h := ((pay8_holds hg hr hd).add ((pay1_holds hr).mul (pay9_holds hg hr hd))).add ((pay9_holds hg hr hd).mul (pay1_holds hr))
  exact h.add ((((h.neg.rowSum _ _ _ _).quot (IsE.splat _)).rowSum _ _ _ _).col broadcasts_S256x1_S256x2048)

theorem drb_holds (hg : IsE G g) (hr : IsE R r) (hd : IsE D d) :
    IsE (n0 := 256) (n1 := 2048) (k0_pay15 (F := Ideal) (k0_pay1 R) (k0_pay8 G R D) (k0_pay9 G R D)) fun i => LayerNorm.dr (r i) fun k => d i k * g 0 k :=
  (dr_holds hg hr hd).narrow _

theorem dg_holds {x : ℕ → ℕ → EReal} {X : Vec Ideal S1x2048 .f32} (hx : IsE X x) (hr : IsE R r) (hd : IsE D d) :
    IsE (k0_pay12 (F := Ideal) (k0_pay6 R D) X) fun i k => x i k + ∑ j ∈ range 256, LayerNorm.dg (r j) (d j) k := by
  unfold k0_pay12 k0_pay6
  exact (hx.castSelf _).add ((((pay1_holds hr).mul ((pay3_holds hr).col broadcasts_S256x1_S256x2048)).mul
    (hd.castSelf shapeCasts_S256x2048_S256x2048)).colSum _ _ _ _)

theorem db_holds {x : ℕ → ℕ → EReal} {X : Vec Ideal S1x2048 .f32} (hx : IsE X x) (hd : IsE D d) :
    IsE (k0_pay14 (F := Ideal) (k0_pay5 D) X) fun i k => x i k + ∑ j ∈ range 256, d j k := by
  unfold k0_pay14 k0_pay5
  exact (hx.castSelf _).add (hd.colSum _ _ _ _)

end

section
variable (m : (ℓ : Loc nD τ sig) → Buf (Elt Ideal) ℓ) (c : Dev nD)

/-- The first point puts its rows' terms over zeros, -/
theorem dg_first (t : Fin cfg0.N) (h0 : t.val % 16 = 0) : (outsAt0 m c t.val t.isLt).1
    = k0_pay12 (k0_pay6 (iblk m c 2 t) (iblk m c 3 t)) (k0_pay11 (F := Ideal)) := by
  rw [outsAt0_A m c t h0 h0]
  dsimp only
  unfold out0_A_4
  rw [View.read_writes_eq_canon _ _ _ (fun _ => cover0_A_4 ..)]
  unfold kernelRun0_A; dsimp only; sl_unfold_words
  rw [View.canon_cons_unit_zero (S := S1x2048) hz, View.readCov_unit_zero (S := S1x2048) _ hz]
  simp only [View.readAt_eq_ld, (hs0_2 t).read_unread, (hs0_3 t).read_unread, View.ld_unit_zero (S := S256x2048) hz]

theorem db_first (t : Fin cfg0.N) (h0 : t.val % 16 = 0) : (outsAt0 m c t.val t.isLt).2.1
    = k0_pay14 (k0_pay5 (iblk m c 3 t)) (k0_pay13 (F := Ideal)) := by
  rw [outsAt0_A m c t h0 h0]
  dsimp only
  unfold out0_A_5
  rw [View.read_writes_eq_canon _ _ _ (fun _ => cover0_A_5 ..)]
  unfold kernelRun0_A; dsimp only; sl_unfold_words
  rw [View.canon_cons_unit_zero (S := S1x2048) hz, View.readCov_unit_zero (S := S1x2048) _ hz]
  simp only [View.readAt_eq_ld, (hs0_3 t).read_unread, View.ld_unit_zero (S := S256x2048) hz]

/-- a later one over what the point before left. -/
theorem dg_next (t : Fin cfg0.N) (h0 : ¬t.val % 16 = 0) : (outsAt0 m c t.val t.isLt).1
    = k0_pay12 (k0_pay6 (iblk m c 2 t) (iblk m c 3 t)) (outsAt0 m c (t.val - 1) (Nat.lt_of_le_of_lt (Nat.sub_le _ _) t.isLt)).1 := by
  rw [outsAt0_B m c t h0 h0]
  dsimp only
  unfold out0_B_4
  rw [View.read_writes_eq_canon _ _ _ (fun _ => cover0_B_4 ..)]
  unfold kernelRun0_B; dsimp only; sl_unfold_words
  rw [View.canon_unit_zero hz]
  simp only [View.readAt_eq_ld, (hs0_2 t).read_unread, (hs0_3 t).read_unread, (hs0_4 t).read_unread,
    View.ld_unit_zero (S := S256x2048) hz, View.ld_unit_zero (S := S1x2048) hz]

theorem db_next (t : Fin cfg0.N) (h0 : ¬t.val % 16 = 0) : (outsAt0 m c t.val t.isLt).2.1
    = k0_pay14 (k0_pay5 (iblk m c 3 t)) (outsAt0 m c (t.val - 1) (Nat.lt_of_le_of_lt (Nat.sub_le _ _) t.isLt)).2.1 := by
  rw [outsAt0_B m c t h0 h0]
  dsimp only
  unfold out0_B_5
  rw [View.read_writes_eq_canon _ _ _ (fun _ => cover0_B_5 ..)]
  unfold kernelRun0_B; dsimp only; sl_unfold_words
  rw [View.canon_unit_zero hz]
  simp only [View.readAt_eq_ld, (hs0_3 t).read_unread, (hs0_5 t).read_unread,
    View.ld_unit_zero (S := S256x2048) hz, View.ld_unit_zero (S := S1x2048) hz]

/-- The gradient of `r` at a point. -/
theorem dr_at (t : Fin cfg0.N) : (outsAt0 m c t.val t.isLt).2.2.1
    = k0_pay10 (k0_pay1 (iblk m c 2 t)) (k0_pay8 (iblk m c 0 t) (iblk m c 2 t) (iblk m c 3 t)) (k0_pay9 (iblk m c 0 t) (iblk m c 2 t) (iblk m c 3 t)) := by
  by_cases h0 : t.val % 16 = 0
  · rw [outsAt0_A m c t h0 h0]
    dsimp only
    unfold out0_A_6
    rw [View.read_writes_eq_canon _ _ _ (fun _ => cover0_A_6 ..)]
    unfold kernelRun0_A; dsimp only; sl_unfold_words
    rw [View.canon_unit_zero hz]
    simp only [View.readAt_eq_ld, (hs0_0 t).read_unread, (hs0_2 t).read_unread, (hs0_3 t).read_unread,
      View.ld_unit_zero (S := S256x2048) hz, View.ld_unit_zero (S := S1x2048) hz]
  · rw [outsAt0_B m c t h0 h0]
    dsimp only
    unfold out0_B_6
    rw [View.read_writes_eq_canon _ _ _ (fun _ => cover0_B_6 ..)]
    unfold kernelRun0_B; dsimp only; sl_unfold_words
    rw [View.canon_unit_zero hz]
    simp only [View.readAt_eq_ld, (hs0_0 t).read_unread, (hs0_2 t).read_unread, (hs0_3 t).read_unread,
      View.ld_unit_zero (S := S256x2048) hz, View.ld_unit_zero (S := S1x2048) hz]

theorem drb_at (t : Fin cfg0.N) : (outsAt0 m c t.val t.isLt).2.2.2
    = k0_pay15 (k0_pay1 (iblk m c 2 t)) (k0_pay8 (iblk m c 0 t) (iblk m c 2 t) (iblk m c 3 t)) (k0_pay9 (iblk m c 0 t) (iblk m c 2 t) (iblk m c 3 t)) := by
  by_cases h0 : t.val % 16 = 0
  · rw [outsAt0_A m c t h0 h0]
    dsimp only
    unfold out0_A_7
    rw [View.read_writes_eq_canon _ _ _ (fun _ => cover0_A_7 ..)]
    unfold kernelRun0_A; dsimp only; sl_unfold_words
    rw [View.canon_unit_zero hz]
    simp only [View.readAt_eq_ld, (hs0_0 t).read_unread, (hs0_2 t).read_unread, (hs0_3 t).read_unread,
      View.ld_unit_zero (S := S256x2048) hz, View.ld_unit_zero (S := S1x2048) hz]
  · rw [outsAt0_B m c t h0 h0]
    dsimp only
    unfold out0_B_7
    rw [View.read_writes_eq_canon _ _ _ (fun _ => cover0_B_7 ..)]
    unfold kernelRun0_B; dsimp only; sl_unfold_words
    rw [View.canon_unit_zero hz]
    simp only [View.readAt_eq_ld, (hs0_0 t).read_unread, (hs0_2 t).read_unread, (hs0_3 t).read_unread,
      View.ld_unit_zero (S := S256x2048) hz, View.ld_unit_zero (S := S1x2048) hz]

/-- Where the windows lie at a point. -/
theorem at_points : ∀ t : Fin cfg0.N,
    (cc0_transform_0 (grid0.coords t) 0 = 0 ∧ cc0_transform_0 (grid0.coords t) 1 = 0)
    ∧ (cc0_transform_2 (grid0.coords t) 0 = t.val ∧ cc0_transform_2 (grid0.coords t) 1 = 0)
    ∧ (cc0_transform_3 (grid0.coords t) 0 = t.val ∧ cc0_transform_3 (grid0.coords t) 1 = 0)
    ∧ (cc0_transform_4 (grid0.coords t) 0 = 0 ∧ cc0_transform_4 (grid0.coords t) 1 = 0)
    ∧ (cc0_transform_5 (grid0.coords t) 0 = 0 ∧ cc0_transform_5 (grid0.coords t) 1 = 0)
    ∧ (cc0_transform_6 (grid0.coords t) 0 = t.val ∧ cc0_transform_6 (grid0.coords t) 1 = 0)
    ∧ cc0_transform_7 (grid0.coords t) 0 = t.val ∧ cc0_transform_7 (grid0.coords t) 1 = 0 := by
  decide +kernel

/-- The arguments' elements. -/
abbrev g := ent (n0 := 1) (n1 := 2048) (m ((c.tc : Thread nD τ).loc main_arg0))
abbrev r := ent (n0 := 4096) (n1 := 2048) (m ((c.tc : Thread nD τ).loc main_arg2))
abbrev d := ent (n0 := 4096) (n1 := 2048) (m ((c.tc : Thread nD τ).loc main_arg3))

theorem reads0 (t : Fin cfg0.N) : IsE (n0 := 1) (n1 := 2048) (iblk m c 0 t) fun i k => g m c i k := by
  have h : IsE (n0 := 1) (n1 := 2048) (iblk m c 0 t) fun i k =>
      g m c (1 * cc0_transform_0 (grid0.coords t) 0 + i) (2048 * cc0_transform_0 (grid0.coords t) 1 + k) :=
    IsE.block (IsE.own (n0 := 1) (n1 := 2048) _) _ fun _ => ⟨rfl, rfl⟩
  rw [(at_points t).1.1, (at_points t).1.2] at h
  exact h.congr fun i k => by simp only [Nat.mul_zero, Nat.zero_add]

theorem reads2 (t : Fin cfg0.N) : IsE (n0 := 256) (n1 := 2048) (iblk m c 2 t) fun i => r m c (256 * t.val + i) := by
  have h : IsE (n0 := 256) (n1 := 2048) (iblk m c 2 t) fun i k =>
      r m c (256 * cc0_transform_2 (grid0.coords t) 0 + i) (2048 * cc0_transform_2 (grid0.coords t) 1 + k) :=
    IsE.block (IsE.own (n0 := 4096) (n1 := 2048) _) _ fun _ => ⟨rfl, rfl⟩
  rw [(at_points t).2.1.1, (at_points t).2.1.2] at h
  exact h.congr fun i k => by simp only [Nat.mul_zero, Nat.zero_add]

theorem reads3 (t : Fin cfg0.N) : IsE (n0 := 256) (n1 := 2048) (iblk m c 3 t) fun i => d m c (256 * t.val + i) := by
  have h : IsE (n0 := 256) (n1 := 2048) (iblk m c 3 t) fun i k =>
      d m c (256 * cc0_transform_3 (grid0.coords t) 0 + i) (2048 * cc0_transform_3 (grid0.coords t) 1 + k) :=
    IsE.block (IsE.own (n0 := 4096) (n1 := 2048) _) _ fun _ => ⟨rfl, rfl⟩
  rw [(at_points t).2.2.1.1, (at_points t).2.2.1.2] at h
  exact h.congr fun i k => by simp only [Nat.mul_zero, Nat.zero_add]

/-- All points are one block of the sums. -/
theorem only (t : Fin cfg0.N) : t.val % 16 = t.val := Nat.mod_eq_of_lt t.isLt

/-- The sums over rows after a point. -/
theorem dg_sum : ∀ (t : ℕ) (h : t < cfg0.N), IsE (n0 := 1) (n1 := 2048) (outsAt0 m c t h).1 fun _ k =>
    ∑ i ∈ range (256 * (t % 16 + 1)), LayerNorm.dg (r m c i) (d m c i) k := by
  refine rowFolds (nk := 16) (by decide) (fun t h => (outsAt0 m c t h).1) (fun _ i k => LayerNorm.dg (r m c i) (d m c i) k)
    (fun t h h0 => ?_) (fun t h h0 x hx => ?_)
  · rw [only ⟨t, h⟩]
    exact dg_first m c ⟨t, h⟩ h0 ▸ dg_holds IsE.zeros (reads2 m c ⟨t, h⟩) (reads3 m c ⟨t, h⟩)
  · rw [only ⟨t, h⟩]
    exact dg_next m c ⟨t, h⟩ h0 ▸ dg_holds hx (reads2 m c ⟨t, h⟩) (reads3 m c ⟨t, h⟩)

theorem db_sum : ∀ (t : ℕ) (h : t < cfg0.N), IsE (n0 := 1) (n1 := 2048) (outsAt0 m c t h).2.1 fun _ k =>
    ∑ i ∈ range (256 * (t % 16 + 1)), d m c i k := by
  refine rowFolds (nk := 16) (by decide) (fun t h => (outsAt0 m c t h).2.1) (fun _ i k => d m c i k)
    (fun t h h0 => ?_) (fun t h h0 x hx => ?_)
  · rw [only ⟨t, h⟩]
    exact db_first m c ⟨t, h⟩ h0 ▸ db_holds IsE.zeros (reads3 m c ⟨t, h⟩)
  · rw [only ⟨t, h⟩]
    exact db_next m c ⟨t, h⟩ h0 ▸ db_holds hx (reads3 m c ⟨t, h⟩)

/-- The arrays left. -/
abbrev leftG (_ k : ℕ) : EReal := ∑ i ∈ range 4096, LayerNorm.dg (r m c i) (d m c i) k
abbrev leftB (_ k : ℕ) : EReal := ∑ i ∈ range 4096, d m c i k
abbrev leftR (i k : ℕ) : EReal := LayerNorm.dr (r m c i) (fun k => d m c i k * g m c 0 k) k

theorem leavesG : IsE (n0 := 1) (n1 := 2048) ((dats m 0 c).arrAt 4 cfg0.N) (leftG m c) := fun i k =>
  (dats m 0 c).arrAt_forall_of_covers 4 (fun i v => v = leftG m c (i 0).val (i 1).val) (by decide +kernel)
    (fun t ht i => by
      have h15 : t.val % 16 = 15 := (flush0_4 t).mp ht
      have hs : IsE (n0 := 1) (n1 := 2048) (outsAt0 m c t.val t.isLt).1 fun i k =>
          leftG m c (1 * cc0_transform_4 (grid0.coords t) 0 + i) (2048 * cc0_transform_4 (grid0.coords t) 1 + k) := fun i k => by
        rw [(at_points t).2.2.2.1.2]
        simp only [Nat.mul_zero, Nat.zero_add]
        refine (dg_sum m c t.val t.isLt i k).trans ?_
        rw [h15]
      show (dats m 0 c).after 4 t i = _
      rw [after0_4]
      exact IsE.lands (x := leftG m c) hs i rfl rfl) (ix2 i k)

theorem leavesB : IsE (n0 := 1) (n1 := 2048) ((dats m 0 c).arrAt 5 cfg0.N) (leftB m c) := fun i k =>
  (dats m 0 c).arrAt_forall_of_covers 5 (fun i v => v = leftB m c (i 0).val (i 1).val) (by decide +kernel)
    (fun t ht i => by
      have h15 : t.val % 16 = 15 := (flush0_5 t).mp ht
      have hs : IsE (n0 := 1) (n1 := 2048) (outsAt0 m c t.val t.isLt).2.1 fun i k =>
          leftB m c (1 * cc0_transform_5 (grid0.coords t) 0 + i) (2048 * cc0_transform_5 (grid0.coords t) 1 + k) := fun i k => by
        rw [(at_points t).2.2.2.2.1.2]
        simp only [Nat.mul_zero, Nat.zero_add]
        refine (db_sum m c t.val t.isLt i k).trans ?_
        rw [h15]
      show (dats m 0 c).after 5 t i = _
      rw [after0_5]
      exact IsE.lands (x := leftB m c) hs i rfl rfl) (ix2 i k)

theorem leavesR : IsE (n0 := 4096) (n1 := 2048) ((dats m 0 c).arrAt 6 cfg0.N) (leftR m c) := fun i k =>
  (dats m 0 c).arrAt_forall_of_covers 6 (fun i v => v = leftR m c (i 0).val (i 1).val) (by decide +kernel)
    (fun t _ i => by
      have hs : IsE (n0 := 256) (n1 := 2048) (outsAt0 m c t.val t.isLt).2.2.1 fun i k =>
          leftR m c (256 * cc0_transform_6 (grid0.coords t) 0 + i) (2048 * cc0_transform_6 (grid0.coords t) 1 + k) := fun i k => by
        rw [dr_at, (at_points t).2.2.2.2.2.1.1, (at_points t).2.2.2.2.2.1.2]
        simp only [Nat.mul_zero, Nat.zero_add]
        exact dr_holds (reads0 m c t) (reads2 m c t) (reads3 m c t) i k
      show (dats m 0 c).after 6 t i = _
      rw [after0_6]
      exact IsE.lands (x := leftR m c) hs i rfl rfl) (ix2 i k)

theorem leavesRb : IsE (n0 := 4096) (n1 := 2048) ((dats m 0 c).arrAt 7 cfg0.N) (leftR m c) := fun i k =>
  (dats m 0 c).arrAt_forall_of_covers 7 (fun i v => v = leftR m c (i 0).val (i 1).val) (by decide +kernel)
    (fun t _ i => by
      have hs : IsE (n0 := 256) (n1 := 2048) (outsAt0 m c t.val t.isLt).2.2.2 fun i k =>
          leftR m c (256 * cc0_transform_7 (grid0.coords t) 0 + i) (2048 * cc0_transform_7 (grid0.coords t) 1 + k) := fun i k => by
        rw [drb_at, (at_points t).2.2.2.2.2.2.1, (at_points t).2.2.2.2.2.2.2]
        simp only [Nat.mul_zero, Nat.zero_add]
        exact drb_holds (reads0 m c t) (reads2 m c t) (reads3 m c t) i k
      show (dats m 0 c).after 7 t i = _
      rw [after0_7]
      exact IsE.lands (x := leftR m c) hs i rfl rfl) (ix2 i k)

end

theorem algebraic : Cert.algebraic_Kernel20Ideal_Reference20Ideal := fun m ρ m' ρ' _ hargs =>
  ⟨_, _, _, _, Value.run_blocks m ρ, (θ_run _ _ _).mono (fun _ h c => by
    obtain ⟨e0, e1, e2, e3⟩ := hargs c
    obtain ⟨h0, h1, h2, h3, h4⟩ := h c
    obtain ⟨hr, hb⟩ := Cert.Reference20Ideal.Gen.dr_holds m' c
    rw [Cert.Reference20Ideal.Gen.g, Cert.Reference20Ideal.Gen.r, Cert.Reference20Ideal.Gen.d, e0, e2, e3] at hr hb
    refine ⟨h0.trans ?_, h1.trans ?_, h2.trans (IsE.same hr (leavesR m c)), h3.trans (IsE.same hb (leavesRb m c)), h4⟩
    · rw [e2, e3]
      have hx := Cert.Reference20Ideal.Gen.dev_holds (IsE.own (n0 := 4096) (n1 := 2048) (m ((c.tc : Thread nD τ).loc main_arg2)))
      exact IsE.same (((hx.mul ((Cert.Reference20Ideal.Gen.var_holds hx).rootHost.colHost Cert.Reference20Ideal.Gen.bcast_S4096x1_S4096x2048_0_1)).mul
        ((IsE.own (n0 := 4096) (n1 := 2048) _).castSelf Cert.Reference20Ideal.Gen.shapeCasts_S4096x2048_S4096x2048)).sumRows
          Cert.Reference20Ideal.Gen.reducesTo_S4096x2048_S2048_d0 Cert.Reference20Ideal.Gen.h_S_ |>.row
            Cert.Reference20Ideal.Gen.shapeCasts_S2048_S1x2048) (leavesG m c)
    · rw [e3]
      exact IsE.same (((IsE.own (n0 := 4096) (n1 := 2048) _).sumRows Cert.Reference20Ideal.Gen.reducesTo_S4096x2048_S2048_d0
        Cert.Reference20Ideal.Gen.h_S_).row Cert.Reference20Ideal.Gen.shapeCasts_S2048_S1x2048) (leavesB m c))
    (Cert.Reference20Ideal.Value.run (F := Ideal) m' ρ')⟩

/-- The program as it runs has the same text as its reading at the ideal values. -/
instance facts_bits : Cert.Kernel20.Facts :=
  Cert.Kernel20Ideal.Facts.rec (motive := fun _ => Cert.Kernel20.Facts)
    (@fun h => @Cert.Kernel20.Facts.mk (Cert.Kernel20Ideal.Facts₀.rec (motive := fun _ => Cert.Kernel20.Facts₀) Cert.Kernel20.Facts₀.mk h)) facts

theorem defs_bits : Cert.Kernel20.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel20 := fun m ρ _ =>
  Eq.mpr (congrArg (fun d => θ_run d (onTc (τ := τ) (main (F := Bits))) ⟨m, fun _ => 0, ρ⟩ _) defs_bits) (frame (F := Bits) m ρ)

theorem frame_reference : Cert.quiescent_Reference20Ideal := fun m ρ _ =>
  (θ_run (Cert.Reference20Ideal.defs (F := Ideal)) _ _).mono (fun r h => ⟨fun c => (h c).2.2.2.2, sem_eq_zero_of_no_sems (by decide) r.2⟩)
    (Cert.Reference20Ideal.Value.run (F := Ideal) m ρ)

end Cert.Kernel20Ideal.Gen

end
-- ==== Proof.Shift.lean ====
/-
  A causal convolution of four taps along the rows, at the ideal values: rows delayed and advanced as the kernel writes
  them, by a rotation whose wrapped rows are zeroed, and as the reference does, by zero rows laid before or after; groups of
  lanes taken from an array and laid side by side; and the two forms of the derivative of a sigmoid-weighted value.
-/
module

public import proofs.«01_k».proof.Proof.Rowwise
public import Idealize.ShloMosaic.Lib.WordCmp

@[expose] public section

noncomputable section

/-! The convolution of `x` with the taps `w` and `b` added, and its gradient, `q` the gradient of that. -/
namespace Conv

open Idealize.ShloMosaic
open Finset (range)
open scoped BigOperators

/-- Rows `j` later, zeros before the first, -/
def delay (x : ℕ → ℕ → EReal) (j : ℕ) : ℕ → ℕ → EReal := fun r c => if r < j then 0 else x (r - j) c

/-- and `j` earlier, of `n` rows, zeros after the last. -/
def ahead (n : ℕ) (x : ℕ → ℕ → EReal) (j : ℕ) : ℕ → ℕ → EReal := fun r c => if n ≤ r + j then 0 else x (r + j) c

def pre (x w b : ℕ → ℕ → EReal) : ℕ → ℕ → EReal := fun r c =>
  b 0 c + x r c * w 3 c + delay x 1 r c * w 2 c + delay x 2 r c * w 1 c + delay x 3 r c * w 0 c

/-- The derivative of `p` times its sigmoid, times `d`. -/
def dsilu (p d : EReal) : EReal := d * Ideal.logistic p * (1 + p * (1 - Ideal.logistic p))

def dpre (x w b d : ℕ → ℕ → EReal) : ℕ → ℕ → EReal := fun r c => dsilu (pre x w b r c) (d r c)

def dx (n : ℕ) (q w : ℕ → ℕ → EReal) : ℕ → ℕ → EReal := fun r c =>
  q r c * w 3 c + ahead n q 1 r c * w 2 c + ahead n q 2 r c * w 1 c + ahead n q 3 r c * w 0 c

def dw (n : ℕ) (q x : ℕ → ℕ → EReal) : ℕ → ℕ → EReal := fun k c => ∑ r ∈ range n, q r c * delay x (3 - k) r c

def db (n : ℕ) (q : ℕ → ℕ → EReal) : ℕ → ℕ → EReal := fun _ c => ∑ r ∈ range n, q r c

/-- Where the lanes of a matrix whose 6144 lanes are 8 groups of 512, 128 and 128 lie once those of a kind are side by side. -/
def place (c : ℕ) : ℕ :=
  if c < 4096 then 768 * (c / 512) + (0 + c % 512)
  else if c < 4096 + 1024 then 768 * ((c - 4096) / 128) + (512 + (c - 4096) % 128)
  else 768 * ((c - 4096 - 1024) / 128) + (640 + (c - 4096 - 1024) % 128)

/-- Lanes of one block of 128 stay together. -/
theorem place_add (t k : ℕ) (hk : k < 128) : place (128 * t + k) = place (128 * t) + k := by
  unfold place
  split_ifs <;> omega

theorem delay_zero (x : ℕ → ℕ → EReal) (r c : ℕ) : delay x 0 r c = x r c := by simp [delay]

/-- The gradient of the taps, row by row of four. -/
theorem dw_rows (n : ℕ) (q x : ℕ → ℕ → EReal) (k : ℕ) (hk : k < 4) (c : ℕ) :
    (if k = 3 then ∑ r ∈ range n, delay x 0 r c * q r c else 0) + (if k = 2 then ∑ r ∈ range n, delay x 1 r c * q r c else 0)
      + (if k = 1 then ∑ r ∈ range n, delay x 2 r c * q r c else 0) + (if k = 0 then ∑ r ∈ range n, delay x 3 r c * q r c else 0) = dw n q x k c := by
  interval_cases k <;> simp [dw, mul_comm]

/-- As the reference writes the derivative: the same where `d` is a real. -/
theorem dsilu_eq (p : EReal) (d : ℝ) :
    (d : EReal) * Ideal.logistic p + p * d * (Ideal.logistic p * (1 - Ideal.logistic p)) = dsilu p d := by
  unfold dsilu
  induction p with
  | bot => simp
  | top =>
    have h : (1 : EReal) - 1 = 0 := by
      rw [← EReal.coe_one, ← EReal.coe_sub, sub_self, EReal.coe_zero]
    simp [h]
  | coe p =>
    rw [Ideal.logistic_coe]
    generalize (1 + Real.exp (-p))⁻¹ = s
    rw [← EReal.coe_one]
    simp only [← EReal.coe_sub, ← EReal.coe_mul, ← EReal.coe_add]
    congr 1
    ring

end Conv

namespace Product

open Idealize.ShloMosaic hiding ix1 ix2 ix3 ix4
open Idealize.ShloMosaic.ValueIdx Conv
open Finset (range)
open scoped BigOperators

namespace IsE

variable {n0 n1 n2 n m m' N : ℕ}

/-- Elements equal in the rows there are. -/
theorem congrRows {X : (⟨2, ![n0, n1]⟩ : Shape).Idx → EReal} {x x' : ℕ → ℕ → EReal} (h : IsE X x) (e : ∀ r, r < n0 → ∀ c, x r c = x' r c) : IsE X x' :=
  fun r c => (h r c).trans (e _ r.isLt _)

/-- One row stored as row `i` of an array that is to hold `x`. -/
theorem row0 {X : (⟨2, ![1, n1]⟩ : Shape).Idx → EReal} {x : ℕ → ℕ → EReal} {i : ℕ} (h : IsE X fun _ c => x i c)
    (y : (⟨2, ![1, n1]⟩ : Shape).Idx) {i0 i1 : ℕ} (h0 : i0 = i + 1 * (y 0).val) (h1 : i1 = 0 + 1 * (y 1).val) : X y = x i0 i1 := by
  have hy : (y 0).val = 0 := Nat.lt_one_iff.mp (y 0).isLt
  rw [h.idx y, h0, h1, hy, Nat.mul_zero, Nat.add_zero, Nat.one_mul, Nat.zero_add]

/-- A rotation along the rows, its wrapped rows zeros. -/
theorem selectDelay {X : FVec Ideal ⟨2, ![n0, n1]⟩ .f32} {x : ℕ → ℕ → EReal} (hx : IsE X x) (j : ℕ) (hj : j < n0) (hn : n0 < 2 ^ 31)
    (hi : (⟨2, ![n0, n1]⟩ : Shape).Iotas .tc 32 [0]) (hr : (⟨2, ![n0, n1]⟩ : Shape).Rotates 0 none) :
    IsE (select (cmpi .slt (iota .tc ⟨2, ![n0, n1]⟩ 32 [0] hi) (broadcast ⟨2, ![n0, n1]⟩ (BitVec.ofNat 32 j)))
      (broadcast ⟨2, ![n0, n1]⟩ (Scalar.ofBits (F := Ideal) .f32 0x00000000#32)) (dynamicRotate 0 (BitVec.ofNat 32 j) none X hr)) (delay x j) := fun r c => by
  have h0 := r.isLt
  have hjn : (BitVec.ofNat 32 j).toNat = j := by rw [BitVec.toNat_ofNat]; exact Nat.mod_eq_of_lt (by omega)
  have hc : cmpi .slt (iota .tc ⟨2, ![n0, n1]⟩ 32 [0] hi) (broadcast ⟨2, ![n0, n1]⟩ (BitVec.ofNat 32 j)) (ix2 r c) = BitVec.ofBool (decide (r.val < j)) := by
    show IntOp.cmpi .slt (iota .tc ⟨2, ![n0, n1]⟩ 32 [0] hi (ix2 r c)) (BitVec.ofNat 32 j) = _
    rw [iota_single_apply]
    exact WordCmp.cmpi_slt_ofNat (show r.val < _ by omega) (by omega)
  rw [select_apply, hc, delay]
  by_cases h : r.val < j
  · rw [if_pos h, decide_eq_true h]
    exact Ideal.ofBits_zero_f32
  · rw [if_neg h, decide_eq_false h]
    refine Eq.trans (congrArg X (funext fun a => ?_)) (hx ⟨r.val - j, by omega⟩ c)
    match a with
    | ⟨0, _⟩ =>
      refine Fin.ext ?_
      show (r.val + n0 - ((BitVec.ofNat 32 j).toNat + 0) % n0) % n0 = r.val - j
      rw [hjn, Nat.add_zero, Nat.mod_eq_of_lt hj, show r.val + n0 - j = r.val - j + n0 by omega, Nat.add_mod_right, Nat.mod_eq_of_lt (by omega)]
    | ⟨1, _⟩ => rfl

theorem selectAhead {X : FVec Ideal ⟨2, ![n0, n1]⟩ .f32} {x : ℕ → ℕ → EReal} (hx : IsE X x) (s : ℕ) (hj : s < n0) (hn : n0 < 2 ^ 31)
    (hi : (⟨2, ![n0, n1]⟩ : Shape).Iotas .tc 32 [0]) (hr : (⟨2, ![n0, n1]⟩ : Shape).Rotates 0 none) :
    IsE (select (cmpi .sge (iota .tc ⟨2, ![n0, n1]⟩ 32 [0] hi) (broadcast ⟨2, ![n0, n1]⟩ (BitVec.ofNat 32 s)))
      (broadcast ⟨2, ![n0, n1]⟩ (Scalar.ofBits (F := Ideal) .f32 0x00000000#32)) (dynamicRotate 0 (BitVec.ofNat 32 s) none X hr)) (ahead n0 x (n0 - s)) := fun r c => by
  have h0 := r.isLt
  have hjn : (BitVec.ofNat 32 s).toNat = s := by rw [BitVec.toNat_ofNat]; exact Nat.mod_eq_of_lt (by omega)
  have hc : cmpi .sge (iota .tc ⟨2, ![n0, n1]⟩ 32 [0] hi) (broadcast ⟨2, ![n0, n1]⟩ (BitVec.ofNat 32 s)) (ix2 r c) = BitVec.ofBool (decide (s ≤ r.val)) := by
    show IntOp.cmpi .sge (iota .tc ⟨2, ![n0, n1]⟩ 32 [0] hi (ix2 r c)) (BitVec.ofNat 32 s) = _
    rw [iota_single_apply]
    exact WordCmp.cmpi_sge_ofNat (show r.val < _ by omega) (by omega)
  rw [select_apply, hc, ahead]
  by_cases h : s ≤ r.val
  · rw [if_pos (by omega), decide_eq_true h]
    exact Ideal.ofBits_zero_f32
  · rw [if_neg (by omega), decide_eq_false h]
    refine Eq.trans (congrArg X (funext fun a => ?_)) (hx ⟨r.val + (n0 - s), by omega⟩ c)
    match a with
    | ⟨0, _⟩ =>
      refine Fin.ext ?_
      show (r.val + n0 - ((BitVec.ofNat 32 s).toNat + 0) % n0) % n0 = r.val + (n0 - s)
      rw [hjn, Nat.add_zero, Nat.mod_eq_of_lt hj, show r.val + n0 - s = r.val + (n0 - s) by omega, Nat.mod_eq_of_lt (by omega)]
    | ⟨1, _⟩ => rfl

/-- A block cut out. -/
theorem cut {X : (⟨2, ![n0, n1]⟩ : Shape).Idx → EReal} {x : ℕ → ℕ → EReal} (hx : IsE X x) (o : ℕ)
    (h : (⟨2, ![n0, n1]⟩ : Shape).Slices ![o, 0] ⟨2, ![m, n1]⟩) :
    IsE (extractStridedSlice ⟨2, ![m, n1]⟩ ![o, 0] X h) fun r c => x (o + r) c := fun r c => by
  have hl : o + r.val < n0 := Nat.lt_of_lt_of_le (Nat.add_lt_add_left r.isLt o) (h.2 0)
  rw [extractStridedSlice_apply _ X h (ix2 r c) (ix2 ⟨o + r.val, hl⟩ c) fun a => ?_]
  · exact hx _ _
  · match a with
    | ⟨0, _⟩ => rfl
    | ⟨1, _⟩ => exact (Nat.zero_add _).symm

/-- Rows under zero rows: the last of them cut off. -/
theorem concatDelay {X : FVec Ideal ⟨2, ![n0, n1]⟩ .f32} {x : ℕ → ℕ → EReal} (hx : IsE X x) (j : ℕ) (hm : j + m = n0)
    (hb : (⟨0, ![]⟩ : Shape).BroadcastsInDim ⟨2, ![j, n1]⟩ ![]) {Y : FVec Ideal ⟨2, ![m, n1]⟩ .f32} (hY : IsE Y x)
    (h : Shape.Concatenates [⟨2, ![j, n1]⟩, ⟨2, ![m, n1]⟩] ⟨2, ![n0, n1]⟩ 0) :
    IsE (concatenate ⟨2, ![n0, n1]⟩ 0 [⟨⟨2, ![j, n1]⟩, broadcastInDim ⟨2, ![j, n1]⟩ ![] hb (constant (F := Ideal) ⟨0, ![]⟩ .f32 0x00000000#32)⟩, ⟨⟨2, ![m, n1]⟩, Y⟩] h)
      (delay x j) := fun r c => by
  have h0 := r.isLt
  rw [delay]
  by_cases hr : r.val < j
  · rw [if_pos hr, concatenate_pair_apply_left 0 _ _ h (ix2 r c) rfl (ix2 ⟨r.val, hr⟩ c) fun b => ?_]
    · exact Ideal.ofBits_zero_f32
    · match b with
      | ⟨0, _⟩ => rfl
      | ⟨1, _⟩ => rfl
  · rw [if_neg hr, concatenate_pair_apply_right 0 _ _ h (ix2 r c) rfl rfl (ix2 ⟨r.val - j, by omega⟩ c) ?_ ?_]
    · exact hY _ _
    · intro b hb
      match b with
      | ⟨0, _⟩ => exact absurd rfl hb
      | ⟨1, _⟩ => rfl
    · show r.val - j + j = r.val
      omega

/-- Rows over zero rows: the first of them cut off. -/
theorem padAhead {X : FVec Ideal ⟨2, ![n0, n1]⟩ .f32} {x : ℕ → ℕ → EReal} (hx : IsE X x) (j : ℕ) (hm : m + j = n0)
    (hs : (⟨2, ![n0, n1]⟩ : Shape).Slices ![j, 0] ⟨2, ![m, n1]⟩)
    (h : (⟨2, ![m, n1]⟩ : Shape).Pads ![0, 0] ![j, 0] ![0, 0] ⟨2, ![n0, n1]⟩) (hu : 0 < (⟨0, ![]⟩ : Shape).numel) :
    IsE (pad ⟨2, ![n0, n1]⟩ ![0, 0] ![j, 0] ![0, 0] (extractStridedSlice ⟨2, ![m, n1]⟩ ![j, 0] X hs)
      (constant (F := Ideal) ⟨0, ![]⟩ .f32 0x00000000#32) h hu) (ahead n0 x j) := fun r c => by
  have h0 := r.isLt
  rw [ahead]
  by_cases hr : n0 ≤ r.val + j
  · rw [if_pos hr, pad_apply_of_not_inside _ _ _ _ _ h hu (ix2 r c) 0 fun hi => ?_]
    · exact Ideal.ofBits_zero_f32
    · have h2 : (r.val - 0) / (0 + 1) < m := hi.2.2
      omega
  · rw [if_neg hr, pad_apply_of_inside _ _ _ _ _ h hu (ix2 r c) (ix2 ⟨r.val, by omega⟩ c) fun a => ?_]
    · rw [Nat.add_comm r.val j]; exact hx.cut j hs _ _
    · match a with
      | ⟨0, _⟩ => show r.val = 0 + r.val * (0 + 1); omega
      | ⟨1, _⟩ => show c.val = 0 + c.val * (0 + 1); omega

/-- One row at its place among zero rows. -/
theorem padRow {X : FVec Ideal ⟨2, ![1, n1]⟩ .f32} {x : ℕ → ℕ → EReal} (hx : IsE X x) (i j : ℕ)
    (h : (⟨2, ![1, n1]⟩ : Shape).Pads ![i, 0] ![j, 0] ![0, 0] ⟨2, ![n0, n1]⟩) (hu : 0 < (⟨0, ![]⟩ : Shape).numel) :
    IsE (pad ⟨2, ![n0, n1]⟩ ![i, 0] ![j, 0] ![0, 0] X (constant (F := Ideal) ⟨0, ![]⟩ .f32 0x00000000#32) h hu) fun r c => if r = i then x 0 c else 0 := fun r c => by
  show _ = if r.val = i then x 0 c.val else 0
  by_cases hr : r.val = i
  · rw [if_pos hr, pad_apply_of_inside _ _ _ X _ h hu (ix2 r c) (ix2 (0 : Fin 1) c) fun a => ?_]
    · exact hx _ _
    · match a with
      | ⟨0, _⟩ => show r.val = i + 0 * (0 + 1); omega
      | ⟨1, _⟩ => show c.val = 0 + c.val * (0 + 1); omega
  · rw [if_neg hr, pad_apply_of_not_inside _ _ _ X _ h hu (ix2 r c) 0 fun hi => ?_]
    · exact Ideal.ofBits_zero_f32
    · have h1 : i ≤ r.val := hi.1
      have h2 : (r.val - i) / (0 + 1) < 1 := hi.2.2
      omega

/-- A row as an array of one axis. -/
theorem one {X : (⟨2, ![1, n1]⟩ : Shape).Idx → EReal} {x : ℕ → ℕ → EReal} (hx : IsE X x) (h : (⟨2, ![1, n1]⟩ : Shape).ShapeCasts ⟨1, ![n1]⟩) :
    Is1 (shapeCast ⟨1, ![n1]⟩ X h) fun c => x 0 c := fun c => by
  rw [shapeCast_apply X h (ix1 c) (ix2 (0 : Fin 1) c)]
  · exact hx _ _
  · rw [Shape.rowMajor_val_two, Shape.rowMajor_val_one]
    show 0 * n1 + c.val = c.val
    omega

/-- Three matrices side by side. -/
theorem beside {X : (⟨2, ![n0, n]⟩ : Shape).Idx → EReal} {Y : (⟨2, ![n0, m]⟩ : Shape).Idx → EReal} {Z : (⟨2, ![n0, m']⟩ : Shape).Idx → EReal}
    {x y z : ℕ → ℕ → EReal} (hx : IsE X x) (hy : IsE Y y) (hz : IsE Z z) (hN : N = n + m + m')
    (h : Shape.Concatenates [⟨2, ![n0, n]⟩, ⟨2, ![n0, m]⟩, ⟨2, ![n0, m']⟩] ⟨2, ![n0, N]⟩ 1) :
    IsE (concatenate ⟨2, ![n0, N]⟩ 1 [⟨⟨2, ![n0, n]⟩, X⟩, ⟨⟨2, ![n0, m]⟩, Y⟩, ⟨⟨2, ![n0, m']⟩, Z⟩] h)
      fun r c => if c < n then x r c else if c < n + m then y r (c - n) else z r (c - n - m) := fun r c => by
  have h1 := c.isLt
  show _ = if c.val < n then x r.val c.val else if c.val < n + m then y r.val (c.val - n) else z r.val (c.val - n - m)
  by_cases c0 : c.val < n
  · rw [if_pos c0]
    refine (concatenate_apply_piece 1 [⟨⟨2, ![n0, n]⟩, X⟩, ⟨⟨2, ![n0, m]⟩, Y⟩, ⟨⟨2, ![n0, m']⟩, Z⟩] h (ix2 r c) 0 (by simp) ⟨2, ![n0, n]⟩ X rfl rfl 0 rfl (ix2 r ⟨c.val, c0⟩) (fun b hb => ?_) ?_).trans (hx _ _)
    · match b with
      | ⟨0, _⟩ => rfl
      | ⟨1, _⟩ => exact absurd rfl hb
    · exact Nat.zero_add _
  · rw [if_neg c0]
    by_cases c1 : c.val < n + m
    · rw [if_pos c1]
      refine (concatenate_apply_piece 1 [⟨⟨2, ![n0, n]⟩, X⟩, ⟨⟨2, ![n0, m]⟩, Y⟩, ⟨⟨2, ![n0, m']⟩, Z⟩] h (ix2 r c) 1 (by simp) ⟨2, ![n0, m]⟩ Y rfl rfl n (by simp) (ix2 r ⟨c.val - n, by omega⟩) (fun b hb => ?_) ?_).trans (hy _ _)
      · match b with
        | ⟨0, _⟩ => rfl
        | ⟨1, _⟩ => exact absurd rfl hb
      · show n + (c.val - n) = c.val; omega
    · rw [if_neg c1]
      refine (concatenate_apply_piece 1 [⟨⟨2, ![n0, n]⟩, X⟩, ⟨⟨2, ![n0, m]⟩, Y⟩, ⟨⟨2, ![n0, m']⟩, Z⟩] h (ix2 r c) 2 (by simp) ⟨2, ![n0, m']⟩ Z rfl rfl (n + m) (by simp) (ix2 r ⟨c.val - n - m, by omega⟩) (fun b hb => ?_) ?_).trans (hz _ _)
      · match b with
        | ⟨0, _⟩ => rfl
        | ⟨1, _⟩ => exact absurd rfl hb
      · show n + m + (c.val - n - m) = c.val; omega

end IsE

/-- A value per lane, as a row. -/
theorem Is1.lead {n0 : ℕ} {X : (⟨1, ![n0]⟩ : Shape).Idx → EReal} {x : ℕ → EReal} (hx : Is1 X x)
    (h : (⟨1, ![n0]⟩ : Shape).BroadcastsInDim ⟨2, ![1, n0]⟩ ![1]) : IsE (broadcastInDim ⟨2, ![1, n0]⟩ ![1] h X) fun _ c => x c := fun r c => by
  rw [broadcastInDim_apply ![1] h _ (ix2 r c) (ix1 c) ?_]
  · exact hx c
  · intro a
    match a with
    | ⟨0, _⟩ =>
      show c.val = if n0 = 1 then 0 else c.val
      split
      · have := c.isLt; omega
      · rfl

/-- Some of the lanes of every group. -/
theorem Is3.cut {n0 n1 n2 m : ℕ} {X : (⟨3, ![n0, n1, n2]⟩ : Shape).Idx → EReal} {x : ℕ → ℕ → ℕ → EReal} (hx : Is3 X x) (o : ℕ)
    (h : (⟨3, ![n0, n1, n2]⟩ : Shape).Slices ![0, 0, o] ⟨3, ![n0, n1, m]⟩) :
    Is3 (extractStridedSlice ⟨3, ![n0, n1, m]⟩ ![0, 0, o] X h) fun r g k => x r g (o + k) := fun r g k => by
  have hl : o + k.val < n2 := Nat.lt_of_lt_of_le (Nat.add_lt_add_left k.isLt o) (h.2 2)
  rw [extractStridedSlice_apply _ X h (ix3 r g k) (ix3 r g ⟨o + k.val, hl⟩) fun a => ?_]
  · exact hx _ _ _
  · match a with
    | ⟨0, _⟩ => exact (Nat.zero_add _).symm
    | ⟨1, _⟩ => exact (Nat.zero_add _).symm
    | ⟨2, _⟩ => rfl

end Product

end
-- ==== Proof.Kernel21.lean ====
/-
  The gradient of a causal convolution of four taps along 4096 rows, its result times its own sigmoid. A point of the grid
  is 128 of the 6144 lanes and all rows. The gradient of the result comes in groups of lanes; the point's block of it is
  the one its lanes are at home in. The precondition makes that gradient finite; nothing else need be.
-/
module

public import proofs.«01_k».proof.Defs
public import proofs.«01_k».proof.Proof.Shift
public import proofs.«01_k».proof.Proof.Finite
public import proofs.«01_k».proof.Proof.Gen.Kernel21Ideal.Value
public import proofs.«01_k».proof.Proof.Gen.Reference21Ideal.Run
public import Idealize.ShloMosaic.Lib.Pipeline.ValueKit.Geometry

@[expose] public section

set_option maxRecDepth 16384

noncomputable section

namespace Cert.Pre_finite_conv

open Idealize.ShloMosaic hiding ix0
open Idealize.ShloMosaic.ValueIdx

instance facts : Facts where
  bcast_S_S4096x6144 := by decide
  reducesTo_S4096x6144_S_d0_1 := by decide
  h_S_ := by decide

/-- The precondition makes the last argument an array of reals. -/
theorem decoded (x0 : FVec Ideal S4096x6144 .f32) (x1 : FVec Ideal S4x6144 .f32) (x2 : FVec Ideal S1x6144 .f32) (x3 : FVec Ideal S4096x6144 .f32)
    (h : fn (F := Ideal) x0 x1 x2 x3 = fun _ => 1#1) (r c : ℕ) :
    ∃ a : ℝ, Product.ent (n0 := 4096) (n1 := 6144) x3 r c = (a : EReal) := by
  have e := congrFun h ix0
  dsimp only [fn] at e
  unfold Product.ent
  split
  · exact ⟨_, Pre_finite.all_real x3 _ _ _ _ e _⟩
  · exact ⟨0, EReal.coe_zero.symm⟩

end Cert.Pre_finite_conv

namespace Cert.Reference21Ideal.Gen

open Idealize.ShloMosaic hiding ix2
open Idealize.ShloMosaic.TcCoe Idealize.ShloMosaic.ValueIdx Idealize.SL.Sem Cert.Reference21Ideal.Value Product
open Finset (range)
open scoped BigOperators

section
variable {w q : ℕ → ℕ → EReal} {W : FVec Ideal S4x6144 .f32} {Q : FVec Ideal S4096x6144 .f32}

/-- A tap along the rows. -/
theorem tap (hW : IsE W w) (i : ℕ) (h : S4x6144.Slices ![i, 0] S1x6144) :
    IsE (broadcastInDim S4096x6144 ![0, 1] bcast_S1x6144_S4096x6144_0_1 (broadcastInDim S1x6144 ![1] bcast_S6144_S1x6144_1
      (shapeCast S6144 (extractStridedSlice S1x6144 ![i, 0] W h) shapeCasts_S1x6144_S6144))) fun _ c => w i c :=
  (((hW.cut i h).one shapeCasts_S1x6144_S6144).lead bcast_S6144_S1x6144_1).rowHost bcast_S1x6144_S4096x6144_0_1

/-- The gradient of a tap, in its row among zeros. -/
theorem dtap (hQ : IsE Q q) (i j : ℕ) (h : S1x6144.Pads ![i, 0] ![j, 0] ![0, 0] S4x6144) :
    IsE (pad S4x6144 ![i, 0] ![j, 0] ![0, 0] (broadcastInDim S1x6144 ![1] bcast_S6144_S1x6144_1 (Host.reduceAdd (F := Ideal) (shapeCast S1x6144
      (Host.reduceAdd Q (constant S_ .f32 0x00000000#32) reducesTo_S4096x6144_S6144_d0 h_S_) shapeCasts_S6144_S1x6144)
      (constant S_ .f32 0x00000000#32) reducesTo_S1x6144_S6144_d0 h_S_)) (constant (F := Ideal) S_ .f32 0x00000000#32) h h_S_)
      fun r c => if r = i then ∑ r ∈ range 4096, q r c else 0 :=
  (IsE.padRow ((((hQ.sumRows reducesTo_S4096x6144_S6144_d0 h_S_).row shapeCasts_S6144_S1x6144).sumRows reducesTo_S1x6144_S6144_d0 h_S_).lead
    bcast_S6144_S1x6144_1) i j h h_S_).congr fun r c => by rw [Finset.sum_range_one]

end

variable (m : (ℓ : Loc nD τ sig) → Buf (Elt Ideal) ℓ) (c : Dev nD)

/-- The arguments' elements, the last with the lanes of a kind side by side. -/
abbrev x := ent (n0 := 4096) (n1 := 6144) (m ((c.tc : Thread nD τ).loc main_arg0))
abbrev w := ent (n0 := 4) (n1 := 6144) (m ((c.tc : Thread nD τ).loc main_arg1))
abbrev b := ent (n0 := 1) (n1 := 6144) (m ((c.tc : Thread nD τ).loc main_arg2))
abbrev d (r k : ℕ) := ent (n0 := 4096) (n1 := 6144) (m ((c.tc : Thread nD τ).loc main_arg3)) r (Conv.place k)

theorem holds (hd : ∀ r k, ∃ a : ℝ, ent (n0 := 4096) (n1 := 6144) (m ((c.tc : Thread nD τ).loc main_arg3)) r k = (a : EReal)) :
    IsE (n0 := 4096) (n1 := 6144) (res_main_v103 (F := Ideal) m c) (Conv.dx 4096 (Conv.dpre (x m c) (w m c) (b m c) (d m c)) (w m c))
    ∧ IsE (n0 := 4) (n1 := 6144) (res_main_v98 (F := Ideal) m c) (Conv.dw 4096 (Conv.dpre (x m c) (w m c) (b m c) (d m c)) (x m c))
    ∧ IsE (n0 := 1) (n1 := 6144) (res_main_v53 (F := Ideal) m c) (Conv.db 4096 (Conv.dpre (x m c) (w m c) (b m c) (d m c))) := by
  have hx : IsE (n0 := 4096) (n1 := 6144) (m ((c.tc : Thread nD τ).loc main_arg0)) (x m c) := IsE.own _
  have hw : IsE (n0 := 4) (n1 := 6144) (m ((c.tc : Thread nD τ).loc main_arg1)) (w m c) := IsE.own _
  have hb := IsE.rowHost (x := b m c) (IsE.own (n0 := 1) (n1 := 6144) (m ((c.tc : Thread nD τ).loc main_arg2))) bcast_S1x6144_S4096x6144_0_1
  have h3 := Is3.split (IsE.own (n0 := 4096) (n1 := 6144) (m ((c.tc : Thread nD τ).loc main_arg3))) shapeCasts_S4096x6144_S4096x8x768 rfl
  have hdy := ((((h3.cut 0 slices_S4096x8x768_S4096x8x512_0_0_0).merge shapeCasts_S4096x8x512_S4096x4096 rfl (by decide)).beside (N := 6144)
    ((h3.cut 512 slices_S4096x8x768_S4096x8x128_0_0_512).merge shapeCasts_S4096x8x128_S4096x1024 rfl (by decide))
    ((h3.cut 640 slices_S4096x8x768_S4096x8x128_0_0_640).merge shapeCasts_S4096x8x128_S4096x1024 rfl (by decide)) rfl
    concatenates_S4096x4096_S4096x1024_S4096x1024_S4096x6144_d1)).congr (x' := d m c) fun r k => by
      unfold d Conv.place
      split_ifs <;> rfl
  have d3 := hx.concatDelay 3 rfl bcast_S_S3x6144 ((hx.cut 0 slices_S4096x6144_S4093x6144_0_0).congr fun r c => by rw [Nat.zero_add])
    concatenates_S3x6144_S4093x6144_S4096x6144_d0
  have d2 := hx.concatDelay 2 rfl bcast_S_S2x6144 ((hx.cut 0 slices_S4096x6144_S4094x6144_0_0).congr fun r c => by rw [Nat.zero_add])
    concatenates_S2x6144_S4094x6144_S4096x6144_d0
  have d1 := hx.concatDelay 1 rfl bcast_S_S1x6144 ((hx.cut 0 slices_S4096x6144_S4095x6144_0_0).congr fun r c => by rw [Nat.zero_add])
    concatenates_S1x6144_S4095x6144_S4096x6144_d0
  have d0 := hx.concatDelay 0 rfl bcast_S_S0x6144 hx concatenates_S0x6144_S4096x6144_S4096x6144_d0
  have w0 := tap hw 0 slices_S4x6144_S1x6144_0_0
  have w1 := tap hw 1 slices_S4x6144_S1x6144_1_0
  have w2 := tap hw 2 slices_S4x6144_S1x6144_2_0
  have w3 := tap hw 3 slices_S4x6144_S1x6144_3_0
  have hp := (IsE.add (φ := .f32) hb ((((((IsE.splatHost 0x00000000#32 bcast_S_S4096x6144).add (d3.mul w0)).add (d2.mul w1)).add (d1.mul w2)).add (d0.mul w3)))).congr
    (x' := Conv.pre (x m c) (w m c) (b m c)) fun r k => by
      simp only [Ideal.ofBits_zero_f32, zero_add, Conv.delay_zero, Conv.pre]
      ac_rfl
  have hs := hp.sig
  rw [← sigmoid _ bcast_S_S4096x6144] at hs
  have hq := ((IsE.mul (φ := .f32) hdy hs).add ((hp.mul hdy).mul (hs.mul ((IsE.splatHost 0x3F800000#32 bcast_S_S4096x6144).sub hs)))).congr
    (x' := Conv.dpre (x m c) (w m c) (b m c) (d m c)) fun r k => by
      obtain ⟨a, ha⟩ := hd r (Conv.place k)
      simp only [Ideal.ofBits_one_f32, Conv.dpre, d, ha]
      exact Conv.dsilu_eq _ a
  refine ⟨?_, ?_, (hq.sumRows reducesTo_S4096x6144_S6144_d0 h_S_).row shapeCasts_S6144_S1x6144⟩
  · have h := (((IsE.add (φ := .f32) ((hq.mul w3).cut 0 slices_S4096x6144_S4096x6144_0_0)
      ((hq.mul w2).padAhead 1 rfl slices_S4096x6144_S4095x6144_1_0 pads_S4095x6144_S4096x6144_010_000 h_S_)).add
      ((hq.mul w1).padAhead 2 rfl slices_S4096x6144_S4094x6144_2_0 pads_S4094x6144_S4096x6144_020_000 h_S_)).add
      ((hq.mul w0).padAhead 3 rfl slices_S4096x6144_S4093x6144_3_0 pads_S4093x6144_S4096x6144_030_000 h_S_)).congr
      (x' := Conv.dx 4096 (Conv.dpre (x m c) (w m c) (b m c) (d m c)) (w m c)) fun r k => by
        simp only [Conv.dx, Conv.ahead, Nat.zero_add, ite_mul, zero_mul]
    exact h.narrow bitsLt_bf16_f32
  · have h := ((IsE.add (φ := .f32) (dtap (d0.mul hq) 3 0 pads_S1x6144_S4x6144_300_000) (dtap (d1.mul hq) 2 1 pads_S1x6144_S4x6144_210_000)).add
      (dtap (d2.mul hq) 1 2 pads_S1x6144_S4x6144_120_000)).add (dtap (d3.mul hq) 0 3 pads_S1x6144_S4x6144_030_000)
    exact h.congrRows (Conv.dw_rows 4096 _ _)

end Cert.Reference21Ideal.Gen

namespace Cert.Kernel21Ideal.Gen

open Idealize.ShloMosaic hiding ix2
open Idealize.ShloMosaic.TcCoe Idealize.ShloMosaic.ValueIdx Idealize.SL.Sem Product
open Finset (range)
open scoped BigOperators

section
variable {x w b d : ℕ → ℕ → EReal} {X D : Vec Ideal S4096x128 .f32} {W : Vec Ideal S4x128 .f32} {B : Vec Ideal S1x128 .f32}

theorem pay3_holds (hx : IsE X x) : IsE (k0_pay3 (F := Ideal) X) (Conv.delay x 1) := hx.selectDelay 1 (by decide) (by decide) _ _

theorem pay4_holds (hx : IsE X x) : IsE (k0_pay4 (F := Ideal) X) (Conv.delay x 2) := hx.selectDelay 2 (by decide) (by decide) _ _

theorem pay5_holds (hx : IsE X x) : IsE (k0_pay5 (F := Ideal) X) (Conv.delay x 3) := hx.selectDelay 3 (by decide) (by decide) _ _

/-- A tap along the rows. -/
theorem tap (hw : IsE W w) (i : ℕ) (h : S4x128.Slices ![i, 0] S1x128) :
    IsE (broadcastTo S4096x128 (extractStridedSlice S1x128 ![i, 0] W h) broadcasts_S1x128_S4096x128) fun _ c => w i c :=
  (hw.cut i h).row broadcasts_S1x128_S4096x128

theorem pay17_holds (hx : IsE X x) (hw : IsE W w) (hb : IsE B b) : IsE (k0_pay17 (F := Ideal) X W B D) (Conv.pre x w b) := by
  unfold k0_pay17
  rw [View.ld_unit_zero (S := S4096x128) hz, View.ld_unit_zero (S := S4x128) hz, View.ld_unit_zero (S := S1x128) hz]
  exact (((IsE.add (φ := .f32) (hb.row broadcasts_S1x128_S4096x128) (IsE.mul (φ := .f32) hx (tap hw 3 slices_S4x128_o3_0_S1x128))).add
    ((pay3_holds hx).mul (tap hw 2 slices_S4x128_o2_0_S1x128))).add ((pay4_holds hx).mul (tap hw 1 slices_S4x128_o1_0_S1x128))).add
    ((pay5_holds hx).mul (tap hw 0 slices_S4x128_o0_0_S1x128))

theorem pay18_holds (hx : IsE X x) (hw : IsE W w) (hb : IsE B b) (hd : IsE D d) :
    IsE (k0_pay18 (F := Ideal) X W B D) fun r c => d r c * Ideal.logistic (Conv.pre x w b r c) := by
  have h := (pay17_holds (D := D) hx hw hb).sig
  unfold k0_pay18 k0_pay8
  rw [View.ld_unit_zero (S := S4096x128) hz _ D]
  exact IsE.mul (φ := .f32) hd h

theorem pay19_holds (hx : IsE X x) (hw : IsE W w) (hb : IsE B b) :
    IsE (k0_pay19 (F := Ideal) X W B D) fun r c => 1 - Ideal.logistic (Conv.pre x w b r c) := by
  have h := (IsE.splat 0x3F800000#32).sub (pay17_holds (D := D) hx hw hb).sig
  simp only [Ideal.ofBits_one_f32] at h
  exact h

theorem dpre_holds (hx : IsE X x) (hw : IsE W w) (hb : IsE B b) (hd : IsE D d) :
    IsE (k0_pay10 (F := Ideal) (k0_pay17 X W B D) (k0_pay18 X W B D) (k0_pay19 X W B D)) (Conv.dpre x w b d) := by
  have h := (pay18_holds hx hw hb hd).mul ((IsE.splat 0x3F800000#32).add ((pay17_holds (D := D) hx hw hb).mul (pay19_holds (D := D) hx hw hb)))
  simp only [Ideal.ofBits_one_f32] at h
  exact h

theorem dx_holds (hx : IsE X x) (hw : IsE W w) (hb : IsE B b) (hd : IsE D d) :
    IsE (n0 := 4096) (n1 := 128) (out0_4 (F := Ideal) X W B D) (Conv.dx 4096 (Conv.dpre x w b d) w) := by
  have hq := dpre_holds hx hw hb hd
  unfold out0_4
  rw [View.canon_unit_zero hz, View.ld_unit_zero (S := S4x128) hz]
  have h := (((hq.mul (tap hw 3 slices_S4x128_o3_0_S1x128)).add
    ((hq.selectAhead 4095 (by decide) (by decide) iota_S4096x128_d0_w32 rotates_S4096x128_d0).mul (tap hw 2 slices_S4x128_o2_0_S1x128))).add
    ((hq.selectAhead 4094 (by decide) (by decide) iota_S4096x128_d0_w32 rotates_S4096x128_d0).mul (tap hw 1 slices_S4x128_o1_0_S1x128))).add
    ((hq.selectAhead 4093 (by decide) (by decide) iota_S4096x128_d0_w32 rotates_S4096x128_d0).mul (tap hw 0 slices_S4x128_o0_0_S1x128))
  exact h.narrow bitsLt_bf16_f32

theorem db_holds (hx : IsE X x) (hw : IsE W w) (hb : IsE B b) (hd : IsE D d) :
    IsE (n0 := 1) (n1 := 128) (out0_6 (F := Ideal) X W B D) (Conv.db 4096 (Conv.dpre x w b d)) := by
  unfold out0_6
  rw [View.canon_unit_zero hz]
  exact (dpre_holds hx hw hb hd).colSum _ _ _ _

/-- The gradient of the taps is stored row by row. -/
theorem dw_holds (hx : IsE X x) (hw : IsE W w) (hb : IsE B b) (hd : IsE D d) :
    IsE (n0 := 4) (n1 := 128) (out0_5 (F := Ideal) X W B D) (Conv.dw 4096 (Conv.dpre x w b d) x) := by
  have hq := dpre_holds hx hw hb hd
  have h3 : IsE (k0_pay12 (F := Ideal) X (k0_pay17 X W B D) (k0_pay18 X W B D) (k0_pay19 X W B D)) fun _ c => Conv.dw 4096 (Conv.dpre x w b d) x 3 c :=
    ((IsE.mul (φ := .f32) hq hx).congr fun r c => by rw [← Conv.delay_zero x r c]).colSum _ _ _ _
  have h2 : IsE (k0_pay13 (F := Ideal) (k0_pay3 X) (k0_pay17 X W B D) (k0_pay18 X W B D) (k0_pay19 X W B D)) fun _ c => Conv.dw 4096 (Conv.dpre x w b d) x 2 c :=
    (hq.mul (pay3_holds hx)).colSum _ _ _ _
  have h1 : IsE (k0_pay15 (F := Ideal) (k0_pay4 X) (k0_pay17 X W B D) (k0_pay18 X W B D) (k0_pay19 X W B D)) fun _ c => Conv.dw 4096 (Conv.dpre x w b d) x 1 c :=
    (hq.mul (pay4_holds hx)).colSum _ _ _ _
  have h0 : IsE (k0_pay1 (F := Ideal) (k0_pay5 X) (k0_pay20 X W B D)) fun _ c => Conv.dw 4096 (Conv.dpre x w b d) x 0 c :=
    (hq.mul (pay5_holds hx)).colSum _ _ _ _
  unfold out0_5
  rw [View.ld_unit_zero (S := S4096x128) hz _ X]
  intro r k
  refine View.canon_apply_of_pieces (Val := Elt Ideal) (S := S4x128) (e := .f32) (fun i => Conv.dw 4096 (Conv.dpre x w b d) x (i 0).val (i 1).val) _ ?_ (ix2 r k) (cover0_5 _ _ _ _ _)
  intro p hp i
  rcases List.mem_cons.mp hp with rfl | hp
  · exact h0.row0 i rfl rfl
  rcases List.mem_cons.mp hp with rfl | hp
  · exact h1.row0 i rfl rfl
  rcases List.mem_cons.mp hp with rfl | hp
  · exact h2.row0 i rfl rfl
  rcases List.mem_cons.mp hp with rfl | hp
  · exact h3.row0 i rfl rfl
  nomatch hp

end

section
variable (m : (ℓ : Loc nD τ sig) → Buf (Elt Ideal) ℓ) (c : Dev nD)

/-- Where the windows lie at a point. -/
theorem at_points : ∀ t : Fin cfg0.N,
    (cc0_transform_0 (grid0.coords t) 0 = 0 ∧ cc0_transform_0 (grid0.coords t) 1 = t.val)
    ∧ (cc0_transform_1 (grid0.coords t) 0 = 0 ∧ cc0_transform_1 (grid0.coords t) 1 = t.val)
    ∧ (cc0_transform_2 (grid0.coords t) 0 = 0 ∧ cc0_transform_2 (grid0.coords t) 1 = t.val)
    ∧ (cc0_transform_3 (grid0.coords t) 0 = 0 ∧ 128 * cc0_transform_3 (grid0.coords t) 1 = Conv.place (128 * t.val))
    ∧ (cc0_transform_4 (grid0.coords t) 0 = 0 ∧ cc0_transform_4 (grid0.coords t) 1 = t.val)
    ∧ (cc0_transform_5 (grid0.coords t) 0 = 0 ∧ cc0_transform_5 (grid0.coords t) 1 = t.val)
    ∧ cc0_transform_6 (grid0.coords t) 0 = 0 ∧ cc0_transform_6 (grid0.coords t) 1 = t.val := by
  decide +kernel

/-- The arguments' elements, the last with the lanes of a kind side by side. -/
abbrev x := ent (n0 := 4096) (n1 := 6144) (m ((c.tc : Thread nD τ).loc main_arg0))
abbrev w := ent (n0 := 4) (n1 := 6144) (m ((c.tc : Thread nD τ).loc main_arg1))
abbrev b := ent (n0 := 1) (n1 := 6144) (m ((c.tc : Thread nD τ).loc main_arg2))
abbrev d (r k : ℕ) := ent (n0 := 4096) (n1 := 6144) (m ((c.tc : Thread nD τ).loc main_arg3)) r (Conv.place k)

theorem reads0 (t : Fin cfg0.N) : IsE (n0 := 4096) (n1 := 128) (iblk m c 0 t) fun r k => x m c r (128 * t.val + k) := by
  have h : IsE (n0 := 4096) (n1 := 128) (iblk m c 0 t) fun r k =>
      x m c (4096 * cc0_transform_0 (grid0.coords t) 0 + r) (128 * cc0_transform_0 (grid0.coords t) 1 + k) :=
    IsE.block (IsE.own (n0 := 4096) (n1 := 6144) _) _ fun _ => ⟨rfl, rfl⟩
  rw [(at_points t).1.1, (at_points t).1.2] at h
  exact h.congr fun i k => by simp only [Nat.mul_zero, Nat.zero_add]

theorem reads1 (t : Fin cfg0.N) : IsE (n0 := 4) (n1 := 128) (iblk m c 1 t) fun r k => w m c r (128 * t.val + k) := by
  have h : IsE (n0 := 4) (n1 := 128) (iblk m c 1 t) fun r k =>
      w m c (4 * cc0_transform_1 (grid0.coords t) 0 + r) (128 * cc0_transform_1 (grid0.coords t) 1 + k) :=
    IsE.block (IsE.own (n0 := 4) (n1 := 6144) _) _ fun _ => ⟨rfl, rfl⟩
  rw [(at_points t).2.1.1, (at_points t).2.1.2] at h
  exact h.congr fun i k => by simp only [Nat.mul_zero, Nat.zero_add]

theorem reads2 (t : Fin cfg0.N) : IsE (n0 := 1) (n1 := 128) (iblk m c 2 t) fun r k => b m c r (128 * t.val + k) := by
  have h : IsE (n0 := 1) (n1 := 128) (iblk m c 2 t) fun r k =>
      b m c (1 * cc0_transform_2 (grid0.coords t) 0 + r) (128 * cc0_transform_2 (grid0.coords t) 1 + k) :=
    IsE.block (IsE.own (n0 := 1) (n1 := 6144) _) _ fun _ => ⟨rfl, rfl⟩
  rw [(at_points t).2.2.1.1, (at_points t).2.2.1.2] at h
  exact h.congr fun i k => by simp only [Nat.mul_zero, Nat.zero_add]

theorem reads3 (t : Fin cfg0.N) : IsE (n0 := 4096) (n1 := 128) (iblk m c 3 t) fun r k => d m c r (128 * t.val + k) := by
  have h : IsE (n0 := 4096) (n1 := 128) (iblk m c 3 t) fun r k =>
      ent (n0 := 4096) (n1 := 6144) (m ((c.tc : Thread nD τ).loc main_arg3)) (4096 * cc0_transform_3 (grid0.coords t) 0 + r)
        (128 * cc0_transform_3 (grid0.coords t) 1 + k) :=
    IsE.block (IsE.own (n0 := 4096) (n1 := 6144) _) _ fun _ => ⟨rfl, rfl⟩
  rw [(at_points t).2.2.2.1.1, (at_points t).2.2.2.1.2] at h
  intro r k
  refine (h r k).trans ?_
  show ent (n0 := 4096) (n1 := 6144) (m ((c.tc : Thread nD τ).loc main_arg3)) (4096 * 0 + r.val) (Conv.place (128 * t.val) + k.val) =
    ent (n0 := 4096) (n1 := 6144) (m ((c.tc : Thread nD τ).loc main_arg3)) r.val (Conv.place (128 * t.val + k.val))
  rw [Conv.place_add _ _ k.isLt, Nat.mul_zero, Nat.zero_add]

/-- The arrays left. -/
abbrev q := Conv.dpre (x m c) (w m c) (b m c) (d m c)
abbrev leftX := Conv.dx 4096 (q m c) (w m c)
abbrev leftW := Conv.dw 4096 (q m c) (x m c)
abbrev leftB := Conv.db 4096 (q m c)

theorem leavesX : IsE (n0 := 4096) (n1 := 6144) ((dats m 0 c).arrAt 4 cfg0.N) (leftX m c) := fun i k =>
  (dats m 0 c).arrAt_forall_of_covers 4 (fun i v => v = leftX m c (i 0).val (i 1).val) (by decide +kernel)
    (fun t _ i => by
      have hs : IsE (n0 := 4096) (n1 := 128) (out0_4 (iblk m c 0 t) (iblk m c 1 t) (iblk m c 2 t) (iblk m c 3 t)) fun i k =>
          leftX m c (4096 * cc0_transform_4 (grid0.coords t) 0 + i) (128 * cc0_transform_4 (grid0.coords t) 1 + k) := fun i k => by
        simp only [(at_points t).2.2.2.2.1.1, (at_points t).2.2.2.2.1.2, Nat.mul_zero, Nat.zero_add]
        exact dx_holds (reads0 m c t) (reads1 m c t) (reads2 m c t) (reads3 m c t) i k
      show (dats m 0 c).after 4 t i = _
      rw [after0_4]
      exact IsE.lands (x := leftX m c) hs i rfl rfl) (ix2 i k)

theorem leavesW : IsE (n0 := 4) (n1 := 6144) ((dats m 0 c).arrAt 5 cfg0.N) (leftW m c) := fun i k =>
  (dats m 0 c).arrAt_forall_of_covers 5 (fun i v => v = leftW m c (i 0).val (i 1).val) (by decide +kernel)
    (fun t _ i => by
      have hs : IsE (n0 := 4) (n1 := 128) (out0_5 (iblk m c 0 t) (iblk m c 1 t) (iblk m c 2 t) (iblk m c 3 t)) fun i k =>
          leftW m c (4 * cc0_transform_5 (grid0.coords t) 0 + i) (128 * cc0_transform_5 (grid0.coords t) 1 + k) := fun i k => by
        simp only [(at_points t).2.2.2.2.2.1.1, (at_points t).2.2.2.2.2.1.2, Nat.mul_zero, Nat.zero_add]
        exact dw_holds (reads0 m c t) (reads1 m c t) (reads2 m c t) (reads3 m c t) i k
      show (dats m 0 c).after 5 t i = _
      rw [after0_5]
      exact IsE.lands (x := leftW m c) hs i rfl rfl) (ix2 i k)

theorem leavesB : IsE (n0 := 1) (n1 := 6144) ((dats m 0 c).arrAt 6 cfg0.N) (leftB m c) := fun i k =>
  (dats m 0 c).arrAt_forall_of_covers 6 (fun i v => v = leftB m c (i 0).val (i 1).val) (by decide +kernel)
    (fun t _ i => by
      have hs : IsE (n0 := 1) (n1 := 128) (out0_6 (iblk m c 0 t) (iblk m c 1 t) (iblk m c 2 t) (iblk m c 3 t)) fun i k =>
          leftB m c (1 * cc0_transform_6 (grid0.coords t) 0 + i) (128 * cc0_transform_6 (grid0.coords t) 1 + k) := fun i k => by
        rw [(at_points t).2.2.2.2.2.2.2]
        exact db_holds (reads0 m c t) (reads1 m c t) (reads2 m c t) (reads3 m c t) i k
      show (dats m 0 c).after 6 t i = _
      rw [after0_6]
      exact IsE.lands (x := leftB m c) hs i rfl rfl) (ix2 i k)

end

theorem algebraic : Cert.algebraic_Kernel21Ideal_Reference21Ideal_pre_finite_conv := fun m ρ m' ρ' hpre hargs =>
  ⟨_, _, _, Value.run_blocks m ρ, (θ_run _ _ _).mono (fun _ h c => by
    obtain ⟨e0, e1, e2, e3⟩ := hargs c
    obtain ⟨h0, h1, h2, h3⟩ := h c
    have hd := Cert.Pre_finite_conv.decoded _ _ _ _ (hpre c)
    obtain ⟨hx, hw, hb⟩ := Cert.Reference21Ideal.Gen.holds m' c (e3 ▸ hd)
    have f0 : Cert.Reference21Ideal.Gen.x m' c = x m c := congrArg (fun a => ent (n0 := 4096) (n1 := 6144) a) e0
    have f1 : Cert.Reference21Ideal.Gen.w m' c = w m c := congrArg (fun a => ent (n0 := 4) (n1 := 6144) a) e1
    have f2 : Cert.Reference21Ideal.Gen.b m' c = b m c := congrArg (fun a => ent (n0 := 1) (n1 := 6144) a) e2
    have f3 : Cert.Reference21Ideal.Gen.d m' c = d m c :=
      congrArg (fun (a : Vec Ideal S4096x6144 .f32) r k => ent (n0 := 4096) (n1 := 6144) a r (Conv.place k)) e3
    rw [f0, f1, f2, f3] at hx hb
    rw [f0, f1, f2, f3] at hw
    exact ⟨h0.trans (IsE.same hx (leavesX m c)), h1.trans (IsE.same hw (leavesW m c)), h2.trans (IsE.same hb (leavesB m c)), h3⟩)
    (Cert.Reference21Ideal.Value.run (F := Ideal) m' ρ')⟩

/-- The program as it runs has the same text as its reading at the ideal values. -/
instance facts_bits : Cert.Kernel21.Facts :=
  Cert.Kernel21Ideal.Facts.rec (motive := fun _ => Cert.Kernel21.Facts)
    (@fun h => @Cert.Kernel21.Facts.mk (Cert.Kernel21Ideal.Facts₀.rec (motive := fun _ => Cert.Kernel21.Facts₀) Cert.Kernel21.Facts₀.mk h)) facts

theorem defs_bits : Cert.Kernel21.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel21 := fun m ρ _ =>
  Eq.mpr (congrArg (fun d => θ_run d (onTc (τ := τ) (main (F := Bits))) ⟨m, fun _ => 0, ρ⟩ _) defs_bits) (frame (F := Bits) m ρ)

theorem frame_reference : Cert.quiescent_Reference21Ideal := fun m ρ _ =>
  (θ_run (Cert.Reference21Ideal.defs (F := Ideal)) _ _).mono (fun r h => ⟨fun c => (h c).2.2.2, sem_eq_zero_of_no_sems (by decide) r.2⟩)
    (Cert.Reference21Ideal.Value.run (F := Ideal) m ρ)

end Cert.Kernel21Ideal.Gen

end
-- ==== Proof.Kernel22.lean ====
/-
  The gradient of the delta-rule layer's convolution: the kernel of the state-space layers' at every point, but the gradient
  of the result comes in three arrays, of 2048, 2048 and 4096 lanes. A point of the grid is 128 of the 8192 lanes, and its
  branch reads the block of the one array that has them. The precondition makes the three finite; nothing else need be.
-/
module

public import proofs.«01_k».proof.Defs
public import proofs.«01_k».proof.Proof.Shift
public import proofs.«01_k».proof.Proof.Finite
public import proofs.«01_k».proof.Proof.Kernel21
public import proofs.«01_k».proof.Proof.Gen.Kernel22Ideal.Value
public import proofs.«01_k».proof.Proof.Gen.Reference22Ideal.Run
public import Idealize.ShloMosaic.Lib.Pipeline.ValueKit.Geometry

@[expose] public section

set_option maxRecDepth 16384

noncomputable section

namespace Cert.Pre_finite_dconv

open Idealize.ShloMosaic hiding ix0
open Idealize.ShloMosaic.ValueIdx

instance facts : Facts where
  bcast_S_S4096x2048 := by decide
  reducesTo_S4096x2048_S_d0_1 := by decide
  h_S_ := by decide
  bcast_S_S4096x4096 := by decide
  reducesTo_S4096x4096_S_d0_1 := by decide

/-- The three arrays side by side. -/
def side (x3 x4 : FVec Ideal S4096x2048 .f32) (x5 : FVec Ideal S4096x4096 .f32) (r k : ℕ) : EReal :=
  if k < 2048 then Product.ent (n0 := 4096) (n1 := 2048) x3 r k
  else if k < 2048 + 2048 then Product.ent (n0 := 4096) (n1 := 2048) x4 r (k - 2048)
  else Product.ent (n0 := 4096) (n1 := 4096) x5 r (k - 2048 - 2048)

/-- The precondition makes them arrays of reals. -/
theorem decoded (x0 : FVec Ideal S4096x8192 .f32) (x1 : FVec Ideal S4x8192 .f32) (x2 : FVec Ideal S1x8192 .f32)
    (x3 x4 : FVec Ideal S4096x2048 .f32) (x5 : FVec Ideal S4096x4096 .f32)
    (h : fn (F := Ideal) x0 x1 x2 x3 x4 x5 = fun _ => 1#1) (r c : ℕ) : ∃ a : ℝ, side x3 x4 x5 r c = (a : EReal) := by
  have e := congrFun h ix0
  dsimp only [fn] at e
  obtain ⟨e, e5⟩ := Pre_finite.both _ _ e
  obtain ⟨e3, e4⟩ := Pre_finite.both _ _ e
  unfold side Product.ent
  split_ifs
  · exact ⟨_, Pre_finite.all_real x3 _ _ _ _ e3 _⟩
  · exact ⟨0, EReal.coe_zero.symm⟩
  · exact ⟨_, Pre_finite.all_real x4 _ _ _ _ e4 _⟩
  · exact ⟨0, EReal.coe_zero.symm⟩
  · exact ⟨_, Pre_finite.all_real x5 _ _ _ _ e5 _⟩
  · exact ⟨0, EReal.coe_zero.symm⟩

end Cert.Pre_finite_dconv

namespace Cert.Reference22Ideal.Gen

open Idealize.ShloMosaic hiding ix2
open Idealize.ShloMosaic.TcCoe Idealize.ShloMosaic.ValueIdx Idealize.SL.Sem Cert.Reference22Ideal.Value Product
open Cert.Pre_finite_dconv (side)
open Finset (range)
open scoped BigOperators

section
variable {w q : ℕ → ℕ → EReal} {W : FVec Ideal S4x8192 .f32} {Q : FVec Ideal S4096x8192 .f32}

/-- A tap along the rows. -/
theorem tap (hW : IsE W w) (i : ℕ) (h : S4x8192.Slices ![i, 0] S1x8192) :
    IsE (broadcastInDim S4096x8192 ![0, 1] bcast_S1x8192_S4096x8192_0_1 (broadcastInDim S1x8192 ![1] bcast_S8192_S1x8192_1
      (shapeCast S8192 (extractStridedSlice S1x8192 ![i, 0] W h) shapeCasts_S1x8192_S8192))) fun _ c => w i c :=
  (((hW.cut i h).one shapeCasts_S1x8192_S8192).lead bcast_S8192_S1x8192_1).rowHost bcast_S1x8192_S4096x8192_0_1

/-- The gradient of a tap, in its row among zeros. -/
theorem dtap (hQ : IsE Q q) (i j : ℕ) (h : S1x8192.Pads ![i, 0] ![j, 0] ![0, 0] S4x8192) :
    IsE (pad S4x8192 ![i, 0] ![j, 0] ![0, 0] (broadcastInDim S1x8192 ![1] bcast_S8192_S1x8192_1 (Host.reduceAdd (F := Ideal) (shapeCast S1x8192
      (Host.reduceAdd Q (constant S_ .f32 0x00000000#32) reducesTo_S4096x8192_S8192_d0 h_S_) shapeCasts_S8192_S1x8192)
      (constant S_ .f32 0x00000000#32) reducesTo_S1x8192_S8192_d0 h_S_)) (constant (F := Ideal) S_ .f32 0x00000000#32) h h_S_)
      fun r c => if r = i then ∑ r ∈ range 4096, q r c else 0 :=
  (IsE.padRow ((((hQ.sumRows reducesTo_S4096x8192_S8192_d0 h_S_).row shapeCasts_S8192_S1x8192).sumRows reducesTo_S1x8192_S8192_d0 h_S_).lead
    bcast_S8192_S1x8192_1) i j h h_S_).congr fun r c => by rw [Finset.sum_range_one]

end

variable (m : (ℓ : Loc nD τ sig) → Buf (Elt Ideal) ℓ) (c : Dev nD)

/-- The arguments' elements, the last three side by side. -/
abbrev x := ent (n0 := 4096) (n1 := 8192) (m ((c.tc : Thread nD τ).loc main_arg0))
abbrev w := ent (n0 := 4) (n1 := 8192) (m ((c.tc : Thread nD τ).loc main_arg1))
abbrev b := ent (n0 := 1) (n1 := 8192) (m ((c.tc : Thread nD τ).loc main_arg2))
abbrev d := side (m ((c.tc : Thread nD τ).loc main_arg3)) (m ((c.tc : Thread nD τ).loc main_arg4)) (m ((c.tc : Thread nD τ).loc main_arg5))

theorem holds (hd : ∀ r k, ∃ a : ℝ, d m c r k = (a : EReal)) :
    IsE (n0 := 4096) (n1 := 8192) (res_main_v96 (F := Ideal) m c) (Conv.dx 4096 (Conv.dpre (x m c) (w m c) (b m c) (d m c)) (w m c))
    ∧ IsE (n0 := 4) (n1 := 8192) (res_main_v91 (F := Ideal) m c) (Conv.dw 4096 (Conv.dpre (x m c) (w m c) (b m c) (d m c)) (x m c))
    ∧ IsE (n0 := 1) (n1 := 8192) (res_main_v46 (F := Ideal) m c) (Conv.db 4096 (Conv.dpre (x m c) (w m c) (b m c) (d m c))) := by
  have hx : IsE (n0 := 4096) (n1 := 8192) (m ((c.tc : Thread nD τ).loc main_arg0)) (x m c) := IsE.own _
  have hw : IsE (n0 := 4) (n1 := 8192) (m ((c.tc : Thread nD τ).loc main_arg1)) (w m c) := IsE.own _
  have hb := IsE.rowHost (x := b m c) (IsE.own (n0 := 1) (n1 := 8192) (m ((c.tc : Thread nD τ).loc main_arg2))) bcast_S1x8192_S4096x8192_0_1
  have hdy : IsE (n0 := 4096) (n1 := 8192) _ (d m c) := (IsE.own (n0 := 4096) (n1 := 2048) (m ((c.tc : Thread nD τ).loc main_arg3))).beside
    (IsE.own (n0 := 4096) (n1 := 2048) (m ((c.tc : Thread nD τ).loc main_arg4))) (IsE.own (n0 := 4096) (n1 := 4096) (m ((c.tc : Thread nD τ).loc main_arg5)))
    rfl concatenates_S4096x2048_S4096x2048_S4096x4096_S4096x8192_d1
  have d3 := hx.concatDelay 3 rfl bcast_S_S3x8192 ((hx.cut 0 slices_S4096x8192_S4093x8192_0_0).congr fun r c => by rw [Nat.zero_add])
    concatenates_S3x8192_S4093x8192_S4096x8192_d0
  have d2 := hx.concatDelay 2 rfl bcast_S_S2x8192 ((hx.cut 0 slices_S4096x8192_S4094x8192_0_0).congr fun r c => by rw [Nat.zero_add])
    concatenates_S2x8192_S4094x8192_S4096x8192_d0
  have d1 := hx.concatDelay 1 rfl bcast_S_S1x8192 ((hx.cut 0 slices_S4096x8192_S4095x8192_0_0).congr fun r c => by rw [Nat.zero_add])
    concatenates_S1x8192_S4095x8192_S4096x8192_d0
  have d0 := hx.concatDelay 0 rfl bcast_S_S0x8192 hx concatenates_S0x8192_S4096x8192_S4096x8192_d0
  have w0 := tap hw 0 slices_S4x8192_S1x8192_0_0
  have w1 := tap hw 1 slices_S4x8192_S1x8192_1_0
  have w2 := tap hw 2 slices_S4x8192_S1x8192_2_0
  have w3 := tap hw 3 slices_S4x8192_S1x8192_3_0
  have hp := (IsE.add (φ := .f32) hb ((((((IsE.splatHost 0x00000000#32 bcast_S_S4096x8192).add (d3.mul w0)).add (d2.mul w1)).add (d1.mul w2)).add (d0.mul w3)))).congr
    (x' := Conv.pre (x m c) (w m c) (b m c)) fun r k => by
      simp only [Ideal.ofBits_zero_f32, zero_add, Conv.delay_zero, Conv.pre]
      ac_rfl
  have hs := hp.sig
  rw [← sigmoid _ bcast_S_S4096x8192] at hs
  have hq := ((IsE.mul (φ := .f32) hdy hs).add ((hp.mul hdy).mul (hs.mul ((IsE.splatHost 0x3F800000#32 bcast_S_S4096x8192).sub hs)))).congr
    (x' := Conv.dpre (x m c) (w m c) (b m c) (d m c)) fun r k => by
      obtain ⟨a, ha⟩ := hd r k
      simp only [Ideal.ofBits_one_f32, Conv.dpre, ha]
      exact Conv.dsilu_eq _ a
  refine ⟨?_, ?_, (hq.sumRows reducesTo_S4096x8192_S8192_d0 h_S_).row shapeCasts_S8192_S1x8192⟩
  · have h := (((IsE.add (φ := .f32) ((hq.mul w3).cut 0 slices_S4096x8192_S4096x8192_0_0)
      ((hq.mul w2).padAhead 1 rfl slices_S4096x8192_S4095x8192_1_0 pads_S4095x8192_S4096x8192_010_000 h_S_)).add
      ((hq.mul w1).padAhead 2 rfl slices_S4096x8192_S4094x8192_2_0 pads_S4094x8192_S4096x8192_020_000 h_S_)).add
      ((hq.mul w0).padAhead 3 rfl slices_S4096x8192_S4093x8192_3_0 pads_S4093x8192_S4096x8192_030_000 h_S_)).congr
      (x' := Conv.dx 4096 (Conv.dpre (x m c) (w m c) (b m c) (d m c)) (w m c)) fun r k => by
        simp only [Conv.dx, Conv.ahead, Nat.zero_add, ite_mul, zero_mul]
    exact h.narrow bitsLt_bf16_f32
  · have h := ((IsE.add (φ := .f32) (dtap (d0.mul hq) 3 0 pads_S1x8192_S4x8192_300_000) (dtap (d1.mul hq) 2 1 pads_S1x8192_S4x8192_210_000)).add
      (dtap (d2.mul hq) 1 2 pads_S1x8192_S4x8192_120_000)).add (dtap (d3.mul hq) 0 3 pads_S1x8192_S4x8192_030_000)
    exact h.congrRows (Conv.dw_rows 4096 _ _)

end Cert.Reference22Ideal.Gen

namespace Cert.Kernel22Ideal.Gen

open Idealize.ShloMosaic hiding ix2
open Idealize.ShloMosaic.TcCoe Idealize.ShloMosaic.ValueIdx Idealize.SL.Sem Product
open Cert.Pre_finite_dconv (side)

section
variable (m : (ℓ : Loc nD τ sig) → Buf (Elt Ideal) ℓ) (c : Dev nD)

/-- Where the windows lie at a point. -/
theorem at_points : ∀ t : Fin cfg0.N,
    (cc0_transform_0 (grid0.coords t) 0 = 0 ∧ cc0_transform_0 (grid0.coords t) 1 = t.val)
    ∧ (cc0_transform_1 (grid0.coords t) 0 = 0 ∧ cc0_transform_1 (grid0.coords t) 1 = t.val)
    ∧ (cc0_transform_2 (grid0.coords t) 0 = 0 ∧ cc0_transform_2 (grid0.coords t) 1 = t.val)
    ∧ (cc0_transform_6 (grid0.coords t) 0 = 0 ∧ cc0_transform_6 (grid0.coords t) 1 = t.val)
    ∧ (cc0_transform_7 (grid0.coords t) 0 = 0 ∧ cc0_transform_7 (grid0.coords t) 1 = t.val)
    ∧ cc0_transform_8 (grid0.coords t) 0 = 0 ∧ cc0_transform_8 (grid0.coords t) 1 = t.val := by
  decide +kernel

/-- Where those of the result's gradient lie at the points that read them. -/
theorem at_parts : ∀ t : Fin cfg0.N,
    (cc0_transform_3 (grid0.coords t) 0 = 0 ∧ (t.val < 16 → cc0_transform_3 (grid0.coords t) 1 = t.val))
    ∧ (cc0_transform_4 (grid0.coords t) 0 = 0 ∧ (16 ≤ t.val → t.val < 32 → cc0_transform_4 (grid0.coords t) 1 + 16 = t.val))
    ∧ cc0_transform_5 (grid0.coords t) 0 = 0 ∧ (32 ≤ t.val → cc0_transform_5 (grid0.coords t) 1 + 32 = t.val) := by
  decide +kernel

/-- The arguments' elements, the last three side by side. -/
abbrev x := ent (n0 := 4096) (n1 := 8192) (m ((c.tc : Thread nD τ).loc main_arg0))
abbrev w := ent (n0 := 4) (n1 := 8192) (m ((c.tc : Thread nD τ).loc main_arg1))
abbrev b := ent (n0 := 1) (n1 := 8192) (m ((c.tc : Thread nD τ).loc main_arg2))
abbrev d := side (m ((c.tc : Thread nD τ).loc main_arg3)) (m ((c.tc : Thread nD τ).loc main_arg4)) (m ((c.tc : Thread nD τ).loc main_arg5))

theorem reads0 (t : Fin cfg0.N) : IsE (n0 := 4096) (n1 := 128) (iblk m c 0 t) fun r k => x m c r (128 * t.val + k) := by
  have h : IsE (n0 := 4096) (n1 := 128) (iblk m c 0 t) fun r k =>
      x m c (4096 * cc0_transform_0 (grid0.coords t) 0 + r) (128 * cc0_transform_0 (grid0.coords t) 1 + k) :=
    IsE.block (IsE.own (n0 := 4096) (n1 := 8192) _) _ fun _ => ⟨rfl, rfl⟩
  rw [(at_points t).1.1, (at_points t).1.2] at h
  exact h.congr fun i k => by simp only [Nat.mul_zero, Nat.zero_add]

theorem reads1 (t : Fin cfg0.N) : IsE (n0 := 4) (n1 := 128) (iblk m c 1 t) fun r k => w m c r (128 * t.val + k) := by
  have h : IsE (n0 := 4) (n1 := 128) (iblk m c 1 t) fun r k =>
      w m c (4 * cc0_transform_1 (grid0.coords t) 0 + r) (128 * cc0_transform_1 (grid0.coords t) 1 + k) :=
    IsE.block (IsE.own (n0 := 4) (n1 := 8192) _) _ fun _ => ⟨rfl, rfl⟩
  rw [(at_points t).2.1.1, (at_points t).2.1.2] at h
  exact h.congr fun i k => by simp only [Nat.mul_zero, Nat.zero_add]

theorem reads2 (t : Fin cfg0.N) : IsE (n0 := 1) (n1 := 128) (iblk m c 2 t) fun r k => b m c r (128 * t.val + k) := by
  have h : IsE (n0 := 1) (n1 := 128) (iblk m c 2 t) fun r k =>
      b m c (1 * cc0_transform_2 (grid0.coords t) 0 + r) (128 * cc0_transform_2 (grid0.coords t) 1 + k) :=
    IsE.block (IsE.own (n0 := 1) (n1 := 8192) _) _ fun _ => ⟨rfl, rfl⟩
  rw [(at_points t).2.2.1.1, (at_points t).2.2.1.2] at h
  exact h.congr fun i k => by simp only [Nat.mul_zero, Nat.zero_add]

theorem reads3 (t : Fin cfg0.N) (h0 : t.val < 16) : IsE (n0 := 4096) (n1 := 128) (iblk m c 3 t) fun r k => d m c r (128 * t.val + k) := by
  have h : IsE (n0 := 4096) (n1 := 128) (iblk m c 3 t) fun r k =>
      ent (n0 := 4096) (n1 := 2048) (m ((c.tc : Thread nD τ).loc main_arg3)) (4096 * cc0_transform_3 (grid0.coords t) 0 + r)
        (128 * cc0_transform_3 (grid0.coords t) 1 + k) :=
    IsE.block (IsE.own (n0 := 4096) (n1 := 2048) _) _ fun _ => ⟨rfl, rfl⟩
  intro r k
  have hk := k.isLt
  rw [(at_parts t).1.1, (at_parts t).1.2 h0] at h
  refine (h r k).trans ?_
  simp only [Nat.mul_zero, Nat.zero_add]
  exact (if_pos (by omega)).symm

theorem reads4 (t : Fin cfg0.N) (h0 : 16 ≤ t.val) (h1 : t.val < 32) : IsE (n0 := 4096) (n1 := 128) (iblk m c 4 t) fun r k => d m c r (128 * t.val + k) := by
  have h : IsE (n0 := 4096) (n1 := 128) (iblk m c 4 t) fun r k =>
      ent (n0 := 4096) (n1 := 2048) (m ((c.tc : Thread nD τ).loc main_arg4)) (4096 * cc0_transform_4 (grid0.coords t) 0 + r)
        (128 * cc0_transform_4 (grid0.coords t) 1 + k) :=
    IsE.block (IsE.own (n0 := 4096) (n1 := 2048) _) _ fun _ => ⟨rfl, rfl⟩
  intro r k
  have hk := k.isLt
  have e := (at_parts t).2.1.2 h0 h1
  rw [(at_parts t).2.1.1] at h
  refine (h r k).trans ?_
  simp only [Nat.mul_zero, Nat.zero_add, show 128 * cc0_transform_4 (grid0.coords t) 1 + k.val = 128 * t.val + k.val - 2048 by omega]
  exact ((if_neg (by omega)).trans (if_pos (by omega))).symm

theorem reads5 (t : Fin cfg0.N) (h0 : 32 ≤ t.val) : IsE (n0 := 4096) (n1 := 128) (iblk m c 5 t) fun r k => d m c r (128 * t.val + k) := by
  have h : IsE (n0 := 4096) (n1 := 128) (iblk m c 5 t) fun r k =>
      ent (n0 := 4096) (n1 := 4096) (m ((c.tc : Thread nD τ).loc main_arg5)) (4096 * cc0_transform_5 (grid0.coords t) 0 + r)
        (128 * cc0_transform_5 (grid0.coords t) 1 + k) :=
    IsE.block (IsE.own (n0 := 4096) (n1 := 4096) _) _ fun _ => ⟨rfl, rfl⟩
  intro r k
  have hk := k.isLt
  have e := (at_parts t).2.2.2 h0
  rw [(at_parts t).2.2.1] at h
  refine (h r k).trans ?_
  simp only [Nat.mul_zero, Nat.zero_add, show 128 * cc0_transform_5 (grid0.coords t) 1 + k.val = 128 * t.val + k.val - 2048 - 2048 by omega]
  exact ((if_neg (by omega)).trans (if_neg (by omega))).symm

/-- What a point leaves of a block `D` of the result's gradient: what a point of the other layers' kernel leaves. -/
def left (t : Fin cfg0.N) (D : Vec Ideal S4096x128 .f32) : Vec Ideal S4096x128 .bf16 × Vec Ideal S4x128 .f32 × Vec Ideal S1x128 .f32 :=
  (Cert.Kernel21Ideal.Gen.out0_4 (F := Ideal) (iblk m c 0 t) (iblk m c 1 t) (iblk m c 2 t) D,
    Cert.Kernel21Ideal.Gen.out0_5 (F := Ideal) (iblk m c 0 t) (iblk m c 1 t) (iblk m c 2 t) D,
    Cert.Kernel21Ideal.Gen.out0_6 (F := Ideal) (iblk m c 0 t) (iblk m c 1 t) (iblk m c 2 t) D)

theorem at_A (t : Fin cfg0.N) (h0 : t.val < 16) (h1 : ¬(16 ≤ t.val % 64 ∧ t.val % 64 ≤ 31)) (h2 : ¬32 ≤ t.val) :
    outsAt0 m c t.val t.isLt = left m c t (iblk m c 3 t) := by
  rw [outsAt0_A m c t h0 h1 h2]
  unfold out0_A_6 out0_A_7 out0_A_8
  rw [View.read_writes_eq_canon _ _ _ (fun _ => cover0_A_6 ..), View.read_writes_eq_canon _ _ _ (fun _ => cover0_A_7 ..),
    View.read_writes_eq_canon _ _ _ (fun _ => cover0_A_8 ..)]
  unfold kernelRun0_A; dsimp only; sl_unfold_words
  simp only [View.readAt_eq_ld, (hs0_0 t).read_unread, (hs0_1 t).read_unread, (hs0_2 t).read_unread, (hs0_3 t).read_unread]
  rfl

theorem at_B (t : Fin cfg0.N) (h0 : ¬t.val < 16) (h1 : (16 ≤ t.val % 64 ∧ t.val % 64 ≤ 31)) (h2 : ¬32 ≤ t.val) :
    outsAt0 m c t.val t.isLt = left m c t (iblk m c 4 t) := by
  rw [outsAt0_B m c t h0 h1 h2]
  unfold out0_B_6 out0_B_7 out0_B_8
  rw [View.read_writes_eq_canon _ _ _ (fun _ => cover0_B_6 ..), View.read_writes_eq_canon _ _ _ (fun _ => cover0_B_7 ..),
    View.read_writes_eq_canon _ _ _ (fun _ => cover0_B_8 ..)]
  unfold kernelRun0_B; dsimp only; sl_unfold_words
  simp only [View.readAt_eq_ld, (hs0_0 t).read_unread, (hs0_1 t).read_unread, (hs0_2 t).read_unread, (hs0_4 t).read_unread]
  rfl

theorem at_C (t : Fin cfg0.N) (h0 : ¬t.val < 16) (h1 : ¬(16 ≤ t.val % 64 ∧ t.val % 64 ≤ 31)) (h2 : 32 ≤ t.val) :
    outsAt0 m c t.val t.isLt = left m c t (iblk m c 5 t) := by
  rw [outsAt0_C m c t h0 h1 h2]
  unfold out0_C_6 out0_C_7 out0_C_8
  rw [View.read_writes_eq_canon _ _ _ (fun _ => cover0_C_6 ..), View.read_writes_eq_canon _ _ _ (fun _ => cover0_C_7 ..),
    View.read_writes_eq_canon _ _ _ (fun _ => cover0_C_8 ..)]
  unfold kernelRun0_C; dsimp only; sl_unfold_words
  simp only [View.readAt_eq_ld, (hs0_0 t).read_unread, (hs0_1 t).read_unread, (hs0_2 t).read_unread, (hs0_5 t).read_unread]
  rfl

/-- Every point reads the block of its own lanes. -/
theorem at_point (t : Fin cfg0.N) : ∃ D : Vec Ideal S4096x128 .f32,
    IsE (n0 := 4096) (n1 := 128) D (fun r k => d m c r (128 * t.val + k)) ∧ outsAt0 m c t.val t.isLt = left m c t D := by
  have ht : t.val < 64 := lt_of_lt_of_eq t.isLt (show cfg0.N = 64 from N_0)
  by_cases h0 : t.val < 16
  · exact ⟨_, reads3 m c t h0, at_A m c t h0 (by omega) (by omega)⟩
  by_cases h2 : 32 ≤ t.val
  · exact ⟨_, reads5 m c t h2, at_C m c t h0 (by omega) h2⟩
  · exact ⟨_, reads4 m c t (by omega) (by omega), at_B m c t h0 (by omega) h2⟩

/-- The arrays left. -/
abbrev q := Conv.dpre (x m c) (w m c) (b m c) (d m c)
abbrev leftX := Conv.dx 4096 (q m c) (w m c)
abbrev leftW := Conv.dw 4096 (q m c) (x m c)
abbrev leftB := Conv.db 4096 (q m c)

theorem leavesX : IsE (n0 := 4096) (n1 := 8192) ((dats m 0 c).arrAt 6 cfg0.N) (leftX m c) := fun i k =>
  (dats m 0 c).arrAt_forall_of_covers 6 (fun i v => v = leftX m c (i 0).val (i 1).val) (by decide +kernel)
    (fun t _ i => by
      obtain ⟨D, hD, e⟩ := at_point m c t
      have hs : IsE (n0 := 4096) (n1 := 128) (left m c t D).1 fun i k =>
          leftX m c (4096 * cc0_transform_6 (grid0.coords t) 0 + i) (128 * cc0_transform_6 (grid0.coords t) 1 + k) := fun i k => by
        simp only [(at_points t).2.2.2.1.1, (at_points t).2.2.2.1.2, Nat.mul_zero, Nat.zero_add]
        unfold left
        dsimp only
        exact Cert.Kernel21Ideal.Gen.dx_holds (reads0 m c t) (reads1 m c t) (reads2 m c t) hD i k
      show (dats m 0 c).after 6 t i = _
      rw [after0_6, e]
      exact IsE.lands (x := leftX m c) hs i rfl rfl) (ix2 i k)

theorem leavesW : IsE (n0 := 4) (n1 := 8192) ((dats m 0 c).arrAt 7 cfg0.N) (leftW m c) := fun i k =>
  (dats m 0 c).arrAt_forall_of_covers 7 (fun i v => v = leftW m c (i 0).val (i 1).val) (by decide +kernel)
    (fun t _ i => by
      obtain ⟨D, hD, e⟩ := at_point m c t
      have hs : IsE (n0 := 4) (n1 := 128) (left m c t D).2.1 fun i k =>
          leftW m c (4 * cc0_transform_7 (grid0.coords t) 0 + i) (128 * cc0_transform_7 (grid0.coords t) 1 + k) := fun i k => by
        simp only [(at_points t).2.2.2.2.1.1, (at_points t).2.2.2.2.1.2, Nat.mul_zero, Nat.zero_add]
        unfold left
        dsimp only
        exact Cert.Kernel21Ideal.Gen.dw_holds (reads0 m c t) (reads1 m c t) (reads2 m c t) hD i k
      show (dats m 0 c).after 7 t i = _
      rw [after0_7, e]
      exact IsE.lands (x := leftW m c) hs i rfl rfl) (ix2 i k)

theorem leavesB : IsE (n0 := 1) (n1 := 8192) ((dats m 0 c).arrAt 8 cfg0.N) (leftB m c) := fun i k =>
  (dats m 0 c).arrAt_forall_of_covers 8 (fun i v => v = leftB m c (i 0).val (i 1).val) (by decide +kernel)
    (fun t _ i => by
      obtain ⟨D, hD, e⟩ := at_point m c t
      have hs : IsE (n0 := 1) (n1 := 128) (left m c t D).2.2 fun i k =>
          leftB m c (1 * cc0_transform_8 (grid0.coords t) 0 + i) (128 * cc0_transform_8 (grid0.coords t) 1 + k) := fun i k => by
        rw [(at_points t).2.2.2.2.2.2]
        unfold left
        dsimp only
        exact Cert.Kernel21Ideal.Gen.db_holds (reads0 m c t) (reads1 m c t) (reads2 m c t) hD i k
      show (dats m 0 c).after 8 t i = _
      rw [after0_8, e]
      exact IsE.lands (x := leftB m c) hs i rfl rfl) (ix2 i k)

end

theorem algebraic : Cert.algebraic_Kernel22Ideal_Reference22Ideal_pre_finite_dconv := fun m ρ m' ρ' hpre hargs =>
  ⟨_, _, _, Value.run_blocks m ρ, (θ_run _ _ _).mono (fun _ h c => by
    obtain ⟨e0, e1, e2, e3, e4, e5⟩ := hargs c
    obtain ⟨h0, h1, h2, h3⟩ := h c
    have f0 : Cert.Reference22Ideal.Gen.x m' c = x m c := congrArg (fun a => ent (n0 := 4096) (n1 := 8192) a) e0
    have f1 : Cert.Reference22Ideal.Gen.w m' c = w m c := congrArg (fun a => ent (n0 := 4) (n1 := 8192) a) e1
    have f2 : Cert.Reference22Ideal.Gen.b m' c = b m c := congrArg (fun a => ent (n0 := 1) (n1 := 8192) a) e2
    have f3 : Cert.Reference22Ideal.Gen.d m' c = d m c := by
      unfold Cert.Reference22Ideal.Gen.d d
      rw [e3, e4, e5]
    obtain ⟨hx, hw, hb⟩ := Cert.Reference22Ideal.Gen.holds m' c (f3 ▸ Cert.Pre_finite_dconv.decoded _ _ _ _ _ _ (hpre c))
    rw [f0, f1, f2, f3] at hx hb
    rw [f0, f1, f2, f3] at hw
    exact ⟨h0.trans (IsE.same hx (leavesX m c)), h1.trans (IsE.same hw (leavesW m c)), h2.trans (IsE.same hb (leavesB m c)), h3⟩)
    (Cert.Reference22Ideal.Value.run (F := Ideal) m' ρ')⟩

/-- The program as it runs has the same text as its reading at the ideal values. -/
instance facts_bits : Cert.Kernel22.Facts :=
  Cert.Kernel22Ideal.Facts.rec (motive := fun _ => Cert.Kernel22.Facts)
    (@fun h => @Cert.Kernel22.Facts.mk (Cert.Kernel22Ideal.Facts₀.rec (motive := fun _ => Cert.Kernel22.Facts₀) Cert.Kernel22.Facts₀.mk h)) facts

theorem defs_bits : Cert.Kernel22.defs (F := Bits) = defs (F := Bits) :=
  congrArg (fun d => Pipeline.defs (pcfgs (F := Bits)) (Defs.onTc d)) (funext fun l => funext fun a => match l, a with
    | 0, (_, _) => rfl
    | ⟨_ + 1, h⟩, _ => absurd h (Nat.not_lt.2 (Nat.le_add_left _ _)))

theorem frame_bits : Cert.quiescent_Kernel22 := fun m ρ _ =>
  Eq.mpr (congrArg (fun d => θ_run d (onTc (τ := τ) (main (F := Bits))) ⟨m, fun _ => 0, ρ⟩ _) defs_bits) (frame (F := Bits) m ρ)

theorem frame_reference : Cert.quiescent_Reference22Ideal := fun m ρ _ =>
  (θ_run (Cert.Reference22Ideal.defs (F := Ideal)) _ _).mono (fun r h => ⟨fun c => (h c).2.2.2, sem_eq_zero_of_no_sems (by decide) r.2⟩)
    (Cert.Reference22Ideal.Value.run (F := Ideal) m ρ)

end Cert.Kernel22Ideal.Gen

end
-- ==== Proof.lean ====
/-
  The certificate's claims together. The attention: the two kernel programs' frames are the generated ones, the
  reference's frame is its generated run, the one idealization is the mask's named constant, and the value claim is
  Proof/Agree.lean's. The products and the gradients of gates, norms and the convolution: each
  one's claims are its own module's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Agree
public import proofs.«01_k».proof.Proof.Kernel2
public import proofs.«01_k».proof.Proof.Kernel3
public import proofs.«01_k».proof.Proof.Kernel4
public import proofs.«01_k».proof.Proof.Kernel5
public import proofs.«01_k».proof.Proof.Kernel6
public import proofs.«01_k».proof.Proof.Kernel7
public import proofs.«01_k».proof.Proof.Kernel8
public import proofs.«01_k».proof.Proof.Kernel9
public import proofs.«01_k».proof.Proof.Kernel10
public import proofs.«01_k».proof.Proof.Kernel11
public import proofs.«01_k».proof.Proof.Kernel12
public import proofs.«01_k».proof.Proof.Kernel13
public import proofs.«01_k».proof.Proof.Kernel14
public import proofs.«01_k».proof.Proof.Kernel15
public import proofs.«01_k».proof.Proof.Kernel16
public import proofs.«01_k».proof.Proof.Kernel17
public import proofs.«01_k».proof.Proof.Kernel18
public import proofs.«01_k».proof.Proof.Kernel19
public import proofs.«01_k».proof.Proof.Kernel20
public import proofs.«01_k».proof.Proof.Kernel21
public import proofs.«01_k».proof.Proof.Kernel22

@[expose] public section

noncomputable section

namespace Cert.Proof

theorem claim : Cert.Claim := ⟨Cert.Kernel.Gen.facts, Cert.KernelIdeal.Gen.facts, Cert.ReferenceIdeal.Gen.facts,
  Cert.Kernel2Ideal.Gen.facts_bits, Cert.Kernel2Ideal.Gen.facts, Cert.Reference2Ideal.Gen.facts,
  Cert.Kernel3Ideal.Gen.facts_bits, Cert.Kernel3Ideal.Gen.facts, Cert.Reference3Ideal.Gen.facts,
  Cert.Kernel4Ideal.Gen.facts_bits, Cert.Kernel4Ideal.Gen.facts, Cert.Reference4Ideal.Gen.facts,
  Cert.Kernel5Ideal.Gen.facts_bits, Cert.Kernel5Ideal.Gen.facts, Cert.Reference5Ideal.Gen.facts,
  Cert.Kernel6Ideal.Gen.facts_bits, Cert.Kernel6Ideal.Gen.facts, Cert.Reference6Ideal.Gen.facts,
  Cert.Kernel7Ideal.Gen.facts_bits, Cert.Kernel7Ideal.Gen.facts, Cert.Reference7Ideal.Gen.facts,
  Cert.Kernel8Ideal.Gen.facts_bits, Cert.Kernel8Ideal.Gen.facts, Cert.Reference8Ideal.Gen.facts,
  Cert.Kernel9Ideal.Gen.facts_bits, Cert.Kernel9Ideal.Gen.facts, Cert.Reference9Ideal.Gen.facts,
  Cert.Kernel10Ideal.Gen.facts_bits, Cert.Kernel10Ideal.Gen.facts, Cert.Reference10Ideal.Gen.facts,
  Cert.Kernel11Ideal.Gen.facts_bits, Cert.Kernel11Ideal.Gen.facts, Cert.Reference11Ideal.Gen.facts,
  Cert.Kernel12Ideal.Gen.facts_bits, Cert.Kernel12Ideal.Gen.facts, Cert.Reference12Ideal.Gen.facts,
  Cert.Kernel13Ideal.Gen.facts_bits, Cert.Kernel13Ideal.Gen.facts, Cert.Reference13Ideal.Gen.facts,
  Cert.Kernel14Ideal.Gen.facts_bits, Cert.Kernel14Ideal.Gen.facts, Cert.Reference14Ideal.Gen.facts,
  Cert.Kernel15Ideal.Gen.facts_bits, Cert.Kernel15Ideal.Gen.facts, Cert.Reference15Ideal.Gen.facts,
  Cert.Kernel16Ideal.Gen.facts_bits, Cert.Kernel16Ideal.Gen.facts, Cert.Reference16Ideal.Gen.facts,
  Cert.Kernel17Ideal.Gen.facts_bits, Cert.Kernel17Ideal.Gen.facts, Cert.Reference17Ideal.Gen.facts,
  Cert.Kernel18Ideal.Gen.facts_bits, Cert.Kernel18Ideal.Gen.facts, Cert.Reference18Ideal.Gen.facts,
  Cert.Kernel19Ideal.Gen.facts_bits, Cert.Kernel19Ideal.Gen.facts, Cert.Reference19Ideal.Gen.facts,
  Cert.Kernel20Ideal.Gen.facts_bits, Cert.Kernel20Ideal.Gen.facts, Cert.Reference20Ideal.Gen.facts,
  Cert.Kernel21Ideal.Gen.facts_bits, Cert.Kernel21Ideal.Gen.facts, Cert.Reference21Ideal.Gen.facts,
  Cert.Kernel22Ideal.Gen.facts_bits, Cert.Kernel22Ideal.Gen.facts, Cert.Reference22Ideal.Gen.facts,
  Cert.Pre_finite.facts, Cert.Pre_finite_conv.facts, Cert.Pre_finite_dconv.facts,
  fun m ρ _ => Cert.Kernel.Gen.frame m ρ,
  fun m ρ _ => Cert.KernelIdeal.Gen.frame m ρ,
  fun m ρ _ => Cert.KernelIdeal.Gen.frame m ρ,
  Cert.Agree.reference_frame,
  fun m ρ _ => Cert.Agree.reference_frame m ρ trivial,
  Cert.Kernel2Ideal.Gen.frame_bits, fun m ρ _ => Cert.Kernel2Ideal.Gen.frame m ρ, Cert.Kernel2Ideal.Gen.frame_reference,
  Cert.Kernel3Ideal.Gen.frame_bits, fun m ρ _ => Cert.Kernel3Ideal.Gen.frame m ρ, Cert.Kernel3Ideal.Gen.frame_reference,
  Cert.Kernel4Ideal.Gen.frame_bits, fun m ρ _ => Cert.Kernel4Ideal.Gen.frame m ρ, Cert.Kernel4Ideal.Gen.frame_reference,
  Cert.Kernel5Ideal.Gen.frame_bits, fun m ρ _ => Cert.Kernel5Ideal.Gen.frame m ρ, Cert.Kernel5Ideal.Gen.frame_reference,
  Cert.Kernel6Ideal.Gen.frame_bits, fun m ρ _ => Cert.Kernel6Ideal.Gen.frame m ρ, Cert.Kernel6Ideal.Gen.frame_reference,
  Cert.Kernel7Ideal.Gen.frame_bits, fun m ρ _ => Cert.Kernel7Ideal.Gen.frame m ρ, Cert.Kernel7Ideal.Gen.frame_reference,
  Cert.Kernel8Ideal.Gen.frame_bits, fun m ρ _ => Cert.Kernel8Ideal.Gen.frame m ρ, Cert.Kernel8Ideal.Gen.frame_reference,
  Cert.Kernel9Ideal.Gen.frame_bits, fun m ρ _ => Cert.Kernel9Ideal.Gen.frame m ρ, Cert.Kernel9Ideal.Gen.frame_reference,
  Cert.Kernel10Ideal.Gen.frame_bits, fun m ρ _ => Cert.Kernel10Ideal.Gen.frame m ρ, Cert.Kernel10Ideal.Gen.frame_reference,
  Cert.Kernel11Ideal.Gen.frame_bits, fun m ρ _ => Cert.Kernel11Ideal.Gen.frame m ρ, Cert.Kernel11Ideal.Gen.frame_reference,
  Cert.Kernel12Ideal.Gen.frame_bits, fun m ρ _ => Cert.Kernel12Ideal.Gen.frame m ρ, Cert.Kernel12Ideal.Gen.frame_reference,
  Cert.Kernel13Ideal.Gen.frame_bits, fun m ρ _ => Cert.Kernel13Ideal.Gen.frame m ρ, Cert.Kernel13Ideal.Gen.frame_reference,
  Cert.Kernel14Ideal.Gen.frame_bits, fun m ρ _ => Cert.Kernel14Ideal.Gen.frame m ρ, Cert.Kernel14Ideal.Gen.frame_reference,
  Cert.Kernel15Ideal.Gen.frame_bits, fun m ρ _ => Cert.Kernel15Ideal.Gen.frame m ρ, Cert.Kernel15Ideal.Gen.frame_reference,
  Cert.Kernel16Ideal.Gen.frame_bits, fun m ρ _ => Cert.Kernel16Ideal.Gen.frame m ρ, Cert.Kernel16Ideal.Gen.frame_reference,
  Cert.Kernel17Ideal.Gen.frame_bits, fun m ρ _ => Cert.Kernel17Ideal.Gen.frame m ρ, Cert.Kernel17Ideal.Gen.frame_reference,
  Cert.Kernel18Ideal.Gen.frame_bits, fun m ρ _ => Cert.Kernel18Ideal.Gen.frame m ρ, Cert.Kernel18Ideal.Gen.frame_reference,
  Cert.Kernel19Ideal.Gen.frame_bits, fun m ρ _ => Cert.Kernel19Ideal.Gen.frame m ρ, Cert.Kernel19Ideal.Gen.frame_reference,
  Cert.Kernel20Ideal.Gen.frame_bits, fun m ρ _ => Cert.Kernel20Ideal.Gen.frame m ρ, Cert.Kernel20Ideal.Gen.frame_reference,
  Cert.Kernel21Ideal.Gen.frame_bits, fun m ρ _ => Cert.Kernel21Ideal.Gen.frame m ρ, fun m ρ _ => Cert.Kernel21Ideal.Gen.frame m ρ, Cert.Kernel21Ideal.Gen.frame_reference,
  fun m ρ _ => Cert.Kernel21Ideal.Gen.frame_reference m ρ trivial,
  Cert.Kernel22Ideal.Gen.frame_bits, fun m ρ _ => Cert.Kernel22Ideal.Gen.frame m ρ, fun m ρ _ => Cert.Kernel22Ideal.Gen.frame m ρ, Cert.Kernel22Ideal.Gen.frame_reference,
  fun m ρ _ => Cert.Kernel22Ideal.Gen.frame_reference m ρ trivial,
  Cert.Agree.preserves, Cert.Agree.algebraic,
  trivial, Cert.Kernel2Ideal.Gen.algebraic,
  trivial, Cert.Kernel3Ideal.Gen.algebraic,
  trivial, Cert.Kernel4Ideal.Gen.algebraic,
  trivial, Cert.Kernel5Ideal.Gen.algebraic,
  trivial, Cert.Kernel6Ideal.Gen.algebraic,
  trivial, Cert.Kernel7Ideal.Gen.algebraic,
  trivial, Cert.Kernel8Ideal.Gen.algebraic,
  trivial, Cert.Kernel9Ideal.Gen.algebraic,
  trivial, Cert.Kernel10Ideal.Gen.algebraic,
  trivial, Cert.Kernel11Ideal.Gen.algebraic,
  trivial, Cert.Kernel12Ideal.Gen.algebraic,
  trivial, Cert.Kernel13Ideal.Gen.algebraic,
  trivial, Cert.Kernel14Ideal.Gen.algebraic,
  trivial, Cert.Kernel15Ideal.Gen.algebraic,
  trivial, Cert.Kernel16Ideal.Gen.algebraic,
  trivial, Cert.Kernel17Ideal.Gen.algebraic,
  trivial, Cert.Kernel18Ideal.Gen.algebraic,
  trivial, Cert.Kernel19Ideal.Gen.algebraic,
  trivial, Cert.Kernel20Ideal.Gen.algebraic,
  trivial, Cert.Kernel21Ideal.Gen.algebraic,
  trivial, Cert.Kernel22Ideal.Gen.algebraic⟩

end Cert.Proof

end
